-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojKernelIdeal_outproj_finite [hPre_outproj_finite : Cert.Pre_outproj_finite.Facts] (m : (ℓ : Loc Cert.OutprojKernelIdeal.nD Cert.OutprojKernelIdeal.τ Cert.OutprojKernelIdeal.sig) → Buf (Elt Ideal) ℓ) : Prop :=
  ∀ c : Dev Cert.OutprojKernelIdeal.nD,
    (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.2.1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.2.2.1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.2.2.2.1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.2.2.2.2.1 = (fun _ => 1#1)
    ∧ (Cert.Pre_outproj_finite.fn (F := Ideal) (m ((c.tc : Thread Cert.OutprojKernelIdeal.nD Cert.OutprojKernelIdeal.τ).loc Cert.OutprojKernelIdeal.main_arg0)) (m ((c.tc : Thread Cert.OutprojKernelIdeal.nD Cert.OutprojKernelIdeal.τ).loc Cert.OutprojKernelIdeal.main_arg1)) (m ((c.tc : Thread Cert.OutprojKernelIdeal.nD Cert.OutprojKernelIdeal.τ).loc Cert.OutprojKernelIdeal.main_arg2)) (m ((c.tc : Thread Cert.OutprojKernelIdeal.nD Cert.OutprojKernelIdeal.τ).loc Cert.OutprojKernelIdeal.main_arg3)) (m ((c.tc : Thread Cert.OutprojKernelIdeal.nD Cert.OutprojKernelIdeal.τ).loc Cert.OutprojKernelIdeal.main_arg4)) (m ((c.tc : Thread Cert.OutprojKernelIdeal.nD Cert.OutprojKernelIdeal.τ).loc Cert.OutprojKernelIdeal.main_arg5)) (m ((c.tc : Thread Cert.OutprojKernelIdeal.nD Cert.OutprojKernelIdeal.τ).loc Cert.OutprojKernelIdeal.main_arg6)) (m ((c.tc : Thread Cert.OutprojKernelIdeal.nD Cert.OutprojKernelIdeal.τ).loc Cert.OutprojKernelIdeal.main_arg7))).2.2.2.2.2.2 = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_outproj_finite [hPre_outproj_finite : Cert.Pre_outproj_finite.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.2.1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.2.2.1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.2.2.2.1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.2.2.2.2.1 = (fun _ => 1#1)
    ∧ (Cert.Pre_outproj_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6)) (m ((c.tc : Thread Cert.OutprojReferenceIdeal.nD Cert.OutprojReferenceIdeal.τ).loc Cert.OutprojReferenceIdeal.main_arg7))).2.2.2.2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_InprojBwdKernel (m : (ℓ : Loc Cert.InprojBwdKernel.nD Cert.InprojBwdKernel.τ Cert.InprojBwdKernel.sig) → Buf (Elt Bits) ℓ) : Prop :=
  True

def Pre_InprojBwdKernelIdeal (m : (ℓ : Loc Cert.InprojBwdKernelIdeal.nD Cert.InprojBwdKernelIdeal.τ Cert.InprojBwdKernelIdeal.sig) → Buf (Elt Ideal) ℓ) : Prop :=
  True

def Pre_InprojBwdReferenceIdeal (m : (ℓ : Loc Cert.InprojBwdReferenceIdeal.nD Cert.InprojBwdReferenceIdeal.τ Cert.InprojBwdReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_WdownKernel (m : (ℓ : Loc Cert.WdownKernel.nD Cert.WdownKernel.τ Cert.WdownKernel.sig) → Buf (Elt Bits) ℓ) : Prop :=
  True

def Pre_WdownKernelIdeal (m : (ℓ : Loc Cert.WdownKernelIdeal.nD Cert.WdownKernelIdeal.τ Cert.WdownKernelIdeal.sig) → Buf (Elt Ideal) ℓ) : Prop :=
  True

def Pre_WdownReferenceIdeal (m : (ℓ : Loc Cert.WdownReferenceIdeal.nD Cert.WdownReferenceIdeal.τ Cert.WdownReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_AdamwOutKernel (m : (ℓ : Loc Cert.AdamwOutKernel.nD Cert.AdamwOutKernel.τ Cert.AdamwOutKernel.sig) → Buf (Elt Bits) ℓ) : Prop :=
  True

def Pre_AdamwOutKernelIdeal (m : (ℓ : Loc Cert.AdamwOutKernelIdeal.nD Cert.AdamwOutKernelIdeal.τ Cert.AdamwOutKernelIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwDownKernel (m : (ℓ : Loc Cert.AdamwDownKernel.nD Cert.AdamwDownKernel.τ Cert.AdamwDownKernel.sig) → Buf (Elt Bits) ℓ) : Prop :=
  True

def Pre_AdamwDownKernelIdeal (m : (ℓ : Loc Cert.AdamwDownKernelIdeal.nD Cert.AdamwDownKernelIdeal.τ Cert.AdamwDownKernelIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_AdamwGateKernel (m : (ℓ : Loc Cert.AdamwGateKernel.nD Cert.AdamwGateKernel.τ Cert.AdamwGateKernel.sig) → Buf (Elt Bits) ℓ) : Prop :=
  True

def Pre_AdamwGateKernelIdeal (m : (ℓ : Loc Cert.AdamwGateKernelIdeal.nD Cert.AdamwGateKernelIdeal.τ Cert.AdamwGateKernelIdeal.sig) → Buf (Elt Ideal) ℓ) : Prop :=
  True

def Pre_AdamwGateReferenceIdeal (m : (ℓ : Loc Cert.AdamwGateReferenceIdeal.nD Cert.AdamwGateReferenceIdeal.τ Cert.AdamwGateReferenceIdeal.sig) → Buf (Elt Ideal) ℓ) : Prop :=
  True

def Pre_AdamwNormKernel (m : (ℓ : Loc Cert.AdamwNormKernel.nD Cert.AdamwNormKernel.τ Cert.AdamwNormKernel.sig) → Buf (Elt Bits) ℓ) : Prop :=
  True

def Pre_AdamwNormKernelIdeal (m : (ℓ : Loc Cert.AdamwNormKernelIdeal.nD Cert.AdamwNormKernelIdeal.τ Cert.AdamwNormKernelIdeal.sig) → Buf (Elt Ideal) ℓ) : Prop :=
  True

def Pre_AdamwNormReferenceIdeal (m : (ℓ : Loc Cert.AdamwNormReferenceIdeal.nD Cert.AdamwNormReferenceIdeal.τ Cert.AdamwNormReferenceIdeal.sig) → Buf (Elt Ideal) ℓ) : Prop :=
  True

def Pre_AdamwWidthKernel (m : (ℓ : Loc Cert.AdamwWidthKernel.nD Cert.AdamwWidthKernel.τ Cert.AdamwWidthKernel.sig) → Buf (Elt Bits) ℓ) : Prop :=
  True

def Pre_AdamwWidthKernelIdeal (m : (ℓ : Loc Cert.AdamwWidthKernelIdeal.nD Cert.AdamwWidthKernelIdeal.τ Cert.AdamwWidthKernelIdeal.sig) → Buf (Elt Ideal) ℓ) : Prop :=
  True

def Pre_AdamwWidthReferenceIdeal (m : (ℓ : Loc Cert.AdamwWidthReferenceIdeal.nD Cert.AdamwWidthReferenceIdeal.τ Cert.AdamwWidthReferenceIdeal.sig) → Buf (Elt Ideal) ℓ) : Prop :=
  True

def Pre_AdamwBlocksKernel (m : (ℓ : Loc Cert.AdamwBlocksKernel.nD Cert.AdamwBlocksKernel.τ Cert.AdamwBlocksKernel.sig) → Buf (Elt Bits) ℓ) : Prop :=
  True

def Pre_AdamwBlocksKernelIdeal (m : (ℓ : Loc Cert.AdamwBlocksKernelIdeal.nD Cert.AdamwBlocksKernelIdeal.τ Cert.AdamwBlocksKernelIdeal.sig) → Buf (Elt Ideal) ℓ) : Prop :=
  True

def Pre_AdamwBlocksReferenceIdeal (m : (ℓ : Loc Cert.AdamwBlocksReferenceIdeal.nD Cert.AdamwBlocksReferenceIdeal.τ Cert.AdamwBlocksReferenceIdeal.sig) → Buf (Elt Ideal) ℓ) : Prop :=
  True

def Pre_AdamwBiasKernel (m : (ℓ : Loc Cert.AdamwBiasKernel.nD Cert.AdamwBiasKernel.τ Cert.AdamwBiasKernel.sig) → Buf (Elt Bits) ℓ) : Prop :=
  True

def Pre_AdamwBiasKernelIdeal (m : (ℓ : Loc Cert.AdamwBiasKernelIdeal.nD Cert.AdamwBiasKernelIdeal.τ Cert.AdamwBiasKernelIdeal.sig) → Buf (Elt Ideal) ℓ) : Prop :=
  True

def Pre_AdamwBiasReferenceIdeal (m : (ℓ : Loc Cert.AdamwBiasReferenceIdeal.nD Cert.AdamwBiasReferenceIdeal.τ Cert.AdamwBiasReferenceIdeal.sig) → Buf (Elt Ideal) ℓ) : Prop :=
  True

def Pre_AdamwConvKernel (m : (ℓ : Loc Cert.AdamwConvKernel.nD Cert.AdamwConvKernel.τ Cert.AdamwConvKernel.sig) → Buf (Elt Bits) ℓ) : Prop :=
  True

def Pre_AdamwConvKernelIdeal (m : (ℓ : Loc Cert.AdamwConvKernelIdeal.nD Cert.AdamwConvKernelIdeal.τ Cert.AdamwConvKernelIdeal.sig) → Buf (Elt Ideal) ℓ) : Prop :=
  True

def Pre_AdamwConvReferenceIdeal (m : (ℓ : Loc Cert.AdamwConvReferenceIdeal.nD Cert.AdamwConvReferenceIdeal.τ Cert.AdamwConvReferenceIdeal.sig) → Buf (Elt Ideal) ℓ) : Prop :=
  True

def Pre_AdamwTableKernel (m : (ℓ : Loc Cert.AdamwTableKernel.nD Cert.AdamwTableKernel.τ Cert.AdamwTableKernel.sig) → Buf (Elt Bits) ℓ) : Prop :=
  True

def Pre_AdamwTableKernelIdeal (m : (ℓ : Loc Cert.AdamwTableKernelIdeal.nD Cert.AdamwTableKernelIdeal.τ Cert.AdamwTableKernelIdeal.sig) → Buf (Elt Ideal) ℓ) : Prop :=
  True

def Pre_AdamwTableReferenceIdeal (m : (ℓ : Loc Cert.AdamwTableReferenceIdeal.nD Cert.AdamwTableReferenceIdeal.τ Cert.AdamwTableReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_WguKernel (m : (ℓ : Loc Cert.WguKernel.nD Cert.WguKernel.τ Cert.WguKernel.sig) → Buf (Elt Bits) ℓ) : Prop :=
  True

def Pre_WguKernelIdeal (m : (ℓ : Loc Cert.WguKernelIdeal.nD Cert.WguKernelIdeal.τ Cert.WguKernelIdeal.sig) → Buf (Elt Ideal) ℓ) : Prop :=
  True

def Pre_WguReferenceIdeal (m : (ℓ : Loc Cert.WguReferenceIdeal.nD Cert.WguReferenceIdeal.τ Cert.WguReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3)
      ∧ r.2.mem ((c.tc : Thread Cert.OutprojKernel.nD Cert.OutprojKernel.τ).loc Cert.OutprojKernel.main_arg4) = m ((c.tc : Thread Cert.OutprojKernel.nD Cert.OutprojKernel.τ).loc Cert.OutprojKernel.main_arg4)
      ∧ r.2.mem ((c.tc : Thread Cert.OutprojKernel.nD Cert.OutprojKernel.τ).loc Cert.OutprojKernel.main_arg5) = m ((c.tc : Thread Cert.OutprojKernel.nD Cert.OutprojKernel.τ).loc Cert.OutprojKernel.main_arg5)
      ∧ r.2.mem ((c.tc : Thread Cert.OutprojKernel.nD Cert.OutprojKernel.τ).loc Cert.OutprojKernel.main_arg6) = m ((c.tc : Thread Cert.OutprojKernel.nD Cert.OutprojKernel.τ).loc Cert.OutprojKernel.main_arg6)
      ∧ r.2.mem ((c.tc : Thread Cert.OutprojKernel.nD Cert.OutprojKernel.τ).loc Cert.OutprojKernel.main_arg7) = m ((c.tc : Thread Cert.OutprojKernel.nD Cert.OutprojKernel.τ).loc Cert.OutprojKernel.main_arg7))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
      ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
      ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
      ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7))
      ∧ r.2.sem = fun _ => 0)

def quiescent_OutprojKernelIdeal_pre_outproj_finite [hOutprojKernelIdeal : Cert.OutprojKernelIdeal.Facts] [hPre_outproj_finite : Cert.Pre_outproj_finite.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal_outproj_finite m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
      ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
      ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
      ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def quiescent_OutprojReferenceIdeal_pre_outproj_finite [hOutprojReferenceIdeal : Cert.OutprojReferenceIdeal.Facts] [hPre_outproj_finite : Cert.Pre_outproj_finite.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_outproj_finite m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5)
      ∧ r.2.mem ((c.tc : Thread Cert.FfnFwdKernel.nD Cert.FfnFwdKernel.τ).loc Cert.FfnFwdKernel.main_arg6) = m ((c.tc : Thread Cert.FfnFwdKernel.nD Cert.FfnFwdKernel.τ).loc Cert.FfnFwdKernel.main_arg6)
      ∧ r.2.mem ((c.tc : Thread Cert.FfnFwdKernel.nD Cert.FfnFwdKernel.τ).loc Cert.FfnFwdKernel.main_arg7) = m ((c.tc : Thread Cert.FfnFwdKernel.nD Cert.FfnFwdKernel.τ).loc Cert.FfnFwdKernel.main_arg7))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
      ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6)
      ∧ r.2.mem ((c.tc : Thread Cert.FfnFwdKernelIdeal.nD Cert.FfnFwdKernelIdeal.τ).loc Cert.FfnFwdKernelIdeal.main_arg7) = m ((c.tc : Thread Cert.FfnFwdKernelIdeal.nD Cert.FfnFwdKernelIdeal.τ).loc Cert.FfnFwdKernelIdeal.main_arg7))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5)
      ∧ r.2.mem ((c.tc : Thread Cert.FfnFwdReferenceIdeal.nD Cert.FfnFwdReferenceIdeal.τ).loc Cert.FfnFwdReferenceIdeal.main_arg6) = m ((c.tc : Thread Cert.FfnFwdReferenceIdeal.nD Cert.FfnFwdReferenceIdeal.τ).loc Cert.FfnFwdReferenceIdeal.main_arg6)
      ∧ r.2.mem ((c.tc : Thread Cert.FfnFwdReferenceIdeal.nD Cert.FfnFwdReferenceIdeal.τ).loc Cert.FfnFwdReferenceIdeal.main_arg7) = m ((c.tc : Thread Cert.FfnFwdReferenceIdeal.nD Cert.FfnFwdReferenceIdeal.τ).loc Cert.FfnFwdReferenceIdeal.main_arg7))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0)

def quiescent_InprojBwdKernel [hInprojBwdKernel : Cert.InprojBwdKernel.Facts] : Prop :=
  ∀ (m : (ℓ : Loc Cert.InprojBwdKernel.nD Cert.InprojBwdKernel.τ Cert.InprojBwdKernel.sig) → Buf (Elt Bits) ℓ) (g : Dev Cert.InprojBwdKernel.nD → PrngReg), Pre_InprojBwdKernel m →
    θ_run (Cert.InprojBwdKernel.defs (F := Bits)) (onTc (τ := Cert.InprojBwdKernel.τ) (Cert.InprojBwdKernel.main (F := Bits))) ⟨m, fun _ => 0, g⟩ (fun r => (∀ c : Dev Cert.InprojBwdKernel.nD,
      r.2.mem ((c.tc : Thread Cert.InprojBwdKernel.nD Cert.InprojBwdKernel.τ).loc Cert.InprojBwdKernel.main_arg0) = m ((c.tc : Thread Cert.InprojBwdKernel.nD Cert.InprojBwdKernel.τ).loc Cert.InprojBwdKernel.main_arg0)
      ∧ r.2.mem ((c.tc : Thread Cert.InprojBwdKernel.nD Cert.InprojBwdKernel.τ).loc Cert.InprojBwdKernel.main_arg1) = m ((c.tc : Thread Cert.InprojBwdKernel.nD Cert.InprojBwdKernel.τ).loc Cert.InprojBwdKernel.main_arg1)
      ∧ r.2.mem ((c.tc : Thread Cert.InprojBwdKernel.nD Cert.InprojBwdKernel.τ).loc Cert.InprojBwdKernel.main_arg2) = m ((c.tc : Thread Cert.InprojBwdKernel.nD Cert.InprojBwdKernel.τ).loc Cert.InprojBwdKernel.main_arg2))
      ∧ r.2.sem = fun _ => 0)

def quiescent_InprojBwdKernelIdeal [hInprojBwdKernelIdeal : Cert.InprojBwdKernelIdeal.Facts] : Prop :=
  ∀ (m : (ℓ : Loc Cert.InprojBwdKernelIdeal.nD Cert.InprojBwdKernelIdeal.τ Cert.InprojBwdKernelIdeal.sig) → Buf (Elt Ideal) ℓ) (g : Dev Cert.InprojBwdKernelIdeal.nD → PrngReg), Pre_InprojBwdKernelIdeal m →
    θ_run (Cert.InprojBwdKernelIdeal.defs (F := Ideal)) (onTc (τ := Cert.InprojBwdKernelIdeal.τ) (Cert.InprojBwdKernelIdeal.main (F := Ideal))) ⟨m, fun _ => 0, g⟩ (fun r => (∀ c : Dev Cert.InprojBwdKernelIdeal.nD,
      r.2.mem ((c.tc : Thread Cert.InprojBwdKernelIdeal.nD Cert.InprojBwdKernelIdeal.τ).loc Cert.InprojBwdKernelIdeal.main_arg0) = m ((c.tc : Thread Cert.InprojBwdKernelIdeal.nD Cert.InprojBwdKernelIdeal.τ).loc Cert.InprojBwdKernelIdeal.main_arg0)
      ∧ r.2.mem ((c.tc : Thread Cert.InprojBwdKernelIdeal.nD Cert.InprojBwdKernelIdeal.τ).loc Cert.InprojBwdKernelIdeal.main_arg1) = m ((c.tc : Thread Cert.InprojBwdKernelIdeal.nD Cert.InprojBwdKernelIdeal.τ).loc Cert.InprojBwdKernelIdeal.main_arg1)
      ∧ r.2.mem ((c.tc : Thread Cert.InprojBwdKernelIdeal.nD Cert.InprojBwdKernelIdeal.τ).loc Cert.InprojBwdKernelIdeal.main_arg2) = m ((c.tc : Thread Cert.InprojBwdKernelIdeal.nD Cert.InprojBwdKernelIdeal.τ).loc Cert.InprojBwdKernelIdeal.main_arg2))
      ∧ r.2.sem = fun _ => 0)

def quiescent_InprojBwdReferenceIdeal [hInprojBwdReferenceIdeal : Cert.InprojBwdReferenceIdeal.Facts] : Prop :=
  ∀ (m : (ℓ : Loc Cert.InprojBwdReferenceIdeal.nD Cert.InprojBwdReferenceIdeal.τ Cert.InprojBwdReferenceIdeal.sig) → Buf (Elt Ideal) ℓ) (g : Dev Cert.InprojBwdReferenceIdeal.nD → PrngReg), Pre_InprojBwdReferenceIdeal m →
    θ_run (Cert.InprojBwdReferenceIdeal.defs (F := Ideal)) (onTc (τ := Cert.InprojBwdReferenceIdeal.τ) (Cert.InprojBwdReferenceIdeal.main (F := Ideal))) ⟨m, fun _ => 0, g⟩ (fun r => (∀ c : Dev Cert.InprojBwdReferenceIdeal.nD,
      r.2.mem ((c.tc : Thread Cert.InprojBwdReferenceIdeal.nD Cert.InprojBwdReferenceIdeal.τ).loc Cert.InprojBwdReferenceIdeal.main_arg0) = m ((c.tc : Thread Cert.InprojBwdReferenceIdeal.nD Cert.InprojBwdReferenceIdeal.τ).loc Cert.InprojBwdReferenceIdeal.main_arg0)
      ∧ r.2.mem ((c.tc : Thread Cert.InprojBwdReferenceIdeal.nD Cert.InprojBwdReferenceIdeal.τ).loc Cert.InprojBwdReferenceIdeal.main_arg1) = m ((c.tc : Thread Cert.InprojBwdReferenceIdeal.nD Cert.InprojBwdReferenceIdeal.τ).loc Cert.InprojBwdReferenceIdeal.main_arg1)
      ∧ r.2.mem ((c.tc : Thread Cert.InprojBwdReferenceIdeal.nD Cert.InprojBwdReferenceIdeal.τ).loc Cert.InprojBwdReferenceIdeal.main_arg2) = m ((c.tc : Thread Cert.InprojBwdReferenceIdeal.nD Cert.InprojBwdReferenceIdeal.τ).loc Cert.InprojBwdReferenceIdeal.main_arg2))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_WdownKernel [hWdownKernel : Cert.WdownKernel.Facts] : Prop :=
  ∀ (m : (ℓ : Loc Cert.WdownKernel.nD Cert.WdownKernel.τ Cert.WdownKernel.sig) → Buf (Elt Bits) ℓ) (g : Dev Cert.WdownKernel.nD → PrngReg), Pre_WdownKernel m →
    θ_run (Cert.WdownKernel.defs (F := Bits)) (onTc (τ := Cert.WdownKernel.τ) (Cert.WdownKernel.main (F := Bits))) ⟨m, fun _ => 0, g⟩ (fun r => (∀ c : Dev Cert.WdownKernel.nD,
      r.2.mem ((c.tc : Thread Cert.WdownKernel.nD Cert.WdownKernel.τ).loc Cert.WdownKernel.main_arg0) = m ((c.tc : Thread Cert.WdownKernel.nD Cert.WdownKernel.τ).loc Cert.WdownKernel.main_arg0)
      ∧ r.2.mem ((c.tc : Thread Cert.WdownKernel.nD Cert.WdownKernel.τ).loc Cert.WdownKernel.main_arg1) = m ((c.tc : Thread Cert.WdownKernel.nD Cert.WdownKernel.τ).loc Cert.WdownKernel.main_arg1))
      ∧ r.2.sem = fun _ => 0)

def quiescent_WdownKernelIdeal [hWdownKernelIdeal : Cert.WdownKernelIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg), Pre_WdownKernelIdeal m →
    θ_run (Cert.WdownKernelIdeal.defs (F := Ideal)) (onTc (τ := Cert.WdownKernelIdeal.τ) (Cert.WdownKernelIdeal.main (F := Ideal))) ⟨m, fun _ => 0, g⟩ (fun r => (∀ c : Dev Cert.WdownKernelIdeal.nD,
      r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
      ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ r.2.sem = fun _ => 0)

def quiescent_WdownReferenceIdeal [hWdownReferenceIdeal : Cert.WdownReferenceIdeal.Facts] : Prop :=
  ∀ (m : (ℓ : Loc Cert.WdownReferenceIdeal.nD Cert.WdownReferenceIdeal.τ Cert.WdownReferenceIdeal.sig) → Buf (Elt Ideal) ℓ) (g : Dev Cert.WdownReferenceIdeal.nD → PrngReg), Pre_WdownReferenceIdeal m →
    θ_run (Cert.WdownReferenceIdeal.defs (F := Ideal)) (onTc (τ := Cert.WdownReferenceIdeal.τ) (Cert.WdownReferenceIdeal.main (F := Ideal))) ⟨m, fun _ => 0, g⟩ (fun r => (∀ c : Dev Cert.WdownReferenceIdeal.nD,
      r.2.mem ((c.tc : Thread Cert.WdownReferenceIdeal.nD Cert.WdownReferenceIdeal.τ).loc Cert.WdownReferenceIdeal.main_arg0) = m ((c.tc : Thread Cert.WdownReferenceIdeal.nD Cert.WdownReferenceIdeal.τ).loc Cert.WdownReferenceIdeal.main_arg0)
      ∧ r.2.mem ((c.tc : Thread Cert.WdownReferenceIdeal.nD Cert.WdownReferenceIdeal.τ).loc Cert.WdownReferenceIdeal.main_arg1) = m ((c.tc : Thread Cert.WdownReferenceIdeal.nD Cert.WdownReferenceIdeal.τ).loc Cert.WdownReferenceIdeal.main_arg1))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_AdamwOutKernel [hAdamwOutKernel : Cert.AdamwOutKernel.Facts] : Prop :=
  ∀ (m : (ℓ : Loc Cert.AdamwOutKernel.nD Cert.AdamwOutKernel.τ Cert.AdamwOutKernel.sig) → Buf (Elt Bits) ℓ) (g : Dev Cert.AdamwOutKernel.nD → PrngReg), Pre_AdamwOutKernel m →
    θ_run (Cert.AdamwOutKernel.defs (F := Bits)) (onTc (τ := Cert.AdamwOutKernel.τ) (Cert.AdamwOutKernel.main (F := Bits))) ⟨m, fun _ => 0, g⟩ (fun r => (∀ c : Dev Cert.AdamwOutKernel.nD,
      r.2.mem ((c.tc : Thread Cert.AdamwOutKernel.nD Cert.AdamwOutKernel.τ).loc Cert.AdamwOutKernel.main_arg0) = m ((c.tc : Thread Cert.AdamwOutKernel.nD Cert.AdamwOutKernel.τ).loc Cert.AdamwOutKernel.main_arg0)
      ∧ r.2.mem ((c.tc : Thread Cert.AdamwOutKernel.nD Cert.AdamwOutKernel.τ).loc Cert.AdamwOutKernel.main_arg1) = m ((c.tc : Thread Cert.AdamwOutKernel.nD Cert.AdamwOutKernel.τ).loc Cert.AdamwOutKernel.main_arg1)
      ∧ r.2.mem ((c.tc : Thread Cert.AdamwOutKernel.nD Cert.AdamwOutKernel.τ).loc Cert.AdamwOutKernel.main_arg2) = m ((c.tc : Thread Cert.AdamwOutKernel.nD Cert.AdamwOutKernel.τ).loc Cert.AdamwOutKernel.main_arg2)
      ∧ r.2.mem ((c.tc : Thread Cert.AdamwOutKernel.nD Cert.AdamwOutKernel.τ).loc Cert.AdamwOutKernel.main_arg3) = m ((c.tc : Thread Cert.AdamwOutKernel.nD Cert.AdamwOutKernel.τ).loc Cert.AdamwOutKernel.main_arg3))
      ∧ r.2.sem = fun _ => 0)

def quiescent_AdamwOutKernelIdeal [hAdamwOutKernelIdeal : Cert.AdamwOutKernelIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg), Pre_AdamwOutKernelIdeal m →
    θ_run (Cert.AdamwOutKernelIdeal.defs (F := Ideal)) (onTc (τ := Cert.AdamwOutKernelIdeal.τ) (Cert.AdamwOutKernelIdeal.main (F := Ideal))) ⟨m, fun _ => 0, g⟩ (fun r => (∀ c : Dev Cert.AdamwOutKernelIdeal.nD,
      r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
      ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
      ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
      ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwDownKernel [hAdamwDownKernel : Cert.AdamwDownKernel.Facts] : Prop :=
  ∀ (m : (ℓ : Loc Cert.AdamwDownKernel.nD Cert.AdamwDownKernel.τ Cert.AdamwDownKernel.sig) → Buf (Elt Bits) ℓ) (g : Dev Cert.AdamwDownKernel.nD → PrngReg), Pre_AdamwDownKernel m →
    θ_run (Cert.AdamwDownKernel.defs (F := Bits)) (onTc (τ := Cert.AdamwDownKernel.τ) (Cert.AdamwDownKernel.main (F := Bits))) ⟨m, fun _ => 0, g⟩ (fun r => (∀ c : Dev Cert.AdamwDownKernel.nD,
      r.2.mem ((c.tc : Thread Cert.AdamwDownKernel.nD Cert.AdamwDownKernel.τ).loc Cert.AdamwDownKernel.main_arg0) = m ((c.tc : Thread Cert.AdamwDownKernel.nD Cert.AdamwDownKernel.τ).loc Cert.AdamwDownKernel.main_arg0)
      ∧ r.2.mem ((c.tc : Thread Cert.AdamwDownKernel.nD Cert.AdamwDownKernel.τ).loc Cert.AdamwDownKernel.main_arg1) = m ((c.tc : Thread Cert.AdamwDownKernel.nD Cert.AdamwDownKernel.τ).loc Cert.AdamwDownKernel.main_arg1)
      ∧ r.2.mem ((c.tc : Thread Cert.AdamwDownKernel.nD Cert.AdamwDownKernel.τ).loc Cert.AdamwDownKernel.main_arg2) = m ((c.tc : Thread Cert.AdamwDownKernel.nD Cert.AdamwDownKernel.τ).loc Cert.AdamwDownKernel.main_arg2)
      ∧ r.2.mem ((c.tc : Thread Cert.AdamwDownKernel.nD Cert.AdamwDownKernel.τ).loc Cert.AdamwDownKernel.main_arg3) = m ((c.tc : Thread Cert.AdamwDownKernel.nD Cert.AdamwDownKernel.τ).loc Cert.AdamwDownKernel.main_arg3))
      ∧ r.2.sem = fun _ => 0)

def quiescent_AdamwDownKernelIdeal [hAdamwDownKernelIdeal : Cert.AdamwDownKernelIdeal.Facts] : Prop :=
  ∀ (m : (ℓ : Loc Cert.AdamwDownKernelIdeal.nD Cert.AdamwDownKernelIdeal.τ Cert.AdamwDownKernelIdeal.sig) → Buf (Elt Ideal) ℓ) (g : Dev Cert.AdamwDownKernelIdeal.nD → PrngReg), Pre_AdamwDownKernelIdeal m →
    θ_run (Cert.AdamwDownKernelIdeal.defs (F := Ideal)) (onTc (τ := Cert.AdamwDownKernelIdeal.τ) (Cert.AdamwDownKernelIdeal.main (F := Ideal))) ⟨m, fun _ => 0, g⟩ (fun r => (∀ c : Dev Cert.AdamwDownKernelIdeal.nD,
      r.2.mem ((c.tc : Thread Cert.AdamwDownKernelIdeal.nD Cert.AdamwDownKernelIdeal.τ).loc Cert.AdamwDownKernelIdeal.main_arg0) = m ((c.tc : Thread Cert.AdamwDownKernelIdeal.nD Cert.AdamwDownKernelIdeal.τ).loc Cert.AdamwDownKernelIdeal.main_arg0)
      ∧ r.2.mem ((c.tc : Thread Cert.AdamwDownKernelIdeal.nD Cert.AdamwDownKernelIdeal.τ).loc Cert.AdamwDownKernelIdeal.main_arg1) = m ((c.tc : Thread Cert.AdamwDownKernelIdeal.nD Cert.AdamwDownKernelIdeal.τ).loc Cert.AdamwDownKernelIdeal.main_arg1)
      ∧ r.2.mem ((c.tc : Thread Cert.AdamwDownKernelIdeal.nD Cert.AdamwDownKernelIdeal.τ).loc Cert.AdamwDownKernelIdeal.main_arg2) = m ((c.tc : Thread Cert.AdamwDownKernelIdeal.nD Cert.AdamwDownKernelIdeal.τ).loc Cert.AdamwDownKernelIdeal.main_arg2)
      ∧ r.2.mem ((c.tc : Thread Cert.AdamwDownKernelIdeal.nD Cert.AdamwDownKernelIdeal.τ).loc Cert.AdamwDownKernelIdeal.main_arg3) = m ((c.tc : Thread Cert.AdamwDownKernelIdeal.nD Cert.AdamwDownKernelIdeal.τ).loc Cert.AdamwDownKernelIdeal.main_arg3))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3))
      ∧ r.2.sem = fun _ => 0)

def quiescent_AdamwGateKernel [hAdamwGateKernel : Cert.AdamwGateKernel.Facts] : Prop :=
  ∀ (m : (ℓ : Loc Cert.AdamwGateKernel.nD Cert.AdamwGateKernel.τ Cert.AdamwGateKernel.sig) → Buf (Elt Bits) ℓ) (g : Dev Cert.AdamwGateKernel.nD → PrngReg), Pre_AdamwGateKernel m →
    θ_run (Cert.AdamwGateKernel.defs (F := Bits)) (onTc (τ := Cert.AdamwGateKernel.τ) (Cert.AdamwGateKernel.main (F := Bits))) ⟨m, fun _ => 0, g⟩ (fun r => (∀ c : Dev Cert.AdamwGateKernel.nD,
      r.2.mem ((c.tc : Thread Cert.AdamwGateKernel.nD Cert.AdamwGateKernel.τ).loc Cert.AdamwGateKernel.main_arg0) = m ((c.tc : Thread Cert.AdamwGateKernel.nD Cert.AdamwGateKernel.τ).loc Cert.AdamwGateKernel.main_arg0)
      ∧ r.2.mem ((c.tc : Thread Cert.AdamwGateKernel.nD Cert.AdamwGateKernel.τ).loc Cert.AdamwGateKernel.main_arg1) = m ((c.tc : Thread Cert.AdamwGateKernel.nD Cert.AdamwGateKernel.τ).loc Cert.AdamwGateKernel.main_arg1)
      ∧ r.2.mem ((c.tc : Thread Cert.AdamwGateKernel.nD Cert.AdamwGateKernel.τ).loc Cert.AdamwGateKernel.main_arg2) = m ((c.tc : Thread Cert.AdamwGateKernel.nD Cert.AdamwGateKernel.τ).loc Cert.AdamwGateKernel.main_arg2)
      ∧ r.2.mem ((c.tc : Thread Cert.AdamwGateKernel.nD Cert.AdamwGateKernel.τ).loc Cert.AdamwGateKernel.main_arg3) = m ((c.tc : Thread Cert.AdamwGateKernel.nD Cert.AdamwGateKernel.τ).loc Cert.AdamwGateKernel.main_arg3))
      ∧ r.2.sem = fun _ => 0)

def quiescent_AdamwGateKernelIdeal [hAdamwGateKernelIdeal : Cert.AdamwGateKernelIdeal.Facts] : Prop :=
  ∀ (m : (ℓ : Loc Cert.AdamwGateKernelIdeal.nD Cert.AdamwGateKernelIdeal.τ Cert.AdamwGateKernelIdeal.sig) → Buf (Elt Ideal) ℓ) (g : Dev Cert.AdamwGateKernelIdeal.nD → PrngReg), Pre_AdamwGateKernelIdeal m →
    θ_run (Cert.AdamwGateKernelIdeal.defs (F := Ideal)) (onTc (τ := Cert.AdamwGateKernelIdeal.τ) (Cert.AdamwGateKernelIdeal.main (F := Ideal))) ⟨m, fun _ => 0, g⟩ (fun r => (∀ c : Dev Cert.AdamwGateKernelIdeal.nD,
      r.2.mem ((c.tc : Thread Cert.AdamwGateKernelIdeal.nD Cert.AdamwGateKernelIdeal.τ).loc Cert.AdamwGateKernelIdeal.main_arg0) = m ((c.tc : Thread Cert.AdamwGateKernelIdeal.nD Cert.AdamwGateKernelIdeal.τ).loc Cert.AdamwGateKernelIdeal.main_arg0)
      ∧ r.2.mem ((c.tc : Thread Cert.AdamwGateKernelIdeal.nD Cert.AdamwGateKernelIdeal.τ).loc Cert.AdamwGateKernelIdeal.main_arg1) = m ((c.tc : Thread Cert.AdamwGateKernelIdeal.nD Cert.AdamwGateKernelIdeal.τ).loc Cert.AdamwGateKernelIdeal.main_arg1)
      ∧ r.2.mem ((c.tc : Thread Cert.AdamwGateKernelIdeal.nD Cert.AdamwGateKernelIdeal.τ).loc Cert.AdamwGateKernelIdeal.main_arg2) = m ((c.tc : Thread Cert.AdamwGateKernelIdeal.nD Cert.AdamwGateKernelIdeal.τ).loc Cert.AdamwGateKernelIdeal.main_arg2)
      ∧ r.2.mem ((c.tc : Thread Cert.AdamwGateKernelIdeal.nD Cert.AdamwGateKernelIdeal.τ).loc Cert.AdamwGateKernelIdeal.main_arg3) = m ((c.tc : Thread Cert.AdamwGateKernelIdeal.nD Cert.AdamwGateKernelIdeal.τ).loc Cert.AdamwGateKernelIdeal.main_arg3))
      ∧ r.2.sem = fun _ => 0)

def quiescent_AdamwGateReferenceIdeal [hAdamwGateReferenceIdeal : Cert.AdamwGateReferenceIdeal.Facts] : Prop :=
  ∀ (m : (ℓ : Loc Cert.AdamwGateReferenceIdeal.nD Cert.AdamwGateReferenceIdeal.τ Cert.AdamwGateReferenceIdeal.sig) → Buf (Elt Ideal) ℓ) (g : Dev Cert.AdamwGateReferenceIdeal.nD → PrngReg), Pre_AdamwGateReferenceIdeal m →
    θ_run (Cert.AdamwGateReferenceIdeal.defs (F := Ideal)) (onTc (τ := Cert.AdamwGateReferenceIdeal.τ) (Cert.AdamwGateReferenceIdeal.main (F := Ideal))) ⟨m, fun _ => 0, g⟩ (fun r => (∀ c : Dev Cert.AdamwGateReferenceIdeal.nD,
      r.2.mem ((c.tc : Thread Cert.AdamwGateReferenceIdeal.nD Cert.AdamwGateReferenceIdeal.τ).loc Cert.AdamwGateReferenceIdeal.main_arg0) = m ((c.tc : Thread Cert.AdamwGateReferenceIdeal.nD Cert.AdamwGateReferenceIdeal.τ).loc Cert.AdamwGateReferenceIdeal.main_arg0)
      ∧ r.2.mem ((c.tc : Thread Cert.AdamwGateReferenceIdeal.nD Cert.AdamwGateReferenceIdeal.τ).loc Cert.AdamwGateReferenceIdeal.main_arg1) = m ((c.tc : Thread Cert.AdamwGateReferenceIdeal.nD Cert.AdamwGateReferenceIdeal.τ).loc Cert.AdamwGateReferenceIdeal.main_arg1)
      ∧ r.2.mem ((c.tc : Thread Cert.AdamwGateReferenceIdeal.nD Cert.AdamwGateReferenceIdeal.τ).loc Cert.AdamwGateReferenceIdeal.main_arg2) = m ((c.tc : Thread Cert.AdamwGateReferenceIdeal.nD Cert.AdamwGateReferenceIdeal.τ).loc Cert.AdamwGateReferenceIdeal.main_arg2)
      ∧ r.2.mem ((c.tc : Thread Cert.AdamwGateReferenceIdeal.nD Cert.AdamwGateReferenceIdeal.τ).loc Cert.AdamwGateReferenceIdeal.main_arg3) = m ((c.tc : Thread Cert.AdamwGateReferenceIdeal.nD Cert.AdamwGateReferenceIdeal.τ).loc Cert.AdamwGateReferenceIdeal.main_arg3))
      ∧ r.2.sem = fun _ => 0)

def quiescent_AdamwNormKernel [hAdamwNormKernel : Cert.AdamwNormKernel.Facts] : Prop :=
  ∀ (m : (ℓ : Loc Cert.AdamwNormKernel.nD Cert.AdamwNormKernel.τ Cert.AdamwNormKernel.sig) → Buf (Elt Bits) ℓ) (g : Dev Cert.AdamwNormKernel.nD → PrngReg), Pre_AdamwNormKernel m →
    θ_run (Cert.AdamwNormKernel.defs (F := Bits)) (onTc (τ := Cert.AdamwNormKernel.τ) (Cert.AdamwNormKernel.main (F := Bits))) ⟨m, fun _ => 0, g⟩ (fun r => (∀ c : Dev Cert.AdamwNormKernel.nD,
      r.2.mem ((c.tc : Thread Cert.AdamwNormKernel.nD Cert.AdamwNormKernel.τ).loc Cert.AdamwNormKernel.main_arg0) = m ((c.tc : Thread Cert.AdamwNormKernel.nD Cert.AdamwNormKernel.τ).loc Cert.AdamwNormKernel.main_arg0)
      ∧ r.2.mem ((c.tc : Thread Cert.AdamwNormKernel.nD Cert.AdamwNormKernel.τ).loc Cert.AdamwNormKernel.main_arg1) = m ((c.tc : Thread Cert.AdamwNormKernel.nD Cert.AdamwNormKernel.τ).loc Cert.AdamwNormKernel.main_arg1)
      ∧ r.2.mem ((c.tc : Thread Cert.AdamwNormKernel.nD Cert.AdamwNormKernel.τ).loc Cert.AdamwNormKernel.main_arg2) = m ((c.tc : Thread Cert.AdamwNormKernel.nD Cert.AdamwNormKernel.τ).loc Cert.AdamwNormKernel.main_arg2)
      ∧ r.2.mem ((c.tc : Thread Cert.AdamwNormKernel.nD Cert.AdamwNormKernel.τ).loc Cert.AdamwNormKernel.main_arg3) = m ((c.tc : Thread Cert.AdamwNormKernel.nD Cert.AdamwNormKernel.τ).loc Cert.AdamwNormKernel.main_arg3))
      ∧ r.2.sem = fun _ => 0)

def quiescent_AdamwNormKernelIdeal [hAdamwNormKernelIdeal : Cert.AdamwNormKernelIdeal.Facts] : Prop :=
  ∀ (m : (ℓ : Loc Cert.AdamwNormKernelIdeal.nD Cert.AdamwNormKernelIdeal.τ Cert.AdamwNormKernelIdeal.sig) → Buf (Elt Ideal) ℓ) (g : Dev Cert.AdamwNormKernelIdeal.nD → PrngReg), Pre_AdamwNormKernelIdeal m →
    θ_run (Cert.AdamwNormKernelIdeal.defs (F := Ideal)) (onTc (τ := Cert.AdamwNormKernelIdeal.τ) (Cert.AdamwNormKernelIdeal.main (F := Ideal))) ⟨m, fun _ => 0, g⟩ (fun r => (∀ c : Dev Cert.AdamwNormKernelIdeal.nD,
      r.2.mem ((c.tc : Thread Cert.AdamwNormKernelIdeal.nD Cert.AdamwNormKernelIdeal.τ).loc Cert.AdamwNormKernelIdeal.main_arg0) = m ((c.tc : Thread Cert.AdamwNormKernelIdeal.nD Cert.AdamwNormKernelIdeal.τ).loc Cert.AdamwNormKernelIdeal.main_arg0)
      ∧ r.2.mem ((c.tc : Thread Cert.AdamwNormKernelIdeal.nD Cert.AdamwNormKernelIdeal.τ).loc Cert.AdamwNormKernelIdeal.main_arg1) = m ((c.tc : Thread Cert.AdamwNormKernelIdeal.nD Cert.AdamwNormKernelIdeal.τ).loc Cert.AdamwNormKernelIdeal.main_arg1)
      ∧ r.2.mem ((c.tc : Thread Cert.AdamwNormKernelIdeal.nD Cert.AdamwNormKernelIdeal.τ).loc Cert.AdamwNormKernelIdeal.main_arg2) = m ((c.tc : Thread Cert.AdamwNormKernelIdeal.nD Cert.AdamwNormKernelIdeal.τ).loc Cert.AdamwNormKernelIdeal.main_arg2)
      ∧ r.2.mem ((c.tc : Thread Cert.AdamwNormKernelIdeal.nD Cert.AdamwNormKernelIdeal.τ).loc Cert.AdamwNormKernelIdeal.main_arg3) = m ((c.tc : Thread Cert.AdamwNormKernelIdeal.nD Cert.AdamwNormKernelIdeal.τ).loc Cert.AdamwNormKernelIdeal.main_arg3))
      ∧ r.2.sem = fun _ => 0)

def quiescent_AdamwNormReferenceIdeal [hAdamwNormReferenceIdeal : Cert.AdamwNormReferenceIdeal.Facts] : Prop :=
  ∀ (m : (ℓ : Loc Cert.AdamwNormReferenceIdeal.nD Cert.AdamwNormReferenceIdeal.τ Cert.AdamwNormReferenceIdeal.sig) → Buf (Elt Ideal) ℓ) (g : Dev Cert.AdamwNormReferenceIdeal.nD → PrngReg), Pre_AdamwNormReferenceIdeal m →
    θ_run (Cert.AdamwNormReferenceIdeal.defs (F := Ideal)) (onTc (τ := Cert.AdamwNormReferenceIdeal.τ) (Cert.AdamwNormReferenceIdeal.main (F := Ideal))) ⟨m, fun _ => 0, g⟩ (fun r => (∀ c : Dev Cert.AdamwNormReferenceIdeal.nD,
      r.2.mem ((c.tc : Thread Cert.AdamwNormReferenceIdeal.nD Cert.AdamwNormReferenceIdeal.τ).loc Cert.AdamwNormReferenceIdeal.main_arg0) = m ((c.tc : Thread Cert.AdamwNormReferenceIdeal.nD Cert.AdamwNormReferenceIdeal.τ).loc Cert.AdamwNormReferenceIdeal.main_arg0)
      ∧ r.2.mem ((c.tc : Thread Cert.AdamwNormReferenceIdeal.nD Cert.AdamwNormReferenceIdeal.τ).loc Cert.AdamwNormReferenceIdeal.main_arg1) = m ((c.tc : Thread Cert.AdamwNormReferenceIdeal.nD Cert.AdamwNormReferenceIdeal.τ).loc Cert.AdamwNormReferenceIdeal.main_arg1)
      ∧ r.2.mem ((c.tc : Thread Cert.AdamwNormReferenceIdeal.nD Cert.AdamwNormReferenceIdeal.τ).loc Cert.AdamwNormReferenceIdeal.main_arg2) = m ((c.tc : Thread Cert.AdamwNormReferenceIdeal.nD Cert.AdamwNormReferenceIdeal.τ).loc Cert.AdamwNormReferenceIdeal.main_arg2)
      ∧ r.2.mem ((c.tc : Thread Cert.AdamwNormReferenceIdeal.nD Cert.AdamwNormReferenceIdeal.τ).loc Cert.AdamwNormReferenceIdeal.main_arg3) = m ((c.tc : Thread Cert.AdamwNormReferenceIdeal.nD Cert.AdamwNormReferenceIdeal.τ).loc Cert.AdamwNormReferenceIdeal.main_arg3))
      ∧ r.2.sem = fun _ => 0)

def quiescent_AdamwWidthKernel [hAdamwWidthKernel : Cert.AdamwWidthKernel.Facts] : Prop :=
  ∀ (m : (ℓ : Loc Cert.AdamwWidthKernel.nD Cert.AdamwWidthKernel.τ Cert.AdamwWidthKernel.sig) → Buf (Elt Bits) ℓ) (g : Dev Cert.AdamwWidthKernel.nD → PrngReg), Pre_AdamwWidthKernel m →
    θ_run (Cert.AdamwWidthKernel.defs (F := Bits)) (onTc (τ := Cert.AdamwWidthKernel.τ) (Cert.AdamwWidthKernel.main (F := Bits))) ⟨m, fun _ => 0, g⟩ (fun r => (∀ c : Dev Cert.AdamwWidthKernel.nD,
      r.2.mem ((c.tc : Thread Cert.AdamwWidthKernel.nD Cert.AdamwWidthKernel.τ).loc Cert.AdamwWidthKernel.main_arg0) = m ((c.tc : Thread Cert.AdamwWidthKernel.nD Cert.AdamwWidthKernel.τ).loc Cert.AdamwWidthKernel.main_arg0)
      ∧ r.2.mem ((c.tc : Thread Cert.AdamwWidthKernel.nD Cert.AdamwWidthKernel.τ).loc Cert.AdamwWidthKernel.main_arg1) = m ((c.tc : Thread Cert.AdamwWidthKernel.nD Cert.AdamwWidthKernel.τ).loc Cert.AdamwWidthKernel.main_arg1)
      ∧ r.2.mem ((c.tc : Thread Cert.AdamwWidthKernel.nD Cert.AdamwWidthKernel.τ).loc Cert.AdamwWidthKernel.main_arg2) = m ((c.tc : Thread Cert.AdamwWidthKernel.nD Cert.AdamwWidthKernel.τ).loc Cert.AdamwWidthKernel.main_arg2)
      ∧ r.2.mem ((c.tc : Thread Cert.AdamwWidthKernel.nD Cert.AdamwWidthKernel.τ).loc Cert.AdamwWidthKernel.main_arg3) = m ((c.tc : Thread Cert.AdamwWidthKernel.nD Cert.AdamwWidthKernel.τ).loc Cert.AdamwWidthKernel.main_arg3))
      ∧ r.2.sem = fun _ => 0)

def quiescent_AdamwWidthKernelIdeal [hAdamwWidthKernelIdeal : Cert.AdamwWidthKernelIdeal.Facts] : Prop :=
  ∀ (m : (ℓ : Loc Cert.AdamwWidthKernelIdeal.nD Cert.AdamwWidthKernelIdeal.τ Cert.AdamwWidthKernelIdeal.sig) → Buf (Elt Ideal) ℓ) (g : Dev Cert.AdamwWidthKernelIdeal.nD → PrngReg), Pre_AdamwWidthKernelIdeal m →
    θ_run (Cert.AdamwWidthKernelIdeal.defs (F := Ideal)) (onTc (τ := Cert.AdamwWidthKernelIdeal.τ) (Cert.AdamwWidthKernelIdeal.main (F := Ideal))) ⟨m, fun _ => 0, g⟩ (fun r => (∀ c : Dev Cert.AdamwWidthKernelIdeal.nD,
      r.2.mem ((c.tc : Thread Cert.AdamwWidthKernelIdeal.nD Cert.AdamwWidthKernelIdeal.τ).loc Cert.AdamwWidthKernelIdeal.main_arg0) = m ((c.tc : Thread Cert.AdamwWidthKernelIdeal.nD Cert.AdamwWidthKernelIdeal.τ).loc Cert.AdamwWidthKernelIdeal.main_arg0)
      ∧ r.2.mem ((c.tc : Thread Cert.AdamwWidthKernelIdeal.nD Cert.AdamwWidthKernelIdeal.τ).loc Cert.AdamwWidthKernelIdeal.main_arg1) = m ((c.tc : Thread Cert.AdamwWidthKernelIdeal.nD Cert.AdamwWidthKernelIdeal.τ).loc Cert.AdamwWidthKernelIdeal.main_arg1)
      ∧ r.2.mem ((c.tc : Thread Cert.AdamwWidthKernelIdeal.nD Cert.AdamwWidthKernelIdeal.τ).loc Cert.AdamwWidthKernelIdeal.main_arg2) = m ((c.tc : Thread Cert.AdamwWidthKernelIdeal.nD Cert.AdamwWidthKernelIdeal.τ).loc Cert.AdamwWidthKernelIdeal.main_arg2)
      ∧ r.2.mem ((c.tc : Thread Cert.AdamwWidthKernelIdeal.nD Cert.AdamwWidthKernelIdeal.τ).loc Cert.AdamwWidthKernelIdeal.main_arg3) = m ((c.tc : Thread Cert.AdamwWidthKernelIdeal.nD Cert.AdamwWidthKernelIdeal.τ).loc Cert.AdamwWidthKernelIdeal.main_arg3))
      ∧ r.2.sem = fun _ => 0)

def quiescent_AdamwWidthReferenceIdeal [hAdamwWidthReferenceIdeal : Cert.AdamwWidthReferenceIdeal.Facts] : Prop :=
  ∀ (m : (ℓ : Loc Cert.AdamwWidthReferenceIdeal.nD Cert.AdamwWidthReferenceIdeal.τ Cert.AdamwWidthReferenceIdeal.sig) → Buf (Elt Ideal) ℓ) (g : Dev Cert.AdamwWidthReferenceIdeal.nD → PrngReg), Pre_AdamwWidthReferenceIdeal m →
    θ_run (Cert.AdamwWidthReferenceIdeal.defs (F := Ideal)) (onTc (τ := Cert.AdamwWidthReferenceIdeal.τ) (Cert.AdamwWidthReferenceIdeal.main (F := Ideal))) ⟨m, fun _ => 0, g⟩ (fun r => (∀ c : Dev Cert.AdamwWidthReferenceIdeal.nD,
      r.2.mem ((c.tc : Thread Cert.AdamwWidthReferenceIdeal.nD Cert.AdamwWidthReferenceIdeal.τ).loc Cert.AdamwWidthReferenceIdeal.main_arg0) = m ((c.tc : Thread Cert.AdamwWidthReferenceIdeal.nD Cert.AdamwWidthReferenceIdeal.τ).loc Cert.AdamwWidthReferenceIdeal.main_arg0)
      ∧ r.2.mem ((c.tc : Thread Cert.AdamwWidthReferenceIdeal.nD Cert.AdamwWidthReferenceIdeal.τ).loc Cert.AdamwWidthReferenceIdeal.main_arg1) = m ((c.tc : Thread Cert.AdamwWidthReferenceIdeal.nD Cert.AdamwWidthReferenceIdeal.τ).loc Cert.AdamwWidthReferenceIdeal.main_arg1)
      ∧ r.2.mem ((c.tc : Thread Cert.AdamwWidthReferenceIdeal.nD Cert.AdamwWidthReferenceIdeal.τ).loc Cert.AdamwWidthReferenceIdeal.main_arg2) = m ((c.tc : Thread Cert.AdamwWidthReferenceIdeal.nD Cert.AdamwWidthReferenceIdeal.τ).loc Cert.AdamwWidthReferenceIdeal.main_arg2)
      ∧ r.2.mem ((c.tc : Thread Cert.AdamwWidthReferenceIdeal.nD Cert.AdamwWidthReferenceIdeal.τ).loc Cert.AdamwWidthReferenceIdeal.main_arg3) = m ((c.tc : Thread Cert.AdamwWidthReferenceIdeal.nD Cert.AdamwWidthReferenceIdeal.τ).loc Cert.AdamwWidthReferenceIdeal.main_arg3))
      ∧ r.2.sem = fun _ => 0)

def quiescent_AdamwBlocksKernel [hAdamwBlocksKernel : Cert.AdamwBlocksKernel.Facts] : Prop :=
  ∀ (m : (ℓ : Loc Cert.AdamwBlocksKernel.nD Cert.AdamwBlocksKernel.τ Cert.AdamwBlocksKernel.sig) → Buf (Elt Bits) ℓ) (g : Dev Cert.AdamwBlocksKernel.nD → PrngReg), Pre_AdamwBlocksKernel m →
    θ_run (Cert.AdamwBlocksKernel.defs (F := Bits)) (onTc (τ := Cert.AdamwBlocksKernel.τ) (Cert.AdamwBlocksKernel.main (F := Bits))) ⟨m, fun _ => 0, g⟩ (fun r => (∀ c : Dev Cert.AdamwBlocksKernel.nD,
      r.2.mem ((c.tc : Thread Cert.AdamwBlocksKernel.nD Cert.AdamwBlocksKernel.τ).loc Cert.AdamwBlocksKernel.main_arg0) = m ((c.tc : Thread Cert.AdamwBlocksKernel.nD Cert.AdamwBlocksKernel.τ).loc Cert.AdamwBlocksKernel.main_arg0)
      ∧ r.2.mem ((c.tc : Thread Cert.AdamwBlocksKernel.nD Cert.AdamwBlocksKernel.τ).loc Cert.AdamwBlocksKernel.main_arg1) = m ((c.tc : Thread Cert.AdamwBlocksKernel.nD Cert.AdamwBlocksKernel.τ).loc Cert.AdamwBlocksKernel.main_arg1)
      ∧ r.2.mem ((c.tc : Thread Cert.AdamwBlocksKernel.nD Cert.AdamwBlocksKernel.τ).loc Cert.AdamwBlocksKernel.main_arg2) = m ((c.tc : Thread Cert.AdamwBlocksKernel.nD Cert.AdamwBlocksKernel.τ).loc Cert.AdamwBlocksKernel.main_arg2)
      ∧ r.2.mem ((c.tc : Thread Cert.AdamwBlocksKernel.nD Cert.AdamwBlocksKernel.τ).loc Cert.AdamwBlocksKernel.main_arg3) = m ((c.tc : Thread Cert.AdamwBlocksKernel.nD Cert.AdamwBlocksKernel.τ).loc Cert.AdamwBlocksKernel.main_arg3))
      ∧ r.2.sem = fun _ => 0)

def quiescent_AdamwBlocksKernelIdeal [hAdamwBlocksKernelIdeal : Cert.AdamwBlocksKernelIdeal.Facts] : Prop :=
  ∀ (m : (ℓ : Loc Cert.AdamwBlocksKernelIdeal.nD Cert.AdamwBlocksKernelIdeal.τ Cert.AdamwBlocksKernelIdeal.sig) → Buf (Elt Ideal) ℓ) (g : Dev Cert.AdamwBlocksKernelIdeal.nD → PrngReg), Pre_AdamwBlocksKernelIdeal m →
    θ_run (Cert.AdamwBlocksKernelIdeal.defs (F := Ideal)) (onTc (τ := Cert.AdamwBlocksKernelIdeal.τ) (Cert.AdamwBlocksKernelIdeal.main (F := Ideal))) ⟨m, fun _ => 0, g⟩ (fun r => (∀ c : Dev Cert.AdamwBlocksKernelIdeal.nD,
      r.2.mem ((c.tc : Thread Cert.AdamwBlocksKernelIdeal.nD Cert.AdamwBlocksKernelIdeal.τ).loc Cert.AdamwBlocksKernelIdeal.main_arg0) = m ((c.tc : Thread Cert.AdamwBlocksKernelIdeal.nD Cert.AdamwBlocksKernelIdeal.τ).loc Cert.AdamwBlocksKernelIdeal.main_arg0)
      ∧ r.2.mem ((c.tc : Thread Cert.AdamwBlocksKernelIdeal.nD Cert.AdamwBlocksKernelIdeal.τ).loc Cert.AdamwBlocksKernelIdeal.main_arg1) = m ((c.tc : Thread Cert.AdamwBlocksKernelIdeal.nD Cert.AdamwBlocksKernelIdeal.τ).loc Cert.AdamwBlocksKernelIdeal.main_arg1)
      ∧ r.2.mem ((c.tc : Thread Cert.AdamwBlocksKernelIdeal.nD Cert.AdamwBlocksKernelIdeal.τ).loc Cert.AdamwBlocksKernelIdeal.main_arg2) = m ((c.tc : Thread Cert.AdamwBlocksKernelIdeal.nD Cert.AdamwBlocksKernelIdeal.τ).loc Cert.AdamwBlocksKernelIdeal.main_arg2)
      ∧ r.2.mem ((c.tc : Thread Cert.AdamwBlocksKernelIdeal.nD Cert.AdamwBlocksKernelIdeal.τ).loc Cert.AdamwBlocksKernelIdeal.main_arg3) = m ((c.tc : Thread Cert.AdamwBlocksKernelIdeal.nD Cert.AdamwBlocksKernelIdeal.τ).loc Cert.AdamwBlocksKernelIdeal.main_arg3))
      ∧ r.2.sem = fun _ => 0)

def quiescent_AdamwBlocksReferenceIdeal [hAdamwBlocksReferenceIdeal : Cert.AdamwBlocksReferenceIdeal.Facts] : Prop :=
  ∀ (m : (ℓ : Loc Cert.AdamwBlocksReferenceIdeal.nD Cert.AdamwBlocksReferenceIdeal.τ Cert.AdamwBlocksReferenceIdeal.sig) → Buf (Elt Ideal) ℓ) (g : Dev Cert.AdamwBlocksReferenceIdeal.nD → PrngReg), Pre_AdamwBlocksReferenceIdeal m →
    θ_run (Cert.AdamwBlocksReferenceIdeal.defs (F := Ideal)) (onTc (τ := Cert.AdamwBlocksReferenceIdeal.τ) (Cert.AdamwBlocksReferenceIdeal.main (F := Ideal))) ⟨m, fun _ => 0, g⟩ (fun r => (∀ c : Dev Cert.AdamwBlocksReferenceIdeal.nD,
      r.2.mem ((c.tc : Thread Cert.AdamwBlocksReferenceIdeal.nD Cert.AdamwBlocksReferenceIdeal.τ).loc Cert.AdamwBlocksReferenceIdeal.main_arg0) = m ((c.tc : Thread Cert.AdamwBlocksReferenceIdeal.nD Cert.AdamwBlocksReferenceIdeal.τ).loc Cert.AdamwBlocksReferenceIdeal.main_arg0)
      ∧ r.2.mem ((c.tc : Thread Cert.AdamwBlocksReferenceIdeal.nD Cert.AdamwBlocksReferenceIdeal.τ).loc Cert.AdamwBlocksReferenceIdeal.main_arg1) = m ((c.tc : Thread Cert.AdamwBlocksReferenceIdeal.nD Cert.AdamwBlocksReferenceIdeal.τ).loc Cert.AdamwBlocksReferenceIdeal.main_arg1)
      ∧ r.2.mem ((c.tc : Thread Cert.AdamwBlocksReferenceIdeal.nD Cert.AdamwBlocksReferenceIdeal.τ).loc Cert.AdamwBlocksReferenceIdeal.main_arg2) = m ((c.tc : Thread Cert.AdamwBlocksReferenceIdeal.nD Cert.AdamwBlocksReferenceIdeal.τ).loc Cert.AdamwBlocksReferenceIdeal.main_arg2)
      ∧ r.2.mem ((c.tc : Thread Cert.AdamwBlocksReferenceIdeal.nD Cert.AdamwBlocksReferenceIdeal.τ).loc Cert.AdamwBlocksReferenceIdeal.main_arg3) = m ((c.tc : Thread Cert.AdamwBlocksReferenceIdeal.nD Cert.AdamwBlocksReferenceIdeal.τ).loc Cert.AdamwBlocksReferenceIdeal.main_arg3))
      ∧ r.2.sem = fun _ => 0)

def quiescent_AdamwBiasKernel [hAdamwBiasKernel : Cert.AdamwBiasKernel.Facts] : Prop :=
  ∀ (m : (ℓ : Loc Cert.AdamwBiasKernel.nD Cert.AdamwBiasKernel.τ Cert.AdamwBiasKernel.sig) → Buf (Elt Bits) ℓ) (g : Dev Cert.AdamwBiasKernel.nD → PrngReg), Pre_AdamwBiasKernel m →
    θ_run (Cert.AdamwBiasKernel.defs (F := Bits)) (onTc (τ := Cert.AdamwBiasKernel.τ) (Cert.AdamwBiasKernel.main (F := Bits))) ⟨m, fun _ => 0, g⟩ (fun r => (∀ c : Dev Cert.AdamwBiasKernel.nD,
      r.2.mem ((c.tc : Thread Cert.AdamwBiasKernel.nD Cert.AdamwBiasKernel.τ).loc Cert.AdamwBiasKernel.main_arg0) = m ((c.tc : Thread Cert.AdamwBiasKernel.nD Cert.AdamwBiasKernel.τ).loc Cert.AdamwBiasKernel.main_arg0)
      ∧ r.2.mem ((c.tc : Thread Cert.AdamwBiasKernel.nD Cert.AdamwBiasKernel.τ).loc Cert.AdamwBiasKernel.main_arg1) = m ((c.tc : Thread Cert.AdamwBiasKernel.nD Cert.AdamwBiasKernel.τ).loc Cert.AdamwBiasKernel.main_arg1)
      ∧ r.2.mem ((c.tc : Thread Cert.AdamwBiasKernel.nD Cert.AdamwBiasKernel.τ).loc Cert.AdamwBiasKernel.main_arg2) = m ((c.tc : Thread Cert.AdamwBiasKernel.nD Cert.AdamwBiasKernel.τ).loc Cert.AdamwBiasKernel.main_arg2)
      ∧ r.2.mem ((c.tc : Thread Cert.AdamwBiasKernel.nD Cert.AdamwBiasKernel.τ).loc Cert.AdamwBiasKernel.main_arg3) = m ((c.tc : Thread Cert.AdamwBiasKernel.nD Cert.AdamwBiasKernel.τ).loc Cert.AdamwBiasKernel.main_arg3))
      ∧ r.2.sem = fun _ => 0)

def quiescent_AdamwBiasKernelIdeal [hAdamwBiasKernelIdeal : Cert.AdamwBiasKernelIdeal.Facts] : Prop :=
  ∀ (m : (ℓ : Loc Cert.AdamwBiasKernelIdeal.nD Cert.AdamwBiasKernelIdeal.τ Cert.AdamwBiasKernelIdeal.sig) → Buf (Elt Ideal) ℓ) (g : Dev Cert.AdamwBiasKernelIdeal.nD → PrngReg), Pre_AdamwBiasKernelIdeal m →
    θ_run (Cert.AdamwBiasKernelIdeal.defs (F := Ideal)) (onTc (τ := Cert.AdamwBiasKernelIdeal.τ) (Cert.AdamwBiasKernelIdeal.main (F := Ideal))) ⟨m, fun _ => 0, g⟩ (fun r => (∀ c : Dev Cert.AdamwBiasKernelIdeal.nD,
      r.2.mem ((c.tc : Thread Cert.AdamwBiasKernelIdeal.nD Cert.AdamwBiasKernelIdeal.τ).loc Cert.AdamwBiasKernelIdeal.main_arg0) = m ((c.tc : Thread Cert.AdamwBiasKernelIdeal.nD Cert.AdamwBiasKernelIdeal.τ).loc Cert.AdamwBiasKernelIdeal.main_arg0)
      ∧ r.2.mem ((c.tc : Thread Cert.AdamwBiasKernelIdeal.nD Cert.AdamwBiasKernelIdeal.τ).loc Cert.AdamwBiasKernelIdeal.main_arg1) = m ((c.tc : Thread Cert.AdamwBiasKernelIdeal.nD Cert.AdamwBiasKernelIdeal.τ).loc Cert.AdamwBiasKernelIdeal.main_arg1)
      ∧ r.2.mem ((c.tc : Thread Cert.AdamwBiasKernelIdeal.nD Cert.AdamwBiasKernelIdeal.τ).loc Cert.AdamwBiasKernelIdeal.main_arg2) = m ((c.tc : Thread Cert.AdamwBiasKernelIdeal.nD Cert.AdamwBiasKernelIdeal.τ).loc Cert.AdamwBiasKernelIdeal.main_arg2)
      ∧ r.2.mem ((c.tc : Thread Cert.AdamwBiasKernelIdeal.nD Cert.AdamwBiasKernelIdeal.τ).loc Cert.AdamwBiasKernelIdeal.main_arg3) = m ((c.tc : Thread Cert.AdamwBiasKernelIdeal.nD Cert.AdamwBiasKernelIdeal.τ).loc Cert.AdamwBiasKernelIdeal.main_arg3))
      ∧ r.2.sem = fun _ => 0)

def quiescent_AdamwBiasReferenceIdeal [hAdamwBiasReferenceIdeal : Cert.AdamwBiasReferenceIdeal.Facts] : Prop :=
  ∀ (m : (ℓ : Loc Cert.AdamwBiasReferenceIdeal.nD Cert.AdamwBiasReferenceIdeal.τ Cert.AdamwBiasReferenceIdeal.sig) → Buf (Elt Ideal) ℓ) (g : Dev Cert.AdamwBiasReferenceIdeal.nD → PrngReg), Pre_AdamwBiasReferenceIdeal m →
    θ_run (Cert.AdamwBiasReferenceIdeal.defs (F := Ideal)) (onTc (τ := Cert.AdamwBiasReferenceIdeal.τ) (Cert.AdamwBiasReferenceIdeal.main (F := Ideal))) ⟨m, fun _ => 0, g⟩ (fun r => (∀ c : Dev Cert.AdamwBiasReferenceIdeal.nD,
      r.2.mem ((c.tc : Thread Cert.AdamwBiasReferenceIdeal.nD Cert.AdamwBiasReferenceIdeal.τ).loc Cert.AdamwBiasReferenceIdeal.main_arg0) = m ((c.tc : Thread Cert.AdamwBiasReferenceIdeal.nD Cert.AdamwBiasReferenceIdeal.τ).loc Cert.AdamwBiasReferenceIdeal.main_arg0)
      ∧ r.2.mem ((c.tc : Thread Cert.AdamwBiasReferenceIdeal.nD Cert.AdamwBiasReferenceIdeal.τ).loc Cert.AdamwBiasReferenceIdeal.main_arg1) = m ((c.tc : Thread Cert.AdamwBiasReferenceIdeal.nD Cert.AdamwBiasReferenceIdeal.τ).loc Cert.AdamwBiasReferenceIdeal.main_arg1)
      ∧ r.2.mem ((c.tc : Thread Cert.AdamwBiasReferenceIdeal.nD Cert.AdamwBiasReferenceIdeal.τ).loc Cert.AdamwBiasReferenceIdeal.main_arg2) = m ((c.tc : Thread Cert.AdamwBiasReferenceIdeal.nD Cert.AdamwBiasReferenceIdeal.τ).loc Cert.AdamwBiasReferenceIdeal.main_arg2)
      ∧ r.2.mem ((c.tc : Thread Cert.AdamwBiasReferenceIdeal.nD Cert.AdamwBiasReferenceIdeal.τ).loc Cert.AdamwBiasReferenceIdeal.main_arg3) = m ((c.tc : Thread Cert.AdamwBiasReferenceIdeal.nD Cert.AdamwBiasReferenceIdeal.τ).loc Cert.AdamwBiasReferenceIdeal.main_arg3))
      ∧ r.2.sem = fun _ => 0)

def quiescent_AdamwConvKernel [hAdamwConvKernel : Cert.AdamwConvKernel.Facts] : Prop :=
  ∀ (m : (ℓ : Loc Cert.AdamwConvKernel.nD Cert.AdamwConvKernel.τ Cert.AdamwConvKernel.sig) → Buf (Elt Bits) ℓ) (g : Dev Cert.AdamwConvKernel.nD → PrngReg), Pre_AdamwConvKernel m →
    θ_run (Cert.AdamwConvKernel.defs (F := Bits)) (onTc (τ := Cert.AdamwConvKernel.τ) (Cert.AdamwConvKernel.main (F := Bits))) ⟨m, fun _ => 0, g⟩ (fun r => (∀ c : Dev Cert.AdamwConvKernel.nD,
      r.2.mem ((c.tc : Thread Cert.AdamwConvKernel.nD Cert.AdamwConvKernel.τ).loc Cert.AdamwConvKernel.main_arg0) = m ((c.tc : Thread Cert.AdamwConvKernel.nD Cert.AdamwConvKernel.τ).loc Cert.AdamwConvKernel.main_arg0)
      ∧ r.2.mem ((c.tc : Thread Cert.AdamwConvKernel.nD Cert.AdamwConvKernel.τ).loc Cert.AdamwConvKernel.main_arg1) = m ((c.tc : Thread Cert.AdamwConvKernel.nD Cert.AdamwConvKernel.τ).loc Cert.AdamwConvKernel.main_arg1)
      ∧ r.2.mem ((c.tc : Thread Cert.AdamwConvKernel.nD Cert.AdamwConvKernel.τ).loc Cert.AdamwConvKernel.main_arg2) = m ((c.tc : Thread Cert.AdamwConvKernel.nD Cert.AdamwConvKernel.τ).loc Cert.AdamwConvKernel.main_arg2)
      ∧ r.2.mem ((c.tc : Thread Cert.AdamwConvKernel.nD Cert.AdamwConvKernel.τ).loc Cert.AdamwConvKernel.main_arg3) = m ((c.tc : Thread Cert.AdamwConvKernel.nD Cert.AdamwConvKernel.τ).loc Cert.AdamwConvKernel.main_arg3))
      ∧ r.2.sem = fun _ => 0)

def quiescent_AdamwConvKernelIdeal [hAdamwConvKernelIdeal : Cert.AdamwConvKernelIdeal.Facts] : Prop :=
  ∀ (m : (ℓ : Loc Cert.AdamwConvKernelIdeal.nD Cert.AdamwConvKernelIdeal.τ Cert.AdamwConvKernelIdeal.sig) → Buf (Elt Ideal) ℓ) (g : Dev Cert.AdamwConvKernelIdeal.nD → PrngReg), Pre_AdamwConvKernelIdeal m →
    θ_run (Cert.AdamwConvKernelIdeal.defs (F := Ideal)) (onTc (τ := Cert.AdamwConvKernelIdeal.τ) (Cert.AdamwConvKernelIdeal.main (F := Ideal))) ⟨m, fun _ => 0, g⟩ (fun r => (∀ c : Dev Cert.AdamwConvKernelIdeal.nD,
      r.2.mem ((c.tc : Thread Cert.AdamwConvKernelIdeal.nD Cert.AdamwConvKernelIdeal.τ).loc Cert.AdamwConvKernelIdeal.main_arg0) = m ((c.tc : Thread Cert.AdamwConvKernelIdeal.nD Cert.AdamwConvKernelIdeal.τ).loc Cert.AdamwConvKernelIdeal.main_arg0)
      ∧ r.2.mem ((c.tc : Thread Cert.AdamwConvKernelIdeal.nD Cert.AdamwConvKernelIdeal.τ).loc Cert.AdamwConvKernelIdeal.main_arg1) = m ((c.tc : Thread Cert.AdamwConvKernelIdeal.nD Cert.AdamwConvKernelIdeal.τ).loc Cert.AdamwConvKernelIdeal.main_arg1)
      ∧ r.2.mem ((c.tc : Thread Cert.AdamwConvKernelIdeal.nD Cert.AdamwConvKernelIdeal.τ).loc Cert.AdamwConvKernelIdeal.main_arg2) = m ((c.tc : Thread Cert.AdamwConvKernelIdeal.nD Cert.AdamwConvKernelIdeal.τ).loc Cert.AdamwConvKernelIdeal.main_arg2)
      ∧ r.2.mem ((c.tc : Thread Cert.AdamwConvKernelIdeal.nD Cert.AdamwConvKernelIdeal.τ).loc Cert.AdamwConvKernelIdeal.main_arg3) = m ((c.tc : Thread Cert.AdamwConvKernelIdeal.nD Cert.AdamwConvKernelIdeal.τ).loc Cert.AdamwConvKernelIdeal.main_arg3))
      ∧ r.2.sem = fun _ => 0)

def quiescent_AdamwConvReferenceIdeal [hAdamwConvReferenceIdeal : Cert.AdamwConvReferenceIdeal.Facts] : Prop :=
  ∀ (m : (ℓ : Loc Cert.AdamwConvReferenceIdeal.nD Cert.AdamwConvReferenceIdeal.τ Cert.AdamwConvReferenceIdeal.sig) → Buf (Elt Ideal) ℓ) (g : Dev Cert.AdamwConvReferenceIdeal.nD → PrngReg), Pre_AdamwConvReferenceIdeal m →
    θ_run (Cert.AdamwConvReferenceIdeal.defs (F := Ideal)) (onTc (τ := Cert.AdamwConvReferenceIdeal.τ) (Cert.AdamwConvReferenceIdeal.main (F := Ideal))) ⟨m, fun _ => 0, g⟩ (fun r => (∀ c : Dev Cert.AdamwConvReferenceIdeal.nD,
      r.2.mem ((c.tc : Thread Cert.AdamwConvReferenceIdeal.nD Cert.AdamwConvReferenceIdeal.τ).loc Cert.AdamwConvReferenceIdeal.main_arg0) = m ((c.tc : Thread Cert.AdamwConvReferenceIdeal.nD Cert.AdamwConvReferenceIdeal.τ).loc Cert.AdamwConvReferenceIdeal.main_arg0)
      ∧ r.2.mem ((c.tc : Thread Cert.AdamwConvReferenceIdeal.nD Cert.AdamwConvReferenceIdeal.τ).loc Cert.AdamwConvReferenceIdeal.main_arg1) = m ((c.tc : Thread Cert.AdamwConvReferenceIdeal.nD Cert.AdamwConvReferenceIdeal.τ).loc Cert.AdamwConvReferenceIdeal.main_arg1)
      ∧ r.2.mem ((c.tc : Thread Cert.AdamwConvReferenceIdeal.nD Cert.AdamwConvReferenceIdeal.τ).loc Cert.AdamwConvReferenceIdeal.main_arg2) = m ((c.tc : Thread Cert.AdamwConvReferenceIdeal.nD Cert.AdamwConvReferenceIdeal.τ).loc Cert.AdamwConvReferenceIdeal.main_arg2)
      ∧ r.2.mem ((c.tc : Thread Cert.AdamwConvReferenceIdeal.nD Cert.AdamwConvReferenceIdeal.τ).loc Cert.AdamwConvReferenceIdeal.main_arg3) = m ((c.tc : Thread Cert.AdamwConvReferenceIdeal.nD Cert.AdamwConvReferenceIdeal.τ).loc Cert.AdamwConvReferenceIdeal.main_arg3))
      ∧ r.2.sem = fun _ => 0)

def quiescent_AdamwTableKernel [hAdamwTableKernel : Cert.AdamwTableKernel.Facts] : Prop :=
  ∀ (m : (ℓ : Loc Cert.AdamwTableKernel.nD Cert.AdamwTableKernel.τ Cert.AdamwTableKernel.sig) → Buf (Elt Bits) ℓ) (g : Dev Cert.AdamwTableKernel.nD → PrngReg), Pre_AdamwTableKernel m →
    θ_run (Cert.AdamwTableKernel.defs (F := Bits)) (onTc (τ := Cert.AdamwTableKernel.τ) (Cert.AdamwTableKernel.main (F := Bits))) ⟨m, fun _ => 0, g⟩ (fun r => (∀ c : Dev Cert.AdamwTableKernel.nD,
      r.2.mem ((c.tc : Thread Cert.AdamwTableKernel.nD Cert.AdamwTableKernel.τ).loc Cert.AdamwTableKernel.main_arg0) = m ((c.tc : Thread Cert.AdamwTableKernel.nD Cert.AdamwTableKernel.τ).loc Cert.AdamwTableKernel.main_arg0)
      ∧ r.2.mem ((c.tc : Thread Cert.AdamwTableKernel.nD Cert.AdamwTableKernel.τ).loc Cert.AdamwTableKernel.main_arg1) = m ((c.tc : Thread Cert.AdamwTableKernel.nD Cert.AdamwTableKernel.τ).loc Cert.AdamwTableKernel.main_arg1)
      ∧ r.2.mem ((c.tc : Thread Cert.AdamwTableKernel.nD Cert.AdamwTableKernel.τ).loc Cert.AdamwTableKernel.main_arg2) = m ((c.tc : Thread Cert.AdamwTableKernel.nD Cert.AdamwTableKernel.τ).loc Cert.AdamwTableKernel.main_arg2)
      ∧ r.2.mem ((c.tc : Thread Cert.AdamwTableKernel.nD Cert.AdamwTableKernel.τ).loc Cert.AdamwTableKernel.main_arg3) = m ((c.tc : Thread Cert.AdamwTableKernel.nD Cert.AdamwTableKernel.τ).loc Cert.AdamwTableKernel.main_arg3))
      ∧ r.2.sem = fun _ => 0)

def quiescent_AdamwTableKernelIdeal [hAdamwTableKernelIdeal : Cert.AdamwTableKernelIdeal.Facts] : Prop :=
  ∀ (m : (ℓ : Loc Cert.AdamwTableKernelIdeal.nD Cert.AdamwTableKernelIdeal.τ Cert.AdamwTableKernelIdeal.sig) → Buf (Elt Ideal) ℓ) (g : Dev Cert.AdamwTableKernelIdeal.nD → PrngReg), Pre_AdamwTableKernelIdeal m →
    θ_run (Cert.AdamwTableKernelIdeal.defs (F := Ideal)) (onTc (τ := Cert.AdamwTableKernelIdeal.τ) (Cert.AdamwTableKernelIdeal.main (F := Ideal))) ⟨m, fun _ => 0, g⟩ (fun r => (∀ c : Dev Cert.AdamwTableKernelIdeal.nD,
      r.2.mem ((c.tc : Thread Cert.AdamwTableKernelIdeal.nD Cert.AdamwTableKernelIdeal.τ).loc Cert.AdamwTableKernelIdeal.main_arg0) = m ((c.tc : Thread Cert.AdamwTableKernelIdeal.nD Cert.AdamwTableKernelIdeal.τ).loc Cert.AdamwTableKernelIdeal.main_arg0)
      ∧ r.2.mem ((c.tc : Thread Cert.AdamwTableKernelIdeal.nD Cert.AdamwTableKernelIdeal.τ).loc Cert.AdamwTableKernelIdeal.main_arg1) = m ((c.tc : Thread Cert.AdamwTableKernelIdeal.nD Cert.AdamwTableKernelIdeal.τ).loc Cert.AdamwTableKernelIdeal.main_arg1)
      ∧ r.2.mem ((c.tc : Thread Cert.AdamwTableKernelIdeal.nD Cert.AdamwTableKernelIdeal.τ).loc Cert.AdamwTableKernelIdeal.main_arg2) = m ((c.tc : Thread Cert.AdamwTableKernelIdeal.nD Cert.AdamwTableKernelIdeal.τ).loc Cert.AdamwTableKernelIdeal.main_arg2)
      ∧ r.2.mem ((c.tc : Thread Cert.AdamwTableKernelIdeal.nD Cert.AdamwTableKernelIdeal.τ).loc Cert.AdamwTableKernelIdeal.main_arg3) = m ((c.tc : Thread Cert.AdamwTableKernelIdeal.nD Cert.AdamwTableKernelIdeal.τ).loc Cert.AdamwTableKernelIdeal.main_arg3))
      ∧ r.2.sem = fun _ => 0)

def quiescent_AdamwTableReferenceIdeal [hAdamwTableReferenceIdeal : Cert.AdamwTableReferenceIdeal.Facts] : Prop :=
  ∀ (m : (ℓ : Loc Cert.AdamwTableReferenceIdeal.nD Cert.AdamwTableReferenceIdeal.τ Cert.AdamwTableReferenceIdeal.sig) → Buf (Elt Ideal) ℓ) (g : Dev Cert.AdamwTableReferenceIdeal.nD → PrngReg), Pre_AdamwTableReferenceIdeal m →
    θ_run (Cert.AdamwTableReferenceIdeal.defs (F := Ideal)) (onTc (τ := Cert.AdamwTableReferenceIdeal.τ) (Cert.AdamwTableReferenceIdeal.main (F := Ideal))) ⟨m, fun _ => 0, g⟩ (fun r => (∀ c : Dev Cert.AdamwTableReferenceIdeal.nD,
      r.2.mem ((c.tc : Thread Cert.AdamwTableReferenceIdeal.nD Cert.AdamwTableReferenceIdeal.τ).loc Cert.AdamwTableReferenceIdeal.main_arg0) = m ((c.tc : Thread Cert.AdamwTableReferenceIdeal.nD Cert.AdamwTableReferenceIdeal.τ).loc Cert.AdamwTableReferenceIdeal.main_arg0)
      ∧ r.2.mem ((c.tc : Thread Cert.AdamwTableReferenceIdeal.nD Cert.AdamwTableReferenceIdeal.τ).loc Cert.AdamwTableReferenceIdeal.main_arg1) = m ((c.tc : Thread Cert.AdamwTableReferenceIdeal.nD Cert.AdamwTableReferenceIdeal.τ).loc Cert.AdamwTableReferenceIdeal.main_arg1)
      ∧ r.2.mem ((c.tc : Thread Cert.AdamwTableReferenceIdeal.nD Cert.AdamwTableReferenceIdeal.τ).loc Cert.AdamwTableReferenceIdeal.main_arg2) = m ((c.tc : Thread Cert.AdamwTableReferenceIdeal.nD Cert.AdamwTableReferenceIdeal.τ).loc Cert.AdamwTableReferenceIdeal.main_arg2)
      ∧ r.2.mem ((c.tc : Thread Cert.AdamwTableReferenceIdeal.nD Cert.AdamwTableReferenceIdeal.τ).loc Cert.AdamwTableReferenceIdeal.main_arg3) = m ((c.tc : Thread Cert.AdamwTableReferenceIdeal.nD Cert.AdamwTableReferenceIdeal.τ).loc Cert.AdamwTableReferenceIdeal.main_arg3))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_WguKernel [hWguKernel : Cert.WguKernel.Facts] : Prop :=
  ∀ (m : (ℓ : Loc Cert.WguKernel.nD Cert.WguKernel.τ Cert.WguKernel.sig) → Buf (Elt Bits) ℓ) (g : Dev Cert.WguKernel.nD → PrngReg), Pre_WguKernel m →
    θ_run (Cert.WguKernel.defs (F := Bits)) (onTc (τ := Cert.WguKernel.τ) (Cert.WguKernel.main (F := Bits))) ⟨m, fun _ => 0, g⟩ (fun r => (∀ c : Dev Cert.WguKernel.nD,
      r.2.mem ((c.tc : Thread Cert.WguKernel.nD Cert.WguKernel.τ).loc Cert.WguKernel.main_arg0) = m ((c.tc : Thread Cert.WguKernel.nD Cert.WguKernel.τ).loc Cert.WguKernel.main_arg0)
      ∧ r.2.mem ((c.tc : Thread Cert.WguKernel.nD Cert.WguKernel.τ).loc Cert.WguKernel.main_arg1) = m ((c.tc : Thread Cert.WguKernel.nD Cert.WguKernel.τ).loc Cert.WguKernel.main_arg1)
      ∧ r.2.mem ((c.tc : Thread Cert.WguKernel.nD Cert.WguKernel.τ).loc Cert.WguKernel.main_arg2) = m ((c.tc : Thread Cert.WguKernel.nD Cert.WguKernel.τ).loc Cert.WguKernel.main_arg2))
      ∧ r.2.sem = fun _ => 0)

def quiescent_WguKernelIdeal [hWguKernelIdeal : Cert.WguKernelIdeal.Facts] : Prop :=
  ∀ (m : (ℓ : Loc Cert.WguKernelIdeal.nD Cert.WguKernelIdeal.τ Cert.WguKernelIdeal.sig) → Buf (Elt Ideal) ℓ) (g : Dev Cert.WguKernelIdeal.nD → PrngReg), Pre_WguKernelIdeal m →
    θ_run (Cert.WguKernelIdeal.defs (F := Ideal)) (onTc (τ := Cert.WguKernelIdeal.τ) (Cert.WguKernelIdeal.main (F := Ideal))) ⟨m, fun _ => 0, g⟩ (fun r => (∀ c : Dev Cert.WguKernelIdeal.nD,
      r.2.mem ((c.tc : Thread Cert.WguKernelIdeal.nD Cert.WguKernelIdeal.τ).loc Cert.WguKernelIdeal.main_arg0) = m ((c.tc : Thread Cert.WguKernelIdeal.nD Cert.WguKernelIdeal.τ).loc Cert.WguKernelIdeal.main_arg0)
      ∧ r.2.mem ((c.tc : Thread Cert.WguKernelIdeal.nD Cert.WguKernelIdeal.τ).loc Cert.WguKernelIdeal.main_arg1) = m ((c.tc : Thread Cert.WguKernelIdeal.nD Cert.WguKernelIdeal.τ).loc Cert.WguKernelIdeal.main_arg1)
      ∧ r.2.mem ((c.tc : Thread Cert.WguKernelIdeal.nD Cert.WguKernelIdeal.τ).loc Cert.WguKernelIdeal.main_arg2) = m ((c.tc : Thread Cert.WguKernelIdeal.nD Cert.WguKernelIdeal.τ).loc Cert.WguKernelIdeal.main_arg2))
      ∧ r.2.sem = fun _ => 0)

def quiescent_WguReferenceIdeal [hWguReferenceIdeal : Cert.WguReferenceIdeal.Facts] : Prop :=
  ∀ (m : (ℓ : Loc Cert.WguReferenceIdeal.nD Cert.WguReferenceIdeal.τ Cert.WguReferenceIdeal.sig) → Buf (Elt Ideal) ℓ) (g : Dev Cert.WguReferenceIdeal.nD → PrngReg), Pre_WguReferenceIdeal m →
    θ_run (Cert.WguReferenceIdeal.defs (F := Ideal)) (onTc (τ := Cert.WguReferenceIdeal.τ) (Cert.WguReferenceIdeal.main (F := Ideal))) ⟨m, fun _ => 0, g⟩ (fun r => (∀ c : Dev Cert.WguReferenceIdeal.nD,
      r.2.mem ((c.tc : Thread Cert.WguReferenceIdeal.nD Cert.WguReferenceIdeal.τ).loc Cert.WguReferenceIdeal.main_arg0) = m ((c.tc : Thread Cert.WguReferenceIdeal.nD Cert.WguReferenceIdeal.τ).loc Cert.WguReferenceIdeal.main_arg0)
      ∧ r.2.mem ((c.tc : Thread Cert.WguReferenceIdeal.nD Cert.WguReferenceIdeal.τ).loc Cert.WguReferenceIdeal.main_arg1) = m ((c.tc : Thread Cert.WguReferenceIdeal.nD Cert.WguReferenceIdeal.τ).loc Cert.WguReferenceIdeal.main_arg1)
      ∧ r.2.mem ((c.tc : Thread Cert.WguReferenceIdeal.nD Cert.WguReferenceIdeal.τ).loc Cert.WguReferenceIdeal.main_arg2) = m ((c.tc : Thread Cert.WguReferenceIdeal.nD Cert.WguReferenceIdeal.τ).loc Cert.WguReferenceIdeal.main_arg2))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2)) (v1 : (c : Dev Cert.LossKernelIdeal.nD) → Buf (Elt Ideal) ((c.tc : Thread Cert.LossKernelIdeal.nD Cert.LossKernelIdeal.τ).loc Cert.LossKernelIdeal.main_v0_0)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2) = v0 c
          ∧ r.2.mem ((c.tc : Thread Cert.LossKernelIdeal.nD Cert.LossKernelIdeal.τ).loc Cert.LossKernelIdeal.main_v0_0) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_OutprojKernel_OutprojKernelIdeal : Prop :=
  True

def algebraic_OutprojKernelIdeal_OutprojReferenceIdeal_pre_outproj_finite [hOutprojKernelIdeal : Cert.OutprojKernelIdeal.Facts] [hOutprojReferenceIdeal : Cert.OutprojReferenceIdeal.Facts] [hPre_outproj_finite : Cert.Pre_outproj_finite.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal_outproj_finite m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)
      ∧ m' ((c.tc : Thread Cert.OutprojReferenceIdeal.nD Cert.OutprojReferenceIdeal.τ).loc Cert.OutprojReferenceIdeal.main_arg4) = m ((c.tc : Thread Cert.OutprojKernelIdeal.nD Cert.OutprojKernelIdeal.τ).loc Cert.OutprojKernelIdeal.main_arg4)
      ∧ m' ((c.tc : Thread Cert.OutprojReferenceIdeal.nD Cert.OutprojReferenceIdeal.τ).loc Cert.OutprojReferenceIdeal.main_arg5) = m ((c.tc : Thread Cert.OutprojKernelIdeal.nD Cert.OutprojKernelIdeal.τ).loc Cert.OutprojKernelIdeal.main_arg5)
      ∧ m' ((c.tc : Thread Cert.OutprojReferenceIdeal.nD Cert.OutprojReferenceIdeal.τ).loc Cert.OutprojReferenceIdeal.main_arg6) = m ((c.tc : Thread Cert.OutprojKernelIdeal.nD Cert.OutprojKernelIdeal.τ).loc Cert.OutprojKernelIdeal.main_arg6)
      ∧ m' ((c.tc : Thread Cert.OutprojReferenceIdeal.nD Cert.OutprojReferenceIdeal.τ).loc Cert.OutprojReferenceIdeal.main_arg7) = m ((c.tc : Thread Cert.OutprojKernelIdeal.nD Cert.OutprojKernelIdeal.τ).loc Cert.OutprojKernelIdeal.main_arg7)) →
    ∃ (v0 : (c : Dev Cert.OutprojKernelIdeal.nD) → Buf (Elt Ideal) ((c.tc : Thread Cert.OutprojKernelIdeal.nD Cert.OutprojKernelIdeal.τ).loc Cert.OutprojKernelIdeal.main_v7_0)) (v1 : (c : Dev Cert.OutprojKernelIdeal.nD) → Buf (Elt Ideal) ((c.tc : Thread Cert.OutprojKernelIdeal.nD Cert.OutprojKernelIdeal.τ).loc Cert.OutprojKernelIdeal.main_v7_1)) (v2 : (c : Dev Cert.OutprojKernelIdeal.nD) → Buf (Elt Ideal) ((c.tc : Thread Cert.OutprojKernelIdeal.nD Cert.OutprojKernelIdeal.τ).loc Cert.OutprojKernelIdeal.main_v7_2)) (v3 : (c : Dev Cert.OutprojKernelIdeal.nD) → Buf (Elt Ideal) ((c.tc : Thread Cert.OutprojKernelIdeal.nD Cert.OutprojKernelIdeal.τ).loc Cert.OutprojKernelIdeal.main_v9_0)) (v4 : (c : Dev Cert.OutprojKernelIdeal.nD) → Buf (Elt Ideal) ((c.tc : Thread Cert.OutprojKernelIdeal.nD Cert.OutprojKernelIdeal.τ).loc Cert.OutprojKernelIdeal.main_v9_1)) (v5 : (c : Dev Cert.OutprojKernelIdeal.nD) → Buf (Elt Ideal) ((c.tc : Thread Cert.OutprojKernelIdeal.nD Cert.OutprojKernelIdeal.τ).loc Cert.OutprojKernelIdeal.main_v9_2)) (v6 : (c : Dev Cert.OutprojKernelIdeal.nD) → Buf (Elt Ideal) ((c.tc : Thread Cert.OutprojKernelIdeal.nD Cert.OutprojKernelIdeal.τ).loc Cert.OutprojKernelIdeal.main_v11)) (v7 : (c : Dev Cert.OutprojKernelIdeal.nD) → Buf (Elt Ideal) ((c.tc : Thread Cert.OutprojKernelIdeal.nD Cert.OutprojKernelIdeal.τ).loc Cert.OutprojKernelIdeal.main_v13)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v7_0) = v0 c
          ∧ r.2.mem ((c.tc : Thread Cert.OutprojKernelIdeal.nD Cert.OutprojKernelIdeal.τ).loc Cert.OutprojKernelIdeal.main_v7_1) = v1 c
          ∧ r.2.mem ((c.tc : Thread Cert.OutprojKernelIdeal.nD Cert.OutprojKernelIdeal.τ).loc Cert.OutprojKernelIdeal.main_v7_2) = v2 c
          ∧ r.2.mem ((c.tc : Thread Cert.OutprojKernelIdeal.nD Cert.OutprojKernelIdeal.τ).loc Cert.OutprojKernelIdeal.main_v9_0) = v3 c
          ∧ r.2.mem ((c.tc : Thread Cert.OutprojKernelIdeal.nD Cert.OutprojKernelIdeal.τ).loc Cert.OutprojKernelIdeal.main_v9_1) = v4 c
          ∧ r.2.mem ((c.tc : Thread Cert.OutprojKernelIdeal.nD Cert.OutprojKernelIdeal.τ).loc Cert.OutprojKernelIdeal.main_v9_2) = v5 c
          ∧ r.2.mem ((c.tc : Thread Cert.OutprojKernelIdeal.nD Cert.OutprojKernelIdeal.τ).loc Cert.OutprojKernelIdeal.main_v11) = v6 c
          ∧ r.2.mem ((c.tc : Thread Cert.OutprojKernelIdeal.nD Cert.OutprojKernelIdeal.τ).loc Cert.OutprojKernelIdeal.main_v13) = v7 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
          ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
          ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
          ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
          ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v4) = v0 c
          ∧ r.2.mem ((c.tc : Thread Cert.OutprojReferenceIdeal.nD Cert.OutprojReferenceIdeal.τ).loc Cert.OutprojReferenceIdeal.main_v65) = v1 c
          ∧ r.2.mem ((c.tc : Thread Cert.OutprojReferenceIdeal.nD Cert.OutprojReferenceIdeal.τ).loc Cert.OutprojReferenceIdeal.main_v66) = v2 c
          ∧ r.2.mem ((c.tc : Thread Cert.OutprojReferenceIdeal.nD Cert.OutprojReferenceIdeal.τ).loc Cert.OutprojReferenceIdeal.main_v67) = v3 c
          ∧ r.2.mem ((c.tc : Thread Cert.OutprojReferenceIdeal.nD Cert.OutprojReferenceIdeal.τ).loc Cert.OutprojReferenceIdeal.main_v62) = v4 c
          ∧ r.2.mem ((c.tc : Thread Cert.OutprojReferenceIdeal.nD Cert.OutprojReferenceIdeal.τ).loc Cert.OutprojReferenceIdeal.main_v64) = v5 c
          ∧ r.2.mem ((c.tc : Thread Cert.OutprojReferenceIdeal.nD Cert.OutprojReferenceIdeal.τ).loc Cert.OutprojReferenceIdeal.main_v39) = v6 c
          ∧ r.2.mem ((c.tc : Thread Cert.OutprojReferenceIdeal.nD Cert.OutprojReferenceIdeal.τ).loc Cert.OutprojReferenceIdeal.main_v33) = v7 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v30_0)) (v1 : (c : Dev Cert.FfnKernelIdeal.nD) → Buf (Elt Ideal) ((c.tc : Thread Cert.FfnKernelIdeal.nD Cert.FfnKernelIdeal.τ).loc Cert.FfnKernelIdeal.main_v34)) (v2 : (c : Dev Cert.FfnKernelIdeal.nD) → Buf (Elt Ideal) ((c.tc : Thread Cert.FfnKernelIdeal.nD Cert.FfnKernelIdeal.τ).loc Cert.FfnKernelIdeal.main_v38)) (v3 : (c : Dev Cert.FfnKernelIdeal.nD) → Buf (Elt Ideal) ((c.tc : Thread Cert.FfnKernelIdeal.nD Cert.FfnKernelIdeal.τ).loc Cert.FfnKernelIdeal.main_v42)) (v4 : (c : Dev Cert.FfnKernelIdeal.nD) → Buf (Elt Ideal) ((c.tc : Thread Cert.FfnKernelIdeal.nD Cert.FfnKernelIdeal.τ).loc Cert.FfnKernelIdeal.main_v30_4)) (v5 : (c : Dev Cert.FfnKernelIdeal.nD) → Buf (Elt Ideal) ((c.tc : Thread Cert.FfnKernelIdeal.nD Cert.FfnKernelIdeal.τ).loc Cert.FfnKernelIdeal.main_v44)) (v6 : (c : Dev Cert.FfnKernelIdeal.nD) → Buf (Elt Ideal) ((c.tc : Thread Cert.FfnKernelIdeal.nD Cert.FfnKernelIdeal.τ).loc Cert.FfnKernelIdeal.main_v46)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v30_0) = v0 c
          ∧ r.2.mem ((c.tc : Thread Cert.FfnKernelIdeal.nD Cert.FfnKernelIdeal.τ).loc Cert.FfnKernelIdeal.main_v34) = v1 c
          ∧ r.2.mem ((c.tc : Thread Cert.FfnKernelIdeal.nD Cert.FfnKernelIdeal.τ).loc Cert.FfnKernelIdeal.main_v38) = v2 c
          ∧ r.2.mem ((c.tc : Thread Cert.FfnKernelIdeal.nD Cert.FfnKernelIdeal.τ).loc Cert.FfnKernelIdeal.main_v42) = v3 c
          ∧ r.2.mem ((c.tc : Thread Cert.FfnKernelIdeal.nD Cert.FfnKernelIdeal.τ).loc Cert.FfnKernelIdeal.main_v30_4) = v4 c
          ∧ r.2.mem ((c.tc : Thread Cert.FfnKernelIdeal.nD Cert.FfnKernelIdeal.τ).loc Cert.FfnKernelIdeal.main_v44) = v5 c
          ∧ r.2.mem ((c.tc : Thread Cert.FfnKernelIdeal.nD Cert.FfnKernelIdeal.τ).loc Cert.FfnKernelIdeal.main_v46) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v80) = v0 c
          ∧ r.2.mem ((c.tc : Thread Cert.FfnReferenceIdeal.nD Cert.FfnReferenceIdeal.τ).loc Cert.FfnReferenceIdeal.main_v78) = v1 c
          ∧ r.2.mem ((c.tc : Thread Cert.FfnReferenceIdeal.nD Cert.FfnReferenceIdeal.τ).loc Cert.FfnReferenceIdeal.main_v74) = v2 c
          ∧ r.2.mem ((c.tc : Thread Cert.FfnReferenceIdeal.nD Cert.FfnReferenceIdeal.τ).loc Cert.FfnReferenceIdeal.main_v8) = v3 c
          ∧ r.2.mem ((c.tc : Thread Cert.FfnReferenceIdeal.nD Cert.FfnReferenceIdeal.τ).loc Cert.FfnReferenceIdeal.main_v81) = v4 c
          ∧ r.2.mem ((c.tc : Thread Cert.FfnReferenceIdeal.nD Cert.FfnReferenceIdeal.τ).loc Cert.FfnReferenceIdeal.main_v48) = v5 c
          ∧ r.2.mem ((c.tc : Thread Cert.FfnReferenceIdeal.nD Cert.FfnReferenceIdeal.τ).loc Cert.FfnReferenceIdeal.main_v42) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)
      ∧ m' ((c.tc : Thread Cert.FfnFwdReferenceIdeal.nD Cert.FfnFwdReferenceIdeal.τ).loc Cert.FfnFwdReferenceIdeal.main_arg5) = m ((c.tc : Thread Cert.FfnFwdKernelIdeal.nD Cert.FfnFwdKernelIdeal.τ).loc Cert.FfnFwdKernelIdeal.main_arg5)
      ∧ m' ((c.tc : Thread Cert.FfnFwdReferenceIdeal.nD Cert.FfnFwdReferenceIdeal.τ).loc Cert.FfnFwdReferenceIdeal.main_arg6) = m ((c.tc : Thread Cert.FfnFwdKernelIdeal.nD Cert.FfnFwdKernelIdeal.τ).loc Cert.FfnFwdKernelIdeal.main_arg6)
      ∧ m' ((c.tc : Thread Cert.FfnFwdReferenceIdeal.nD Cert.FfnFwdReferenceIdeal.τ).loc Cert.FfnFwdReferenceIdeal.main_arg7) = m ((c.tc : Thread Cert.FfnFwdKernelIdeal.nD Cert.FfnFwdKernelIdeal.τ).loc Cert.FfnFwdKernelIdeal.main_arg7)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v39_0)) (v1 : (c : Dev Cert.FfnFwdKernelIdeal.nD) → Buf (Elt Ideal) ((c.tc : Thread Cert.FfnFwdKernelIdeal.nD Cert.FfnFwdKernelIdeal.τ).loc Cert.FfnFwdKernelIdeal.main_v39_1)) (v2 : (c : Dev Cert.FfnFwdKernelIdeal.nD) → Buf (Elt Ideal) ((c.tc : Thread Cert.FfnFwdKernelIdeal.nD Cert.FfnFwdKernelIdeal.τ).loc Cert.FfnFwdKernelIdeal.main_v39_2)) (v3 : (c : Dev Cert.FfnFwdKernelIdeal.nD) → Buf (Elt Ideal) ((c.tc : Thread Cert.FfnFwdKernelIdeal.nD Cert.FfnFwdKernelIdeal.τ).loc Cert.FfnFwdKernelIdeal.main_v43)) (v4 : (c : Dev Cert.FfnFwdKernelIdeal.nD) → Buf (Elt Ideal) ((c.tc : Thread Cert.FfnFwdKernelIdeal.nD Cert.FfnFwdKernelIdeal.τ).loc Cert.FfnFwdKernelIdeal.main_v47)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v39_0) = v0 c
          ∧ r.2.mem ((c.tc : Thread Cert.FfnFwdKernelIdeal.nD Cert.FfnFwdKernelIdeal.τ).loc Cert.FfnFwdKernelIdeal.main_v39_1) = v1 c
          ∧ r.2.mem ((c.tc : Thread Cert.FfnFwdKernelIdeal.nD Cert.FfnFwdKernelIdeal.τ).loc Cert.FfnFwdKernelIdeal.main_v39_2) = v2 c
          ∧ r.2.mem ((c.tc : Thread Cert.FfnFwdKernelIdeal.nD Cert.FfnFwdKernelIdeal.τ).loc Cert.FfnFwdKernelIdeal.main_v43) = v3 c
          ∧ r.2.mem ((c.tc : Thread Cert.FfnFwdKernelIdeal.nD Cert.FfnFwdKernelIdeal.τ).loc Cert.FfnFwdKernelIdeal.main_v47) = v4 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
          ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6)
          ∧ r.2.mem ((c.tc : Thread Cert.FfnFwdKernelIdeal.nD Cert.FfnFwdKernelIdeal.τ).loc Cert.FfnFwdKernelIdeal.main_arg7) = m ((c.tc : Thread Cert.FfnFwdKernelIdeal.nD Cert.FfnFwdKernelIdeal.τ).loc Cert.FfnFwdKernelIdeal.main_arg7))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v29) = v0 c
          ∧ r.2.mem ((c.tc : Thread Cert.FfnFwdReferenceIdeal.nD Cert.FfnFwdReferenceIdeal.τ).loc Cert.FfnFwdReferenceIdeal.main_v51) = v1 c
          ∧ r.2.mem ((c.tc : Thread Cert.FfnFwdReferenceIdeal.nD Cert.FfnFwdReferenceIdeal.τ).loc Cert.FfnFwdReferenceIdeal.main_v52) = v2 c
          ∧ r.2.mem ((c.tc : Thread Cert.FfnFwdReferenceIdeal.nD Cert.FfnFwdReferenceIdeal.τ).loc Cert.FfnFwdReferenceIdeal.main_v22) = v3 c
          ∧ r.2.mem ((c.tc : Thread Cert.FfnFwdReferenceIdeal.nD Cert.FfnFwdReferenceIdeal.τ).loc Cert.FfnFwdReferenceIdeal.main_v23) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5)
          ∧ r.2.mem ((c.tc : Thread Cert.FfnFwdReferenceIdeal.nD Cert.FfnFwdReferenceIdeal.τ).loc Cert.FfnFwdReferenceIdeal.main_arg6) = m' ((c.tc : Thread Cert.FfnFwdReferenceIdeal.nD Cert.FfnFwdReferenceIdeal.τ).loc Cert.FfnFwdReferenceIdeal.main_arg6)
          ∧ r.2.mem ((c.tc : Thread Cert.FfnFwdReferenceIdeal.nD Cert.FfnFwdReferenceIdeal.τ).loc Cert.FfnFwdReferenceIdeal.main_arg7) = m' ((c.tc : Thread Cert.FfnFwdReferenceIdeal.nD Cert.FfnFwdReferenceIdeal.τ).loc Cert.FfnFwdReferenceIdeal.main_arg7))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)) →
    ∃ (v0 : (c : Dev Cert.InprojKernelIdeal.nD) → Buf (Elt Ideal) ((c.tc : Thread Cert.InprojKernelIdeal.nD Cert.InprojKernelIdeal.τ).loc Cert.InprojKernelIdeal.main_v3)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v3) = v0 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v0) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1))

def preserves_InprojBwdKernel_InprojBwdKernelIdeal : Prop :=
  True

def algebraic_InprojBwdKernelIdeal_InprojBwdReferenceIdeal [hInprojBwdKernelIdeal : Cert.InprojBwdKernelIdeal.Facts] [hInprojBwdReferenceIdeal : Cert.InprojBwdReferenceIdeal.Facts] : Prop :=
  ∀ (m : (ℓ : Loc Cert.InprojBwdKernelIdeal.nD Cert.InprojBwdKernelIdeal.τ Cert.InprojBwdKernelIdeal.sig) → Buf (Elt Ideal) ℓ) (g : Dev Cert.InprojBwdKernelIdeal.nD → PrngReg)
    (m' : (ℓ : Loc Cert.InprojBwdReferenceIdeal.nD Cert.InprojBwdReferenceIdeal.τ Cert.InprojBwdReferenceIdeal.sig) → Buf (Elt Ideal) ℓ) (g' : Dev Cert.InprojBwdReferenceIdeal.nD → PrngReg), Pre_InprojBwdKernelIdeal m →
    (∀ c : Dev Cert.InprojBwdKernelIdeal.nD,
      m' ((c.tc : Thread Cert.InprojBwdReferenceIdeal.nD Cert.InprojBwdReferenceIdeal.τ).loc Cert.InprojBwdReferenceIdeal.main_arg0) = m ((c.tc : Thread Cert.InprojBwdKernelIdeal.nD Cert.InprojBwdKernelIdeal.τ).loc Cert.InprojBwdKernelIdeal.main_arg0)
      ∧ m' ((c.tc : Thread Cert.InprojBwdReferenceIdeal.nD Cert.InprojBwdReferenceIdeal.τ).loc Cert.InprojBwdReferenceIdeal.main_arg1) = m ((c.tc : Thread Cert.InprojBwdKernelIdeal.nD Cert.InprojBwdKernelIdeal.τ).loc Cert.InprojBwdKernelIdeal.main_arg1)
      ∧ m' ((c.tc : Thread Cert.InprojBwdReferenceIdeal.nD Cert.InprojBwdReferenceIdeal.τ).loc Cert.InprojBwdReferenceIdeal.main_arg2) = m ((c.tc : Thread Cert.InprojBwdKernelIdeal.nD Cert.InprojBwdKernelIdeal.τ).loc Cert.InprojBwdKernelIdeal.main_arg2)) →
    ∃ (v0 : (c : Dev Cert.InprojBwdKernelIdeal.nD) → Buf (Elt Ideal) ((c.tc : Thread Cert.InprojBwdKernelIdeal.nD Cert.InprojBwdKernelIdeal.τ).loc Cert.InprojBwdKernelIdeal.main_v2)),
      θ_run (Cert.InprojBwdKernelIdeal.defs (F := Ideal)) (onTc (τ := Cert.InprojBwdKernelIdeal.τ) (Cert.InprojBwdKernelIdeal.main (F := Ideal))) ⟨m, fun _ => 0, g⟩ (fun r => ∀ c : Dev Cert.InprojBwdKernelIdeal.nD,
          r.2.mem ((c.tc : Thread Cert.InprojBwdKernelIdeal.nD Cert.InprojBwdKernelIdeal.τ).loc Cert.InprojBwdKernelIdeal.main_v2) = v0 c
          ∧ r.2.mem ((c.tc : Thread Cert.InprojBwdKernelIdeal.nD Cert.InprojBwdKernelIdeal.τ).loc Cert.InprojBwdKernelIdeal.main_arg0) = m ((c.tc : Thread Cert.InprojBwdKernelIdeal.nD Cert.InprojBwdKernelIdeal.τ).loc Cert.InprojBwdKernelIdeal.main_arg0)
          ∧ r.2.mem ((c.tc : Thread Cert.InprojBwdKernelIdeal.nD Cert.InprojBwdKernelIdeal.τ).loc Cert.InprojBwdKernelIdeal.main_arg1) = m ((c.tc : Thread Cert.InprojBwdKernelIdeal.nD Cert.InprojBwdKernelIdeal.τ).loc Cert.InprojBwdKernelIdeal.main_arg1)
          ∧ r.2.mem ((c.tc : Thread Cert.InprojBwdKernelIdeal.nD Cert.InprojBwdKernelIdeal.τ).loc Cert.InprojBwdKernelIdeal.main_arg2) = m ((c.tc : Thread Cert.InprojBwdKernelIdeal.nD Cert.InprojBwdKernelIdeal.τ).loc Cert.InprojBwdKernelIdeal.main_arg2))
      ∧ θ_run (Cert.InprojBwdReferenceIdeal.defs (F := Ideal)) (onTc (τ := Cert.InprojBwdReferenceIdeal.τ) (Cert.InprojBwdReferenceIdeal.main (F := Ideal))) ⟨m', fun _ => 0, g'⟩ (fun r => ∀ c : Dev Cert.InprojBwdReferenceIdeal.nD,
          r.2.mem ((c.tc : Thread Cert.InprojBwdReferenceIdeal.nD Cert.InprojBwdReferenceIdeal.τ).loc Cert.InprojBwdReferenceIdeal.main_v3) = v0 c
          ∧ r.2.mem ((c.tc : Thread Cert.InprojBwdReferenceIdeal.nD Cert.InprojBwdReferenceIdeal.τ).loc Cert.InprojBwdReferenceIdeal.main_arg0) = m' ((c.tc : Thread Cert.InprojBwdReferenceIdeal.nD Cert.InprojBwdReferenceIdeal.τ).loc Cert.InprojBwdReferenceIdeal.main_arg0)
          ∧ r.2.mem ((c.tc : Thread Cert.InprojBwdReferenceIdeal.nD Cert.InprojBwdReferenceIdeal.τ).loc Cert.InprojBwdReferenceIdeal.main_arg1) = m' ((c.tc : Thread Cert.InprojBwdReferenceIdeal.nD Cert.InprojBwdReferenceIdeal.τ).loc Cert.InprojBwdReferenceIdeal.main_arg1)
          ∧ r.2.mem ((c.tc : Thread Cert.InprojBwdReferenceIdeal.nD Cert.InprojBwdReferenceIdeal.τ).loc Cert.InprojBwdReferenceIdeal.main_arg2) = m' ((c.tc : Thread Cert.InprojBwdReferenceIdeal.nD Cert.InprojBwdReferenceIdeal.τ).loc Cert.InprojBwdReferenceIdeal.main_arg2))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)) →
    ∃ (v0 : (c : Dev Cert.WinKernelIdeal.nD) → Buf (Elt Ideal) ((c.tc : Thread Cert.WinKernelIdeal.nD Cert.WinKernelIdeal.τ).loc Cert.WinKernelIdeal.main_v3)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v3) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v3) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_WdownKernel_WdownKernelIdeal : Prop :=
  True

def algebraic_WdownKernelIdeal_WdownReferenceIdeal [hWdownKernelIdeal : Cert.WdownKernelIdeal.Facts] [hWdownReferenceIdeal : Cert.WdownReferenceIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg)
    (m' : (ℓ : Loc Cert.WdownReferenceIdeal.nD Cert.WdownReferenceIdeal.τ Cert.WdownReferenceIdeal.sig) → Buf (Elt Ideal) ℓ) (g' : Dev Cert.WdownReferenceIdeal.nD → PrngReg), Pre_WdownKernelIdeal m →
    (∀ c : Dev Cert.WdownKernelIdeal.nD,
      m' ((c.tc : Thread Cert.WdownReferenceIdeal.nD Cert.WdownReferenceIdeal.τ).loc Cert.WdownReferenceIdeal.main_arg0) = m ((c.tc : Thread Cert.WdownKernelIdeal.nD Cert.WdownKernelIdeal.τ).loc Cert.WdownKernelIdeal.main_arg0)
      ∧ m' ((c.tc : Thread Cert.WdownReferenceIdeal.nD Cert.WdownReferenceIdeal.τ).loc Cert.WdownReferenceIdeal.main_arg1) = m ((c.tc : Thread Cert.WdownKernelIdeal.nD Cert.WdownKernelIdeal.τ).loc Cert.WdownKernelIdeal.main_arg1)) →
    ∃ (v0 : (c : Dev Cert.WdownKernelIdeal.nD) → Buf (Elt Ideal) ((c.tc : Thread Cert.WdownKernelIdeal.nD Cert.WdownKernelIdeal.τ).loc Cert.WdownKernelIdeal.main_v9)),
      θ_run (Cert.WdownKernelIdeal.defs (F := Ideal)) (onTc (τ := Cert.WdownKernelIdeal.τ) (Cert.WdownKernelIdeal.main (F := Ideal))) ⟨m, fun _ => 0, g⟩ (fun r => ∀ c : Dev Cert.WdownKernelIdeal.nD,
          r.2.mem ((c.tc : Thread Cert.WdownKernelIdeal.nD Cert.WdownKernelIdeal.τ).loc Cert.WdownKernelIdeal.main_v9) = v0 c
          ∧ r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
          ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ θ_run (Cert.WdownReferenceIdeal.defs (F := Ideal)) (onTc (τ := Cert.WdownReferenceIdeal.τ) (Cert.WdownReferenceIdeal.main (F := Ideal))) ⟨m', fun _ => 0, g'⟩ (fun r => ∀ c : Dev Cert.WdownReferenceIdeal.nD,
          r.2.mem ((c.tc : Thread Cert.WdownReferenceIdeal.nD Cert.WdownReferenceIdeal.τ).loc Cert.WdownReferenceIdeal.main_v3) = v0 c
          ∧ r.2.mem ((c.tc : Thread Cert.WdownReferenceIdeal.nD Cert.WdownReferenceIdeal.τ).loc Cert.WdownReferenceIdeal.main_arg0) = m' ((c.tc : Thread Cert.WdownReferenceIdeal.nD Cert.WdownReferenceIdeal.τ).loc Cert.WdownReferenceIdeal.main_arg0)
          ∧ r.2.mem ((c.tc : Thread Cert.WdownReferenceIdeal.nD Cert.WdownReferenceIdeal.τ).loc Cert.WdownReferenceIdeal.main_arg1) = m' ((c.tc : Thread Cert.WdownReferenceIdeal.nD Cert.WdownReferenceIdeal.τ).loc Cert.WdownReferenceIdeal.main_arg1))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v5)) (v1 : (c : Dev Cert.AdamwKernelIdeal.nD) → Buf (Elt Ideal) ((c.tc : Thread Cert.AdamwKernelIdeal.nD Cert.AdamwKernelIdeal.τ).loc Cert.AdamwKernelIdeal.main_v6)) (v2 : (c : Dev Cert.AdamwKernelIdeal.nD) → Buf (Elt Ideal) ((c.tc : Thread Cert.AdamwKernelIdeal.nD Cert.AdamwKernelIdeal.τ).loc Cert.AdamwKernelIdeal.main_v7)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v5) = v0 c
          ∧ r.2.mem ((c.tc : Thread Cert.AdamwKernelIdeal.nD Cert.AdamwKernelIdeal.τ).loc Cert.AdamwKernelIdeal.main_v6) = v1 c
          ∧ r.2.mem ((c.tc : Thread Cert.AdamwKernelIdeal.nD Cert.AdamwKernelIdeal.τ).loc Cert.AdamwKernelIdeal.main_v7) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_AdamwOutKernel_AdamwOutKernelIdeal : Prop :=
  True

def algebraic_AdamwOutKernelIdeal_AdamwOutReferenceIdeal [hAdamwOutKernelIdeal : Cert.AdamwOutKernelIdeal.Facts] [hAdamwOutReferenceIdeal : Cert.AdamwOutReferenceIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutKernelIdeal m →
    (∀ c : Dev Cert.AdamwOutKernelIdeal.nD,
      m' ((c.tc : Thread Cert.AdamwOutReferenceIdeal.nD Cert.AdamwOutReferenceIdeal.τ).loc Cert.AdamwOutReferenceIdeal.main_arg0) = m ((c.tc : Thread Cert.AdamwOutKernelIdeal.nD Cert.AdamwOutKernelIdeal.τ).loc Cert.AdamwOutKernelIdeal.main_arg0)
      ∧ m' ((c.tc : Thread Cert.AdamwOutReferenceIdeal.nD Cert.AdamwOutReferenceIdeal.τ).loc Cert.AdamwOutReferenceIdeal.main_arg1) = m ((c.tc : Thread Cert.AdamwOutKernelIdeal.nD Cert.AdamwOutKernelIdeal.τ).loc Cert.AdamwOutKernelIdeal.main_arg1)
      ∧ m' ((c.tc : Thread Cert.AdamwOutReferenceIdeal.nD Cert.AdamwOutReferenceIdeal.τ).loc Cert.AdamwOutReferenceIdeal.main_arg2) = m ((c.tc : Thread Cert.AdamwOutKernelIdeal.nD Cert.AdamwOutKernelIdeal.τ).loc Cert.AdamwOutKernelIdeal.main_arg2)
      ∧ m' ((c.tc : Thread Cert.AdamwOutReferenceIdeal.nD Cert.AdamwOutReferenceIdeal.τ).loc Cert.AdamwOutReferenceIdeal.main_arg3) = m ((c.tc : Thread Cert.AdamwOutKernelIdeal.nD Cert.AdamwOutKernelIdeal.τ).loc Cert.AdamwOutKernelIdeal.main_arg3)) →
    ∃ (v0 : (c : Dev Cert.AdamwOutKernelIdeal.nD) → Buf (Elt Ideal) ((c.tc : Thread Cert.AdamwOutKernelIdeal.nD Cert.AdamwOutKernelIdeal.τ).loc Cert.AdamwOutKernelIdeal.main_v5)) (v1 : (c : Dev Cert.AdamwOutKernelIdeal.nD) → Buf (Elt Ideal) ((c.tc : Thread Cert.AdamwOutKernelIdeal.nD Cert.AdamwOutKernelIdeal.τ).loc Cert.AdamwOutKernelIdeal.main_v6)) (v2 : (c : Dev Cert.AdamwOutKernelIdeal.nD) → Buf (Elt Ideal) ((c.tc : Thread Cert.AdamwOutKernelIdeal.nD Cert.AdamwOutKernelIdeal.τ).loc Cert.AdamwOutKernelIdeal.main_v7)),
      θ_run (Cert.AdamwOutKernelIdeal.defs (F := Ideal)) (onTc (τ := Cert.AdamwOutKernelIdeal.τ) (Cert.AdamwOutKernelIdeal.main (F := Ideal))) ⟨m, fun _ => 0, g⟩ (fun r => ∀ c : Dev Cert.AdamwOutKernelIdeal.nD,
          r.2.mem ((c.tc : Thread Cert.AdamwOutKernelIdeal.nD Cert.AdamwOutKernelIdeal.τ).loc Cert.AdamwOutKernelIdeal.main_v5) = v0 c
          ∧ r.2.mem ((c.tc : Thread Cert.AdamwOutKernelIdeal.nD Cert.AdamwOutKernelIdeal.τ).loc Cert.AdamwOutKernelIdeal.main_v6) = v1 c
          ∧ r.2.mem ((c.tc : Thread Cert.AdamwOutKernelIdeal.nD Cert.AdamwOutKernelIdeal.τ).loc Cert.AdamwOutKernelIdeal.main_v7) = v2 c
          ∧ r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
          ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
          ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
          ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v23) = v0 c
          ∧ r.2.mem ((c.tc : Thread Cert.AdamwOutReferenceIdeal.nD Cert.AdamwOutReferenceIdeal.τ).loc Cert.AdamwOutReferenceIdeal.main_v4) = v1 c
          ∧ r.2.mem ((c.tc : Thread Cert.AdamwOutReferenceIdeal.nD Cert.AdamwOutReferenceIdeal.τ).loc Cert.AdamwOutReferenceIdeal.main_v10) = v2 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwDownKernel_AdamwDownKernelIdeal : Prop :=
  True

def algebraic_AdamwDownKernelIdeal_AdamwDownReferenceIdeal [hAdamwDownKernelIdeal : Cert.AdamwDownKernelIdeal.Facts] [hAdamwDownReferenceIdeal : Cert.AdamwDownReferenceIdeal.Facts] : Prop :=
  ∀ (m : (ℓ : Loc Cert.AdamwDownKernelIdeal.nD Cert.AdamwDownKernelIdeal.τ Cert.AdamwDownKernelIdeal.sig) → Buf (Elt Ideal) ℓ) (g : Dev Cert.AdamwDownKernelIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownKernelIdeal m →
    (∀ c : Dev Cert.AdamwDownKernelIdeal.nD,
      m' ((c.tc : Thread Cert.AdamwDownReferenceIdeal.nD Cert.AdamwDownReferenceIdeal.τ).loc Cert.AdamwDownReferenceIdeal.main_arg0) = m ((c.tc : Thread Cert.AdamwDownKernelIdeal.nD Cert.AdamwDownKernelIdeal.τ).loc Cert.AdamwDownKernelIdeal.main_arg0)
      ∧ m' ((c.tc : Thread Cert.AdamwDownReferenceIdeal.nD Cert.AdamwDownReferenceIdeal.τ).loc Cert.AdamwDownReferenceIdeal.main_arg1) = m ((c.tc : Thread Cert.AdamwDownKernelIdeal.nD Cert.AdamwDownKernelIdeal.τ).loc Cert.AdamwDownKernelIdeal.main_arg1)
      ∧ m' ((c.tc : Thread Cert.AdamwDownReferenceIdeal.nD Cert.AdamwDownReferenceIdeal.τ).loc Cert.AdamwDownReferenceIdeal.main_arg2) = m ((c.tc : Thread Cert.AdamwDownKernelIdeal.nD Cert.AdamwDownKernelIdeal.τ).loc Cert.AdamwDownKernelIdeal.main_arg2)
      ∧ m' ((c.tc : Thread Cert.AdamwDownReferenceIdeal.nD Cert.AdamwDownReferenceIdeal.τ).loc Cert.AdamwDownReferenceIdeal.main_arg3) = m ((c.tc : Thread Cert.AdamwDownKernelIdeal.nD Cert.AdamwDownKernelIdeal.τ).loc Cert.AdamwDownKernelIdeal.main_arg3)) →
    ∃ (v0 : (c : Dev Cert.AdamwDownKernelIdeal.nD) → Buf (Elt Ideal) ((c.tc : Thread Cert.AdamwDownKernelIdeal.nD Cert.AdamwDownKernelIdeal.τ).loc Cert.AdamwDownKernelIdeal.main_v5)) (v1 : (c : Dev Cert.AdamwDownKernelIdeal.nD) → Buf (Elt Ideal) ((c.tc : Thread Cert.AdamwDownKernelIdeal.nD Cert.AdamwDownKernelIdeal.τ).loc Cert.AdamwDownKernelIdeal.main_v6)) (v2 : (c : Dev Cert.AdamwDownKernelIdeal.nD) → Buf (Elt Ideal) ((c.tc : Thread Cert.AdamwDownKernelIdeal.nD Cert.AdamwDownKernelIdeal.τ).loc Cert.AdamwDownKernelIdeal.main_v7)),
      θ_run (Cert.AdamwDownKernelIdeal.defs (F := Ideal)) (onTc (τ := Cert.AdamwDownKernelIdeal.τ) (Cert.AdamwDownKernelIdeal.main (F := Ideal))) ⟨m, fun _ => 0, g⟩ (fun r => ∀ c : Dev Cert.AdamwDownKernelIdeal.nD,
          r.2.mem ((c.tc : Thread Cert.AdamwDownKernelIdeal.nD Cert.AdamwDownKernelIdeal.τ).loc Cert.AdamwDownKernelIdeal.main_v5) = v0 c
          ∧ r.2.mem ((c.tc : Thread Cert.AdamwDownKernelIdeal.nD Cert.AdamwDownKernelIdeal.τ).loc Cert.AdamwDownKernelIdeal.main_v6) = v1 c
          ∧ r.2.mem ((c.tc : Thread Cert.AdamwDownKernelIdeal.nD Cert.AdamwDownKernelIdeal.τ).loc Cert.AdamwDownKernelIdeal.main_v7) = v2 c
          ∧ r.2.mem ((c.tc : Thread Cert.AdamwDownKernelIdeal.nD Cert.AdamwDownKernelIdeal.τ).loc Cert.AdamwDownKernelIdeal.main_arg0) = m ((c.tc : Thread Cert.AdamwDownKernelIdeal.nD Cert.AdamwDownKernelIdeal.τ).loc Cert.AdamwDownKernelIdeal.main_arg0)
          ∧ r.2.mem ((c.tc : Thread Cert.AdamwDownKernelIdeal.nD Cert.AdamwDownKernelIdeal.τ).loc Cert.AdamwDownKernelIdeal.main_arg1) = m ((c.tc : Thread Cert.AdamwDownKernelIdeal.nD Cert.AdamwDownKernelIdeal.τ).loc Cert.AdamwDownKernelIdeal.main_arg1)
          ∧ r.2.mem ((c.tc : Thread Cert.AdamwDownKernelIdeal.nD Cert.AdamwDownKernelIdeal.τ).loc Cert.AdamwDownKernelIdeal.main_arg2) = m ((c.tc : Thread Cert.AdamwDownKernelIdeal.nD Cert.AdamwDownKernelIdeal.τ).loc Cert.AdamwDownKernelIdeal.main_arg2)
          ∧ r.2.mem ((c.tc : Thread Cert.AdamwDownKernelIdeal.nD Cert.AdamwDownKernelIdeal.τ).loc Cert.AdamwDownKernelIdeal.main_arg3) = m ((c.tc : Thread Cert.AdamwDownKernelIdeal.nD Cert.AdamwDownKernelIdeal.τ).loc Cert.AdamwDownKernelIdeal.main_arg3))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v23) = v0 c
          ∧ r.2.mem ((c.tc : Thread Cert.AdamwDownReferenceIdeal.nD Cert.AdamwDownReferenceIdeal.τ).loc Cert.AdamwDownReferenceIdeal.main_v4) = v1 c
          ∧ r.2.mem ((c.tc : Thread Cert.AdamwDownReferenceIdeal.nD Cert.AdamwDownReferenceIdeal.τ).loc Cert.AdamwDownReferenceIdeal.main_v10) = v2 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3))

def preserves_AdamwGateKernel_AdamwGateKernelIdeal : Prop :=
  True

def algebraic_AdamwGateKernelIdeal_AdamwGateReferenceIdeal [hAdamwGateKernelIdeal : Cert.AdamwGateKernelIdeal.Facts] [hAdamwGateReferenceIdeal : Cert.AdamwGateReferenceIdeal.Facts] : Prop :=
  ∀ (m : (ℓ : Loc Cert.AdamwGateKernelIdeal.nD Cert.AdamwGateKernelIdeal.τ Cert.AdamwGateKernelIdeal.sig) → Buf (Elt Ideal) ℓ) (g : Dev Cert.AdamwGateKernelIdeal.nD → PrngReg)
    (m' : (ℓ : Loc Cert.AdamwGateReferenceIdeal.nD Cert.AdamwGateReferenceIdeal.τ Cert.AdamwGateReferenceIdeal.sig) → Buf (Elt Ideal) ℓ) (g' : Dev Cert.AdamwGateReferenceIdeal.nD → PrngReg), Pre_AdamwGateKernelIdeal m →
    (∀ c : Dev Cert.AdamwGateKernelIdeal.nD,
      m' ((c.tc : Thread Cert.AdamwGateReferenceIdeal.nD Cert.AdamwGateReferenceIdeal.τ).loc Cert.AdamwGateReferenceIdeal.main_arg0) = m ((c.tc : Thread Cert.AdamwGateKernelIdeal.nD Cert.AdamwGateKernelIdeal.τ).loc Cert.AdamwGateKernelIdeal.main_arg0)
      ∧ m' ((c.tc : Thread Cert.AdamwGateReferenceIdeal.nD Cert.AdamwGateReferenceIdeal.τ).loc Cert.AdamwGateReferenceIdeal.main_arg1) = m ((c.tc : Thread Cert.AdamwGateKernelIdeal.nD Cert.AdamwGateKernelIdeal.τ).loc Cert.AdamwGateKernelIdeal.main_arg1)
      ∧ m' ((c.tc : Thread Cert.AdamwGateReferenceIdeal.nD Cert.AdamwGateReferenceIdeal.τ).loc Cert.AdamwGateReferenceIdeal.main_arg2) = m ((c.tc : Thread Cert.AdamwGateKernelIdeal.nD Cert.AdamwGateKernelIdeal.τ).loc Cert.AdamwGateKernelIdeal.main_arg2)
      ∧ m' ((c.tc : Thread Cert.AdamwGateReferenceIdeal.nD Cert.AdamwGateReferenceIdeal.τ).loc Cert.AdamwGateReferenceIdeal.main_arg3) = m ((c.tc : Thread Cert.AdamwGateKernelIdeal.nD Cert.AdamwGateKernelIdeal.τ).loc Cert.AdamwGateKernelIdeal.main_arg3)) →
    ∃ (v0 : (c : Dev Cert.AdamwGateKernelIdeal.nD) → Buf (Elt Ideal) ((c.tc : Thread Cert.AdamwGateKernelIdeal.nD Cert.AdamwGateKernelIdeal.τ).loc Cert.AdamwGateKernelIdeal.main_v12)) (v1 : (c : Dev Cert.AdamwGateKernelIdeal.nD) → Buf (Elt Ideal) ((c.tc : Thread Cert.AdamwGateKernelIdeal.nD Cert.AdamwGateKernelIdeal.τ).loc Cert.AdamwGateKernelIdeal.main_v13)) (v2 : (c : Dev Cert.AdamwGateKernelIdeal.nD) → Buf (Elt Ideal) ((c.tc : Thread Cert.AdamwGateKernelIdeal.nD Cert.AdamwGateKernelIdeal.τ).loc Cert.AdamwGateKernelIdeal.main_v14)),
      θ_run (Cert.AdamwGateKernelIdeal.defs (F := Ideal)) (onTc (τ := Cert.AdamwGateKernelIdeal.τ) (Cert.AdamwGateKernelIdeal.main (F := Ideal))) ⟨m, fun _ => 0, g⟩ (fun r => ∀ c : Dev Cert.AdamwGateKernelIdeal.nD,
          r.2.mem ((c.tc : Thread Cert.AdamwGateKernelIdeal.nD Cert.AdamwGateKernelIdeal.τ).loc Cert.AdamwGateKernelIdeal.main_v12) = v0 c
          ∧ r.2.mem ((c.tc : Thread Cert.AdamwGateKernelIdeal.nD Cert.AdamwGateKernelIdeal.τ).loc Cert.AdamwGateKernelIdeal.main_v13) = v1 c
          ∧ r.2.mem ((c.tc : Thread Cert.AdamwGateKernelIdeal.nD Cert.AdamwGateKernelIdeal.τ).loc Cert.AdamwGateKernelIdeal.main_v14) = v2 c
          ∧ r.2.mem ((c.tc : Thread Cert.AdamwGateKernelIdeal.nD Cert.AdamwGateKernelIdeal.τ).loc Cert.AdamwGateKernelIdeal.main_arg0) = m ((c.tc : Thread Cert.AdamwGateKernelIdeal.nD Cert.AdamwGateKernelIdeal.τ).loc Cert.AdamwGateKernelIdeal.main_arg0)
          ∧ r.2.mem ((c.tc : Thread Cert.AdamwGateKernelIdeal.nD Cert.AdamwGateKernelIdeal.τ).loc Cert.AdamwGateKernelIdeal.main_arg1) = m ((c.tc : Thread Cert.AdamwGateKernelIdeal.nD Cert.AdamwGateKernelIdeal.τ).loc Cert.AdamwGateKernelIdeal.main_arg1)
          ∧ r.2.mem ((c.tc : Thread Cert.AdamwGateKernelIdeal.nD Cert.AdamwGateKernelIdeal.τ).loc Cert.AdamwGateKernelIdeal.main_arg2) = m ((c.tc : Thread Cert.AdamwGateKernelIdeal.nD Cert.AdamwGateKernelIdeal.τ).loc Cert.AdamwGateKernelIdeal.main_arg2)
          ∧ r.2.mem ((c.tc : Thread Cert.AdamwGateKernelIdeal.nD Cert.AdamwGateKernelIdeal.τ).loc Cert.AdamwGateKernelIdeal.main_arg3) = m ((c.tc : Thread Cert.AdamwGateKernelIdeal.nD Cert.AdamwGateKernelIdeal.τ).loc Cert.AdamwGateKernelIdeal.main_arg3))
      ∧ θ_run (Cert.AdamwGateReferenceIdeal.defs (F := Ideal)) (onTc (τ := Cert.AdamwGateReferenceIdeal.τ) (Cert.AdamwGateReferenceIdeal.main (F := Ideal))) ⟨m', fun _ => 0, g'⟩ (fun r => ∀ c : Dev Cert.AdamwGateReferenceIdeal.nD,
          r.2.mem ((c.tc : Thread Cert.AdamwGateReferenceIdeal.nD Cert.AdamwGateReferenceIdeal.τ).loc Cert.AdamwGateReferenceIdeal.main_v23) = v0 c
          ∧ r.2.mem ((c.tc : Thread Cert.AdamwGateReferenceIdeal.nD Cert.AdamwGateReferenceIdeal.τ).loc Cert.AdamwGateReferenceIdeal.main_v4) = v1 c
          ∧ r.2.mem ((c.tc : Thread Cert.AdamwGateReferenceIdeal.nD Cert.AdamwGateReferenceIdeal.τ).loc Cert.AdamwGateReferenceIdeal.main_v10) = v2 c
          ∧ r.2.mem ((c.tc : Thread Cert.AdamwGateReferenceIdeal.nD Cert.AdamwGateReferenceIdeal.τ).loc Cert.AdamwGateReferenceIdeal.main_arg0) = m' ((c.tc : Thread Cert.AdamwGateReferenceIdeal.nD Cert.AdamwGateReferenceIdeal.τ).loc Cert.AdamwGateReferenceIdeal.main_arg0)
          ∧ r.2.mem ((c.tc : Thread Cert.AdamwGateReferenceIdeal.nD Cert.AdamwGateReferenceIdeal.τ).loc Cert.AdamwGateReferenceIdeal.main_arg1) = m' ((c.tc : Thread Cert.AdamwGateReferenceIdeal.nD Cert.AdamwGateReferenceIdeal.τ).loc Cert.AdamwGateReferenceIdeal.main_arg1)
          ∧ r.2.mem ((c.tc : Thread Cert.AdamwGateReferenceIdeal.nD Cert.AdamwGateReferenceIdeal.τ).loc Cert.AdamwGateReferenceIdeal.main_arg2) = m' ((c.tc : Thread Cert.AdamwGateReferenceIdeal.nD Cert.AdamwGateReferenceIdeal.τ).loc Cert.AdamwGateReferenceIdeal.main_arg2)
          ∧ r.2.mem ((c.tc : Thread Cert.AdamwGateReferenceIdeal.nD Cert.AdamwGateReferenceIdeal.τ).loc Cert.AdamwGateReferenceIdeal.main_arg3) = m' ((c.tc : Thread Cert.AdamwGateReferenceIdeal.nD Cert.AdamwGateReferenceIdeal.τ).loc Cert.AdamwGateReferenceIdeal.main_arg3))

def preserves_AdamwNormKernel_AdamwNormKernelIdeal : Prop :=
  True

def algebraic_AdamwNormKernelIdeal_AdamwNormReferenceIdeal [hAdamwNormKernelIdeal : Cert.AdamwNormKernelIdeal.Facts] [hAdamwNormReferenceIdeal : Cert.AdamwNormReferenceIdeal.Facts] : Prop :=
  ∀ (m : (ℓ : Loc Cert.AdamwNormKernelIdeal.nD Cert.AdamwNormKernelIdeal.τ Cert.AdamwNormKernelIdeal.sig) → Buf (Elt Ideal) ℓ) (g : Dev Cert.AdamwNormKernelIdeal.nD → PrngReg)
    (m' : (ℓ : Loc Cert.AdamwNormReferenceIdeal.nD Cert.AdamwNormReferenceIdeal.τ Cert.AdamwNormReferenceIdeal.sig) → Buf (Elt Ideal) ℓ) (g' : Dev Cert.AdamwNormReferenceIdeal.nD → PrngReg), Pre_AdamwNormKernelIdeal m →
    (∀ c : Dev Cert.AdamwNormKernelIdeal.nD,
      m' ((c.tc : Thread Cert.AdamwNormReferenceIdeal.nD Cert.AdamwNormReferenceIdeal.τ).loc Cert.AdamwNormReferenceIdeal.main_arg0) = m ((c.tc : Thread Cert.AdamwNormKernelIdeal.nD Cert.AdamwNormKernelIdeal.τ).loc Cert.AdamwNormKernelIdeal.main_arg0)
      ∧ m' ((c.tc : Thread Cert.AdamwNormReferenceIdeal.nD Cert.AdamwNormReferenceIdeal.τ).loc Cert.AdamwNormReferenceIdeal.main_arg1) = m ((c.tc : Thread Cert.AdamwNormKernelIdeal.nD Cert.AdamwNormKernelIdeal.τ).loc Cert.AdamwNormKernelIdeal.main_arg1)
      ∧ m' ((c.tc : Thread Cert.AdamwNormReferenceIdeal.nD Cert.AdamwNormReferenceIdeal.τ).loc Cert.AdamwNormReferenceIdeal.main_arg2) = m ((c.tc : Thread Cert.AdamwNormKernelIdeal.nD Cert.AdamwNormKernelIdeal.τ).loc Cert.AdamwNormKernelIdeal.main_arg2)
      ∧ m' ((c.tc : Thread Cert.AdamwNormReferenceIdeal.nD Cert.AdamwNormReferenceIdeal.τ).loc Cert.AdamwNormReferenceIdeal.main_arg3) = m ((c.tc : Thread Cert.AdamwNormKernelIdeal.nD Cert.AdamwNormKernelIdeal.τ).loc Cert.AdamwNormKernelIdeal.main_arg3)) →
    ∃ (v0 : (c : Dev Cert.AdamwNormKernelIdeal.nD) → Buf (Elt Ideal) ((c.tc : Thread Cert.AdamwNormKernelIdeal.nD Cert.AdamwNormKernelIdeal.τ).loc Cert.AdamwNormKernelIdeal.main_v0_0)) (v1 : (c : Dev Cert.AdamwNormKernelIdeal.nD) → Buf (Elt Ideal) ((c.tc : Thread Cert.AdamwNormKernelIdeal.nD Cert.AdamwNormKernelIdeal.τ).loc Cert.AdamwNormKernelIdeal.main_v0_1)) (v2 : (c : Dev Cert.AdamwNormKernelIdeal.nD) → Buf (Elt Ideal) ((c.tc : Thread Cert.AdamwNormKernelIdeal.nD Cert.AdamwNormKernelIdeal.τ).loc Cert.AdamwNormKernelIdeal.main_v0_2)),
      θ_run (Cert.AdamwNormKernelIdeal.defs (F := Ideal)) (onTc (τ := Cert.AdamwNormKernelIdeal.τ) (Cert.AdamwNormKernelIdeal.main (F := Ideal))) ⟨m, fun _ => 0, g⟩ (fun r => ∀ c : Dev Cert.AdamwNormKernelIdeal.nD,
          r.2.mem ((c.tc : Thread Cert.AdamwNormKernelIdeal.nD Cert.AdamwNormKernelIdeal.τ).loc Cert.AdamwNormKernelIdeal.main_v0_0) = v0 c
          ∧ r.2.mem ((c.tc : Thread Cert.AdamwNormKernelIdeal.nD Cert.AdamwNormKernelIdeal.τ).loc Cert.AdamwNormKernelIdeal.main_v0_1) = v1 c
          ∧ r.2.mem ((c.tc : Thread Cert.AdamwNormKernelIdeal.nD Cert.AdamwNormKernelIdeal.τ).loc Cert.AdamwNormKernelIdeal.main_v0_2) = v2 c
          ∧ r.2.mem ((c.tc : Thread Cert.AdamwNormKernelIdeal.nD Cert.AdamwNormKernelIdeal.τ).loc Cert.AdamwNormKernelIdeal.main_arg0) = m ((c.tc : Thread Cert.AdamwNormKernelIdeal.nD Cert.AdamwNormKernelIdeal.τ).loc Cert.AdamwNormKernelIdeal.main_arg0)
          ∧ r.2.mem ((c.tc : Thread Cert.AdamwNormKernelIdeal.nD Cert.AdamwNormKernelIdeal.τ).loc Cert.AdamwNormKernelIdeal.main_arg1) = m ((c.tc : Thread Cert.AdamwNormKernelIdeal.nD Cert.AdamwNormKernelIdeal.τ).loc Cert.AdamwNormKernelIdeal.main_arg1)
          ∧ r.2.mem ((c.tc : Thread Cert.AdamwNormKernelIdeal.nD Cert.AdamwNormKernelIdeal.τ).loc Cert.AdamwNormKernelIdeal.main_arg2) = m ((c.tc : Thread Cert.AdamwNormKernelIdeal.nD Cert.AdamwNormKernelIdeal.τ).loc Cert.AdamwNormKernelIdeal.main_arg2)
          ∧ r.2.mem ((c.tc : Thread Cert.AdamwNormKernelIdeal.nD Cert.AdamwNormKernelIdeal.τ).loc Cert.AdamwNormKernelIdeal.main_arg3) = m ((c.tc : Thread Cert.AdamwNormKernelIdeal.nD Cert.AdamwNormKernelIdeal.τ).loc Cert.AdamwNormKernelIdeal.main_arg3))
      ∧ θ_run (Cert.AdamwNormReferenceIdeal.defs (F := Ideal)) (onTc (τ := Cert.AdamwNormReferenceIdeal.τ) (Cert.AdamwNormReferenceIdeal.main (F := Ideal))) ⟨m', fun _ => 0, g'⟩ (fun r => ∀ c : Dev Cert.AdamwNormReferenceIdeal.nD,
          r.2.mem ((c.tc : Thread Cert.AdamwNormReferenceIdeal.nD Cert.AdamwNormReferenceIdeal.τ).loc Cert.AdamwNormReferenceIdeal.main_v23) = v0 c
          ∧ r.2.mem ((c.tc : Thread Cert.AdamwNormReferenceIdeal.nD Cert.AdamwNormReferenceIdeal.τ).loc Cert.AdamwNormReferenceIdeal.main_v4) = v1 c
          ∧ r.2.mem ((c.tc : Thread Cert.AdamwNormReferenceIdeal.nD Cert.AdamwNormReferenceIdeal.τ).loc Cert.AdamwNormReferenceIdeal.main_v10) = v2 c
          ∧ r.2.mem ((c.tc : Thread Cert.AdamwNormReferenceIdeal.nD Cert.AdamwNormReferenceIdeal.τ).loc Cert.AdamwNormReferenceIdeal.main_arg0) = m' ((c.tc : Thread Cert.AdamwNormReferenceIdeal.nD Cert.AdamwNormReferenceIdeal.τ).loc Cert.AdamwNormReferenceIdeal.main_arg0)
          ∧ r.2.mem ((c.tc : Thread Cert.AdamwNormReferenceIdeal.nD Cert.AdamwNormReferenceIdeal.τ).loc Cert.AdamwNormReferenceIdeal.main_arg1) = m' ((c.tc : Thread Cert.AdamwNormReferenceIdeal.nD Cert.AdamwNormReferenceIdeal.τ).loc Cert.AdamwNormReferenceIdeal.main_arg1)
          ∧ r.2.mem ((c.tc : Thread Cert.AdamwNormReferenceIdeal.nD Cert.AdamwNormReferenceIdeal.τ).loc Cert.AdamwNormReferenceIdeal.main_arg2) = m' ((c.tc : Thread Cert.AdamwNormReferenceIdeal.nD Cert.AdamwNormReferenceIdeal.τ).loc Cert.AdamwNormReferenceIdeal.main_arg2)
          ∧ r.2.mem ((c.tc : Thread Cert.AdamwNormReferenceIdeal.nD Cert.AdamwNormReferenceIdeal.τ).loc Cert.AdamwNormReferenceIdeal.main_arg3) = m' ((c.tc : Thread Cert.AdamwNormReferenceIdeal.nD Cert.AdamwNormReferenceIdeal.τ).loc Cert.AdamwNormReferenceIdeal.main_arg3))

def preserves_AdamwWidthKernel_AdamwWidthKernelIdeal : Prop :=
  True

def algebraic_AdamwWidthKernelIdeal_AdamwWidthReferenceIdeal [hAdamwWidthKernelIdeal : Cert.AdamwWidthKernelIdeal.Facts] [hAdamwWidthReferenceIdeal : Cert.AdamwWidthReferenceIdeal.Facts] : Prop :=
  ∀ (m : (ℓ : Loc Cert.AdamwWidthKernelIdeal.nD Cert.AdamwWidthKernelIdeal.τ Cert.AdamwWidthKernelIdeal.sig) → Buf (Elt Ideal) ℓ) (g : Dev Cert.AdamwWidthKernelIdeal.nD → PrngReg)
    (m' : (ℓ : Loc Cert.AdamwWidthReferenceIdeal.nD Cert.AdamwWidthReferenceIdeal.τ Cert.AdamwWidthReferenceIdeal.sig) → Buf (Elt Ideal) ℓ) (g' : Dev Cert.AdamwWidthReferenceIdeal.nD → PrngReg), Pre_AdamwWidthKernelIdeal m →
    (∀ c : Dev Cert.AdamwWidthKernelIdeal.nD,
      m' ((c.tc : Thread Cert.AdamwWidthReferenceIdeal.nD Cert.AdamwWidthReferenceIdeal.τ).loc Cert.AdamwWidthReferenceIdeal.main_arg0) = m ((c.tc : Thread Cert.AdamwWidthKernelIdeal.nD Cert.AdamwWidthKernelIdeal.τ).loc Cert.AdamwWidthKernelIdeal.main_arg0)
      ∧ m' ((c.tc : Thread Cert.AdamwWidthReferenceIdeal.nD Cert.AdamwWidthReferenceIdeal.τ).loc Cert.AdamwWidthReferenceIdeal.main_arg1) = m ((c.tc : Thread Cert.AdamwWidthKernelIdeal.nD Cert.AdamwWidthKernelIdeal.τ).loc Cert.AdamwWidthKernelIdeal.main_arg1)
      ∧ m' ((c.tc : Thread Cert.AdamwWidthReferenceIdeal.nD Cert.AdamwWidthReferenceIdeal.τ).loc Cert.AdamwWidthReferenceIdeal.main_arg2) = m ((c.tc : Thread Cert.AdamwWidthKernelIdeal.nD Cert.AdamwWidthKernelIdeal.τ).loc Cert.AdamwWidthKernelIdeal.main_arg2)
      ∧ m' ((c.tc : Thread Cert.AdamwWidthReferenceIdeal.nD Cert.AdamwWidthReferenceIdeal.τ).loc Cert.AdamwWidthReferenceIdeal.main_arg3) = m ((c.tc : Thread Cert.AdamwWidthKernelIdeal.nD Cert.AdamwWidthKernelIdeal.τ).loc Cert.AdamwWidthKernelIdeal.main_arg3)) →
    ∃ (v0 : (c : Dev Cert.AdamwWidthKernelIdeal.nD) → Buf (Elt Ideal) ((c.tc : Thread Cert.AdamwWidthKernelIdeal.nD Cert.AdamwWidthKernelIdeal.τ).loc Cert.AdamwWidthKernelIdeal.main_v0_0)) (v1 : (c : Dev Cert.AdamwWidthKernelIdeal.nD) → Buf (Elt Ideal) ((c.tc : Thread Cert.AdamwWidthKernelIdeal.nD Cert.AdamwWidthKernelIdeal.τ).loc Cert.AdamwWidthKernelIdeal.main_v0_1)) (v2 : (c : Dev Cert.AdamwWidthKernelIdeal.nD) → Buf (Elt Ideal) ((c.tc : Thread Cert.AdamwWidthKernelIdeal.nD Cert.AdamwWidthKernelIdeal.τ).loc Cert.AdamwWidthKernelIdeal.main_v0_2)),
      θ_run (Cert.AdamwWidthKernelIdeal.defs (F := Ideal)) (onTc (τ := Cert.AdamwWidthKernelIdeal.τ) (Cert.AdamwWidthKernelIdeal.main (F := Ideal))) ⟨m, fun _ => 0, g⟩ (fun r => ∀ c : Dev Cert.AdamwWidthKernelIdeal.nD,
          r.2.mem ((c.tc : Thread Cert.AdamwWidthKernelIdeal.nD Cert.AdamwWidthKernelIdeal.τ).loc Cert.AdamwWidthKernelIdeal.main_v0_0) = v0 c
          ∧ r.2.mem ((c.tc : Thread Cert.AdamwWidthKernelIdeal.nD Cert.AdamwWidthKernelIdeal.τ).loc Cert.AdamwWidthKernelIdeal.main_v0_1) = v1 c
          ∧ r.2.mem ((c.tc : Thread Cert.AdamwWidthKernelIdeal.nD Cert.AdamwWidthKernelIdeal.τ).loc Cert.AdamwWidthKernelIdeal.main_v0_2) = v2 c
          ∧ r.2.mem ((c.tc : Thread Cert.AdamwWidthKernelIdeal.nD Cert.AdamwWidthKernelIdeal.τ).loc Cert.AdamwWidthKernelIdeal.main_arg0) = m ((c.tc : Thread Cert.AdamwWidthKernelIdeal.nD Cert.AdamwWidthKernelIdeal.τ).loc Cert.AdamwWidthKernelIdeal.main_arg0)
          ∧ r.2.mem ((c.tc : Thread Cert.AdamwWidthKernelIdeal.nD Cert.AdamwWidthKernelIdeal.τ).loc Cert.AdamwWidthKernelIdeal.main_arg1) = m ((c.tc : Thread Cert.AdamwWidthKernelIdeal.nD Cert.AdamwWidthKernelIdeal.τ).loc Cert.AdamwWidthKernelIdeal.main_arg1)
          ∧ r.2.mem ((c.tc : Thread Cert.AdamwWidthKernelIdeal.nD Cert.AdamwWidthKernelIdeal.τ).loc Cert.AdamwWidthKernelIdeal.main_arg2) = m ((c.tc : Thread Cert.AdamwWidthKernelIdeal.nD Cert.AdamwWidthKernelIdeal.τ).loc Cert.AdamwWidthKernelIdeal.main_arg2)
          ∧ r.2.mem ((c.tc : Thread Cert.AdamwWidthKernelIdeal.nD Cert.AdamwWidthKernelIdeal.τ).loc Cert.AdamwWidthKernelIdeal.main_arg3) = m ((c.tc : Thread Cert.AdamwWidthKernelIdeal.nD Cert.AdamwWidthKernelIdeal.τ).loc Cert.AdamwWidthKernelIdeal.main_arg3))
      ∧ θ_run (Cert.AdamwWidthReferenceIdeal.defs (F := Ideal)) (onTc (τ := Cert.AdamwWidthReferenceIdeal.τ) (Cert.AdamwWidthReferenceIdeal.main (F := Ideal))) ⟨m', fun _ => 0, g'⟩ (fun r => ∀ c : Dev Cert.AdamwWidthReferenceIdeal.nD,
          r.2.mem ((c.tc : Thread Cert.AdamwWidthReferenceIdeal.nD Cert.AdamwWidthReferenceIdeal.τ).loc Cert.AdamwWidthReferenceIdeal.main_v23) = v0 c
          ∧ r.2.mem ((c.tc : Thread Cert.AdamwWidthReferenceIdeal.nD Cert.AdamwWidthReferenceIdeal.τ).loc Cert.AdamwWidthReferenceIdeal.main_v4) = v1 c
          ∧ r.2.mem ((c.tc : Thread Cert.AdamwWidthReferenceIdeal.nD Cert.AdamwWidthReferenceIdeal.τ).loc Cert.AdamwWidthReferenceIdeal.main_v10) = v2 c
          ∧ r.2.mem ((c.tc : Thread Cert.AdamwWidthReferenceIdeal.nD Cert.AdamwWidthReferenceIdeal.τ).loc Cert.AdamwWidthReferenceIdeal.main_arg0) = m' ((c.tc : Thread Cert.AdamwWidthReferenceIdeal.nD Cert.AdamwWidthReferenceIdeal.τ).loc Cert.AdamwWidthReferenceIdeal.main_arg0)
          ∧ r.2.mem ((c.tc : Thread Cert.AdamwWidthReferenceIdeal.nD Cert.AdamwWidthReferenceIdeal.τ).loc Cert.AdamwWidthReferenceIdeal.main_arg1) = m' ((c.tc : Thread Cert.AdamwWidthReferenceIdeal.nD Cert.AdamwWidthReferenceIdeal.τ).loc Cert.AdamwWidthReferenceIdeal.main_arg1)
          ∧ r.2.mem ((c.tc : Thread Cert.AdamwWidthReferenceIdeal.nD Cert.AdamwWidthReferenceIdeal.τ).loc Cert.AdamwWidthReferenceIdeal.main_arg2) = m' ((c.tc : Thread Cert.AdamwWidthReferenceIdeal.nD Cert.AdamwWidthReferenceIdeal.τ).loc Cert.AdamwWidthReferenceIdeal.main_arg2)
          ∧ r.2.mem ((c.tc : Thread Cert.AdamwWidthReferenceIdeal.nD Cert.AdamwWidthReferenceIdeal.τ).loc Cert.AdamwWidthReferenceIdeal.main_arg3) = m' ((c.tc : Thread Cert.AdamwWidthReferenceIdeal.nD Cert.AdamwWidthReferenceIdeal.τ).loc Cert.AdamwWidthReferenceIdeal.main_arg3))

def preserves_AdamwBlocksKernel_AdamwBlocksKernelIdeal : Prop :=
  True

def algebraic_AdamwBlocksKernelIdeal_AdamwBlocksReferenceIdeal [hAdamwBlocksKernelIdeal : Cert.AdamwBlocksKernelIdeal.Facts] [hAdamwBlocksReferenceIdeal : Cert.AdamwBlocksReferenceIdeal.Facts] : Prop :=
  ∀ (m : (ℓ : Loc Cert.AdamwBlocksKernelIdeal.nD Cert.AdamwBlocksKernelIdeal.τ Cert.AdamwBlocksKernelIdeal.sig) → Buf (Elt Ideal) ℓ) (g : Dev Cert.AdamwBlocksKernelIdeal.nD → PrngReg)
    (m' : (ℓ : Loc Cert.AdamwBlocksReferenceIdeal.nD Cert.AdamwBlocksReferenceIdeal.τ Cert.AdamwBlocksReferenceIdeal.sig) → Buf (Elt Ideal) ℓ) (g' : Dev Cert.AdamwBlocksReferenceIdeal.nD → PrngReg), Pre_AdamwBlocksKernelIdeal m →
    (∀ c : Dev Cert.AdamwBlocksKernelIdeal.nD,
      m' ((c.tc : Thread Cert.AdamwBlocksReferenceIdeal.nD Cert.AdamwBlocksReferenceIdeal.τ).loc Cert.AdamwBlocksReferenceIdeal.main_arg0) = m ((c.tc : Thread Cert.AdamwBlocksKernelIdeal.nD Cert.AdamwBlocksKernelIdeal.τ).loc Cert.AdamwBlocksKernelIdeal.main_arg0)
      ∧ m' ((c.tc : Thread Cert.AdamwBlocksReferenceIdeal.nD Cert.AdamwBlocksReferenceIdeal.τ).loc Cert.AdamwBlocksReferenceIdeal.main_arg1) = m ((c.tc : Thread Cert.AdamwBlocksKernelIdeal.nD Cert.AdamwBlocksKernelIdeal.τ).loc Cert.AdamwBlocksKernelIdeal.main_arg1)
      ∧ m' ((c.tc : Thread Cert.AdamwBlocksReferenceIdeal.nD Cert.AdamwBlocksReferenceIdeal.τ).loc Cert.AdamwBlocksReferenceIdeal.main_arg2) = m ((c.tc : Thread Cert.AdamwBlocksKernelIdeal.nD Cert.AdamwBlocksKernelIdeal.τ).loc Cert.AdamwBlocksKernelIdeal.main_arg2)
      ∧ m' ((c.tc : Thread Cert.AdamwBlocksReferenceIdeal.nD Cert.AdamwBlocksReferenceIdeal.τ).loc Cert.AdamwBlocksReferenceIdeal.main_arg3) = m ((c.tc : Thread Cert.AdamwBlocksKernelIdeal.nD Cert.AdamwBlocksKernelIdeal.τ).loc Cert.AdamwBlocksKernelIdeal.main_arg3)) →
    ∃ (v0 : (c : Dev Cert.AdamwBlocksKernelIdeal.nD) → Buf (Elt Ideal) ((c.tc : Thread Cert.AdamwBlocksKernelIdeal.nD Cert.AdamwBlocksKernelIdeal.τ).loc Cert.AdamwBlocksKernelIdeal.main_v6)) (v1 : (c : Dev Cert.AdamwBlocksKernelIdeal.nD) → Buf (Elt Ideal) ((c.tc : Thread Cert.AdamwBlocksKernelIdeal.nD Cert.AdamwBlocksKernelIdeal.τ).loc Cert.AdamwBlocksKernelIdeal.main_v7)) (v2 : (c : Dev Cert.AdamwBlocksKernelIdeal.nD) → Buf (Elt Ideal) ((c.tc : Thread Cert.AdamwBlocksKernelIdeal.nD Cert.AdamwBlocksKernelIdeal.τ).loc Cert.AdamwBlocksKernelIdeal.main_v8)),
      θ_run (Cert.AdamwBlocksKernelIdeal.defs (F := Ideal)) (onTc (τ := Cert.AdamwBlocksKernelIdeal.τ) (Cert.AdamwBlocksKernelIdeal.main (F := Ideal))) ⟨m, fun _ => 0, g⟩ (fun r => ∀ c : Dev Cert.AdamwBlocksKernelIdeal.nD,
          r.2.mem ((c.tc : Thread Cert.AdamwBlocksKernelIdeal.nD Cert.AdamwBlocksKernelIdeal.τ).loc Cert.AdamwBlocksKernelIdeal.main_v6) = v0 c
          ∧ r.2.mem ((c.tc : Thread Cert.AdamwBlocksKernelIdeal.nD Cert.AdamwBlocksKernelIdeal.τ).loc Cert.AdamwBlocksKernelIdeal.main_v7) = v1 c
          ∧ r.2.mem ((c.tc : Thread Cert.AdamwBlocksKernelIdeal.nD Cert.AdamwBlocksKernelIdeal.τ).loc Cert.AdamwBlocksKernelIdeal.main_v8) = v2 c
          ∧ r.2.mem ((c.tc : Thread Cert.AdamwBlocksKernelIdeal.nD Cert.AdamwBlocksKernelIdeal.τ).loc Cert.AdamwBlocksKernelIdeal.main_arg0) = m ((c.tc : Thread Cert.AdamwBlocksKernelIdeal.nD Cert.AdamwBlocksKernelIdeal.τ).loc Cert.AdamwBlocksKernelIdeal.main_arg0)
          ∧ r.2.mem ((c.tc : Thread Cert.AdamwBlocksKernelIdeal.nD Cert.AdamwBlocksKernelIdeal.τ).loc Cert.AdamwBlocksKernelIdeal.main_arg1) = m ((c.tc : Thread Cert.AdamwBlocksKernelIdeal.nD Cert.AdamwBlocksKernelIdeal.τ).loc Cert.AdamwBlocksKernelIdeal.main_arg1)
          ∧ r.2.mem ((c.tc : Thread Cert.AdamwBlocksKernelIdeal.nD Cert.AdamwBlocksKernelIdeal.τ).loc Cert.AdamwBlocksKernelIdeal.main_arg2) = m ((c.tc : Thread Cert.AdamwBlocksKernelIdeal.nD Cert.AdamwBlocksKernelIdeal.τ).loc Cert.AdamwBlocksKernelIdeal.main_arg2)
          ∧ r.2.mem ((c.tc : Thread Cert.AdamwBlocksKernelIdeal.nD Cert.AdamwBlocksKernelIdeal.τ).loc Cert.AdamwBlocksKernelIdeal.main_arg3) = m ((c.tc : Thread Cert.AdamwBlocksKernelIdeal.nD Cert.AdamwBlocksKernelIdeal.τ).loc Cert.AdamwBlocksKernelIdeal.main_arg3))
      ∧ θ_run (Cert.AdamwBlocksReferenceIdeal.defs (F := Ideal)) (onTc (τ := Cert.AdamwBlocksReferenceIdeal.τ) (Cert.AdamwBlocksReferenceIdeal.main (F := Ideal))) ⟨m', fun _ => 0, g'⟩ (fun r => ∀ c : Dev Cert.AdamwBlocksReferenceIdeal.nD,
          r.2.mem ((c.tc : Thread Cert.AdamwBlocksReferenceIdeal.nD Cert.AdamwBlocksReferenceIdeal.τ).loc Cert.AdamwBlocksReferenceIdeal.main_v23) = v0 c
          ∧ r.2.mem ((c.tc : Thread Cert.AdamwBlocksReferenceIdeal.nD Cert.AdamwBlocksReferenceIdeal.τ).loc Cert.AdamwBlocksReferenceIdeal.main_v4) = v1 c
          ∧ r.2.mem ((c.tc : Thread Cert.AdamwBlocksReferenceIdeal.nD Cert.AdamwBlocksReferenceIdeal.τ).loc Cert.AdamwBlocksReferenceIdeal.main_v10) = v2 c
          ∧ r.2.mem ((c.tc : Thread Cert.AdamwBlocksReferenceIdeal.nD Cert.AdamwBlocksReferenceIdeal.τ).loc Cert.AdamwBlocksReferenceIdeal.main_arg0) = m' ((c.tc : Thread Cert.AdamwBlocksReferenceIdeal.nD Cert.AdamwBlocksReferenceIdeal.τ).loc Cert.AdamwBlocksReferenceIdeal.main_arg0)
          ∧ r.2.mem ((c.tc : Thread Cert.AdamwBlocksReferenceIdeal.nD Cert.AdamwBlocksReferenceIdeal.τ).loc Cert.AdamwBlocksReferenceIdeal.main_arg1) = m' ((c.tc : Thread Cert.AdamwBlocksReferenceIdeal.nD Cert.AdamwBlocksReferenceIdeal.τ).loc Cert.AdamwBlocksReferenceIdeal.main_arg1)
          ∧ r.2.mem ((c.tc : Thread Cert.AdamwBlocksReferenceIdeal.nD Cert.AdamwBlocksReferenceIdeal.τ).loc Cert.AdamwBlocksReferenceIdeal.main_arg2) = m' ((c.tc : Thread Cert.AdamwBlocksReferenceIdeal.nD Cert.AdamwBlocksReferenceIdeal.τ).loc Cert.AdamwBlocksReferenceIdeal.main_arg2)
          ∧ r.2.mem ((c.tc : Thread Cert.AdamwBlocksReferenceIdeal.nD Cert.AdamwBlocksReferenceIdeal.τ).loc Cert.AdamwBlocksReferenceIdeal.main_arg3) = m' ((c.tc : Thread Cert.AdamwBlocksReferenceIdeal.nD Cert.AdamwBlocksReferenceIdeal.τ).loc Cert.AdamwBlocksReferenceIdeal.main_arg3))

def preserves_AdamwBiasKernel_AdamwBiasKernelIdeal : Prop :=
  True

def algebraic_AdamwBiasKernelIdeal_AdamwBiasReferenceIdeal [hAdamwBiasKernelIdeal : Cert.AdamwBiasKernelIdeal.Facts] [hAdamwBiasReferenceIdeal : Cert.AdamwBiasReferenceIdeal.Facts] : Prop :=
  ∀ (m : (ℓ : Loc Cert.AdamwBiasKernelIdeal.nD Cert.AdamwBiasKernelIdeal.τ Cert.AdamwBiasKernelIdeal.sig) → Buf (Elt Ideal) ℓ) (g : Dev Cert.AdamwBiasKernelIdeal.nD → PrngReg)
    (m' : (ℓ : Loc Cert.AdamwBiasReferenceIdeal.nD Cert.AdamwBiasReferenceIdeal.τ Cert.AdamwBiasReferenceIdeal.sig) → Buf (Elt Ideal) ℓ) (g' : Dev Cert.AdamwBiasReferenceIdeal.nD → PrngReg), Pre_AdamwBiasKernelIdeal m →
    (∀ c : Dev Cert.AdamwBiasKernelIdeal.nD,
      m' ((c.tc : Thread Cert.AdamwBiasReferenceIdeal.nD Cert.AdamwBiasReferenceIdeal.τ).loc Cert.AdamwBiasReferenceIdeal.main_arg0) = m ((c.tc : Thread Cert.AdamwBiasKernelIdeal.nD Cert.AdamwBiasKernelIdeal.τ).loc Cert.AdamwBiasKernelIdeal.main_arg0)
      ∧ m' ((c.tc : Thread Cert.AdamwBiasReferenceIdeal.nD Cert.AdamwBiasReferenceIdeal.τ).loc Cert.AdamwBiasReferenceIdeal.main_arg1) = m ((c.tc : Thread Cert.AdamwBiasKernelIdeal.nD Cert.AdamwBiasKernelIdeal.τ).loc Cert.AdamwBiasKernelIdeal.main_arg1)
      ∧ m' ((c.tc : Thread Cert.AdamwBiasReferenceIdeal.nD Cert.AdamwBiasReferenceIdeal.τ).loc Cert.AdamwBiasReferenceIdeal.main_arg2) = m ((c.tc : Thread Cert.AdamwBiasKernelIdeal.nD Cert.AdamwBiasKernelIdeal.τ).loc Cert.AdamwBiasKernelIdeal.main_arg2)
      ∧ m' ((c.tc : Thread Cert.AdamwBiasReferenceIdeal.nD Cert.AdamwBiasReferenceIdeal.τ).loc Cert.AdamwBiasReferenceIdeal.main_arg3) = m ((c.tc : Thread Cert.AdamwBiasKernelIdeal.nD Cert.AdamwBiasKernelIdeal.τ).loc Cert.AdamwBiasKernelIdeal.main_arg3)) →
    ∃ (v0 : (c : Dev Cert.AdamwBiasKernelIdeal.nD) → Buf (Elt Ideal) ((c.tc : Thread Cert.AdamwBiasKernelIdeal.nD Cert.AdamwBiasKernelIdeal.τ).loc Cert.AdamwBiasKernelIdeal.main_v6)) (v1 : (c : Dev Cert.AdamwBiasKernelIdeal.nD) → Buf (Elt Ideal) ((c.tc : Thread Cert.AdamwBiasKernelIdeal.nD Cert.AdamwBiasKernelIdeal.τ).loc Cert.AdamwBiasKernelIdeal.main_v7)) (v2 : (c : Dev Cert.AdamwBiasKernelIdeal.nD) → Buf (Elt Ideal) ((c.tc : Thread Cert.AdamwBiasKernelIdeal.nD Cert.AdamwBiasKernelIdeal.τ).loc Cert.AdamwBiasKernelIdeal.main_v8)),
      θ_run (Cert.AdamwBiasKernelIdeal.defs (F := Ideal)) (onTc (τ := Cert.AdamwBiasKernelIdeal.τ) (Cert.AdamwBiasKernelIdeal.main (F := Ideal))) ⟨m, fun _ => 0, g⟩ (fun r => ∀ c : Dev Cert.AdamwBiasKernelIdeal.nD,
          r.2.mem ((c.tc : Thread Cert.AdamwBiasKernelIdeal.nD Cert.AdamwBiasKernelIdeal.τ).loc Cert.AdamwBiasKernelIdeal.main_v6) = v0 c
          ∧ r.2.mem ((c.tc : Thread Cert.AdamwBiasKernelIdeal.nD Cert.AdamwBiasKernelIdeal.τ).loc Cert.AdamwBiasKernelIdeal.main_v7) = v1 c
          ∧ r.2.mem ((c.tc : Thread Cert.AdamwBiasKernelIdeal.nD Cert.AdamwBiasKernelIdeal.τ).loc Cert.AdamwBiasKernelIdeal.main_v8) = v2 c
          ∧ r.2.mem ((c.tc : Thread Cert.AdamwBiasKernelIdeal.nD Cert.AdamwBiasKernelIdeal.τ).loc Cert.AdamwBiasKernelIdeal.main_arg0) = m ((c.tc : Thread Cert.AdamwBiasKernelIdeal.nD Cert.AdamwBiasKernelIdeal.τ).loc Cert.AdamwBiasKernelIdeal.main_arg0)
          ∧ r.2.mem ((c.tc : Thread Cert.AdamwBiasKernelIdeal.nD Cert.AdamwBiasKernelIdeal.τ).loc Cert.AdamwBiasKernelIdeal.main_arg1) = m ((c.tc : Thread Cert.AdamwBiasKernelIdeal.nD Cert.AdamwBiasKernelIdeal.τ).loc Cert.AdamwBiasKernelIdeal.main_arg1)
          ∧ r.2.mem ((c.tc : Thread Cert.AdamwBiasKernelIdeal.nD Cert.AdamwBiasKernelIdeal.τ).loc Cert.AdamwBiasKernelIdeal.main_arg2) = m ((c.tc : Thread Cert.AdamwBiasKernelIdeal.nD Cert.AdamwBiasKernelIdeal.τ).loc Cert.AdamwBiasKernelIdeal.main_arg2)
          ∧ r.2.mem ((c.tc : Thread Cert.AdamwBiasKernelIdeal.nD Cert.AdamwBiasKernelIdeal.τ).loc Cert.AdamwBiasKernelIdeal.main_arg3) = m ((c.tc : Thread Cert.AdamwBiasKernelIdeal.nD Cert.AdamwBiasKernelIdeal.τ).loc Cert.AdamwBiasKernelIdeal.main_arg3))
      ∧ θ_run (Cert.AdamwBiasReferenceIdeal.defs (F := Ideal)) (onTc (τ := Cert.AdamwBiasReferenceIdeal.τ) (Cert.AdamwBiasReferenceIdeal.main (F := Ideal))) ⟨m', fun _ => 0, g'⟩ (fun r => ∀ c : Dev Cert.AdamwBiasReferenceIdeal.nD,
          r.2.mem ((c.tc : Thread Cert.AdamwBiasReferenceIdeal.nD Cert.AdamwBiasReferenceIdeal.τ).loc Cert.AdamwBiasReferenceIdeal.main_v23) = v0 c
          ∧ r.2.mem ((c.tc : Thread Cert.AdamwBiasReferenceIdeal.nD Cert.AdamwBiasReferenceIdeal.τ).loc Cert.AdamwBiasReferenceIdeal.main_v4) = v1 c
          ∧ r.2.mem ((c.tc : Thread Cert.AdamwBiasReferenceIdeal.nD Cert.AdamwBiasReferenceIdeal.τ).loc Cert.AdamwBiasReferenceIdeal.main_v10) = v2 c
          ∧ r.2.mem ((c.tc : Thread Cert.AdamwBiasReferenceIdeal.nD Cert.AdamwBiasReferenceIdeal.τ).loc Cert.AdamwBiasReferenceIdeal.main_arg0) = m' ((c.tc : Thread Cert.AdamwBiasReferenceIdeal.nD Cert.AdamwBiasReferenceIdeal.τ).loc Cert.AdamwBiasReferenceIdeal.main_arg0)
          ∧ r.2.mem ((c.tc : Thread Cert.AdamwBiasReferenceIdeal.nD Cert.AdamwBiasReferenceIdeal.τ).loc Cert.AdamwBiasReferenceIdeal.main_arg1) = m' ((c.tc : Thread Cert.AdamwBiasReferenceIdeal.nD Cert.AdamwBiasReferenceIdeal.τ).loc Cert.AdamwBiasReferenceIdeal.main_arg1)
          ∧ r.2.mem ((c.tc : Thread Cert.AdamwBiasReferenceIdeal.nD Cert.AdamwBiasReferenceIdeal.τ).loc Cert.AdamwBiasReferenceIdeal.main_arg2) = m' ((c.tc : Thread Cert.AdamwBiasReferenceIdeal.nD Cert.AdamwBiasReferenceIdeal.τ).loc Cert.AdamwBiasReferenceIdeal.main_arg2)
          ∧ r.2.mem ((c.tc : Thread Cert.AdamwBiasReferenceIdeal.nD Cert.AdamwBiasReferenceIdeal.τ).loc Cert.AdamwBiasReferenceIdeal.main_arg3) = m' ((c.tc : Thread Cert.AdamwBiasReferenceIdeal.nD Cert.AdamwBiasReferenceIdeal.τ).loc Cert.AdamwBiasReferenceIdeal.main_arg3))

def preserves_AdamwConvKernel_AdamwConvKernelIdeal : Prop :=
  True

def algebraic_AdamwConvKernelIdeal_AdamwConvReferenceIdeal [hAdamwConvKernelIdeal : Cert.AdamwConvKernelIdeal.Facts] [hAdamwConvReferenceIdeal : Cert.AdamwConvReferenceIdeal.Facts] : Prop :=
  ∀ (m : (ℓ : Loc Cert.AdamwConvKernelIdeal.nD Cert.AdamwConvKernelIdeal.τ Cert.AdamwConvKernelIdeal.sig) → Buf (Elt Ideal) ℓ) (g : Dev Cert.AdamwConvKernelIdeal.nD → PrngReg)
    (m' : (ℓ : Loc Cert.AdamwConvReferenceIdeal.nD Cert.AdamwConvReferenceIdeal.τ Cert.AdamwConvReferenceIdeal.sig) → Buf (Elt Ideal) ℓ) (g' : Dev Cert.AdamwConvReferenceIdeal.nD → PrngReg), Pre_AdamwConvKernelIdeal m →
    (∀ c : Dev Cert.AdamwConvKernelIdeal.nD,
      m' ((c.tc : Thread Cert.AdamwConvReferenceIdeal.nD Cert.AdamwConvReferenceIdeal.τ).loc Cert.AdamwConvReferenceIdeal.main_arg0) = m ((c.tc : Thread Cert.AdamwConvKernelIdeal.nD Cert.AdamwConvKernelIdeal.τ).loc Cert.AdamwConvKernelIdeal.main_arg0)
      ∧ m' ((c.tc : Thread Cert.AdamwConvReferenceIdeal.nD Cert.AdamwConvReferenceIdeal.τ).loc Cert.AdamwConvReferenceIdeal.main_arg1) = m ((c.tc : Thread Cert.AdamwConvKernelIdeal.nD Cert.AdamwConvKernelIdeal.τ).loc Cert.AdamwConvKernelIdeal.main_arg1)
      ∧ m' ((c.tc : Thread Cert.AdamwConvReferenceIdeal.nD Cert.AdamwConvReferenceIdeal.τ).loc Cert.AdamwConvReferenceIdeal.main_arg2) = m ((c.tc : Thread Cert.AdamwConvKernelIdeal.nD Cert.AdamwConvKernelIdeal.τ).loc Cert.AdamwConvKernelIdeal.main_arg2)
      ∧ m' ((c.tc : Thread Cert.AdamwConvReferenceIdeal.nD Cert.AdamwConvReferenceIdeal.τ).loc Cert.AdamwConvReferenceIdeal.main_arg3) = m ((c.tc : Thread Cert.AdamwConvKernelIdeal.nD Cert.AdamwConvKernelIdeal.τ).loc Cert.AdamwConvKernelIdeal.main_arg3)) →
    ∃ (v0 : (c : Dev Cert.AdamwConvKernelIdeal.nD) → Buf (Elt Ideal) ((c.tc : Thread Cert.AdamwConvKernelIdeal.nD Cert.AdamwConvKernelIdeal.τ).loc Cert.AdamwConvKernelIdeal.main_v6)) (v1 : (c : Dev Cert.AdamwConvKernelIdeal.nD) → Buf (Elt Ideal) ((c.tc : Thread Cert.AdamwConvKernelIdeal.nD Cert.AdamwConvKernelIdeal.τ).loc Cert.AdamwConvKernelIdeal.main_v7)) (v2 : (c : Dev Cert.AdamwConvKernelIdeal.nD) → Buf (Elt Ideal) ((c.tc : Thread Cert.AdamwConvKernelIdeal.nD Cert.AdamwConvKernelIdeal.τ).loc Cert.AdamwConvKernelIdeal.main_v8)),
      θ_run (Cert.AdamwConvKernelIdeal.defs (F := Ideal)) (onTc (τ := Cert.AdamwConvKernelIdeal.τ) (Cert.AdamwConvKernelIdeal.main (F := Ideal))) ⟨m, fun _ => 0, g⟩ (fun r => ∀ c : Dev Cert.AdamwConvKernelIdeal.nD,
          r.2.mem ((c.tc : Thread Cert.AdamwConvKernelIdeal.nD Cert.AdamwConvKernelIdeal.τ).loc Cert.AdamwConvKernelIdeal.main_v6) = v0 c
          ∧ r.2.mem ((c.tc : Thread Cert.AdamwConvKernelIdeal.nD Cert.AdamwConvKernelIdeal.τ).loc Cert.AdamwConvKernelIdeal.main_v7) = v1 c
          ∧ r.2.mem ((c.tc : Thread Cert.AdamwConvKernelIdeal.nD Cert.AdamwConvKernelIdeal.τ).loc Cert.AdamwConvKernelIdeal.main_v8) = v2 c
          ∧ r.2.mem ((c.tc : Thread Cert.AdamwConvKernelIdeal.nD Cert.AdamwConvKernelIdeal.τ).loc Cert.AdamwConvKernelIdeal.main_arg0) = m ((c.tc : Thread Cert.AdamwConvKernelIdeal.nD Cert.AdamwConvKernelIdeal.τ).loc Cert.AdamwConvKernelIdeal.main_arg0)
          ∧ r.2.mem ((c.tc : Thread Cert.AdamwConvKernelIdeal.nD Cert.AdamwConvKernelIdeal.τ).loc Cert.AdamwConvKernelIdeal.main_arg1) = m ((c.tc : Thread Cert.AdamwConvKernelIdeal.nD Cert.AdamwConvKernelIdeal.τ).loc Cert.AdamwConvKernelIdeal.main_arg1)
          ∧ r.2.mem ((c.tc : Thread Cert.AdamwConvKernelIdeal.nD Cert.AdamwConvKernelIdeal.τ).loc Cert.AdamwConvKernelIdeal.main_arg2) = m ((c.tc : Thread Cert.AdamwConvKernelIdeal.nD Cert.AdamwConvKernelIdeal.τ).loc Cert.AdamwConvKernelIdeal.main_arg2)
          ∧ r.2.mem ((c.tc : Thread Cert.AdamwConvKernelIdeal.nD Cert.AdamwConvKernelIdeal.τ).loc Cert.AdamwConvKernelIdeal.main_arg3) = m ((c.tc : Thread Cert.AdamwConvKernelIdeal.nD Cert.AdamwConvKernelIdeal.τ).loc Cert.AdamwConvKernelIdeal.main_arg3))
      ∧ θ_run (Cert.AdamwConvReferenceIdeal.defs (F := Ideal)) (onTc (τ := Cert.AdamwConvReferenceIdeal.τ) (Cert.AdamwConvReferenceIdeal.main (F := Ideal))) ⟨m', fun _ => 0, g'⟩ (fun r => ∀ c : Dev Cert.AdamwConvReferenceIdeal.nD,
          r.2.mem ((c.tc : Thread Cert.AdamwConvReferenceIdeal.nD Cert.AdamwConvReferenceIdeal.τ).loc Cert.AdamwConvReferenceIdeal.main_v23) = v0 c
          ∧ r.2.mem ((c.tc : Thread Cert.AdamwConvReferenceIdeal.nD Cert.AdamwConvReferenceIdeal.τ).loc Cert.AdamwConvReferenceIdeal.main_v4) = v1 c
          ∧ r.2.mem ((c.tc : Thread Cert.AdamwConvReferenceIdeal.nD Cert.AdamwConvReferenceIdeal.τ).loc Cert.AdamwConvReferenceIdeal.main_v10) = v2 c
          ∧ r.2.mem ((c.tc : Thread Cert.AdamwConvReferenceIdeal.nD Cert.AdamwConvReferenceIdeal.τ).loc Cert.AdamwConvReferenceIdeal.main_arg0) = m' ((c.tc : Thread Cert.AdamwConvReferenceIdeal.nD Cert.AdamwConvReferenceIdeal.τ).loc Cert.AdamwConvReferenceIdeal.main_arg0)
          ∧ r.2.mem ((c.tc : Thread Cert.AdamwConvReferenceIdeal.nD Cert.AdamwConvReferenceIdeal.τ).loc Cert.AdamwConvReferenceIdeal.main_arg1) = m' ((c.tc : Thread Cert.AdamwConvReferenceIdeal.nD Cert.AdamwConvReferenceIdeal.τ).loc Cert.AdamwConvReferenceIdeal.main_arg1)
          ∧ r.2.mem ((c.tc : Thread Cert.AdamwConvReferenceIdeal.nD Cert.AdamwConvReferenceIdeal.τ).loc Cert.AdamwConvReferenceIdeal.main_arg2) = m' ((c.tc : Thread Cert.AdamwConvReferenceIdeal.nD Cert.AdamwConvReferenceIdeal.τ).loc Cert.AdamwConvReferenceIdeal.main_arg2)
          ∧ r.2.mem ((c.tc : Thread Cert.AdamwConvReferenceIdeal.nD Cert.AdamwConvReferenceIdeal.τ).loc Cert.AdamwConvReferenceIdeal.main_arg3) = m' ((c.tc : Thread Cert.AdamwConvReferenceIdeal.nD Cert.AdamwConvReferenceIdeal.τ).loc Cert.AdamwConvReferenceIdeal.main_arg3))

def preserves_AdamwTableKernel_AdamwTableKernelIdeal : Prop :=
  True

def algebraic_AdamwTableKernelIdeal_AdamwTableReferenceIdeal [hAdamwTableKernelIdeal : Cert.AdamwTableKernelIdeal.Facts] [hAdamwTableReferenceIdeal : Cert.AdamwTableReferenceIdeal.Facts] : Prop :=
  ∀ (m : (ℓ : Loc Cert.AdamwTableKernelIdeal.nD Cert.AdamwTableKernelIdeal.τ Cert.AdamwTableKernelIdeal.sig) → Buf (Elt Ideal) ℓ) (g : Dev Cert.AdamwTableKernelIdeal.nD → PrngReg)
    (m' : (ℓ : Loc Cert.AdamwTableReferenceIdeal.nD Cert.AdamwTableReferenceIdeal.τ Cert.AdamwTableReferenceIdeal.sig) → Buf (Elt Ideal) ℓ) (g' : Dev Cert.AdamwTableReferenceIdeal.nD → PrngReg), Pre_AdamwTableKernelIdeal m →
    (∀ c : Dev Cert.AdamwTableKernelIdeal.nD,
      m' ((c.tc : Thread Cert.AdamwTableReferenceIdeal.nD Cert.AdamwTableReferenceIdeal.τ).loc Cert.AdamwTableReferenceIdeal.main_arg0) = m ((c.tc : Thread Cert.AdamwTableKernelIdeal.nD Cert.AdamwTableKernelIdeal.τ).loc Cert.AdamwTableKernelIdeal.main_arg0)
      ∧ m' ((c.tc : Thread Cert.AdamwTableReferenceIdeal.nD Cert.AdamwTableReferenceIdeal.τ).loc Cert.AdamwTableReferenceIdeal.main_arg1) = m ((c.tc : Thread Cert.AdamwTableKernelIdeal.nD Cert.AdamwTableKernelIdeal.τ).loc Cert.AdamwTableKernelIdeal.main_arg1)
      ∧ m' ((c.tc : Thread Cert.AdamwTableReferenceIdeal.nD Cert.AdamwTableReferenceIdeal.τ).loc Cert.AdamwTableReferenceIdeal.main_arg2) = m ((c.tc : Thread Cert.AdamwTableKernelIdeal.nD Cert.AdamwTableKernelIdeal.τ).loc Cert.AdamwTableKernelIdeal.main_arg2)
      ∧ m' ((c.tc : Thread Cert.AdamwTableReferenceIdeal.nD Cert.AdamwTableReferenceIdeal.τ).loc Cert.AdamwTableReferenceIdeal.main_arg3) = m ((c.tc : Thread Cert.AdamwTableKernelIdeal.nD Cert.AdamwTableKernelIdeal.τ).loc Cert.AdamwTableKernelIdeal.main_arg3)) →
    ∃ (v0 : (c : Dev Cert.AdamwTableKernelIdeal.nD) → Buf (Elt Ideal) ((c.tc : Thread Cert.AdamwTableKernelIdeal.nD Cert.AdamwTableKernelIdeal.τ).loc Cert.AdamwTableKernelIdeal.main_v6)) (v1 : (c : Dev Cert.AdamwTableKernelIdeal.nD) → Buf (Elt Ideal) ((c.tc : Thread Cert.AdamwTableKernelIdeal.nD Cert.AdamwTableKernelIdeal.τ).loc Cert.AdamwTableKernelIdeal.main_v7)) (v2 : (c : Dev Cert.AdamwTableKernelIdeal.nD) → Buf (Elt Ideal) ((c.tc : Thread Cert.AdamwTableKernelIdeal.nD Cert.AdamwTableKernelIdeal.τ).loc Cert.AdamwTableKernelIdeal.main_v8)),
      θ_run (Cert.AdamwTableKernelIdeal.defs (F := Ideal)) (onTc (τ := Cert.AdamwTableKernelIdeal.τ) (Cert.AdamwTableKernelIdeal.main (F := Ideal))) ⟨m, fun _ => 0, g⟩ (fun r => ∀ c : Dev Cert.AdamwTableKernelIdeal.nD,
          r.2.mem ((c.tc : Thread Cert.AdamwTableKernelIdeal.nD Cert.AdamwTableKernelIdeal.τ).loc Cert.AdamwTableKernelIdeal.main_v6) = v0 c
          ∧ r.2.mem ((c.tc : Thread Cert.AdamwTableKernelIdeal.nD Cert.AdamwTableKernelIdeal.τ).loc Cert.AdamwTableKernelIdeal.main_v7) = v1 c
          ∧ r.2.mem ((c.tc : Thread Cert.AdamwTableKernelIdeal.nD Cert.AdamwTableKernelIdeal.τ).loc Cert.AdamwTableKernelIdeal.main_v8) = v2 c
          ∧ r.2.mem ((c.tc : Thread Cert.AdamwTableKernelIdeal.nD Cert.AdamwTableKernelIdeal.τ).loc Cert.AdamwTableKernelIdeal.main_arg0) = m ((c.tc : Thread Cert.AdamwTableKernelIdeal.nD Cert.AdamwTableKernelIdeal.τ).loc Cert.AdamwTableKernelIdeal.main_arg0)
          ∧ r.2.mem ((c.tc : Thread Cert.AdamwTableKernelIdeal.nD Cert.AdamwTableKernelIdeal.τ).loc Cert.AdamwTableKernelIdeal.main_arg1) = m ((c.tc : Thread Cert.AdamwTableKernelIdeal.nD Cert.AdamwTableKernelIdeal.τ).loc Cert.AdamwTableKernelIdeal.main_arg1)
          ∧ r.2.mem ((c.tc : Thread Cert.AdamwTableKernelIdeal.nD Cert.AdamwTableKernelIdeal.τ).loc Cert.AdamwTableKernelIdeal.main_arg2) = m ((c.tc : Thread Cert.AdamwTableKernelIdeal.nD Cert.AdamwTableKernelIdeal.τ).loc Cert.AdamwTableKernelIdeal.main_arg2)
          ∧ r.2.mem ((c.tc : Thread Cert.AdamwTableKernelIdeal.nD Cert.AdamwTableKernelIdeal.τ).loc Cert.AdamwTableKernelIdeal.main_arg3) = m ((c.tc : Thread Cert.AdamwTableKernelIdeal.nD Cert.AdamwTableKernelIdeal.τ).loc Cert.AdamwTableKernelIdeal.main_arg3))
      ∧ θ_run (Cert.AdamwTableReferenceIdeal.defs (F := Ideal)) (onTc (τ := Cert.AdamwTableReferenceIdeal.τ) (Cert.AdamwTableReferenceIdeal.main (F := Ideal))) ⟨m', fun _ => 0, g'⟩ (fun r => ∀ c : Dev Cert.AdamwTableReferenceIdeal.nD,
          r.2.mem ((c.tc : Thread Cert.AdamwTableReferenceIdeal.nD Cert.AdamwTableReferenceIdeal.τ).loc Cert.AdamwTableReferenceIdeal.main_v23) = v0 c
          ∧ r.2.mem ((c.tc : Thread Cert.AdamwTableReferenceIdeal.nD Cert.AdamwTableReferenceIdeal.τ).loc Cert.AdamwTableReferenceIdeal.main_v4) = v1 c
          ∧ r.2.mem ((c.tc : Thread Cert.AdamwTableReferenceIdeal.nD Cert.AdamwTableReferenceIdeal.τ).loc Cert.AdamwTableReferenceIdeal.main_v10) = v2 c
          ∧ r.2.mem ((c.tc : Thread Cert.AdamwTableReferenceIdeal.nD Cert.AdamwTableReferenceIdeal.τ).loc Cert.AdamwTableReferenceIdeal.main_arg0) = m' ((c.tc : Thread Cert.AdamwTableReferenceIdeal.nD Cert.AdamwTableReferenceIdeal.τ).loc Cert.AdamwTableReferenceIdeal.main_arg0)
          ∧ r.2.mem ((c.tc : Thread Cert.AdamwTableReferenceIdeal.nD Cert.AdamwTableReferenceIdeal.τ).loc Cert.AdamwTableReferenceIdeal.main_arg1) = m' ((c.tc : Thread Cert.AdamwTableReferenceIdeal.nD Cert.AdamwTableReferenceIdeal.τ).loc Cert.AdamwTableReferenceIdeal.main_arg1)
          ∧ r.2.mem ((c.tc : Thread Cert.AdamwTableReferenceIdeal.nD Cert.AdamwTableReferenceIdeal.τ).loc Cert.AdamwTableReferenceIdeal.main_arg2) = m' ((c.tc : Thread Cert.AdamwTableReferenceIdeal.nD Cert.AdamwTableReferenceIdeal.τ).loc Cert.AdamwTableReferenceIdeal.main_arg2)
          ∧ r.2.mem ((c.tc : Thread Cert.AdamwTableReferenceIdeal.nD Cert.AdamwTableReferenceIdeal.τ).loc Cert.AdamwTableReferenceIdeal.main_arg3) = m' ((c.tc : Thread Cert.AdamwTableReferenceIdeal.nD Cert.AdamwTableReferenceIdeal.τ).loc Cert.AdamwTableReferenceIdeal.main_arg3))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)) →
    ∃ (v0 : (c : Dev Cert.WoutKernelIdeal.nD) → Buf (Elt Ideal) ((c.tc : Thread Cert.WoutKernelIdeal.nD Cert.WoutKernelIdeal.τ).loc Cert.WoutKernelIdeal.main_v3)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v3) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v3) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v2)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v2) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v1) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_WguKernel_WguKernelIdeal : Prop :=
  True

def algebraic_WguKernelIdeal_WguReferenceIdeal [hWguKernelIdeal : Cert.WguKernelIdeal.Facts] [hWguReferenceIdeal : Cert.WguReferenceIdeal.Facts] : Prop :=
  ∀ (m : (ℓ : Loc Cert.WguKernelIdeal.nD Cert.WguKernelIdeal.τ Cert.WguKernelIdeal.sig) → Buf (Elt Ideal) ℓ) (g : Dev Cert.WguKernelIdeal.nD → PrngReg)
    (m' : (ℓ : Loc Cert.WguReferenceIdeal.nD Cert.WguReferenceIdeal.τ Cert.WguReferenceIdeal.sig) → Buf (Elt Ideal) ℓ) (g' : Dev Cert.WguReferenceIdeal.nD → PrngReg), Pre_WguKernelIdeal m →
    (∀ c : Dev Cert.WguKernelIdeal.nD,
      m' ((c.tc : Thread Cert.WguReferenceIdeal.nD Cert.WguReferenceIdeal.τ).loc Cert.WguReferenceIdeal.main_arg0) = m ((c.tc : Thread Cert.WguKernelIdeal.nD Cert.WguKernelIdeal.τ).loc Cert.WguKernelIdeal.main_arg0)
      ∧ m' ((c.tc : Thread Cert.WguReferenceIdeal.nD Cert.WguReferenceIdeal.τ).loc Cert.WguReferenceIdeal.main_arg1) = m ((c.tc : Thread Cert.WguKernelIdeal.nD Cert.WguKernelIdeal.τ).loc Cert.WguKernelIdeal.main_arg1)
      ∧ m' ((c.tc : Thread Cert.WguReferenceIdeal.nD Cert.WguReferenceIdeal.τ).loc Cert.WguReferenceIdeal.main_arg2) = m ((c.tc : Thread Cert.WguKernelIdeal.nD Cert.WguKernelIdeal.τ).loc Cert.WguKernelIdeal.main_arg2)) →
    ∃ (v0 : (c : Dev Cert.WguKernelIdeal.nD) → Buf (Elt Ideal) ((c.tc : Thread Cert.WguKernelIdeal.nD Cert.WguKernelIdeal.τ).loc Cert.WguKernelIdeal.main_v13)) (v1 : (c : Dev Cert.WguKernelIdeal.nD) → Buf (Elt Ideal) ((c.tc : Thread Cert.WguKernelIdeal.nD Cert.WguKernelIdeal.τ).loc Cert.WguKernelIdeal.main_v17)),
      θ_run (Cert.WguKernelIdeal.defs (F := Ideal)) (onTc (τ := Cert.WguKernelIdeal.τ) (Cert.WguKernelIdeal.main (F := Ideal))) ⟨m, fun _ => 0, g⟩ (fun r => ∀ c : Dev Cert.WguKernelIdeal.nD,
          r.2.mem ((c.tc : Thread Cert.WguKernelIdeal.nD Cert.WguKernelIdeal.τ).loc Cert.WguKernelIdeal.main_v13) = v0 c
          ∧ r.2.mem ((c.tc : Thread Cert.WguKernelIdeal.nD Cert.WguKernelIdeal.τ).loc Cert.WguKernelIdeal.main_v17) = v1 c
          ∧ r.2.mem ((c.tc : Thread Cert.WguKernelIdeal.nD Cert.WguKernelIdeal.τ).loc Cert.WguKernelIdeal.main_arg0) = m ((c.tc : Thread Cert.WguKernelIdeal.nD Cert.WguKernelIdeal.τ).loc Cert.WguKernelIdeal.main_arg0)
          ∧ r.2.mem ((c.tc : Thread Cert.WguKernelIdeal.nD Cert.WguKernelIdeal.τ).loc Cert.WguKernelIdeal.main_arg1) = m ((c.tc : Thread Cert.WguKernelIdeal.nD Cert.WguKernelIdeal.τ).loc Cert.WguKernelIdeal.main_arg1)
          ∧ r.2.mem ((c.tc : Thread Cert.WguKernelIdeal.nD Cert.WguKernelIdeal.τ).loc Cert.WguKernelIdeal.main_arg2) = m ((c.tc : Thread Cert.WguKernelIdeal.nD Cert.WguKernelIdeal.τ).loc Cert.WguKernelIdeal.main_arg2))
      ∧ θ_run (Cert.WguReferenceIdeal.defs (F := Ideal)) (onTc (τ := Cert.WguReferenceIdeal.τ) (Cert.WguReferenceIdeal.main (F := Ideal))) ⟨m', fun _ => 0, g'⟩ (fun r => ∀ c : Dev Cert.WguReferenceIdeal.nD,
          r.2.mem ((c.tc : Thread Cert.WguReferenceIdeal.nD Cert.WguReferenceIdeal.τ).loc Cert.WguReferenceIdeal.main_v6) = v0 c
          ∧ r.2.mem ((c.tc : Thread Cert.WguReferenceIdeal.nD Cert.WguReferenceIdeal.τ).loc Cert.WguReferenceIdeal.main_v4) = v1 c
          ∧ r.2.mem ((c.tc : Thread Cert.WguReferenceIdeal.nD Cert.WguReferenceIdeal.τ).loc Cert.WguReferenceIdeal.main_arg0) = m' ((c.tc : Thread Cert.WguReferenceIdeal.nD Cert.WguReferenceIdeal.τ).loc Cert.WguReferenceIdeal.main_arg0)
          ∧ r.2.mem ((c.tc : Thread Cert.WguReferenceIdeal.nD Cert.WguReferenceIdeal.τ).loc Cert.WguReferenceIdeal.main_arg1) = m' ((c.tc : Thread Cert.WguReferenceIdeal.nD Cert.WguReferenceIdeal.τ).loc Cert.WguReferenceIdeal.main_arg1)
          ∧ r.2.mem ((c.tc : Thread Cert.WguReferenceIdeal.nD Cert.WguReferenceIdeal.τ).loc Cert.WguReferenceIdeal.main_arg2) = m' ((c.tc : Thread Cert.WguReferenceIdeal.nD Cert.WguReferenceIdeal.τ).loc Cert.WguReferenceIdeal.main_arg2))

def Claim : Prop :=
  ∃ (hLossKernel : Cert.LossKernel.Facts) (hLossKernelIdeal : Cert.LossKernelIdeal.Facts) (hLossReferenceIdeal : Cert.LossReferenceIdeal.Facts) (hOutprojKernel : Cert.OutprojKernel.Facts) (hOutprojKernelIdeal : Cert.OutprojKernelIdeal.Facts) (hOutprojReferenceIdeal : Cert.OutprojReferenceIdeal.Facts) (hFfnKernel : Cert.FfnKernel.Facts) (hFfnKernelIdeal : Cert.FfnKernelIdeal.Facts) (hFfnReferenceIdeal : Cert.FfnReferenceIdeal.Facts) (hFfnFwdKernel : Cert.FfnFwdKernel.Facts) (hFfnFwdKernelIdeal : Cert.FfnFwdKernelIdeal.Facts) (hFfnFwdReferenceIdeal : Cert.FfnFwdReferenceIdeal.Facts) (hInprojKernel : Cert.InprojKernel.Facts) (hInprojKernelIdeal : Cert.InprojKernelIdeal.Facts) (hInprojReferenceIdeal : Cert.InprojReferenceIdeal.Facts) (hInprojBwdKernel : Cert.InprojBwdKernel.Facts) (hInprojBwdKernelIdeal : Cert.InprojBwdKernelIdeal.Facts) (hInprojBwdReferenceIdeal : Cert.InprojBwdReferenceIdeal.Facts) (hWinKernel : Cert.WinKernel.Facts) (hWinKernelIdeal : Cert.WinKernelIdeal.Facts) (hWinReferenceIdeal : Cert.WinReferenceIdeal.Facts) (hWdownKernel : Cert.WdownKernel.Facts) (hWdownKernelIdeal : Cert.WdownKernelIdeal.Facts) (hWdownReferenceIdeal : Cert.WdownReferenceIdeal.Facts) (hAdamwKernel : Cert.AdamwKernel.Facts) (hAdamwKernelIdeal : Cert.AdamwKernelIdeal.Facts) (hAdamwReferenceIdeal : Cert.AdamwReferenceIdeal.Facts) (hAdamwOutKernel : Cert.AdamwOutKernel.Facts) (hAdamwOutKernelIdeal : Cert.AdamwOutKernelIdeal.Facts) (hAdamwOutReferenceIdeal : Cert.AdamwOutReferenceIdeal.Facts) (hAdamwDownKernel : Cert.AdamwDownKernel.Facts) (hAdamwDownKernelIdeal : Cert.AdamwDownKernelIdeal.Facts) (hAdamwDownReferenceIdeal : Cert.AdamwDownReferenceIdeal.Facts) (hAdamwGateKernel : Cert.AdamwGateKernel.Facts) (hAdamwGateKernelIdeal : Cert.AdamwGateKernelIdeal.Facts) (hAdamwGateReferenceIdeal : Cert.AdamwGateReferenceIdeal.Facts) (hAdamwNormKernel : Cert.AdamwNormKernel.Facts) (hAdamwNormKernelIdeal : Cert.AdamwNormKernelIdeal.Facts) (hAdamwNormReferenceIdeal : Cert.AdamwNormReferenceIdeal.Facts) (hAdamwWidthKernel : Cert.AdamwWidthKernel.Facts) (hAdamwWidthKernelIdeal : Cert.AdamwWidthKernelIdeal.Facts) (hAdamwWidthReferenceIdeal : Cert.AdamwWidthReferenceIdeal.Facts) (hAdamwBlocksKernel : Cert.AdamwBlocksKernel.Facts) (hAdamwBlocksKernelIdeal : Cert.AdamwBlocksKernelIdeal.Facts) (hAdamwBlocksReferenceIdeal : Cert.AdamwBlocksReferenceIdeal.Facts) (hAdamwBiasKernel : Cert.AdamwBiasKernel.Facts) (hAdamwBiasKernelIdeal : Cert.AdamwBiasKernelIdeal.Facts) (hAdamwBiasReferenceIdeal : Cert.AdamwBiasReferenceIdeal.Facts) (hAdamwConvKernel : Cert.AdamwConvKernel.Facts) (hAdamwConvKernelIdeal : Cert.AdamwConvKernelIdeal.Facts) (hAdamwConvReferenceIdeal : Cert.AdamwConvReferenceIdeal.Facts) (hAdamwTableKernel : Cert.AdamwTableKernel.Facts) (hAdamwTableKernelIdeal : Cert.AdamwTableKernelIdeal.Facts) (hAdamwTableReferenceIdeal : Cert.AdamwTableReferenceIdeal.Facts) (hWoutKernel : Cert.WoutKernel.Facts) (hWoutKernelIdeal : Cert.WoutKernelIdeal.Facts) (hWoutReferenceIdeal : Cert.WoutReferenceIdeal.Facts) (hSumKernel : Cert.SumKernel.Facts) (hSumKernelIdeal : Cert.SumKernelIdeal.Facts) (hSumReferenceIdeal : Cert.SumReferenceIdeal.Facts) (hWguKernel : Cert.WguKernel.Facts) (hWguKernelIdeal : Cert.WguKernelIdeal.Facts) (hWguReferenceIdeal : Cert.WguReferenceIdeal.Facts) (hPre_outproj_finite : Cert.Pre_outproj_finite.Facts) (hPre_ffn_finite : Cert.Pre_ffn_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_OutprojKernel (hOutprojKernel := hOutprojKernel)
    ∧ quiescent_OutprojKernelIdeal (hOutprojKernelIdeal := hOutprojKernelIdeal)
    ∧ quiescent_OutprojKernelIdeal_pre_outproj_finite (hOutprojKernelIdeal := hOutprojKernelIdeal) (hPre_outproj_finite := hPre_outproj_finite)
    ∧ quiescent_OutprojReferenceIdeal (hOutprojReferenceIdeal := hOutprojReferenceIdeal)
    ∧ quiescent_OutprojReferenceIdeal_pre_outproj_finite (hOutprojReferenceIdeal := hOutprojReferenceIdeal) (hPre_outproj_finite := hPre_outproj_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_InprojBwdKernel (hInprojBwdKernel := hInprojBwdKernel)
    ∧ quiescent_InprojBwdKernelIdeal (hInprojBwdKernelIdeal := hInprojBwdKernelIdeal)
    ∧ quiescent_InprojBwdReferenceIdeal (hInprojBwdReferenceIdeal := hInprojBwdReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_WdownKernel (hWdownKernel := hWdownKernel)
    ∧ quiescent_WdownKernelIdeal (hWdownKernelIdeal := hWdownKernelIdeal)
    ∧ quiescent_WdownReferenceIdeal (hWdownReferenceIdeal := hWdownReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_AdamwOutKernel (hAdamwOutKernel := hAdamwOutKernel)
    ∧ quiescent_AdamwOutKernelIdeal (hAdamwOutKernelIdeal := hAdamwOutKernelIdeal)
    ∧ quiescent_AdamwOutReferenceIdeal (hAdamwOutReferenceIdeal := hAdamwOutReferenceIdeal)
    ∧ quiescent_AdamwDownKernel (hAdamwDownKernel := hAdamwDownKernel)
    ∧ quiescent_AdamwDownKernelIdeal (hAdamwDownKernelIdeal := hAdamwDownKernelIdeal)
    ∧ quiescent_AdamwDownReferenceIdeal (hAdamwDownReferenceIdeal := hAdamwDownReferenceIdeal)
    ∧ quiescent_AdamwGateKernel (hAdamwGateKernel := hAdamwGateKernel)
    ∧ quiescent_AdamwGateKernelIdeal (hAdamwGateKernelIdeal := hAdamwGateKernelIdeal)
    ∧ quiescent_AdamwGateReferenceIdeal (hAdamwGateReferenceIdeal := hAdamwGateReferenceIdeal)
    ∧ quiescent_AdamwNormKernel (hAdamwNormKernel := hAdamwNormKernel)
    ∧ quiescent_AdamwNormKernelIdeal (hAdamwNormKernelIdeal := hAdamwNormKernelIdeal)
    ∧ quiescent_AdamwNormReferenceIdeal (hAdamwNormReferenceIdeal := hAdamwNormReferenceIdeal)
    ∧ quiescent_AdamwWidthKernel (hAdamwWidthKernel := hAdamwWidthKernel)
    ∧ quiescent_AdamwWidthKernelIdeal (hAdamwWidthKernelIdeal := hAdamwWidthKernelIdeal)
    ∧ quiescent_AdamwWidthReferenceIdeal (hAdamwWidthReferenceIdeal := hAdamwWidthReferenceIdeal)
    ∧ quiescent_AdamwBlocksKernel (hAdamwBlocksKernel := hAdamwBlocksKernel)
    ∧ quiescent_AdamwBlocksKernelIdeal (hAdamwBlocksKernelIdeal := hAdamwBlocksKernelIdeal)
    ∧ quiescent_AdamwBlocksReferenceIdeal (hAdamwBlocksReferenceIdeal := hAdamwBlocksReferenceIdeal)
    ∧ quiescent_AdamwBiasKernel (hAdamwBiasKernel := hAdamwBiasKernel)
    ∧ quiescent_AdamwBiasKernelIdeal (hAdamwBiasKernelIdeal := hAdamwBiasKernelIdeal)
    ∧ quiescent_AdamwBiasReferenceIdeal (hAdamwBiasReferenceIdeal := hAdamwBiasReferenceIdeal)
    ∧ quiescent_AdamwConvKernel (hAdamwConvKernel := hAdamwConvKernel)
    ∧ quiescent_AdamwConvKernelIdeal (hAdamwConvKernelIdeal := hAdamwConvKernelIdeal)
    ∧ quiescent_AdamwConvReferenceIdeal (hAdamwConvReferenceIdeal := hAdamwConvReferenceIdeal)
    ∧ quiescent_AdamwTableKernel (hAdamwTableKernel := hAdamwTableKernel)
    ∧ quiescent_AdamwTableKernelIdeal (hAdamwTableKernelIdeal := hAdamwTableKernelIdeal)
    ∧ quiescent_AdamwTableReferenceIdeal (hAdamwTableReferenceIdeal := hAdamwTableReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_WguKernel (hWguKernel := hWguKernel)
    ∧ quiescent_WguKernelIdeal (hWguKernelIdeal := hWguKernelIdeal)
    ∧ quiescent_WguReferenceIdeal (hWguReferenceIdeal := hWguReferenceIdeal)
    ∧ preserves_LossKernel_LossKernelIdeal
    ∧ algebraic_LossKernelIdeal_LossReferenceIdeal (hLossKernelIdeal := hLossKernelIdeal) (hLossReferenceIdeal := hLossReferenceIdeal)
    ∧ preserves_OutprojKernel_OutprojKernelIdeal
    ∧ algebraic_OutprojKernelIdeal_OutprojReferenceIdeal_pre_outproj_finite (hOutprojKernelIdeal := hOutprojKernelIdeal) (hOutprojReferenceIdeal := hOutprojReferenceIdeal) (hPre_outproj_finite := hPre_outproj_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_InprojBwdKernel_InprojBwdKernelIdeal
    ∧ algebraic_InprojBwdKernelIdeal_InprojBwdReferenceIdeal (hInprojBwdKernelIdeal := hInprojBwdKernelIdeal) (hInprojBwdReferenceIdeal := hInprojBwdReferenceIdeal)
    ∧ preserves_WinKernel_WinKernelIdeal
    ∧ algebraic_WinKernelIdeal_WinReferenceIdeal (hWinKernelIdeal := hWinKernelIdeal) (hWinReferenceIdeal := hWinReferenceIdeal)
    ∧ preserves_WdownKernel_WdownKernelIdeal
    ∧ algebraic_WdownKernelIdeal_WdownReferenceIdeal (hWdownKernelIdeal := hWdownKernelIdeal) (hWdownReferenceIdeal := hWdownReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_AdamwOutKernel_AdamwOutKernelIdeal
    ∧ algebraic_AdamwOutKernelIdeal_AdamwOutReferenceIdeal (hAdamwOutKernelIdeal := hAdamwOutKernelIdeal) (hAdamwOutReferenceIdeal := hAdamwOutReferenceIdeal)
    ∧ preserves_AdamwDownKernel_AdamwDownKernelIdeal
    ∧ algebraic_AdamwDownKernelIdeal_AdamwDownReferenceIdeal (hAdamwDownKernelIdeal := hAdamwDownKernelIdeal) (hAdamwDownReferenceIdeal := hAdamwDownReferenceIdeal)
    ∧ preserves_AdamwGateKernel_AdamwGateKernelIdeal
    ∧ algebraic_AdamwGateKernelIdeal_AdamwGateReferenceIdeal (hAdamwGateKernelIdeal := hAdamwGateKernelIdeal) (hAdamwGateReferenceIdeal := hAdamwGateReferenceIdeal)
    ∧ preserves_AdamwNormKernel_AdamwNormKernelIdeal
    ∧ algebraic_AdamwNormKernelIdeal_AdamwNormReferenceIdeal (hAdamwNormKernelIdeal := hAdamwNormKernelIdeal) (hAdamwNormReferenceIdeal := hAdamwNormReferenceIdeal)
    ∧ preserves_AdamwWidthKernel_AdamwWidthKernelIdeal
    ∧ algebraic_AdamwWidthKernelIdeal_AdamwWidthReferenceIdeal (hAdamwWidthKernelIdeal := hAdamwWidthKernelIdeal) (hAdamwWidthReferenceIdeal := hAdamwWidthReferenceIdeal)
    ∧ preserves_AdamwBlocksKernel_AdamwBlocksKernelIdeal
    ∧ algebraic_AdamwBlocksKernelIdeal_AdamwBlocksReferenceIdeal (hAdamwBlocksKernelIdeal := hAdamwBlocksKernelIdeal) (hAdamwBlocksReferenceIdeal := hAdamwBlocksReferenceIdeal)
    ∧ preserves_AdamwBiasKernel_AdamwBiasKernelIdeal
    ∧ algebraic_AdamwBiasKernelIdeal_AdamwBiasReferenceIdeal (hAdamwBiasKernelIdeal := hAdamwBiasKernelIdeal) (hAdamwBiasReferenceIdeal := hAdamwBiasReferenceIdeal)
    ∧ preserves_AdamwConvKernel_AdamwConvKernelIdeal
    ∧ algebraic_AdamwConvKernelIdeal_AdamwConvReferenceIdeal (hAdamwConvKernelIdeal := hAdamwConvKernelIdeal) (hAdamwConvReferenceIdeal := hAdamwConvReferenceIdeal)
    ∧ preserves_AdamwTableKernel_AdamwTableKernelIdeal
    ∧ algebraic_AdamwTableKernelIdeal_AdamwTableReferenceIdeal (hAdamwTableKernelIdeal := hAdamwTableKernelIdeal) (hAdamwTableReferenceIdeal := hAdamwTableReferenceIdeal)
    ∧ preserves_WoutKernel_WoutKernelIdeal
    ∧ algebraic_WoutKernelIdeal_WoutReferenceIdeal (hWoutKernelIdeal := hWoutKernelIdeal) (hWoutReferenceIdeal := hWoutReferenceIdeal)
    ∧ preserves_SumKernel_SumKernelIdeal
    ∧ algebraic_SumKernelIdeal_SumReferenceIdeal (hSumKernelIdeal := hSumKernelIdeal) (hSumReferenceIdeal := hSumReferenceIdeal)
    ∧ preserves_WguKernel_WguKernelIdeal
    ∧ algebraic_WguKernelIdeal_WguReferenceIdeal (hWguKernelIdeal := hWguKernelIdeal) (hWguReferenceIdeal := hWguReferenceIdeal)
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S1024 .f32) (main_arg5 : FVec F S4096x1024 .f32) : IVec S4096x1024 1 × IVec S1024x2816 1 × IVec S1024x2816 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_outproj_finite.lean ====
abbrev S4096x384 : Shape := ⟨2, ![4096, 384]⟩
abbrev S4096x256 : Shape := ⟨2, ![4096, 256]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x384 : S_.BroadcastsInDim S4096x384 (![] : Fin 0 → Fin S4096x384.rank)
  bcast_S_S4096x256 : S_.BroadcastsInDim S4096x256 (![] : Fin 0 → Fin S4096x256.rank)
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg7 : FVec F S4096x1024 .f32) (main_v2 : IVec S4096x384 1) (main_v5 : IVec S4096x384 1) (main_v8 : IVec S4096x256 1) (main_v11 : IVec S4096x1024 1) (main_v14 : IVec S1024x1024 1) (main_v17 : IVec S1024 1) : IVec S4096x384 1 × IVec S4096x384 1 × IVec S4096x256 1 × IVec S4096x1024 1 × IVec S1024x1024 1 × IVec S1024 1 × IVec S4096x1024 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x384 .f32) (main_arg1 : FVec F S4096x384 .f32) (main_arg2 : FVec F S4096x256 .f32) (main_arg3 : FVec F S4096x1024 .f32) (main_arg4 : FVec F S1024x1024 .f32) (main_arg5 : FVec F S1024 .f32) (main_arg6 : FVec F S1024 .f32) (main_arg7 : FVec F S4096x1024 .f32) : IVec S4096x384 1 × IVec S4096x384 1 × IVec S4096x256 1 × IVec S4096x1024 1 × IVec S1024x1024 1 × IVec S1024 1 × IVec S4096x1024 1 :=
  let main_v0 : FVec F S4096x384 .f32 := Host.absf main_arg0
  let main_cst : FVec F S_ .f32 := constant S_ .f32 0x7F800000#32
  let main_v1 : FVec F S4096x384 .f32 := broadcastInDim S4096x384 ![] bcast_S_S4096x384 main_cst
  let main_v2 : IVec S4096x384 1 := cmpf .olt main_v0 main_v1
  let main_v3 : FVec F S4096x384 .f32 := Host.absf main_arg1
  let main_cst_0 : FVec F S_ .f32 := constant S_ .f32 0x7F800000#32
  let main_v4 : FVec F S4096x384 .f32 := broadcastInDim S4096x384 ![] bcast_S_S4096x384 main_cst_0
  let main_v5 : IVec S4096x384 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg7 main_v2 main_v5 main_v8 main_v11 main_v14 main_v17
-- ==== LossKernel.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== OutprojKernel.lean ====
abbrev S4096x384 : Shape := ⟨2, ![4096, 384]⟩
abbrev S4096x256 : Shape := ⟨2, ![4096, 256]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8x128 : Shape := ⟨2, ![8, 128]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩

abbrev nBuf : Space → Nat
  | .hbm => 28
  | .vmem => 30
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1024x1024, .bf16⟩
  | .hbm, ⟨9, _⟩ => ⟨S4096x384, .bf16⟩
  | .hbm, ⟨10, _⟩ => ⟨S4096x384, .bf16⟩
  | .hbm, ⟨11, _⟩ => ⟨S4096x256, .bf16⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x128, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S1x1024, .f32⟩
  | .hbm, ⟨20, _⟩ => ⟨S4096x1024, .bf16⟩
  | .hbm, ⟨21, _⟩ => ⟨S4096x1024, .f32⟩
  | .hbm, ⟨22, _⟩ => ⟨S4096x1024, .f32⟩
  | .hbm, ⟨23, _⟩ => ⟨S8x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1024x1024, .bf16⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S8x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== OutprojReferenceIdeal.lean ====
abbrev S4096x384 : Shape := ⟨2, ![4096, 384]⟩
abbrev S4096x256 : Shape := ⟨2, ![4096, 256]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S4096x1024, .bf16⟩
  | .hbm, ⟨93, _⟩ => ⟨S4096x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== FfnKernel.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S1024x8x352 : Shape := ⟨3, ![1024, 8, 352]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S4096x8x352 : Shape := ⟨3, ![4096, 8, 352]⟩
abbrev S4096x8x384 : Shape := ⟨3, ![4096, 8, 384]⟩
abbrev S4096x3072 : Shape := ⟨2, ![4096, 3072]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S256x1024 : Shape := ⟨2, ![256, 1024]⟩

abbrev nBuf : Space → Nat
  | .hbm => 78
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S1024x8x352, .f32⟩
  | .hbm, ⟨24, _⟩ => ⟨S_, .i32⟩
  | .hbm, ⟨25, _⟩ => ⟨S_, .f32⟩
  | .hbm, ⟨26, _⟩ => ⟨S1024x8x384, .f32⟩
  | .hbm, ⟨27, _⟩ => ⟨S1024x3072, .f32⟩
  | .hbm, ⟨28, _⟩ => ⟨S1024x3072, .bf16⟩
  | .hbm, ⟨29, _⟩ => ⟨S1024x8x352, .f32⟩
  | .hbm, ⟨30, _⟩ => ⟨S_, .i32⟩
  | .hbm, ⟨31, _⟩ => ⟨S_, .f32⟩
  | .hbm, ⟨32, _⟩ => ⟨S1024x8x384, .f32⟩
  | .hbm, ⟨33, _⟩ => ⟨S1024x3072, .f32⟩
  | .hbm, ⟨34, _⟩ => ⟨S1024x3072, .bf16⟩
  | .hbm, ⟨35, _⟩ => ⟨S8x352x1024, .f32⟩
  | .hbm, ⟨36, _⟩ => ⟨S_, .i32⟩
  | .hbm, ⟨37, _⟩ => ⟨S_, .f32⟩
  | .hbm, ⟨38, _⟩ => ⟨S8x384x1024, .f32⟩
  | .hbm, ⟨39, _⟩ => ⟨S3072x1024, .f32⟩
  | .hbm, ⟨40, _⟩ => ⟨S3072x1024, .bf16⟩
  | .hbm, ⟨41, _⟩ => ⟨S4096x8x352, .f32⟩
  | .hbm, ⟨42, _⟩ => ⟨S_, .i32⟩
  | .hbm, ⟨43, _⟩ => ⟨S_, .f32⟩
  | .hbm, ⟨44, _⟩ => ⟨S4096x8x384, .f32⟩
  | .hbm, ⟨45, _⟩ => ⟨S4096x3072, .f32⟩
  | .hbm, ⟨46, _⟩ => ⟨S4096x3072, .bf16⟩
  | .hbm, ⟨47, _⟩ => ⟨S4096x8x352, .f32⟩
  | .hbm, ⟨48, _⟩ => ⟨S_, .i32⟩
  | .hbm, ⟨49, _⟩ => ⟨S_, .f32⟩
  | .hbm, ⟨50, _⟩ => ⟨S4096x8x384, .f32⟩
  | .hbm, ⟨51, _⟩ => ⟨S4096x3072, .f32⟩
  | .hbm, ⟨52, _⟩ => ⟨S4096x3072, .bf16⟩
  | .hbm, ⟨53, _⟩ => ⟨S1x1024, .f32⟩
  | .hbm, ⟨54, _⟩ => ⟨S_, .f32⟩
  | .hbm, ⟨55, _⟩ => ⟨S8x128, .f32⟩
  | .hbm, ⟨56, _⟩ => ⟨S4096x1024, .f32⟩
  | .hbm, ⟨57, _⟩ => ⟨S4096x3072, .bf16⟩
  | .hbm, ⟨58, _⟩ => ⟨S4096x3072, .bf16⟩
  | .hbm, ⟨59, _⟩ => ⟨S4096x3072, .bf16⟩
  | .hbm, ⟨60, _⟩ => ⟨S4096x1024, .bf16⟩
  | .hbm, ⟨61, _⟩ => ⟨S8x1024, .f32⟩
  | .hbm, ⟨62, _⟩ => ⟨S4096x8x384, .bf16⟩
  | .hbm, ⟨63, _⟩ => ⟨S4096x8x352, .bf16⟩
  | .hbm, ⟨64, _⟩ => ⟨S4096x2816, .bf16⟩
  | .hbm, ⟨65, _⟩ => ⟨S4096x2816, .f32⟩
  | .hbm, ⟨66, _⟩ => ⟨S4096x8x384, .bf16⟩
  | .hbm, ⟨67, _⟩ => ⟨S4096x8x352, .bf16⟩
  | .hbm, ⟨68, _⟩ => ⟨S4096x2816, .bf16⟩
  | .hbm, ⟨69, _⟩ => ⟨S4096x2816, .f32⟩
  | .hbm, ⟨70, _⟩ => ⟨S4096x8x384, .bf16⟩
  | .hbm, ⟨71, _⟩ => ⟨S4096x8x352, .bf16⟩
  | .hbm, ⟨72, _⟩ => ⟨S4096x2816, .bf16⟩
  | .hbm, ⟨73, _⟩ => ⟨S4096x2816, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S8x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_call2_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call3_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_call4_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_call5_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev main_v30_3 : Ref sig .tc := ⟨.hbm, 59, rfl⟩
abbrev main_v30_4 : Ref sig .tc := ⟨.hbm, 60, rfl⟩
abbrev main_v30_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v90 : BitVec 1 := Scalar.cmpi .eq arg1 c2_i32
  let v91 : BitVec 32 := Scalar.extui v90
  let c0_i32_55 : BitVec 32 := 0#32
  let v92 : BitVec 1 := Scalar.cmpi .ne v91 c0_i32_55
  v92

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnReferenceIdeal.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x2816, .f32⟩
  | .hbm, ⟨110, _⟩ => ⟨S_, .f32⟩
  | .hbm, ⟨111, _⟩ => ⟨S4096x1024, .f32⟩
  | .hbm, ⟨112, _⟩ => ⟨S4096x1024, .f32⟩
  | .hbm, ⟨113, _⟩ => ⟨S4096x2816, .f32⟩
  | .hbm, ⟨114, _⟩ => ⟨S4096x2816, .f32⟩
  | .hbm, ⟨115, _⟩ => ⟨S4096x1024, .f32⟩
  | .hbm, ⟨116, _⟩ => ⟨S4096x1024, .f32⟩
  | .hbm, ⟨117, _⟩ => ⟨S4096x2816, .f32⟩
  | .hbm, ⟨118, _⟩ => ⟨S4096x2816, .f32⟩
  | .hbm, ⟨119, _⟩ => ⟨S4096x2816, .f32⟩
  | .hbm, ⟨120, _⟩ => ⟨S4096x2816, .f32⟩
  | .hbm, ⟨121, _⟩ => ⟨S4096x1024, .f32⟩
  | .hbm, ⟨122, _⟩ => ⟨S4096x1024, .f32⟩
  | .hbm, ⟨123, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_16 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_cst_18 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩

abbrev nD : Nat := 1
abbrev τ : Topo := Topo.v7x

variable {F : FTy → Type} [FloatOps F]
-- ==== FfnFwdKernel.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S512x1024 : Shape := ⟨2, ![512, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S4096x8x384 : Shape := ⟨3, ![4096, 8, 384]⟩
abbrev S4096x8x352 : Shape := ⟨3, ![4096, 8, 352]⟩
abbrev S4096x2816 : Shape := ⟨2, ![4096, 2816]⟩

abbrev nBuf : Space → Nat
  | .hbm => 71
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x8x352, .f32⟩
  | .hbm, ⟨9, _⟩ => ⟨S_, .i32⟩
  | .hbm, ⟨10, _⟩ => ⟨S_, .f32⟩
  | .hbm, ⟨11, _⟩ => ⟨S1024x8x384, .f32⟩
  | .hbm, ⟨12, _⟩ => ⟨S1024x3072, .f32⟩
  | .hbm, ⟨13, _⟩ => ⟨S1024x3072, .bf16⟩
  | .hbm, ⟨14, _⟩ => ⟨S1024x8x352, .f32⟩
  | .hbm, ⟨15, _⟩ => ⟨S_, .i32⟩
  | .hbm, ⟨16, _⟩ => ⟨S_, .f32⟩
  | .hbm, ⟨17, _⟩ => ⟨S1024x8x384, .f32⟩
  | .hbm, ⟨18, _⟩ => ⟨S1024x3072, .f32⟩
  | .hbm, ⟨19, _⟩ => ⟨S1024x3072, .bf16⟩
  | .hbm, ⟨20, _⟩ => ⟨S8x352x1024, .f32⟩
  | .hbm, ⟨21, _⟩ => ⟨S_, .i32⟩
  | .hbm, ⟨22, _⟩ => ⟨S_, .f32⟩
  | .hbm, ⟨23, _⟩ => ⟨S8x384x1024, .f32⟩
  | .hbm, ⟨24, _⟩ => ⟨S3072x1024, .f32⟩
  | .hbm, ⟨25, _⟩ => ⟨S3072x1024, .bf16⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x3072, .bf16⟩
  | .hbm, ⟨62, _⟩ => ⟨S4096x3072, .bf16⟩
  | .hbm, ⟨63, _⟩ => ⟨S4096x8x384, .bf16⟩
  | .hbm, ⟨64, _⟩ => ⟨S4096x8x352, .bf16⟩
  | .hbm, ⟨65, _⟩ => ⟨S4096x2816, .bf16⟩
  | .hbm, ⟨66, _⟩ => ⟨S4096x2816, .f32⟩
  | .hbm, ⟨67, _⟩ => ⟨S4096x8x384, .bf16⟩
  | .hbm, ⟨68, _⟩ => ⟨S4096x8x352, .bf16⟩
  | .hbm, ⟨69, _⟩ => ⟨S4096x2816, .bf16⟩
  | .hbm, ⟨70, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v51 : BitVec 1 := Scalar.cmpi .eq arg1 c2_i32
  let v52 : BitVec 32 := Scalar.extui v51
  let c0_i32_36 : BitVec 32 := 0#32
  let v53 : BitVec 1 := Scalar.cmpi .ne v52 c0_i32_36
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnFwdReferenceIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== InprojKernel.lean ====
abbrev S4096x1024 : Shape := ⟨2, ![4096, 1024]⟩
abbrev S1024x3072 : Shape := ⟨2, ![1024, 3072]⟩
abbrev S_ : Shape := ⟨0, ![]⟩
abbrev S8x128 : Shape := ⟨2, ![8, 128]⟩
abbrev S4096x3072 : Shape := ⟨2, ![4096, 3072]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S_, .f32⟩
  | .hbm, ⟨5, _⟩ => ⟨S8x128, .f32⟩
  | .hbm, ⟨6, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InprojBwdKernel.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x3072 : Shape := ⟨2, ![512, 3072]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1024x3072, .f32⟩
  | .hbm, ⟨3, _⟩ => ⟨S4096x3072, .bf16⟩
  | .hbm, ⟨4, _⟩ => ⟨S1024x3072, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1024x3072, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojBwdReferenceIdeal.lean ====
abbrev S4096x1024 : Shape := ⟨2, ![4096, 1024]⟩
abbrev S4096x3072 : Shape := ⟨2, ![4096, 3072]⟩
abbrev S1024x3072 : Shape := ⟨2, ![1024, 3072]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1024x3072, .f32⟩
  | .hbm, ⟨3, _⟩ => ⟨S_, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== WinKernel.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .bf16⟩
  | .hbm, ⟨5, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WinReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WdownKernel.lean ====
abbrev S4096x2816 : Shape := ⟨2, ![4096, 2816]⟩
abbrev S4096x1024 : Shape := ⟨2, ![4096, 1024]⟩
abbrev S4096x8x352 : Shape := ⟨3, ![4096, 8, 352]⟩
abbrev S_ : Shape := ⟨0, ![]⟩
abbrev S4096x8x384 : Shape := ⟨3, ![4096, 8, 384]⟩
abbrev S4096x3072 : Shape := ⟨2, ![4096, 3072]⟩
abbrev S3072x1024 : Shape := ⟨2, ![3072, 1024]⟩
abbrev S1024x1024 : Shape := ⟨2, ![1024, 1024]⟩
abbrev S8x384x1024 : Shape := ⟨3, ![8, 384, 1024]⟩
abbrev S8x352x1024 : Shape := ⟨3, ![8, 352, 1024]⟩
abbrev S2816x1024 : Shape := ⟨2, ![2816, 1024]⟩

abbrev nBuf : Space → Nat
  | .hbm => 14
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x8x352, .f32⟩
  | .hbm, ⟨3, _⟩ => ⟨S_, .i32⟩
  | .hbm, ⟨4, _⟩ => ⟨S_, .f32⟩
  | .hbm, ⟨5, _⟩ => ⟨S4096x8x384, .f32⟩
  | .hbm, ⟨6, _⟩ => ⟨S4096x3072, .f32⟩
  | .hbm, ⟨7, _⟩ => ⟨S4096x3072, .bf16⟩
  | .hbm, ⟨8, _⟩ => ⟨S4096x1024, .bf16⟩
  | .hbm, ⟨9, _⟩ => ⟨S3072x1024, .bf16⟩
  | .hbm, ⟨10, _⟩ => ⟨S8x384x1024, .bf16⟩
  | .hbm, ⟨11, _⟩ => ⟨S8x352x1024, .bf16⟩
  | .hbm, ⟨12, _⟩ => ⟨S2816x1024, .bf16⟩
  | .hbm, ⟨13, _⟩ => ⟨S2816x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamwKernel.lean ====
abbrev S4x1024x384 : Shape := ⟨3, ![4, 1024, 384]⟩
abbrev S4096x384 : Shape := ⟨2, ![4096, 384]⟩
abbrev S512x384 : Shape := ⟨2, ![512, 384]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4x1024x384, .f32⟩
  | .hbm, ⟨12, _⟩ => ⟨S4x1024x384, .f32⟩
  | .hbm, ⟨13, _⟩ => ⟨S4x1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceIdeal.lean ====
abbrev S4x1024x384 : Shape := ⟨3, ![4, 1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S_, .f32⟩
  | .hbm, ⟨5, _⟩ => ⟨S4x1024x384, .f32⟩
  | .hbm, ⟨6, _⟩ => ⟨S4x1024x384, .f32⟩
  | .hbm, ⟨7, _⟩ => ⟨S_, .f32⟩
  | .hbm, ⟨8, _⟩ => ⟨S4x1024x384, .f32⟩
  | .hbm, ⟨9, _⟩ => ⟨S4x1024x384, .f32⟩
  | .hbm, ⟨10, _⟩ => ⟨S4x1024x384, .f32⟩
  | .hbm, ⟨11, _⟩ => ⟨S_, .f32⟩
  | .hbm, ⟨12, _⟩ => ⟨S4x1024x384, .f32⟩
  | .hbm, ⟨13, _⟩ => ⟨S4x1024x384, .f32⟩
  | .hbm, ⟨14, _⟩ => ⟨S4x1024x384, .f32⟩
  | .hbm, ⟨15, _⟩ => ⟨S_, .f32⟩
  | .hbm, ⟨16, _⟩ => ⟨S4x1024x384, .f32⟩
  | .hbm, ⟨17, _⟩ => ⟨S4x1024x384, .f32⟩
  | .hbm, ⟨18, _⟩ => ⟨S4x1024x384, .f32⟩
  | .hbm, ⟨19, _⟩ => ⟨S_, .f32⟩
  | .hbm, ⟨20, _⟩ => ⟨S4x1024x384, .f32⟩
  | .hbm, ⟨21, _⟩ => ⟨S4x1024x384, .f32⟩
  | .hbm, ⟨22, _⟩ => ⟨S_, .f32⟩
  | .hbm, ⟨23, _⟩ => ⟨S4x1024x384, .f32⟩
  | .hbm, ⟨24, _⟩ => ⟨S4x1024x384, .f32⟩
  | .hbm, ⟨25, _⟩ => ⟨S4x1024x384, .f32⟩
  | .hbm, ⟨26, _⟩ => ⟨S_, .f32⟩
  | .hbm, ⟨27, _⟩ => ⟨S4x1024x384, .f32⟩
  | .hbm, ⟨28, _⟩ => ⟨S4x1024x384, .f32⟩
  | .hbm, ⟨29, _⟩ => ⟨S4x1024x384, .f32⟩
  | .hbm, ⟨30, _⟩ => ⟨S_, .f32⟩
  | .hbm, ⟨31, _⟩ => ⟨S4x1024x384, .f32⟩
  | .hbm, ⟨32, _⟩ => ⟨S4x1024x384, .f32⟩
  | .hbm, ⟨33, _⟩ => ⟨S4x1024x384, .f32⟩
  | .hbm, ⟨34, _⟩ => ⟨S_, .f32⟩
  | .hbm, ⟨35, _⟩ => ⟨S4x1024x384, .f32⟩
  | .hbm, ⟨36, _⟩ => ⟨S4x1024x384, .f32⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOutKernel.lean ====
abbrev S4x128x1024 : Shape := ⟨3, ![4, 128, 1024]⟩
abbrev S512x1024 : Shape := ⟨2, ![512, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutReferenceIdeal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDownKernel.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownReferenceIdeal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGateKernel.lean ====
abbrev S4x1024x352 : Shape := ⟨3, ![4, 1024, 352]⟩
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 21
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S4x1024x352, .f32⟩
  | .hbm, ⟨19, _⟩ => ⟨S4x1024x352, .f32⟩
  | .hbm, ⟨20, _⟩ => ⟨S4x1024x352, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGateReferenceIdeal.lean ====
abbrev S4x1024x352 : Shape := ⟨3, ![4, 1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwNormKernel.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWidthKernel.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWidthReferenceIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBlocksKernel.lean ====
abbrev S4x2x6x64x64 : Shape := ⟨5, ![4, 2, 6, 64, 64]⟩
abbrev S3072x64 : Shape := ⟨2, ![3072, 64]⟩

abbrev nBuf : Space → Nat
  | .hbm => 15
  | .vmem => 7
  | .smem => 0
  | _ => 0

abbrev bufTy : (tb : Table) → Fin (tcTables nBuf tb) → BufTy
  | .hbm, ⟨0, _⟩ => ⟨S4x2x6x64x64, .f32⟩
  | .hbm, ⟨1, _⟩ => ⟨S4x2x6x64x64, .f32⟩
  | .hbm, ⟨2, _⟩ => ⟨S4x2x6x64x64, .f32⟩
  | .hbm, ⟨3, _⟩ => ⟨S4x2x6x64x64, .f32⟩
  | .hbm, ⟨4, _⟩ => ⟨S3072x64, .f32⟩
  | .hbm, ⟨5, _⟩ => ⟨S3072x64, .f32⟩
  | .hbm, ⟨6, _⟩ => ⟨S3072x64, .f32⟩
  | .hbm, ⟨7, _⟩ => ⟨S3072x64, .f32⟩
  | .hbm, ⟨8, _⟩ => ⟨S3072x64, .f32⟩
  | .hbm, ⟨9, _⟩ => ⟨S3072x64, .f32⟩
  | .hbm, ⟨10, _⟩ => ⟨S3072x64, .f32⟩
  | .hbm, ⟨11, _⟩ => ⟨S3072x64, .f32⟩
  | .hbm, ⟨12, _⟩ => ⟨S4x2x6x64x64, .f32⟩
  | .hbm, ⟨13, _⟩ => ⟨S4x2x6x64x64, .f32⟩
  | .hbm, ⟨14, _⟩ => ⟨S4x2x6x64x64, .f32⟩
  | .local _ .vmem, ⟨0, _⟩ => ⟨S3072x64, .f32⟩
  | .local _ .vmem, ⟨1, _⟩ => ⟨S3072x64, .f32⟩
  | .local _ .vmem, ⟨2, _⟩ => ⟨S3072x64, .f32⟩
  | .local _ .vmem, ⟨3, _⟩ => ⟨S3072x64, .f32⟩
  | .local _ .vmem, ⟨4, _⟩ => ⟨S3072x64, .f32⟩
  | .local _ .vmem, ⟨5, _⟩ => ⟨S3072x64, .f32⟩
  | .local _ .vmem, ⟨6, _⟩ => ⟨S3072x64, .f32⟩
  | _, _ => ⟨S4x2x6x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3072x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3072x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3072x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3072x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3072x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwBlocksReferenceIdeal.lean ====
abbrev S4x2x6x64x64 : Shape := ⟨5, ![4, 2, 6, 64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2x6x64x64, .f32⟩
  | .hbm, ⟨1, _⟩ => ⟨S4x2x6x64x64, .f32⟩
  | .hbm, ⟨2, _⟩ => ⟨S4x2x6x64x64, .f32⟩
  | .hbm, ⟨3, _⟩ => ⟨S4x2x6x64x64, .f32⟩
  | .hbm, ⟨4, _⟩ => ⟨S_, .f32⟩
  | .hbm, ⟨5, _⟩ => ⟨S4x2x6x64x64, .f32⟩
  | .hbm, ⟨6, _⟩ => ⟨S4x2x6x64x64, .f32⟩
  | .hbm, ⟨7, _⟩ => ⟨S_, .f32⟩
  | .hbm, ⟨8, _⟩ => ⟨S4x2x6x64x64, .f32⟩
  | .hbm, ⟨9, _⟩ => ⟨S4x2x6x64x64, .f32⟩
  | .hbm, ⟨10, _⟩ => ⟨S4x2x6x64x64, .f32⟩
  | .hbm, ⟨11, _⟩ => ⟨S_, .f32⟩
  | .hbm, ⟨12, _⟩ => ⟨S4x2x6x64x64, .f32⟩
  | .hbm, ⟨13, _⟩ => ⟨S4x2x6x64x64, .f32⟩
  | .hbm, ⟨14, _⟩ => ⟨S4x2x6x64x64, .f32⟩
  | .hbm, ⟨15, _⟩ => ⟨S_, .f32⟩
  | .hbm, ⟨16, _⟩ => ⟨S4x2x6x64x64, .f32⟩
  | .hbm, ⟨17, _⟩ => ⟨S4x2x6x64x64, .f32⟩
  | .hbm, ⟨18, _⟩ => ⟨S4x2x6x64x64, .f32⟩
  | .hbm, ⟨19, _⟩ => ⟨S_, .f32⟩
  | .hbm, ⟨20, _⟩ => ⟨S4x2x6x64x64, .f32⟩
  | .hbm, ⟨21, _⟩ => ⟨S4x2x6x64x64, .f32⟩
  | .hbm, ⟨22, _⟩ => ⟨S_, .f32⟩
  | .hbm, ⟨23, _⟩ => ⟨S4x2x6x64x64, .f32⟩
  | .hbm, ⟨24, _⟩ => ⟨S4x2x6x64x64, .f32⟩
  | .hbm, ⟨25, _⟩ => ⟨S4x2x6x64x64, .f32⟩
  | .hbm, ⟨26, _⟩ => ⟨S_, .f32⟩
  | .hbm, ⟨27, _⟩ => ⟨S4x2x6x64x64, .f32⟩
  | .hbm, ⟨28, _⟩ => ⟨S4x2x6x64x64, .f32⟩
  | .hbm, ⟨29, _⟩ => ⟨S4x2x6x64x64, .f32⟩
  | .hbm, ⟨30, _⟩ => ⟨S_, .f32⟩
  | .hbm, ⟨31, _⟩ => ⟨S4x2x6x64x64, .f32⟩
  | .hbm, ⟨32, _⟩ => ⟨S4x2x6x64x64, .f32⟩
  | .hbm, ⟨33, _⟩ => ⟨S4x2x6x64x64, .f32⟩
  | .hbm, ⟨34, _⟩ => ⟨S_, .f32⟩
  | .hbm, ⟨35, _⟩ => ⟨S4x2x6x64x64, .f32⟩
  | .hbm, ⟨36, _⟩ => ⟨S4x2x6x64x64, .f32⟩
  | _, _ => ⟨S4x2x6x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBiasKernel.lean ====
abbrev S4x2x48 : Shape := ⟨3, ![4, 2, 48]⟩
abbrev S8x48 : Shape := ⟨2, ![8, 48]⟩

abbrev nBuf : Space → Nat
  | .hbm => 15
  | .vmem => 7
  | .smem => 0
  | _ => 0

abbrev bufTy : (tb : Table) → Fin (tcTables nBuf tb) → BufTy
  | .hbm, ⟨0, _⟩ => ⟨S4x2x48, .f32⟩
  | .hbm, ⟨1, _⟩ => ⟨S4x2x48, .f32⟩
  | .hbm, ⟨2, _⟩ => ⟨S4x2x48, .f32⟩
  | .hbm, ⟨3, _⟩ => ⟨S4x2x48, .f32⟩
  | .hbm, ⟨4, _⟩ => ⟨S8x48, .f32⟩
  | .hbm, ⟨5, _⟩ => ⟨S8x48, .f32⟩
  | .hbm, ⟨6, _⟩ => ⟨S8x48, .f32⟩
  | .hbm, ⟨7, _⟩ => ⟨S8x48, .f32⟩
  | .hbm, ⟨8, _⟩ => ⟨S8x48, .f32⟩
  | .hbm, ⟨9, _⟩ => ⟨S8x48, .f32⟩
  | .hbm, ⟨10, _⟩ => ⟨S8x48, .f32⟩
  | .hbm, ⟨11, _⟩ => ⟨S8x48, .f32⟩
  | .hbm, ⟨12, _⟩ => ⟨S4x2x48, .f32⟩
  | .hbm, ⟨13, _⟩ => ⟨S4x2x48, .f32⟩
  | .hbm, ⟨14, _⟩ => ⟨S4x2x48, .f32⟩
  | .local _ .vmem, ⟨0, _⟩ => ⟨S8x48, .f32⟩
  | .local _ .vmem, ⟨1, _⟩ => ⟨S8x48, .f32⟩
  | .local _ .vmem, ⟨2, _⟩ => ⟨S8x48, .f32⟩
  | .local _ .vmem, ⟨3, _⟩ => ⟨S8x48, .f32⟩
  | .local _ .vmem, ⟨4, _⟩ => ⟨S8x48, .f32⟩
  | .local _ .vmem, ⟨5, _⟩ => ⟨S8x48, .f32⟩
  | .local _ .vmem, ⟨6, _⟩ => ⟨S8x48, .f32⟩
  | _, _ => ⟨S4x2x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwBiasReferenceIdeal.lean ====
abbrev S4x2x48 : Shape := ⟨3, ![4, 2, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2x48, .f32⟩
  | .hbm, ⟨1, _⟩ => ⟨S4x2x48, .f32⟩
  | .hbm, ⟨2, _⟩ => ⟨S4x2x48, .f32⟩
  | .hbm, ⟨3, _⟩ => ⟨S4x2x48, .f32⟩
  | .hbm, ⟨4, _⟩ => ⟨S_, .f32⟩
  | .hbm, ⟨5, _⟩ => ⟨S4x2x48, .f32⟩
  | .hbm, ⟨6, _⟩ => ⟨S4x2x48, .f32⟩
  | .hbm, ⟨7, _⟩ => ⟨S_, .f32⟩
  | .hbm, ⟨8, _⟩ => ⟨S4x2x48, .f32⟩
  | .hbm, ⟨9, _⟩ => ⟨S4x2x48, .f32⟩
  | .hbm, ⟨10, _⟩ => ⟨S4x2x48, .f32⟩
  | .hbm, ⟨11, _⟩ => ⟨S_, .f32⟩
  | .hbm, ⟨12, _⟩ => ⟨S4x2x48, .f32⟩
  | .hbm, ⟨13, _⟩ => ⟨S4x2x48, .f32⟩
  | .hbm, ⟨14, _⟩ => ⟨S4x2x48, .f32⟩
  | .hbm, ⟨15, _⟩ => ⟨S_, .f32⟩
  | .hbm, ⟨16, _⟩ => ⟨S4x2x48, .f32⟩
  | .hbm, ⟨17, _⟩ => ⟨S4x2x48, .f32⟩
  | .hbm, ⟨18, _⟩ => ⟨S4x2x48, .f32⟩
  | .hbm, ⟨19, _⟩ => ⟨S_, .f32⟩
  | .hbm, ⟨20, _⟩ => ⟨S4x2x48, .f32⟩
  | .hbm, ⟨21, _⟩ => ⟨S4x2x48, .f32⟩
  | .hbm, ⟨22, _⟩ => ⟨S_, .f32⟩
  | .hbm, ⟨23, _⟩ => ⟨S4x2x48, .f32⟩
  | .hbm, ⟨24, _⟩ => ⟨S4x2x48, .f32⟩
  | .hbm, ⟨25, _⟩ => ⟨S4x2x48, .f32⟩
  | .hbm, ⟨26, _⟩ => ⟨S_, .f32⟩
  | .hbm, ⟨27, _⟩ => ⟨S4x2x48, .f32⟩
  | .hbm, ⟨28, _⟩ => ⟨S4x2x48, .f32⟩
  | .hbm, ⟨29, _⟩ => ⟨S4x2x48, .f32⟩
  | .hbm, ⟨30, _⟩ => ⟨S_, .f32⟩
  | .hbm, ⟨31, _⟩ => ⟨S4x2x48, .f32⟩
  | .hbm, ⟨32, _⟩ => ⟨S4x2x48, .f32⟩
  | .hbm, ⟨33, _⟩ => ⟨S4x2x48, .f32⟩
  | .hbm, ⟨34, _⟩ => ⟨S_, .f32⟩
  | .hbm, ⟨35, _⟩ => ⟨S4x2x48, .f32⟩
  | .hbm, ⟨36, _⟩ => ⟨S4x2x48, .f32⟩
  | _, _ => ⟨S4x2x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConvKernel.lean ====
abbrev S4x4x48 : Shape := ⟨3, ![4, 4, 48]⟩
abbrev S16x48 : Shape := ⟨2, ![16, 48]⟩

abbrev nBuf : Space → Nat
  | .hbm => 15
  | .vmem => 7
  | .smem => 0
  | _ => 0

abbrev bufTy : (tb : Table) → Fin (tcTables nBuf tb) → BufTy
  | .hbm, ⟨0, _⟩ => ⟨S4x4x48, .f32⟩
  | .hbm, ⟨1, _⟩ => ⟨S4x4x48, .f32⟩
  | .hbm, ⟨2, _⟩ => ⟨S4x4x48, .f32⟩
  | .hbm, ⟨3, _⟩ => ⟨S4x4x48, .f32⟩
  | .hbm, ⟨4, _⟩ => ⟨S16x48, .f32⟩
  | .hbm, ⟨5, _⟩ => ⟨S16x48, .f32⟩
  | .hbm, ⟨6, _⟩ => ⟨S16x48, .f32⟩
  | .hbm, ⟨7, _⟩ => ⟨S16x48, .f32⟩
  | .hbm, ⟨8, _⟩ => ⟨S16x48, .f32⟩
  | .hbm, ⟨9, _⟩ => ⟨S16x48, .f32⟩
  | .hbm, ⟨10, _⟩ => ⟨S16x48, .f32⟩
  | .hbm, ⟨11, _⟩ => ⟨S16x48, .f32⟩
  | .hbm, ⟨12, _⟩ => ⟨S4x4x48, .f32⟩
  | .hbm, ⟨13, _⟩ => ⟨S4x4x48, .f32⟩
  | .hbm, ⟨14, _⟩ => ⟨S4x4x48, .f32⟩
  | .local _ .vmem, ⟨0, _⟩ => ⟨S16x48, .f32⟩
  | .local _ .vmem, ⟨1, _⟩ => ⟨S16x48, .f32⟩
  | .local _ .vmem, ⟨2, _⟩ => ⟨S16x48, .f32⟩
  | .local _ .vmem, ⟨3, _⟩ => ⟨S16x48, .f32⟩
  | .local _ .vmem, ⟨4, _⟩ => ⟨S16x48, .f32⟩
  | .local _ .vmem, ⟨5, _⟩ => ⟨S16x48, .f32⟩
  | .local _ .vmem, ⟨6, _⟩ => ⟨S16x48, .f32⟩
  | _, _ => ⟨S4x4x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvReferenceIdeal.lean ====
abbrev S4x4x48 : Shape := ⟨3, ![4, 4, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x48, .f32⟩
  | .hbm, ⟨1, _⟩ => ⟨S4x4x48, .f32⟩
  | .hbm, ⟨2, _⟩ => ⟨S4x4x48, .f32⟩
  | .hbm, ⟨3, _⟩ => ⟨S4x4x48, .f32⟩
  | .hbm, ⟨4, _⟩ => ⟨S_, .f32⟩
  | .hbm, ⟨5, _⟩ => ⟨S4x4x48, .f32⟩
  | .hbm, ⟨6, _⟩ => ⟨S4x4x48, .f32⟩
  | .hbm, ⟨7, _⟩ => ⟨S_, .f32⟩
  | .hbm, ⟨8, _⟩ => ⟨S4x4x48, .f32⟩
  | .hbm, ⟨9, _⟩ => ⟨S4x4x48, .f32⟩
  | .hbm, ⟨10, _⟩ => ⟨S4x4x48, .f32⟩
  | .hbm, ⟨11, _⟩ => ⟨S_, .f32⟩
  | .hbm, ⟨12, _⟩ => ⟨S4x4x48, .f32⟩
  | .hbm, ⟨13, _⟩ => ⟨S4x4x48, .f32⟩
  | .hbm, ⟨14, _⟩ => ⟨S4x4x48, .f32⟩
  | .hbm, ⟨15, _⟩ => ⟨S_, .f32⟩
  | .hbm, ⟨16, _⟩ => ⟨S4x4x48, .f32⟩
  | .hbm, ⟨17, _⟩ => ⟨S4x4x48, .f32⟩
  | .hbm, ⟨18, _⟩ => ⟨S4x4x48, .f32⟩
  | .hbm, ⟨19, _⟩ => ⟨S_, .f32⟩
  | .hbm, ⟨20, _⟩ => ⟨S4x4x48, .f32⟩
  | .hbm, ⟨21, _⟩ => ⟨S4x4x48, .f32⟩
  | .hbm, ⟨22, _⟩ => ⟨S_, .f32⟩
  | .hbm, ⟨23, _⟩ => ⟨S4x4x48, .f32⟩
  | .hbm, ⟨24, _⟩ => ⟨S4x4x48, .f32⟩
  | .hbm, ⟨25, _⟩ => ⟨S4x4x48, .f32⟩
  | .hbm, ⟨26, _⟩ => ⟨S_, .f32⟩
  | .hbm, ⟨27, _⟩ => ⟨S4x4x48, .f32⟩
  | .hbm, ⟨28, _⟩ => ⟨S4x4x48, .f32⟩
  | .hbm, ⟨29, _⟩ => ⟨S4x4x48, .f32⟩
  | .hbm, ⟨30, _⟩ => ⟨S_, .f32⟩
  | .hbm, ⟨31, _⟩ => ⟨S4x4x48, .f32⟩
  | .hbm, ⟨32, _⟩ => ⟨S4x4x48, .f32⟩
  | .hbm, ⟨33, _⟩ => ⟨S4x4x48, .f32⟩
  | .hbm, ⟨34, _⟩ => ⟨S_, .f32⟩
  | .hbm, ⟨35, _⟩ => ⟨S4x4x48, .f32⟩
  | .hbm, ⟨36, _⟩ => ⟨S4x4x48, .f32⟩
  | _, _ => ⟨S4x4x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwTableKernel.lean ====
abbrev S4x4x15x31 : Shape := ⟨4, ![4, 4, 15, 31]⟩
abbrev S240x31 : Shape := ⟨2, ![240, 31]⟩

abbrev nBuf : Space → Nat
  | .hbm => 15
  | .vmem => 7
  | .smem => 0
  | _ => 0

abbrev bufTy : (tb : Table) → Fin (tcTables nBuf tb) → BufTy
  | .hbm, ⟨0, _⟩ => ⟨S4x4x15x31, .f32⟩
  | .hbm, ⟨1, _⟩ => ⟨S4x4x15x31, .f32⟩
  | .hbm, ⟨2, _⟩ => ⟨S4x4x15x31, .f32⟩
  | .hbm, ⟨3, _⟩ => ⟨S4x4x15x31, .f32⟩
  | .hbm, ⟨4, _⟩ => ⟨S240x31, .f32⟩
  | .hbm, ⟨5, _⟩ => ⟨S240x31, .f32⟩
  | .hbm, ⟨6, _⟩ => ⟨S240x31, .f32⟩
  | .hbm, ⟨7, _⟩ => ⟨S240x31, .f32⟩
  | .hbm, ⟨8, _⟩ => ⟨S240x31, .f32⟩
  | .hbm, ⟨9, _⟩ => ⟨S240x31, .f32⟩
  | .hbm, ⟨10, _⟩ => ⟨S240x31, .f32⟩
  | .hbm, ⟨11, _⟩ => ⟨S240x31, .f32⟩
  | .hbm, ⟨12, _⟩ => ⟨S4x4x15x31, .f32⟩
  | .hbm, ⟨13, _⟩ => ⟨S4x4x15x31, .f32⟩
  | .hbm, ⟨14, _⟩ => ⟨S4x4x15x31, .f32⟩
  | .local _ .vmem, ⟨0, _⟩ => ⟨S240x31, .f32⟩
  | .local _ .vmem, ⟨1, _⟩ => ⟨S240x31, .f32⟩
  | .local _ .vmem, ⟨2, _⟩ => ⟨S240x31, .f32⟩
  | .local _ .vmem, ⟨3, _⟩ => ⟨S240x31, .f32⟩
  | .local _ .vmem, ⟨4, _⟩ => ⟨S240x31, .f32⟩
  | .local _ .vmem, ⟨5, _⟩ => ⟨S240x31, .f32⟩
  | .local _ .vmem, ⟨6, _⟩ => ⟨S240x31, .f32⟩
  | _, _ => ⟨S4x4x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S240x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S240x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S240x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S240x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S240x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S240x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwTableReferenceIdeal.lean ====
abbrev S4x4x15x31 : Shape := ⟨4, ![4, 4, 15, 31]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x15x31, .f32⟩
  | .hbm, ⟨1, _⟩ => ⟨S4x4x15x31, .f32⟩
  | .hbm, ⟨2, _⟩ => ⟨S4x4x15x31, .f32⟩
  | .hbm, ⟨3, _⟩ => ⟨S4x4x15x31, .f32⟩
  | .hbm, ⟨4, _⟩ => ⟨S_, .f32⟩
  | .hbm, ⟨5, _⟩ => ⟨S4x4x15x31, .f32⟩
  | .hbm, ⟨6, _⟩ => ⟨S4x4x15x31, .f32⟩
  | .hbm, ⟨7, _⟩ => ⟨S_, .f32⟩
  | .hbm, ⟨8, _⟩ => ⟨S4x4x15x31, .f32⟩
  | .hbm, ⟨9, _⟩ => ⟨S4x4x15x31, .f32⟩
  | .hbm, ⟨10, _⟩ => ⟨S4x4x15x31, .f32⟩
  | .hbm, ⟨11, _⟩ => ⟨S_, .f32⟩
  | .hbm, ⟨12, _⟩ => ⟨S4x4x15x31, .f32⟩
  | .hbm, ⟨13, _⟩ => ⟨S4x4x15x31, .f32⟩
  | .hbm, ⟨14, _⟩ => ⟨S4x4x15x31, .f32⟩
  | .hbm, ⟨15, _⟩ => ⟨S_, .f32⟩
  | .hbm, ⟨16, _⟩ => ⟨S4x4x15x31, .f32⟩
  | .hbm, ⟨17, _⟩ => ⟨S4x4x15x31, .f32⟩
  | .hbm, ⟨18, _⟩ => ⟨S4x4x15x31, .f32⟩
  | .hbm, ⟨19, _⟩ => ⟨S_, .f32⟩
  | .hbm, ⟨20, _⟩ => ⟨S4x4x15x31, .f32⟩
  | .hbm, ⟨21, _⟩ => ⟨S4x4x15x31, .f32⟩
  | .hbm, ⟨22, _⟩ => ⟨S_, .f32⟩
  | .hbm, ⟨23, _⟩ => ⟨S4x4x15x31, .f32⟩
  | .hbm, ⟨24, _⟩ => ⟨S4x4x15x31, .f32⟩
  | .hbm, ⟨25, _⟩ => ⟨S4x4x15x31, .f32⟩
  | .hbm, ⟨26, _⟩ => ⟨S_, .f32⟩
  | .hbm, ⟨27, _⟩ => ⟨S4x4x15x31, .f32⟩
  | .hbm, ⟨28, _⟩ => ⟨S4x4x15x31, .f32⟩
  | .hbm, ⟨29, _⟩ => ⟨S4x4x15x31, .f32⟩
  | .hbm, ⟨30, _⟩ => ⟨S_, .f32⟩
  | .hbm, ⟨31, _⟩ => ⟨S4x4x15x31, .f32⟩
  | .hbm, ⟨32, _⟩ => ⟨S4x4x15x31, .f32⟩
  | .hbm, ⟨33, _⟩ => ⟨S4x4x15x31, .f32⟩
  | .hbm, ⟨34, _⟩ => ⟨S_, .f32⟩
  | .hbm, ⟨35, _⟩ => ⟨S4x4x15x31, .f32⟩
  | .hbm, ⟨36, _⟩ => ⟨S4x4x15x31, .f32⟩
  | _, _ => ⟨S4x4x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WoutKernel.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WoutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SumKernel.lean ====
abbrev S8x1024x384 : Shape := ⟨3, ![8, 1024, 384]⟩
abbrev S4x1024x384 : Shape := ⟨3, ![4, 1024, 384]⟩
abbrev S8x512x384 : Shape := ⟨3, ![8, 512, 384]⟩
abbrev S1x512x384 : Shape := ⟨3, ![1, 512, 384]⟩
abbrev S512x384 : Shape := ⟨2, ![512, 384]⟩
abbrev S1x1024x384 : Shape := ⟨3, ![1, 1024, 384]⟩
abbrev S1024x384 : Shape := ⟨2, ![1024, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024x384, .bf16⟩
  | .hbm, ⟨1, _⟩ => ⟨S4x1024x384, .f32⟩
  | .hbm, ⟨2, _⟩ => ⟨S1x1024x384, .f32⟩
  | .hbm, ⟨3, _⟩ => ⟨S1024x384, .f32⟩
  | .local _ .vmem, ⟨0, _⟩ => ⟨S8x512x384, .bf16⟩
  | .local _ .vmem, ⟨1, _⟩ => ⟨S8x512x384, .bf16⟩
  | .local _ .vmem, ⟨2, _⟩ => ⟨S1x512x384, .f32⟩
  | .local _ .vmem, ⟨3, _⟩ => ⟨S1x512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceIdeal.lean ====
abbrev S8x1024x384 : Shape := ⟨3, ![8, 1024, 384]⟩
abbrev S_ : Shape := ⟨0, ![]⟩
abbrev S1024x384 : Shape := ⟨2, ![1024, 384]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .f32⟩
  | .hbm, ⟨2, _⟩ => ⟨S_, .f32⟩
  | .hbm, ⟨3, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WguKernel.lean ====
abbrev S4096x1024 : Shape := ⟨2, ![4096, 1024]⟩
abbrev S4096x2816 : Shape := ⟨2, ![4096, 2816]⟩
abbrev S4096x8x352 : Shape := ⟨3, ![4096, 8, 352]⟩
abbrev S_ : Shape := ⟨0, ![]⟩
abbrev S4096x8x384 : Shape := ⟨3, ![4096, 8, 384]⟩
abbrev S4096x3072 : Shape := ⟨2, ![4096, 3072]⟩
abbrev S1024x3072 : Shape := ⟨2, ![1024, 3072]⟩
abbrev S1024x1024 : Shape := ⟨2, ![1024, 1024]⟩
abbrev S1024x8x384 : Shape := ⟨3, ![1024, 8, 384]⟩
abbrev S1024x8x352 : Shape := ⟨3, ![1024, 8, 352]⟩
abbrev S1024x2816 : Shape := ⟨2, ![1024, 2816]⟩

abbrev nBuf : Space → Nat
  | .hbm => 26
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x1024, .bf16⟩
  | .hbm, ⟨4, _⟩ => ⟨S4096x8x352, .f32⟩
  | .hbm, ⟨5, _⟩ => ⟨S_, .i32⟩
  | .hbm, ⟨6, _⟩ => ⟨S_, .f32⟩
  | .hbm, ⟨7, _⟩ => ⟨S4096x8x384, .f32⟩
  | .hbm, ⟨8, _⟩ => ⟨S4096x3072, .f32⟩
  | .hbm, ⟨9, _⟩ => ⟨S4096x3072, .bf16⟩
  | .hbm, ⟨10, _⟩ => ⟨S4096x8x352, .f32⟩
  | .hbm, ⟨11, _⟩ => ⟨S_, .i32⟩
  | .hbm, ⟨12, _⟩ => ⟨S_, .f32⟩
  | .hbm, ⟨13, _⟩ => ⟨S4096x8x384, .f32⟩
  | .hbm, ⟨14, _⟩ => ⟨S4096x3072, .f32⟩
  | .hbm, ⟨15, _⟩ => ⟨S4096x3072, .bf16⟩
  | .hbm, ⟨16, _⟩ => ⟨S1024x3072, .bf16⟩
  | .hbm, ⟨17, _⟩ => ⟨S1024x3072, .bf16⟩
  | .hbm, ⟨18, _⟩ => ⟨S1024x8x384, .bf16⟩
  | .hbm, ⟨19, _⟩ => ⟨S1024x8x352, .bf16⟩
  | .hbm, ⟨20, _⟩ => ⟨S1024x2816, .bf16⟩
  | .hbm, ⟨21, _⟩ => ⟨S1024x2816, .f32⟩
  | .hbm, ⟨22, _⟩ => ⟨S1024x8x384, .bf16⟩
  | .hbm, ⟨23, _⟩ => ⟨S1024x8x352, .bf16⟩
  | .hbm, ⟨24, _⟩ => ⟨S1024x2816, .bf16⟩
  | .hbm, ⟨25, _⟩ => ⟨S1024x2816, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WguReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.LossValue.lean ====
/- The loss call over the ideal values: the array of gradients is (y - t)/1024 at every place, and the loss block holds
   the sum over the eight row blocks of half the sum of the rows' mean squares, which is the reference's sum over all rows. -/
module

public import proofs.«01_k».proof.Defs
public import proofs.«01_k».proof.Proof.Gen.LossKernelIdeal.Frame
public import proofs.«01_k».proof.Proof.Gen.LossReferenceIdeal.Run
public import proofs.«01_k».proof.Proof.Gen.LossReferenceIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossKernelIdeal.LossValue

open Cert.LossKernelIdeal Cert.LossKernelIdeal.Gen

variable (m : (ℓ : Loc nD τ sig) → Buf (Elt Ideal) ℓ) (ρ : Dev nD → PrngReg)

theorem c_half : Ideal.ofBits .f32 0x3F000000#32 = ((1 / 2 : ℝ) : EReal) := by
  simp [Ideal.ofBits, Ideal.ieee, -EReal.coe_mul]; norm_num
theorem c_inv : Ideal.ofBits .f32 0x3A800000#32 = ((1 / 1024 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- A real number that is not negative goes into a finite sum of extended reals. -/
theorem coe_mul_sum {ι : Type*} (s : Finset ι) (r : ℝ) (hr : 0 ≤ r) (f : ι → EReal) :
    ((r : ℝ) : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

/-- Half the mean square of one row. -/
abbrev rowTerm (r : Fin 1024 → EReal) : EReal := ((1 / 2 : ℝ) : EReal) * ((∑ k : Fin 1024, r k * r k) * ((1 / 1024 : ℝ) : EReal))

theorem hzero (j : S8x128.Idx) : k0_pay1 (F := Ideal) j = 0 := by pointwise [k0_pay1]

theorem hpay (x0 x1 : FVec Ideal S512x1024 .f32) (acc : FVec Ideal S8x128 .f32) (j : S8x128.Idx) :
    k0_pay4 x0 x1 acc j = acc j + ∑ r : Fin 512, rowTerm fun k => x0 (ix2 r k) - x1 (ix2 r k) := by
  pointwise [k0_pay4, k0_pay2]
  rw [c_half, c_1024, coe_mul_sum _ _ (by norm_num)]
  simp only [Ideal.div_coe (show (1024 : ℝ) ≠ 0 by norm_num), rowTerm]

theorem hgrad (x0 x1 : FVec Ideal S512x1024 .f32) (j : S512x1024.Idx) :
    k0_pay3 x0 x1 j = (x0 j - x1 j) * ((1 / 1024 : ℝ) : EReal) := by
  pointwise [k0_pay3, k0_pay2]
  rw [c_inv]

theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- The gradient at an element of the whole array. -/
def GRAD (y t : FVec Ideal S4096x1024 .f32) : FVec Ideal S4096x1024 .f32 := fun i => (y i - t i) * ((1 / 1024 : ℝ) : EReal)

theorem final_grad (c : Dev nD) : (dats m 0 c).arrAt 2 (cfgs 0).N
    = GRAD (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 8 = 0
  · rw [outsAt0_A m c t h]; frame_out; rw [hgrad]; unfold GRAD; blk_point [iblk, V, idx t]
  · rw [outsAt0_B m c t h]; frame_out; rw [hgrad]; unfold GRAD; blk_point [iblk, V, idx t]

/-- The loss: the sum over all rows of half the mean square. -/
def LOSS (y t : FVec Ideal S4096x1024 .f32) : EReal := ∑ r : Fin 4096, rowTerm fun k => y (ix2 r k) - t (ix2 r k)

theorem final_loss (c : Dev nD) : (dats m 0 c).arrAt 3 (cfgs 0).N
    = fun _ => LOSS (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by rw [outsAt0_A m c t h]; frame_out; rw [hpay, hzero])
    (fun t h j => by rw [outsAt0_B m c t h]; frame_out; rw [hpay])
    (le_of_eq N_0) t0_7 rfl j, zero_add]
  unfold LOSS
  refine Fin.sum_mul_add_congr fun s k hl => ?_
  blk_point [iblk, V, idx s]

/-- The scalar the kernel returns after the call: the loss block's first element. -/
theorem tail_loss (c : Dev nD) :
    Pipeline.afterTail₀ cfgs (dats m) 0 (V0 m) [hostOps1] c main_v2
      = fun _ => LOSS (m ((c : Thread nD τ).loc main_arg0)) (m ((c : Thread nD τ).loc main_arg1)) := by
  have e := Pipeline.withArrays_arr spec0 launch0.win.arr_inj c (V0 m c) (fun w => (dats m 0 c).arrAt w cfg0.N) 3
  rw [show (dats m 0 c).arrAt 3 cfg0.N = _ from final_loss m c] at e
  generalize LOSS (m ((c : Thread nD τ).loc main_arg0)) (m ((c : Thread nD τ).loc main_arg1)) = L at e ⊢
  generalize hW : Pipeline.withArrays spec0 c (V0 m c) (fun w => (dats m 0 c).arrAt w cfg0.N) = W at e
  show StableHlo.after hostOps1 (Pipeline.withArrays spec0 c (V0 m c) (fun w => (dats m 0 c).arrAt w cfg0.N)) _ = _
  rw [hW]
  refine Eq.trans (b := shapeCast S_ (extractStridedSlice S1x1 ![0, 0] (W (Proc.tc.devRef main_v0_1)) slices_S8x128_S1x1_0_0) shapeCasts_S1x1_S_) (by after_results; rfl) ?_
  rw [show W (Proc.tc.devRef main_v0_1) = _ from e]
  rfl

/-- The idealized kernel's run: the loss, the gradient, and the arguments as they were. -/
theorem run : θ_run defs (onTc (τ := τ) (main (F := Ideal))) ⟨m, fun _ => 0, ρ⟩ (fun r => ∀ c : Dev nD,
      r.2.mem ((c.tc : Thread nD τ).loc main_v2)
          = (fun _ => LOSS (m ((c.tc : Thread nD τ).loc main_arg0)) (m ((c.tc : Thread nD τ).loc main_arg1)))
      ∧ r.2.mem ((c.tc : Thread nD τ).loc main_v0_0)
          = GRAD (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_⟩) (run_main m ρ)
  · exact ((h c).2 main_v2 (by decide)).trans (tail_loss m c)
  · exact ((h c).1 2).trans (final_grad m c)
  · exact ((h c).1 0).trans ((dats m 0 c).arrAt_in 0 rfl _)
  · exact ((h c).1 1).trans ((dats m 0 c).arrAt_in 1 rfl _)

end Cert.LossKernelIdeal.LossValue

/-! ## The reference -/

namespace Cert.LossReferenceIdeal.LossValue

open Cert.LossReferenceIdeal Cert.LossReferenceIdeal.Gen Cert.LossReferenceIdeal.Read Cert.LossKernelIdeal.LossValue

theorem ref_loss (y t : FVec Ideal S4096x1024 .f32) : val_main_v8 (F := Ideal) y t = fun _ => LOSS y t := by
  funext i
  rw [val_main_v8_apply, val_main_v7_apply, sum_idx1]
  simp only [val_main_v6_apply, val_main_v5_apply, val_main_v4_apply, val_main_v1_apply, val_main_v0_apply, val_main_cst_0_apply,
    val_main_cst_1_apply, val_main_cst_2_apply, val_main_cst_3_apply, Ideal.mulf_def, Ideal.subf_def, Ideal.hostDivf_def, Ideal.ofBits_def]
  rw [c_half, c_1024, Ideal.ofBits_zero_f32, zero_add, coe_mul_sum _ _ (by norm_num)]
  simp only [Ideal.div_coe (show (1024 : ℝ) ≠ 0 by norm_num), zero_add]
  have e (x : Fin 4096) (k : Fin 1024) : idx_main_v4 (ix1 x) k = ix2 x k := by
    funext a; match a with | ⟨0, _⟩ => rfl | ⟨1, _⟩ => rfl
  simp only [e, LOSS, rowTerm]

theorem ref_grad (y t : FVec Ideal S4096x1024 .f32) : val_main_v14 (F := Ideal) y t = GRAD y t := by
  funext i
  simp only [val_main_v14_apply, val_main_v13_apply, val_main_v12_apply, val_main_v11_apply, val_main_v10_apply, val_main_v9_apply,
    val_main_cst_4_apply, val_main_cst_5_apply, val_main_cst_6_apply, val_main_v3_apply, val_main_v2_apply, val_main_cst_apply, val_main_v0_apply]
  simp only [Ideal.mulf_def, Ideal.subf_def, Ideal.hostDivf_def, Ideal.ofBits_def]
  rw [c_half, c_1024, Ideal.ofBits_one_f32, c_two, mul_one, Ideal.div_coe (by norm_num), ← mul_assoc, mul_comm]
  unfold GRAD
  congr 1
  rw [← EReal.coe_mul, ← EReal.coe_mul]
  norm_num

end Cert.LossReferenceIdeal.LossValue

/-! ## The claims -/

namespace Cert.Proof.Loss

theorem frame_reference : Cert.quiescent_LossReferenceIdeal := fun m ρ _ =>
  (θ_run Cert.LossReferenceIdeal.defs _ _).mono (fun r h => ⟨fun c => (h c).2.2,
      Idealize.ShloMosaic.sem_eq_zero_of_no_sems (by decide) r.2⟩)
    (Cert.LossReferenceIdeal.Value.run (F := Ideal) m ρ)

/-- The call's loss and gradient are the reference's. -/
theorem algebraic : Cert.algebraic_LossKernelIdeal_LossReferenceIdeal := by
  intro m ρ m' ρ' _ hagree
  refine ⟨_, _, Cert.LossKernelIdeal.LossValue.run m ρ, ?_⟩
  refine (θ_run Cert.LossReferenceIdeal.defs _ _).mono (fun _ h c => ?_) (Cert.LossReferenceIdeal.Value.run (F := Ideal) m' ρ')
  obtain ⟨h8, h14, h0, h1⟩ := h c
  refine ⟨h8.trans ?_, h14.trans ?_, h0, h1⟩
  · rw [Cert.LossReferenceIdeal.Read.val_main_v8_eq, (hagree c).1, (hagree c).2]
    exact Cert.LossReferenceIdeal.LossValue.ref_loss _ _
  · rw [Cert.LossReferenceIdeal.Read.val_main_v14_eq, (hagree c).1, (hagree c).2]
    exact Cert.LossReferenceIdeal.LossValue.ref_grad _ _

end Cert.Proof.Loss

end
-- ==== Proof.Norm.lean ====
/- A row's layer norm over the extended reals and its derivative: the form with the mean of the product with the normalised
   row, and the form that differentiates the variance and the mean one after the other, agree on rows of real numbers. -/
module

public import Idealize.ShloMosaic.Lib.Claim
public import Idealize.ShloMosaic.Lib.Pointwise

@[expose] public section

noncomputable section

open Idealize.ShloMosaic

namespace Cert.Norm

/-- The word of a thousand and twenty-four is that number. -/
theorem c_1024 : Ideal.ofBits .f32 0x44800000#32 = ((1024 : ℝ) : EReal) := by
  simp [Ideal.ofBits, Ideal.ieee, -EReal.coe_mul]; norm_num
theorem c_mhalf : Ideal.ofBits .f32 0xBF000000#32 = ((-1 / 2 : ℝ) : EReal) := by
  simp [Ideal.ofBits, Ideal.ieee, -EReal.coe_mul]; norm_num
/-- The norm's small number. -/
abbrev e0 : ℝ := 10995116 / 2 ^ 40
theorem c_eps : Ideal.ofBits .f32 0x3727C5AC#32 = ((e0 : ℝ) : EReal) := by
  simp [Ideal.ofBits, Ideal.ieee, -EReal.coe_mul]; norm_num

abbrev inv : EReal := ((1 / 1024 : ℝ) : EReal)

theorem div_1024 (x : EReal) : Ideal.div x ((1024 : ℝ) : EReal) = x * inv := Ideal.div_coe (by norm_num) x

/-- A sum of real numbers is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

def mean (r : Fin 1024 → EReal) : EReal := (∑ k, r k) * inv
def cen (r : Fin 1024 → EReal) (k : Fin 1024) : EReal := r k - mean r
def var (r : Fin 1024 → EReal) : EReal := mean (fun k => cen r k * cen r k) + ((e0 : ℝ) : EReal)
def rstd (r : Fin 1024 → EReal) : EReal := Ideal.rsqrt (var r)
def hat (r : Fin 1024 → EReal) (k : Fin 1024) : EReal := cen r k * rstd r
/-- The norm of a row. -/
def norm (r g b : Fin 1024 → EReal) (k : Fin 1024) : EReal := hat r k * g k + b k
/-- The derivative in the row, by the mean of the product with the normalised row. -/
def back (r d : Fin 1024 → EReal) (k : Fin 1024) : EReal :=
  rstd r * (d k - mean d - hat r k * mean fun q => d q * hat r q)
/-- What the variance receives, twice over each centred entry. -/
def slope (r d : Fin 1024 → EReal) : EReal :=
  (∑ q, cen r q * d q) * (((-1 / 2 : ℝ) : EReal) * Ideal.div (rstd r) (var r)) * inv
/-- What the centred row receives. -/
def mid (r d : Fin 1024 → EReal) (k : Fin 1024) : EReal := d k * rstd r + cen r k * slope r d + slope r d * cen r k
/-- The derivative in the row, through the variance and then through the mean. -/
def back' (r d : Fin 1024 → EReal) (k : Fin 1024) : EReal := mid r d k + (∑ q, -mid r d q) * inv

section Real

variable (R D : Fin 1024 → ℝ)

def rmean : ℝ := (∑ k, R k) * (1 / 1024)
def rcen (k : Fin 1024) : ℝ := R k - rmean R
def rvar : ℝ := rmean (fun k => rcen R k * rcen R k) + e0
def rrstd : ℝ := (Real.sqrt (rvar R))⁻¹

theorem mean_coe : mean (fun k => (R k : EReal)) = (rmean R : EReal) := by
  unfold mean rmean; rw [coe_sum, ← EReal.coe_mul]
theorem cen_coe (k : Fin 1024) : cen (fun k => (R k : EReal)) k = (rcen R k : EReal) := by
  unfold cen rcen; rw [mean_coe, ← EReal.coe_sub]
theorem var_coe : var (fun k => (R k : EReal)) = (rvar R : EReal) := by
  unfold var rvar
  simp only [cen_coe, ← EReal.coe_mul]
  rw [mean_coe (fun k => rcen R k * rcen R k), ← EReal.coe_add]
theorem rvar_pos : 0 < rvar R := by
  unfold rvar rmean
  have h : 0 ≤ ∑ k, rcen R k * rcen R k := Finset.sum_nonneg fun k _ => mul_self_nonneg _
  have h' : 0 ≤ (∑ k, rcen R k * rcen R k) * (1 / 1024) := mul_nonneg h (by norm_num)
  have e : (0 : ℝ) < e0 := by norm_num
  linarith
theorem rstd_coe : rstd (fun k => (R k : EReal)) = (rrstd R : EReal) := by
  unfold rstd rrstd
  rw [var_coe, Ideal.rsqrt_coe, if_neg (not_lt.mpr (rvar_pos R).le), if_neg (rvar_pos R).ne']
theorem rrstd_sq : rrstd R * rrstd R = 1 / rvar R := by
  unfold rrstd
  rw [← mul_inv, Real.mul_self_sqrt (rvar_pos R).le, one_div]
theorem sum_rcen : ∑ k, rcen R k = 0 := by
  unfold rcen rmean
  rw [Finset.sum_sub_distrib, Finset.sum_const, Finset.card_univ, Fintype.card_fin, nsmul_eq_mul]
  push_cast; ring

theorem hat_coe (k : Fin 1024) : hat (fun k => (R k : EReal)) k = ((rcen R k * rrstd R : ℝ) : EReal) := by
  unfold hat; rw [cen_coe, rstd_coe, ← EReal.coe_mul]

def rslope : ℝ := (∑ q, rcen R q * D q) * ((-1 / 2) * (rrstd R * (1 / rvar R))) * (1 / 1024)

theorem slope_coe : slope (fun k => (R k : EReal)) (fun k => (D k : EReal)) = (rslope R D : EReal) := by
  unfold slope rslope
  rw [var_coe, rstd_coe, Ideal.div_coe (rvar_pos R).ne']
  simp only [cen_coe, ← EReal.coe_mul, coe_sum]

def rmid (k : Fin 1024) : ℝ := D k * rrstd R + rcen R k * rslope R D + rslope R D * rcen R k

theorem mid_coe (k : Fin 1024) : mid (fun k => (R k : EReal)) (fun k => (D k : EReal)) k = (rmid R D k : EReal) := by
  unfold mid rmid
  rw [rstd_coe, slope_coe, cen_coe]
  simp only [← EReal.coe_mul, ← EReal.coe_add]

theorem sum_rmid : ∑ q, rmid R D q = (∑ q, D q) * rrstd R := by
  unfold rmid
  rw [Finset.sum_add_distrib, Finset.sum_add_distrib, ← Finset.sum_mul, ← Finset.sum_mul, ← Finset.mul_sum, sum_rcen]
  ring

theorem back_coe (k : Fin 1024) : back (fun k => (R k : EReal)) (fun k => (D k : EReal)) k
    = ((rrstd R * (D k - rmean D - rcen R k * rrstd R * rmean fun q => D q * (rcen R q * rrstd R)) : ℝ) : EReal) := by
  unfold back
  simp only [hat_coe, ← EReal.coe_mul]
  rw [mean_coe, mean_coe (fun q => D q * (rcen R q * rrstd R)), rstd_coe]
  simp only [← EReal.coe_mul, ← EReal.coe_sub]

theorem back'_coe (k : Fin 1024) : back' (fun k => (R k : EReal)) (fun k => (D k : EReal)) k
    = ((rmid R D k + (∑ q, -rmid R D q) * (1 / 1024) : ℝ) : EReal) := by
  unfold back'
  simp only [mid_coe, ← EReal.coe_neg, coe_sum, ← EReal.coe_mul, ← EReal.coe_add]

theorem real_back (k : Fin 1024) : rrstd R * (D k - rmean D - rcen R k * rrstd R * rmean fun q => D q * (rcen R q * rrstd R))
    = rmid R D k + (∑ q, -rmid R D q) * (1 / 1024) := by
  rw [Finset.sum_neg_distrib, sum_rmid]
  have h : (∑ q, D q * (rcen R q * rrstd R)) = (∑ q, rcen R q * D q) * rrstd R := by
    rw [Finset.sum_mul]; exact Finset.sum_congr rfl fun q _ => by ring
  unfold rmid rslope
  rw [← rrstd_sq]
  unfold rmean
  rw [h]
  ring

end Real

/-- A number that is neither infinity. -/
def Real' (x : EReal) : Prop := ∃ a : ℝ, x = (a : EReal)

theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sum {ι : Type*} (s : Finset ι) (f : ι → EReal) (h : ∀ i, Real' (f i)) : Real' (∑ i ∈ s, f i) := by
  choose a ha using h
  exact ⟨∑ i ∈ s, a i, by rw [← coe_sum]; exact Finset.sum_congr rfl fun i _ => ha i⟩
theorem Real'.coe (a : ℝ) : Real' (a : EReal) := ⟨a, rfl⟩
/-- What a finiteness test that answers yes says of its argument. -/
theorem Real'.of_abs {x : EReal} (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  have h' : max x (-x) < ⊤ := by
    by_contra hn
    simp [Ideal.cmp, hn] at h
  induction x with
  | bot => simp at h'
  | top => simp at h'
  | coe a => exact ⟨a, rfl⟩

/-- On rows of real numbers the two derivatives are one. -/
theorem back_eq (r d : Fin 1024 → EReal) (hr : ∀ k, Real' (r k)) (hd : ∀ k, Real' (d k)) (k : Fin 1024) :
    back r d k = back' r d k := by
  choose R hR using hr
  choose D hD using hd
  obtain rfl : r = fun k => (R k : EReal) := funext hR
  obtain rfl : d = fun k => (D k : EReal) := funext hD
  rw [back_coe, back'_coe, real_back]

end Cert.Norm

end
-- ==== Proof.OutprojBlock.lean ====
module

public import proofs.«01_k».proof.Defs
public import proofs.«01_k».proof.Proof.Norm
public import proofs.«01_k».proof.Proof.Gen.OutprojKernelIdeal.Frame
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutprojKernelIdeal.OutprojValue

open Cert.OutprojKernelIdeal Cert.OutprojKernelIdeal.Gen Cert.Norm

variable (V : (c : Dev nD) → (b : Ref sig .tc) → Buf (Elt Ideal) ((c : Thread nD τ).loc b))

abbrev al : EReal := Ideal.ofBits .f32 0x3FD744FD#32

/-- Three rows side by side. -/
def join (a b : Fin 384 → EReal) (c : Fin 256 → EReal) (k : Fin 1024) : EReal :=
  if h : k.val < 384 then a ⟨k.val, h⟩ else if h' : k.val < 768 then b ⟨k.val - 384, by omega⟩ else c ⟨k.val - 768, by omega⟩

theorem join_l (a b : Fin 384 → EReal) (c : Fin 256 → EReal) (k : Fin 1024) (h : k.val < 384) : join a b c k = a ⟨k.val, h⟩ := dif_pos h
theorem join_m (a b : Fin 384 → EReal) (c : Fin 256 → EReal) (k : Fin 1024) (h : ¬ k.val < 384) (h' : k.val < 768) :
    join a b c k = b ⟨k.val - 384, by omega⟩ := (dif_neg h).trans (dif_pos h')
theorem join_r (a b : Fin 384 → EReal) (c : Fin 256 → EReal) (k : Fin 1024) (h' : ¬ k.val < 768) :
    join a b c k = c ⟨k.val - 768, by omega⟩ := (dif_neg (by omega)).trans (dif_neg h')
theorem pay2 (x : FVec Ideal S512x384 .bf16) (j : S512x384.Idx) : k0_pay2 (F := Ideal) x j = x j := by pointwise [k0_pay2]
theorem pay3 (x : FVec Ideal S512x384 .bf16) (j : S512x384.Idx) : k0_pay3 (F := Ideal) x j = x j := by pointwise [k0_pay3]
theorem pay4 (x : FVec Ideal S512x256 .bf16) (j : S512x256.Idx) : k0_pay4 (F := Ideal) x j = x j := by pointwise [k0_pay4]

theorem hyc (x0 x1 : FVec Ideal S512x384 .bf16) (x2 : FVec Ideal S512x256 .bf16) (j : S512x1024.Idx) :
    View.canon (Val := Elt Ideal) (e := .bf16) (s := S512x1024)
      [⟨Rect.unit ![0, 768] ![512, 256] inb_S512x1024_S512x256_0_768, k0_pay4 (F := Ideal) x2⟩,
        ⟨Rect.unit ![0, 384] ![512, 384] inb_S512x1024_S512x384_0_384, k0_pay3 (F := Ideal) x1⟩,
        ⟨Rect.unit ![0, 0] ![512, 384] inb_S512x1024_S512x384_0_0, k0_pay2 (F := Ideal) x0⟩] j
    = join (fun q => x0 (ix2 (j 0) q)) (fun q => x1 (ix2 (j 0) q)) (fun q => x2 (ix2 (j 0) q)) (j 1) := by
  refine View.canon_apply_of_pieces (Val := Elt Ideal) (e := .bf16) (S := S512x1024)
    (fun j => join (fun q => x0 (ix2 (j 0) q)) (fun q => x1 (ix2 (j 0) q)) (fun q => x2 (ix2 (j 0) q)) (j 1)) _ ?_ j
    (View.cover_of_tiledBy _ ![512, 128] (by sl_kernel_rfl) j)
  intro p hp x
  rcases List.mem_cons.mp hp with rfl | hp
  · have h1 : (x 1).val < 256 := (x 1).isLt
    have e : ((Rect.unit (s := S512x1024) ![0, 768] ![512, 256] inb_S512x1024_S512x256_0_768).emb x 1).val = 768 + (x 1).val := by simp
    refine (pay4 x2 x).trans (Eq.trans ?_ (join_r _ _ _ _ ?_).symm)
    · refine congrArg x2 ?_
      idx_ext
    · exact (by rw [e]; omega)
  rcases List.mem_cons.mp hp with rfl | hp
  · have h1 : (x 1).val < 384 := (x 1).isLt
    have e : ((Rect.unit (s := S512x1024) ![0, 384] ![512, 384] inb_S512x1024_S512x384_0_384).emb x 1).val = 384 + (x 1).val := by simp
    refine (pay3 x1 x).trans (Eq.trans ?_ (join_m _ _ _ _ ?_ ?_).symm)
    · refine congrArg x1 ?_
      idx_ext
    · exact (by rw [e]; omega)
    · exact (by rw [e]; omega)
  rcases List.mem_singleton.mp hp with rfl
  · have h1 : (x 1).val < 384 := (x 1).isLt
    have e : ((Rect.unit (s := S512x1024) ![0, 0] ![512, 384] inb_S512x1024_S512x384_0_0).emb x 1).val = 0 + (x 1).val := by simp
    refine (pay2 x0 x).trans (Eq.trans ?_ (join_l _ _ _ _ ?_).symm)
    · refine congrArg x0 ?_
      idx_ext
    · exact (by rw [e]; omega)

theorem hz (x : FVec Ideal S512x1024 .f32) (yc : FVec Ideal S512x1024 .bf16) (w : FVec Ideal S1024x1024 .bf16) (r : Fin 512) (k : Fin 1024) :
    (k0_pay5 (F := Ideal) x yc w (ix2 r k) : EReal) = al * x (ix2 r k) + ∑ q, yc (ix2 r q) * w (ix2 q k) := by
  pointwise [k0_pay5]

theorem hx1 (x : FVec Ideal S512x1024 .f32) (yc : FVec Ideal S512x1024 .bf16) (w : FVec Ideal S1024x1024 .bf16) (g b : FVec Ideal S1x1024 .f32) (r : Fin 512) (k : Fin 1024) :
    (k0_pay1 (F := Ideal) (k0_pay5 x yc w) (k0_pay6 g) (k0_pay7 b) (k0_pay8 x yc w) (ix2 r k) : EReal)
     = norm (fun q => k0_pay5 (F := Ideal) x yc w (ix2 r q)) (fun q => g (ix2 0 q)) (fun q => b (ix2 0 q)) k := by
  unfold k0_pay8
  generalize k0_pay5 (F := Ideal) x yc w = z
  pointwise [k0_pay1, k0_pay6, k0_pay7]
  simp only [c_1024, c_eps, div_1024]
  rfl

theorem hback (d z : FVec Ideal S512x1024 .f32) (g : FVec Ideal S1x1024 .f32) (r : Fin 512) (k : Fin 1024) :
    (k1_pay1 (F := Ideal) (k1_pay11 d z g) (k1_pay12 z) (ix2 r k) : EReal)
     = back (fun q => z (ix2 r q)) (fun q => d (ix2 r q) * g (ix2 0 q)) k := by
  pointwise [k1_pay1, k1_pay11, k1_pay12, k1_pay8, k1_pay9, k1_pay10]
  simp only [c_1024, c_eps, div_1024]
  rfl

theorem whole_idx (j : S512x1024.Idx) : (Rect.unit (s := S512x1024) ![0, 0] ![512, 1024] inb_S512x1024_S512x1024_0_0).idx j = j := by
  idx_ext

theorem hpay5 (d h : FVec Ideal S512x1024 .f32) (a : FVec Ideal S1x1024 .f32) (k : Fin 1024) :
    (k1_pay5 (F := Ideal) d h a (ix2 0 k) : EReal) = a (ix2 0 k) + ∑ r : Fin 512, d (ix2 r k) * h (ix2 r k) := by
  pointwise [k1_pay5]
theorem hpay6 (d : FVec Ideal S512x1024 .f32) (a : FVec Ideal S1x1024 .f32) (k : Fin 1024) :
    (k1_pay6 (F := Ideal) d a (ix2 0 k) : EReal) = a (ix2 0 k) + ∑ r : Fin 512, d (ix2 r k) := by
  pointwise [k1_pay6]
theorem hpay7 (j : S8x1024.Idx) : (k1_pay7 (F := Ideal) j : EReal) = 0 := by pointwise [k1_pay7]
theorem hhat (z : FVec Ideal S512x1024 .f32) (r : Fin 512) (k : Fin 1024) :
    (k1_pay10 (F := Ideal) z (ix2 r k) : EReal) = hat (fun q => z (ix2 r q)) k := by
  pointwise [k1_pay8, k1_pay9, k1_pay10]
  simp only [c_1024, c_eps, div_1024]
  rfl

/-- What one block of rows adds to the gain's gradient (row 0) and to the bias's (row 1). -/
def term (d z : FVec Ideal S512x1024 .f32) (j : S8x1024.Idx) : EReal :=
  if (j 0).val = 0 then ∑ r : Fin 512, d (ix2 r (j 1)) * hat (fun q => z (ix2 r q)) (j 1)
  else if (j 0).val = 1 then ∑ r : Fin 512, d (ix2 r (j 1)) else 0

theorem read_rows {κ : Kind} {sp : Space} (v : View sig κ sp S8x1024 .f32) (f : v.ty.Contents (Elt Ideal)) (p0 p1 : FVec Ideal S1x1024 .f32)
    (L : List (View.Piece (Elt Ideal) S8x1024 .f32)) (j : S8x1024.Idx) :
    v.read (Elt Ideal) (v.writes (Elt Ideal) f (⟨Rect.unit ![1, 0] ![1, 1024] inb_S8x1024_S1x1024_1_0, p1⟩
      :: ⟨Rect.unit ![0, 0] ![1, 1024] inb_S8x1024_S1x1024_0_0, p0⟩ :: L)) j
    = if (j 0).val = 0 then p0 (ix2 0 (j 1)) else if (j 0).val = 1 then p1 (ix2 0 (j 1))
      else v.read (Elt Ideal) (v.writes (Elt Ideal) f L) j := by
  by_cases h1 : (j 0).val = 1
  · rw [if_neg (by omega), if_pos h1]
    exact View.read_writes_cons_rows_of_mem (o := 1) v f inb_S8x1024_S1x1024_1_0 p1 _ j (ix2 0 (j 1)) rfl (by rw [h1]; rfl) rfl
  · rw [View.read_writes_cons_rows_of_not_mem (o := 1) (W := 1) v f inb_S8x1024_S1x1024_1_0 p1 _ j rfl rfl (by omega)]
    by_cases h0 : (j 0).val = 0
    · rw [if_pos h0]
      exact View.read_writes_cons_rows_of_mem (o := 0) v f inb_S8x1024_S1x1024_0_0 p0 _ j (ix2 0 (j 1)) rfl (by rw [h0]; rfl) rfl
    · rw [if_neg h0, if_neg h1, View.read_writes_cons_rows_of_not_mem (o := 0) (W := 1) v f inb_S8x1024_S1x1024_0_0 p0 _ j rfl rfl (by omega)]

theorem stepB (c : Dev nD) (t : Fin cfg1.N) (h0 : ¬ t.val % 8 = 0) (j : S8x1024.Idx) :
    (outsAt1 V c t.val t.isLt).2.2.2 j = ((outsAt1 V c (t.val - 1) (Nat.lt_of_le_of_lt (Nat.sub_le _ _) t.isLt)).2.2.2 j : EReal) + term (iblk1 V c 0 t) (iblk1 V c 1 t) j := by
  rw [outsAt1_B V c t h0]
  frame_out
  rw [read_rows]
  unfold term
  split_ifs with h h'
  · refine (hpay5 _ _ _ _).trans (congrArg₂ (fun a b : EReal => a + b) ?_ (Finset.sum_congr rfl fun r _ => congrArg (fun a : EReal => _ * a) (hhat _ _ _)))
    refine congrArg (outsAt1 V c (t.val - 1) _).2.2.2 ?_
    idx_ext
  · refine (hpay6 _ _ _).trans (congrArg₂ (fun a b : EReal => a + b) ?_ rfl)
    refine congrArg (outsAt1 V c (t.val - 1) _).2.2.2 ?_
    idx_ext
  · rw [add_zero]
    exact congrFun ((hs1_7 t).read_unread _) j

theorem zero_canon (j : S8x1024.Idx) :
    View.canon (Val := Elt Ideal) (e := .f32) (s := S8x1024) [⟨Rect.unit ![0, 0] ![8, 1024] inb_S8x1024_S8x1024_0_0, k1_pay7 (F := Ideal)⟩] j = (0 : EReal) := by
  refine View.canon_apply_of_pieces (Val := Elt Ideal) (e := .f32) (S := S8x1024) (fun _ => (0 : EReal)) _ (fun p hp x => ?_) j
    (View.cover_of_tiledBy _ ![8, 1024] (by sl_kernel_rfl) j)
  rcases List.mem_singleton.mp hp with rfl
  exact hpay7 (x : S8x1024.Idx)

theorem zero_row (v : View sig .tc .vmem S8x1024 .f32) (k : Fin 1024) (o : Nat) (h : ∀ a, (![o, 0] : Fin 2 → Nat) a + S1x1024.size a ≤ S8x1024.size a) :
    v.readCov (Val := Elt Ideal) [⟨Rect.unit ![0, 0] ![8, 1024] inb_S8x1024_S8x1024_0_0, k1_pay7 (F := Ideal)⟩]
          (Rect.unit (s := S8x1024) ![o, 0] S1x1024.size h).toLoadRect (ix2 0 k) = (0 : EReal) := by
  rw [View.readCov_eq_canon']
  exact zero_canon _

theorem skip_row (v : View sig .tc .vmem S8x1024 .f32) (p : FVec Ideal S1x1024 .f32) (j : S8x1024.Idx) (h : (j 0).val = 1) :
    View.canon (Val := Elt Ideal) (e := .f32) (s := S8x1024) [⟨Rect.unit ![0, 0] ![1, 1024] inb_S8x1024_S1x1024_0_0, p⟩,
      ⟨Rect.unit ![0, 0] ![8, 1024] inb_S8x1024_S8x1024_0_0, k1_pay7 (F := Ideal)⟩] j = (0 : EReal) := by
  rw [← View.read_writes_junk_apply_eq_canon v]
  refine (View.read_writes_cons_rows_of_not_mem (Val := Elt Ideal) (size := ![1, 1024]) (o := 0) (W := 1) v v.junk inb_S8x1024_S1x1024_0_0 p _ j rfl rfl (by omega)).trans ?_
  rw [View.read_writes_junk_apply_eq_canon]
  exact zero_canon j

theorem stepA (c : Dev nD) (t : Fin cfg1.N) (h0 : t.val % 8 = 0) (j : S8x1024.Idx) :
    (outsAt1 V c t.val t.isLt).2.2.2 j = (0 : EReal) + term (iblk1 V c 0 t) (iblk1 V c 1 t) j := by
  rw [outsAt1_A V c t h0]
  frame_out
  rw [← View.read_writes_junk_apply_eq_canon (ms1_7 t).view, read_rows]
  unfold term
  split_ifs with h h'
  · refine (hpay5 _ _ _ _).trans (congrArg₂ (fun a b : EReal => a + b) ?_ (Finset.sum_congr rfl fun r _ => congrArg (fun a : EReal => _ * a) (hhat _ _ _)))
    exact zero_row _ _ _ _
  · refine (hpay6 _ _ _).trans (congrArg₂ (fun a b : EReal => a + b) ?_ rfl)
    rw [View.readCov_eq_canon']
    exact skip_row (ms1_7 t).view _ _ rfl
  · rw [add_zero, View.read_writes_junk_apply_eq_canon]
    exact zero_canon _

section Arrays

variable (yl yr : FVec Ideal S4096x384 .f32) (yn : FVec Ideal S4096x256 .f32) (x : FVec Ideal S4096x1024 .f32) (w : FVec Ideal S1024x1024 .f32)
  (g b : Fin 1024 → EReal) (d z : FVec Ideal S4096x1024 .f32)

/-- The three mixers' rows side by side. -/
def ycRow (r : Fin 4096) (k : Fin 1024) : EReal := join (fun q => yl (ix2 r q)) (fun q => yr (ix2 r q)) (fun q => yn (ix2 r q)) k
/-- A row after the output projection, with the scaled residual. -/
def zRow (r : Fin 4096) (k : Fin 1024) : EReal := al * x (ix2 r k) + ∑ q, ycRow yl yr yn r q * w (ix2 q k)
def dzRow (r : Fin 4096) (k : Fin 1024) : EReal := back (fun q => z (ix2 r q)) (fun q => d (ix2 r q) * g q) k

end Arrays

end Cert.OutprojKernelIdeal.OutprojValue
end
-- ==== Proof.OutprojValue.lean ====
module

public import proofs.«01_k».proof.Defs
public import proofs.«01_k».proof.Proof.OutprojBlock
public import proofs.«01_k».proof.Proof.Gen.OutprojKernelIdeal.Frame
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutprojKernelIdeal.OutprojValue

open Cert.OutprojKernelIdeal Cert.OutprojKernelIdeal.Gen Cert.Norm

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)
theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![t.val, 0] ∧ win1_6.index t = ![t.val, 0]
    ∧ win1_7.index t = ![0, 0] :=
  (by decide +kernel : ∀ t : Fin grid1.N, _)

theorem row5 (c : Dev nD) (t : Fin cfg0.N) (q : Fin 1024) : iblk0 V c 5 t (ix2 0 q) = V c main_v4 (ix2 0 q) := by
  blk_ext [iblk0, idx0 t]
theorem row6 (c : Dev nD) (t : Fin cfg0.N) (q : Fin 1024) : iblk0 V c 6 t (ix2 0 q) = V c main_v5 (ix2 0 q) := by
  blk_ext [iblk0, idx0 t]
theorem row3 (c : Dev nD) (t : Fin cfg1.N) (q : Fin 1024) : iblk1 V c 3 t (ix2 0 q) = V c main_v8 (ix2 0 q) := by
  blk_ext [iblk1, idx1 t]

theorem final_z (c : Dev nD) : (dat0 V c).arrAt 7 cfg0.N = fun i => zRow (V c main_v1) (V c main_v2) (V c main_v3) (V c main_arg3) (V c main_v0) (i 0) (i 1) := by
  refine (dat0 V c).arrAt_eq_of_covers 7 _ (by decide +kernel) fun t _ y => ?_
  blk_simp
  rw [after0_7]
  unfold outsAt0
  frame_out
  rw [View.readCov_eq_canon']
  simp only [hyc, whole_idx]
  idx_vars y
  refine (hz _ _ _ _ _).trans ?_
  unfold zRow ycRow
  blk_point [iblk0, idx0 t]
  rfl

theorem final_x1 (c : Dev nD) : (dat0 V c).arrAt 8 cfg0.N = fun i => norm (zRow (V c main_v1) (V c main_v2) (V c main_v3) (V c main_arg3) (V c main_v0) (i 0))
    (fun q => V c main_v4 (ix2 0 q)) (fun q => V c main_v5 (ix2 0 q)) (i 1) := by
  refine (dat0 V c).arrAt_eq_of_covers 8 _ (by decide +kernel) fun t _ y => ?_
  blk_simp
  rw [after0_8]
  unfold outsAt0
  frame_out
  rw [View.readCov_eq_canon']
  simp only [hyc, whole_idx]
  idx_vars y
  refine (hx1 _ _ _ _ _ _ _).trans ?_
  simp only [hz, row5, row6]
  unfold zRow ycRow
  blk_point [iblk0, idx0 t]
  rfl

theorem outs4 (c : Dev nD) (t : Fin cfg1.N) : (outsAt1 V c t.val t.isLt).1 = k1_pay2 (k1_pay11 (iblk1 V c 0 t) (iblk1 V c 1 t) (iblk1 V c 3 t)) (k1_pay12 (iblk1 V c 1 t)) := by
  funext j
  by_cases h : t.val % 8 = 0
  · rw [outsAt1_A V c t h]; frame_out
  · rw [outsAt1_B V c t h]; frame_out
theorem outs5 (c : Dev nD) (t : Fin cfg1.N) : (outsAt1 V c t.val t.isLt).2.1 = k1_pay4 (k1_pay11 (iblk1 V c 0 t) (iblk1 V c 1 t) (iblk1 V c 3 t)) (k1_pay12 (iblk1 V c 1 t)) (iblk1 V c 2 t) := by
  funext j
  by_cases h : t.val % 8 = 0
  · rw [outsAt1_A V c t h]; frame_out
  · rw [outsAt1_B V c t h]; frame_out
theorem outs6 (c : Dev nD) (t : Fin cfg1.N) : (outsAt1 V c t.val t.isLt).2.2.1 = k1_pay3 (k1_pay11 (iblk1 V c 0 t) (iblk1 V c 1 t) (iblk1 V c 3 t)) (k1_pay12 (iblk1 V c 1 t)) := by
  funext j
  by_cases h : t.val % 8 = 0
  · rw [outsAt1_A V c t h]; frame_out
  · rw [outsAt1_B V c t h]; frame_out

theorem hdz (d z : FVec Ideal S512x1024 .f32) (g : FVec Ideal S1x1024 .f32) (r : Fin 512) (k : Fin 1024) :
    (k1_pay2 (F := Ideal) (k1_pay11 d z g) (k1_pay12 z) (ix2 r k) : EReal) = back (fun q => z (ix2 r q)) (fun q => d (ix2 r q) * g (ix2 0 q)) k := by
  rw [← hback]
  generalize k1_pay11 (F := Ideal) d z g = a, k1_pay12 (F := Ideal) z = b
  pointwise [k1_pay2]
theorem hdyc (d z : FVec Ideal S512x1024 .f32) (g : FVec Ideal S1x1024 .f32) (w : FVec Ideal S1024x1024 .bf16) (r : Fin 512) (k : Fin 1024) :
    (k1_pay4 (F := Ideal) (k1_pay11 d z g) (k1_pay12 z) w (ix2 r k) : EReal)
    = ∑ q, back (fun q => z (ix2 r q)) (fun q => d (ix2 r q) * g (ix2 0 q)) q * w (ix2 k q) := by
  simp only [← hback]
  generalize k1_pay11 (F := Ideal) d z g = a, k1_pay12 (F := Ideal) z = b
  generalize h : k1_pay1 (F := Ideal) a b = e
  unfold k1_pay4
  rw [h]
  pointwise
theorem hdres (d z : FVec Ideal S512x1024 .f32) (g : FVec Ideal S1x1024 .f32) (r : Fin 512) (k : Fin 1024) :
    (k1_pay3 (F := Ideal) (k1_pay11 d z g) (k1_pay12 z) (ix2 r k) : EReal) = al * back (fun q => z (ix2 r q)) (fun q => d (ix2 r q) * g (ix2 0 q)) k := by
  rw [← hback]
  generalize k1_pay11 (F := Ideal) d z g = a, k1_pay12 (F := Ideal) z = b
  pointwise [k1_pay3]

theorem final_dz (c : Dev nD) : (dat1 V c).arrAt 4 cfg1.N = fun i => dzRow (fun q => V c main_v8 (ix2 0 q)) (V c main_arg7) (V c main_v7_0) (i 0) (i 1) := by
  refine (dat1 V c).arrAt_eq_of_covers 4 _ (by decide +kernel) fun t _ y => ?_
  blk_simp
  rw [after1_4, outs4]
  idx_vars y
  refine (hdz _ _ _ _ _).trans ?_
  simp only [row3]
  unfold dzRow
  blk_point [iblk1, idx1 t]

theorem final_dyc (c : Dev nD) : (dat1 V c).arrAt 5 cfg1.N = fun i => ∑ q, dzRow (fun q => V c main_v8 (ix2 0 q)) (V c main_arg7) (V c main_v7_0) (i 0) q
    * V c main_v0 (ix2 (i 1) q) := by
  refine (dat1 V c).arrAt_eq_of_covers 5 _ (by decide +kernel) fun t _ y => ?_
  blk_simp
  rw [after1_5, outs5]
  idx_vars y
  refine (hdyc _ _ _ _ _ _).trans ?_
  simp only [row3]
  unfold dzRow
  blk_point [iblk1, idx1 t]

theorem final_dres (c : Dev nD) : (dat1 V c).arrAt 6 cfg1.N = fun i => al * dzRow (fun q => V c main_v8 (ix2 0 q)) (V c main_arg7) (V c main_v7_0) (i 0) (i 1) := by
  refine (dat1 V c).arrAt_eq_of_covers 6 _ (by decide +kernel) fun t _ y => ?_
  blk_simp
  rw [after1_6, outs6]
  idx_vars y
  refine (hdres _ _ _ _ _).trans ?_
  simp only [row3]
  unfold dzRow
  blk_point [iblk1, idx1 t]

end Cert.OutprojKernelIdeal.OutprojValue
end
-- ==== Proof.OutprojHost.lean ====
/- The output projection's two calls, forward and backward, with the host's lines around them: what every array holds. -/
module

public import proofs.«01_k».proof.Proof.OutprojValue

@[expose] public section

set_option maxRecDepth 16384

noncomputable section

open Idealize.ShloMosaic Idealize.ShloMosaic.TcCoe Idealize.SL.Sem
open Idealize.ShloMosaic.Pipeline (Dat)

namespace Cert.OutprojKernelIdeal.OutprojValue

open Cert.OutprojKernelIdeal Cert.OutprojKernelIdeal.Gen Cert.Norm

section

variable (V : (c : Dev nD) → (b : Ref sig .tc) → Buf (Elt Ideal) ((c : Thread nD τ).loc b))

theorem final_yc (c : Dev nD) : (dat0 V c).arrAt 9 cfg0.N = fun i => ycRow (V c main_v1) (V c main_v2) (V c main_v3) (i 0) (i 1) := by
  refine (dat0 V c).arrAt_eq_of_covers 9 _ (by decide +kernel) fun t _ y => ?_
  blk_simp
  rw [after0_9]
  unfold outsAt0
  frame_out
  rw [hyc]
  idx_vars y
  unfold ycRow
  blk_point [iblk0, idx0 t]
  refine congrArg (join _ _ _) (Fin.ext ?_)
  have h := (idx0 t).2.2.2.2.2.2.2.2.2
  simp [Pipeline.Window.blk, h]

/-- The gain's gradient in row 0 and the bias's in row 1. -/
def lnGrad (d z : FVec Ideal S4096x1024 .f32) (i : S8x1024.Idx) : EReal :=
  if (i 0).val = 0 then ∑ r : Fin 4096, d (ix2 r (i 1)) * hat (fun q => z (ix2 r q)) (i 1)
  else if (i 0).val = 1 then ∑ r : Fin 4096, d (ix2 r (i 1)) else 0

theorem final_dln (c : Dev nD) : (dat1 V c).arrAt 7 cfg1.N = lnGrad (V c main_arg7) (V c main_v7_0) := by
  refine (dat1 V c).arrAt_eq_of_after_last 7 t1_7 (by decide +kernel) _ fun j => ?_
  blk_simp
  rw [after1_7, Pipeline.eq_sum_fin_of_reset_step_apply_last (M := EReal) (ι := S8x1024.Idx) (fun n h => (outsAt1 V c n h).2.2.2) 8 (fun _ => 0)
    (fun t => term (iblk1 V c 0 t) (iblk1 V c 1 t))
    (stepA V c) (stepB V c) (le_of_eq N_1) t1_7 rfl j, zero_add]
  unfold lnGrad term
  split_ifs with h h'
  · refine Fin.sum_mul_add_congr fun s k hl => ?_
    blk_point [iblk1, idx1 s]
  · refine Fin.sum_mul_add_congr fun s k hl => ?_
    blk_point [iblk1, idx1 s]
  · exact Finset.sum_const_zero (M := EReal)

end

variable (m : (ℓ : Loc nD τ sig) → Buf (Elt Ideal) ℓ) (ρ : Dev nD → PrngReg)

theorem v1_0 (c : Dev nD) : V1 m ρ c main_v0 = m ((c : Thread nD τ).loc main_arg4) := by
  show StableHlo.after hostOps0 _ _ = _
  after_results; try rfl
theorem v1_1 (c : Dev nD) : V1 m ρ c main_v1 = m ((c : Thread nD τ).loc main_arg0) := by
  show StableHlo.after hostOps0 _ _ = _
  after_results; try rfl
theorem v1_2 (c : Dev nD) : V1 m ρ c main_v2 = m ((c : Thread nD τ).loc main_arg1) := by
  show StableHlo.after hostOps0 _ _ = _
  after_results; try rfl
theorem v1_3 (c : Dev nD) : V1 m ρ c main_v3 = m ((c : Thread nD τ).loc main_arg2) := by
  show StableHlo.after hostOps0 _ _ = _
  after_results; try rfl
theorem v1_4 (c : Dev nD) (q : Fin 1024) : V1 m ρ c main_v4 (ix2 0 q) = m ((c : Thread nD τ).loc main_arg5) (ix1 q) := by
  refine Eq.trans (b := broadcastInDim S1x1024 ![1] bcast_S1024_S1x1024_1 (m ((c : Thread nD τ).loc main_arg5)) (ix2 0 q)) (congrFun (by
    show StableHlo.after hostOps0 _ _ = _
    after_results; try rfl) _) ?_
  pointwise
theorem v1_5 (c : Dev nD) (q : Fin 1024) : V1 m ρ c main_v5 (ix2 0 q) = m ((c : Thread nD τ).loc main_arg6) (ix1 q) := by
  refine Eq.trans (b := broadcastInDim S1x1024 ![1] bcast_S1024_S1x1024_1 (m ((c : Thread nD τ).loc main_arg6)) (ix2 0 q)) (congrFun (by
    show StableHlo.after hostOps0 _ _ = _
    after_results; try rfl) _) ?_
  pointwise
theorem v1_a3 (c : Dev nD) : V1 m ρ c main_arg3 = m ((c : Thread nD τ).loc main_arg3) := W1_args m ρ c main_arg3 (by decide)

abbrev a0 (c : Dev nD) : FVec Ideal S4096x384 .f32 := m ((c : Thread nD τ).loc main_arg0)
abbrev a1 (c : Dev nD) : FVec Ideal S4096x384 .f32 := m ((c : Thread nD τ).loc main_arg1)
abbrev a2 (c : Dev nD) : FVec Ideal S4096x256 .f32 := m ((c : Thread nD τ).loc main_arg2)
abbrev a3 (c : Dev nD) : FVec Ideal S4096x1024 .f32 := m ((c : Thread nD τ).loc main_arg3)
abbrev a4 (c : Dev nD) : FVec Ideal S1024x1024 .f32 := m ((c : Thread nD τ).loc main_arg4)
abbrev a5 (c : Dev nD) : FVec Ideal S1024 .f32 := m ((c : Thread nD τ).loc main_arg5)
abbrev a6 (c : Dev nD) : FVec Ideal S1024 .f32 := m ((c : Thread nD τ).loc main_arg6)
abbrev a7 (c : Dev nD) : FVec Ideal S4096x1024 .f32 := m ((c : Thread nD τ).loc main_arg7)

/-- A row after the projection, of the launched arrays. -/
abbrev ZR (c : Dev nD) (r : Fin 4096) (k : Fin 1024) : EReal := zRow (a0 m c) (a1 m c) (a2 m c) (a3 m c) (a4 m c) r k
/-- The cotangent of a row times the gain. -/
abbrev DR (c : Dev nD) (r : Fin 4096) (k : Fin 1024) : EReal := (a7 m c (ix2 r k) : EReal) * a5 m c (ix1 k)
/-- The derivative in a row before the norm. -/
abbrev BR (c : Dev nD) (r : Fin 4096) (k : Fin 1024) : EReal := back (ZR m c r) (DR m c r) k

theorem w2_z (c : Dev nD) : W2 m ρ c (Proc.devRef .tc main_v7_0) = fun i : S4096x1024.Idx => ZR m c (i 0) (i 1) := by
  refine (W2_arr m ρ c 7).trans ((final_z _ c).trans ?_)
  rw [v1_0, v1_1, v1_2, v1_3, v1_a3]
  rfl
theorem w2_x1 (c : Dev nD) : W2 m ρ c (Proc.devRef .tc main_v7_1)
    = fun i : S4096x1024.Idx => norm (ZR m c (i 0)) (fun q => (a5 m c) (ix1 q)) (fun q => (a6 m c) (ix1 q)) (i 1) := by
  refine (W2_arr m ρ c 8).trans ((final_x1 _ c).trans ?_)
  rw [v1_0, v1_1, v1_2, v1_3, v1_a3, show (fun q : Fin 1024 => V1 m ρ c main_v4 (ix2 0 q)) = _ from funext (v1_4 m ρ c),
    show (fun q : Fin 1024 => V1 m ρ c main_v5 (ix2 0 q)) = _ from funext (v1_5 m ρ c)]
  rfl
theorem w2_yc (c : Dev nD) : W2 m ρ c (Proc.devRef .tc main_v7_2) = fun i : S4096x1024.Idx => ycRow (a0 m c) (a1 m c) (a2 m c) (i 0) (i 1) := by
  refine (W2_arr m ρ c 9).trans ((final_yc _ c).trans ?_)
  rw [v1_1, v1_2, v1_3]
  rfl

theorem v3_z (c : Dev nD) : V3 m ρ c main_v7_0 = fun i : S4096x1024.Idx => ZR m c (i 0) (i 1) :=
  (W3_of m ρ c main_v7_0 (by decide)).trans (w2_z m ρ c)
theorem v3_0 (c : Dev nD) : V3 m ρ c main_v0 = m ((c : Thread nD τ).loc main_arg4) :=
  (W3_of m ρ c main_v0 (by decide)).trans ((W2_of m ρ c main_v0 (by decide)).trans (v1_0 m ρ c))
theorem v3_a7 (c : Dev nD) : V3 m ρ c main_arg7 = m ((c : Thread nD τ).loc main_arg7) := W3_args m ρ c main_arg7 (by decide)
theorem v3_8 (c : Dev nD) (q : Fin 1024) : V3 m ρ c main_v8 (ix2 0 q) = m ((c : Thread nD τ).loc main_arg5) (ix1 q) := by
  refine Eq.trans (b := broadcastInDim S1x1024 ![1] bcast_S1024_S1x1024_1 (W2 m ρ c (Proc.devRef .tc main_arg5)) (ix2 0 q)) (congrFun (by
    show StableHlo.after hostOps1 _ _ = _
    after_results; try rfl) _) ?_
  rw [W2_args m ρ c main_arg5 (by decide)]
  pointwise

theorem w4_dz (c : Dev nD) : W4 m ρ c (Proc.devRef .tc main_v9_0) = fun i : S4096x1024.Idx => BR m c (i 0) (i 1) := by
  refine (W4_arr m ρ c 4).trans ((final_dz _ c).trans ?_)
  rw [v3_z, v3_a7, show (fun q : Fin 1024 => V3 m ρ c main_v8 (ix2 0 q)) = _ from funext (v3_8 m ρ c)]
  rfl
theorem w4_dyc (c : Dev nD) : W4 m ρ c (Proc.devRef .tc main_v9_1) = fun i : S4096x1024.Idx => ∑ q, BR m c (i 0) q * (a4 m c) (ix2 (i 1) q) := by
  refine (W4_arr m ρ c 5).trans ((final_dyc _ c).trans ?_)
  rw [v3_z, v3_a7, v3_0, show (fun q : Fin 1024 => V3 m ρ c main_v8 (ix2 0 q)) = _ from funext (v3_8 m ρ c)]
  rfl
theorem w4_dres (c : Dev nD) : W4 m ρ c (Proc.devRef .tc main_v9_2) = fun i : S4096x1024.Idx => al * BR m c (i 0) (i 1) := by
  refine (W4_arr m ρ c 6).trans ((final_dres _ c).trans ?_)
  rw [v3_z, v3_a7, show (fun q : Fin 1024 => V3 m ρ c main_v8 (ix2 0 q)) = _ from funext (v3_8 m ρ c)]
  rfl
theorem w4_dln (c : Dev nD) : W4 m ρ c (Proc.devRef .tc main_v9_3) = lnGrad (a7 m c) (fun i : S4096x1024.Idx => ZR m c (i 0) (i 1)) := by
  refine (W4_arr m ρ c 7).trans ((final_dln _ c).trans ?_)
  rw [v3_z, v3_a7]

theorem w5_dg (c : Dev nD) : W5 m ρ c (Proc.devRef .tc main_v11) = fun i : S1024.Idx => ∑ r : Fin 4096, (a7 m c (ix2 r (i 0)) : EReal) * hat (ZR m c r) (i 0) := by
  refine Eq.trans (b := shapeCast S1024 (extractStridedSlice S1x1024 ![0, 0] (W4 m ρ c (Proc.devRef .tc main_v9_3)) slices_S8x1024_S1x1024_0_0) shapeCasts_S1x1024_S1024)
    (by show StableHlo.after hostOps2 _ _ = _
        after_results; try rfl) ?_
  rw [w4_dln]
  funext i
  idx_vars i
  pointwise
  exact if_pos rfl
theorem w5_db (c : Dev nD) : W5 m ρ c (Proc.devRef .tc main_v13) = fun i : S1024.Idx => ∑ r : Fin 4096, (a7 m c (ix2 r (i 0)) : EReal) := by
  refine Eq.trans (b := shapeCast S1024 (extractStridedSlice S1x1024 ![1, 0] (W4 m ρ c (Proc.devRef .tc main_v9_3)) slices_S8x1024_S1x1024_1_0) shapeCasts_S1x1024_S1024)
    (by show StableHlo.after hostOps2 _ _ = _
        after_results; try rfl) ?_
  rw [w4_dln]
  funext i
  idx_vars i
  pointwise
  exact (if_neg Nat.one_ne_zero).trans (if_pos rfl)

end Cert.OutprojKernelIdeal.OutprojValue
end
-- ==== Proof.OutprojRun.lean ====
/- The output projection's two calls, forward and backward, as one run: every array they return. -/
module

public import proofs.«01_k».proof.Proof.OutprojHost

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.OutprojKernelIdeal.OutprojValue

open Cert.OutprojKernelIdeal Cert.OutprojKernelIdeal.Gen Cert.Norm

variable (m : (ℓ : Loc nD τ sig) → Buf (Elt Ideal) ℓ) (ρ : Dev nD → PrngReg)

set_option backward.isDefEq.respectTransparency.types false in
/-- The two calls' run: every array they return, and the arguments as they were. -/
theorem run : θ_run defs (onTc (τ := τ) (main (F := Ideal))) ⟨m, fun _ => 0, ρ⟩ (fun r => ∀ c : Dev nD,
      r.2.mem ((c.tc : Thread nD τ).loc main_v7_0) = (fun i : S4096x1024.Idx => ZR m c (i 0) (i 1))
      ∧ r.2.mem ((c.tc : Thread nD τ).loc main_v7_1) = (fun i : S4096x1024.Idx => norm (ZR m c (i 0)) (fun q => (a5 m c) (ix1 q)) (fun q => (a6 m c) (ix1 q)) (i 1))
      ∧ r.2.mem ((c.tc : Thread nD τ).loc main_v7_2) = (fun i : S4096x1024.Idx => ycRow (a0 m c) (a1 m c) (a2 m c) (i 0) (i 1))
      ∧ r.2.mem ((c.tc : Thread nD τ).loc main_v9_0) = (fun i : S4096x1024.Idx => BR m c (i 0) (i 1))
      ∧ r.2.mem ((c.tc : Thread nD τ).loc main_v9_1) = (fun i : S4096x1024.Idx => ∑ q, BR m c (i 0) q * (a4 m c) (ix2 (i 1) q))
      ∧ r.2.mem ((c.tc : Thread nD τ).loc main_v9_2) = (fun i : S4096x1024.Idx => al * BR m c (i 0) (i 1))
      ∧ r.2.mem ((c.tc : Thread nD τ).loc main_v11) = (fun i : S1024.Idx => ∑ r : Fin 4096, (a7 m c (ix2 r (i 0)) : EReal) * hat (ZR m c r) (i 0))
      ∧ r.2.mem ((c.tc : Thread nD τ).loc main_v13) = (fun i : S1024.Idx => ∑ r : Fin 4096, (a7 m c (ix2 r (i 0)) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v7_0 (by decide))).trans ((W5_of m ρ c main_v7_0 (by decide)).trans ((W4_of m ρ c main_v7_0 (by decide)).trans (v3_z m ρ c))),
       (h c _ (mem_uc main_v7_1 (by decide))).trans ((W5_of m ρ c main_v7_1 (by decide)).trans ((W4_of m ρ c main_v7_1 (by decide)).trans ((W3_of m ρ c main_v7_1 (by decide)).trans (w2_x1 m ρ c)))),
       (h c _ (mem_uc main_v7_2 (by decide))).trans ((W5_of m ρ c main_v7_2 (by decide)).trans ((W4_of m ρ c main_v7_2 (by decide)).trans ((W3_of m ρ c main_v7_2 (by decide)).trans (w2_yc m ρ c)))),
       (h c _ (mem_uc main_v9_0 (by decide))).trans ((W5_of m ρ c main_v9_0 (by decide)).trans (w4_dz m ρ c)),
       (h c _ (mem_uc main_v9_1 (by decide))).trans ((W5_of m ρ c main_v9_1 (by decide)).trans (w4_dyc m ρ c)),
       (h c _ (mem_uc main_v9_2 (by decide))).trans ((W5_of m ρ c main_v9_2 (by decide)).trans (w4_dres m ρ c)),
       (h c _ (mem_uc main_v11 (by decide))).trans (w5_dg m ρ c),
       (h c _ (mem_uc main_v13 (by decide))).trans (w5_db m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.OutprojKernelIdeal.OutprojValue
end
-- ==== Proof.OutprojReference.lean ====
/- The output projection's reference, forward and backward, read row by row. -/
module

public import proofs.«01_k».proof.Defs
public import proofs.«01_k».proof.Proof.OutprojBlock
public import proofs.«01_k».proof.Proof.Gen.OutprojReferenceIdeal.Run
public import proofs.«01_k».proof.Proof.Gen.OutprojReferenceIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OutprojReferenceIdeal.OutprojRows

open Cert.OutprojReferenceIdeal Cert.OutprojReferenceIdeal.Gen Cert.OutprojReferenceIdeal.Read Cert.Norm
open Cert.OutprojKernelIdeal.OutprojValue (join al ycRow zRow)

variable (x0 x1 : FVec Ideal S4096x384 .f32) (x2 : FVec Ideal S4096x256 .f32) (x3 : FVec Ideal S4096x1024 .f32) (x4 : FVec Ideal S1024x1024 .f32)
  (x5 x6 : FVec Ideal S1024 .f32) (x7 : FVec Ideal S4096x1024 .f32)

theorem r0 (r : Fin 4096) (k : Fin 1024) : (val_main_v0 (F := Ideal) x0 x1 x2 (ix2 r k) : EReal) = ycRow x0 x1 x2 r k := by
  unfold val_main_v0 ycRow join
  pointwise
  by_cases h : k.val < 384
  · rw [dif_pos h, dif_pos h]
  rw [dif_neg h, dif_neg h]
  by_cases h' : k.val < 768
  · rw [dif_pos h', dif_pos (show k.val - 384 < 384 by omega)]
  · rw [dif_neg h', dif_neg (show ¬ k.val - 384 < 384 by omega)]
    refine congrArg x2 ?_
    idx_ext

theorem r4 (r : Fin 4096) (k : Fin 1024) : (val_main_v4 (F := Ideal) x0 x1 x2 x3 x4 (ix2 r k) : EReal) = zRow x0 x1 x2 x3 x4 r k := by
  have el (q : Fin 1024) : lidx_main_v3 (ix2 r k) q = ix2 r q := by idx_ext
  have er (q : Fin 1024) : ridx_main_v3 (ix2 r k) q = ix2 q k := by idx_ext
  simp only [val_main_v4_apply, val_main_v2_apply, val_main_v3_apply, val_main_v1_apply, val_main_cst_apply, el, er, r0, Ideal.mulf_def, Ideal.addf_def, Ideal.ofBits_def]
  rfl

theorem r10 (r : Fin 4096) (k : Fin 1024) : (val_main_v10 (F := Ideal) x0 x1 x2 x3 x4 (ix2 r k) : EReal) = cen (zRow x0 x1 x2 x3 x4 r) k := by
  have e9 : idx_main_v9 (ix2 r k) = ix2 r 0 := by idx_ext
  have e6 : idx_main_v6 (ix2 r 0) = ix1 r := by idx_ext
  have e5 (q : Fin 1024) : idx_main_v5 (ix1 r) q = ix2 r q := by idx_ext
  simp only [val_main_v10_apply, val_main_v9_apply, val_main_v8_apply, val_main_v7_apply, val_main_v6_apply, val_main_v5_apply,
    val_main_cst_0_apply, val_main_cst_1_apply, e9, e6, e5, r4, Ideal.subf_def, Ideal.hostDivf_def, Ideal.ofBits_def, Ideal.ofBits_zero_f32, zero_add, c_1024, div_1024]
  rfl

theorem r17 (r : Fin 4096) : (val_main_v17 (F := Ideal) x0 x1 x2 x3 x4 (ix2 r 0) : EReal) = var (zRow x0 x1 x2 x3 x4 r) := by
  have e13 : idx_main_v13 (ix2 r 0) = ix1 r := by idx_ext
  have e12 (q : Fin 1024) : idx_main_v12 (ix1 r) q = ix2 r q := by idx_ext
  simp only [val_main_v17_apply, val_main_v16_apply, val_main_v15_apply, val_main_v14_apply, val_main_v13_apply, val_main_v12_apply, val_main_v11_apply,
    val_main_cst_2_apply, val_main_cst_3_apply, val_main_cst_4_apply, e13, e12, r10, Ideal.mulf_def, Ideal.addf_def, Ideal.hostDivf_def, Ideal.ofBits_def, Ideal.ofBits_zero_f32,
    zero_add, c_1024, c_eps, div_1024]
  rfl

theorem r18 (r : Fin 4096) : (val_main_v18 (F := Ideal) x0 x1 x2 x3 x4 (ix2 r 0) : EReal) = rstd (zRow x0 x1 x2 x3 x4 r) := by
  rw [val_main_v18_apply, r17]
  rfl

theorem r23 (r : Fin 4096) (k : Fin 1024) : (val_main_v23 (F := Ideal) x0 x1 x2 x3 x4 (ix2 r k) : EReal) = hat (zRow x0 x1 x2 x3 x4 r) k := by
  have e22 : idx_main_v22 (ix2 r k) = ix2 r 0 := by idx_ext
  simp only [val_main_v23_apply, val_main_v22_apply, e22, r10, r18, Ideal.mulf_def]
  rfl

theorem r29 (r : Fin 4096) (k : Fin 1024) :
    (val_main_v29 (F := Ideal) x0 x1 x2 x3 x4 x5 x6 (ix2 r k) : EReal) = norm (zRow x0 x1 x2 x3 x4 r) (fun q => x5 (ix1 q)) (fun q => x6 (ix1 q)) k := by
  have e24 : idx_main_v24 (idx_main_v25 (ix2 r k)) = ix1 k := by idx_ext
  have e27 : idx_main_v27 (idx_main_v28 (ix2 r k)) = ix1 k := by idx_ext
  simp only [val_main_v29_apply, val_main_v28_apply, val_main_v27_apply, val_main_v26_apply, val_main_v25_apply, val_main_v24_apply, e24, e27, r23,
    Ideal.mulf_def, Ideal.addf_def]
  rfl

theorem r30 (r : Fin 4096) (k : Fin 1024) : (val_main_v30 (F := Ideal) x7 (ix2 r k) : EReal) = x7 (ix2 r k) := by
  have e30 : idx_main_v30 (ix2 r k) = ix2 r k := by idx_ext
  rw [val_main_v30_apply, e30]

theorem r33 (k : Fin 1024) : (val_main_v33 (F := Ideal) x7 (ix1 k) : EReal) = ∑ r : Fin 4096, x7 (ix2 r k) := by
  have e33 (q : Fin 1) : idx_main_v32 (idx_main_v33 (ix1 k) q) = ix1 k := by idx_ext
  have e31 (r : Fin 4096) : idx_main_v31 (ix1 k) r = ix2 r k := by idx_ext
  simp only [val_main_v33_apply, val_main_v32_apply, val_main_v31_apply, val_main_cst_6_apply, val_main_cst_7_apply, e33, e31,
    Ideal.ofBits_def, Ideal.ofBits_zero_f32, zero_add, Fin.sum_univ_one]

theorem r39 (k : Fin 1024) : (val_main_v39 (F := Ideal) x0 x1 x2 x3 x4 x7 (ix1 k) : EReal) = ∑ r : Fin 4096, hat (zRow x0 x1 x2 x3 x4 r) k * x7 (ix2 r k) := by
  have e39 (q : Fin 1) : idx_main_v36 (idx_main_v39 (ix1 k) q) = ix1 k := by idx_ext
  have e35 (r : Fin 4096) : idx_main_v35 (ix1 k) r = ix2 r k := by idx_ext
  simp only [val_main_v39_apply, val_main_v36_apply, val_main_v35_apply, val_main_v34_apply, val_main_cst_8_apply, val_main_cst_9_apply, e39, e35, r23, r30,
    Ideal.ofBits_def, Ideal.ofBits_zero_f32, Ideal.mulf_def, zero_add, Fin.sum_univ_one]

theorem r38 (r : Fin 4096) (k : Fin 1024) : (val_main_v38 (F := Ideal) x5 x7 (ix2 r k) : EReal) = x7 (ix2 r k) * x5 (ix1 k) := by
  have e37 : idx_main_v24 (idx_main_v37 (ix2 r k)) = ix1 k := by idx_ext
  simp only [val_main_v38_apply, val_main_v37_apply, val_main_v24_apply, e37, r30, Ideal.mulf_def]

theorem r49 (r : Fin 4096) (k : Fin 1024) : (val_main_v49 (F := Ideal) x0 x1 x2 x3 x4 x5 x7 (ix2 r k) : EReal) = slope (zRow x0 x1 x2 x3 x4 r) (fun q => x7 (ix2 r q) * x5 (ix1 q)) := by
  have e48 (q : Fin 1) : idx_main_v48 (idx_main_v49 (ix2 r k)) q = ix2 r 0 := by idx_ext
  have e42 : idx_main_v42 (ix2 r 0) = ix1 r := by idx_ext
  have e41 (q : Fin 1024) : idx_main_v41 (ix1 r) q = ix2 r q := by idx_ext
  simp only [val_main_v49_apply, val_main_v48_apply, val_main_v47_apply, val_main_v46_apply, val_main_v45_apply, val_main_v42_apply, val_main_v41_apply, val_main_v40_apply,
    val_main_v21_apply, val_main_v20_apply, val_main_v19_apply, val_main_cst_5_apply, val_main_cst_10_apply, val_main_cst_11_apply, val_main_cst_12_apply, e48, e42, e41,
    r38, r10, r17, r18, Ideal.ofBits_def, Ideal.ofBits_zero_f32, Ideal.mulf_def, Ideal.hostDivf_def, zero_add, Fin.sum_univ_one, c_1024, c_mhalf, div_1024]
  rfl

theorem r53 (r : Fin 4096) (k : Fin 1024) : (val_main_v53 (F := Ideal) x0 x1 x2 x3 x4 x5 x7 (ix2 r k) : EReal) = mid (zRow x0 x1 x2 x3 x4 r) (fun q => x7 (ix2 r q) * x5 (ix1 q)) k := by
  have e43 : idx_main_v43 (ix2 r k) = ix2 r 0 := by idx_ext
  simp only [val_main_v53_apply, val_main_v52_apply, val_main_v51_apply, val_main_v50_apply, val_main_v44_apply, val_main_v43_apply, e43, r49, r38, r10, r18,
    Ideal.mulf_def, Ideal.addf_def]
  rfl

theorem r61 (r : Fin 4096) (k : Fin 1024) : (val_main_v61 (F := Ideal) x0 x1 x2 x3 x4 x5 x7 (ix2 r k) : EReal) = back' (zRow x0 x1 x2 x3 x4 r) (fun q => x7 (ix2 r q) * x5 (ix1 q)) k := by
  have e60 (q : Fin 1) : idx_main_v56 (idx_main_v59 (idx_main_v60 (ix2 r k)) q) = ix1 r := by idx_ext
  have e55 (q : Fin 1024) : idx_main_v55 (ix1 r) q = ix2 r q := by idx_ext
  simp only [val_main_v61_apply, val_main_v60_apply, val_main_v59_apply, val_main_v58_apply, val_main_v57_apply, val_main_v56_apply, val_main_v55_apply, val_main_v54_apply,
    val_main_cst_13_apply, val_main_cst_14_apply, val_main_cst_15_apply, e60, e55, r53, Ideal.ofBits_def, Ideal.ofBits_zero_f32, Ideal.addf_def, Ideal.hostDivf_def,
    zero_add, Fin.sum_univ_one, c_1024, div_1024]
  rfl

theorem r62 (r : Fin 4096) (k : Fin 1024) :
    (val_main_v62 (F := Ideal) x0 x1 x2 x3 x4 x5 x7 (ix2 r k) : EReal) = ∑ q, back' (zRow x0 x1 x2 x3 x4 r) (fun q => x7 (ix2 r q) * x5 (ix1 q)) q * x4 (ix2 k q) := by
  have el (q : Fin 1024) : lidx_main_v62 (ix2 r k) q = ix2 r q := by idx_ext
  have er (q : Fin 1024) : ridx_main_v62 (ix2 r k) q = ix2 k q := by idx_ext
  simp only [val_main_v62_apply, el, er, r61]

theorem r64 (r : Fin 4096) (k : Fin 1024) :
    (val_main_v64 (F := Ideal) x0 x1 x2 x3 x4 x5 x7 (ix2 r k) : EReal) = al * back' (zRow x0 x1 x2 x3 x4 r) (fun q => x7 (ix2 r q) * x5 (ix1 q)) k := by
  simp only [val_main_v64_apply, val_main_v63_apply, val_main_cst_16_apply, r61, Ideal.mulf_def, Ideal.ofBits_def]

end Cert.OutprojReferenceIdeal.OutprojRows
end
-- ==== Proof.OutprojClaim.lean ====
/- The output projection with its norm, forward and backward: the kernel's arrays are the reference's. -/
module

public import proofs.«01_k».proof.Proof.OutprojRun
public import proofs.«01_k».proof.Proof.OutprojReference
public import proofs.«01_k».proof.Proof.Gen.Pre_outproj_finite

@[expose] public section

set_option maxRecDepth 16384

noncomputable section

open Idealize.ShloMosaic Idealize.ShloMosaic.TcCoe Idealize.SL.Sem
open Cert.Norm Cert.OutprojKernelIdeal.OutprojValue Cert.OutprojReferenceIdeal.OutprojRows

namespace Cert.Proof.Outproj

theorem real_al : Real' al := ⟨14107901 / 2 ^ 23, by unfold al; simp [Ideal.ofBits, Ideal.ieee, -EReal.coe_mul]; norm_num⟩

instance : Cert.Pre_outproj_finite.Facts := Cert.Pre_outproj_finite.Gen.facts

/-- An array every entry of which is a real number. -/
def Finite {S : Shape} (x : FVec Ideal S .f32) : Prop := ∀ i, Real' (x i)

/-- What the precondition says of one array. -/
theorem finite_of {S : Shape} (x : FVec Ideal S .f32) (hb : (⟨0, ![]⟩ : Shape).BroadcastsInDim S ![])
    (h : cmpf (F := Ideal) .olt (Host.absf x) (broadcastInDim S ![] hb (constant ⟨0, ![]⟩ .f32 0x7F800000#32)) = fun _ => 1#1) : Finite x :=
  fun i => Real'.of_abs (congrFun h i)

section

variable (m : (ℓ : Loc OutprojKernelIdeal.nD OutprojKernelIdeal.τ OutprojKernelIdeal.sig) → Buf (Elt Ideal) ℓ)
  (h : Cert.Pre_OutprojKernelIdeal_outproj_finite m) (c : Dev OutprojKernelIdeal.nD)

include h in
theorem real_zr (r : Fin 4096) (k : Fin 1024) : Real' (ZR m c r k) := by
  obtain ⟨f0, f1, f2, f3, f4, -, -⟩ := h c
  have e0 : Finite (a0 m c) := finite_of _ _ f0
  have e1 : Finite (a1 m c) := finite_of _ _ f1
  have e2 : Finite (a2 m c) := finite_of _ _ f2
  have e3 : Finite (a3 m c) := finite_of _ _ f3
  have e4 : Finite (a4 m c) := finite_of _ _ f4
  refine ((Real'.mul ?_ (e3 _)).add (Real'.sum _ _ fun q => Real'.mul ?_ (e4 _)))
  · exact real_al
  · show Real' (join _ _ _ q)
    unfold join
    split_ifs
    · exact e0 _
    · exact e1 _
    · exact e2 _

include h in
theorem real_dr (r : Fin 4096) (k : Fin 1024) : Real' (DR m c r k) := by
  obtain ⟨-, -, -, -, -, f5, f7⟩ := h c
  have e5 : Finite (a5 m c) := finite_of _ _ f5
  have e7 : Finite (a7 m c) := finite_of _ _ f7
  exact (e7 _).mul (e5 _)

include h in
theorem br_eq (r : Fin 4096) (k : Fin 1024) : back' (ZR m c r) (DR m c r) k = BR m c r k :=
  (back_eq _ _ (real_zr m h c r) (real_dr m h c r) k).symm

end

theorem frame_reference : Cert.quiescent_OutprojReferenceIdeal := fun m ρ _ =>
  (θ_run Cert.OutprojReferenceIdeal.defs _ _).mono (fun r h => ⟨fun c => (h c).2.2.2.2.2.2.2.2,
      Idealize.ShloMosaic.sem_eq_zero_of_no_sems (by decide) r.2⟩)
    (Cert.OutprojReferenceIdeal.Value.run (F := Ideal) m ρ)

/-- A statement at every pair of coordinates is one at every index. -/
theorem ext2 {a b : ℕ} {f g : (⟨2, ![a, b]⟩ : Shape).Idx → EReal} (h : ∀ r k, f (ix2 r k) = g (ix2 r k)) : f = g := by
  funext i
  have e : i = ix2 (i 0) (i 1) := by idx_ext
  rw [e]; exact h _ _

theorem ext1 {a : ℕ} {f g : (⟨1, ![a]⟩ : Shape).Idx → EReal} (h : ∀ k, f (ix1 k) = g (ix1 k)) : f = g := by
  funext i
  have e : i = ix1 (i 0) := by idx_ext
  rw [e]; exact h _

/-- Every array the two calls return is the reference's. -/
theorem algebraic : Cert.algebraic_OutprojKernelIdeal_OutprojReferenceIdeal_pre_outproj_finite := by
  intro m ρ m' ρ' hpre hagree
  refine ⟨_, _, _, _, _, _, _, _, Cert.OutprojKernelIdeal.OutprojValue.run m ρ, ?_⟩
  refine (θ_run Cert.OutprojReferenceIdeal.defs _ _).mono (fun _ h c => ?_) (Cert.OutprojReferenceIdeal.Value.run (F := Ideal) m' ρ')
  obtain ⟨h4, h65, h66, h67, h62, h64, h39, h33, hargs⟩ := h c
  obtain ⟨g0, g1, g2, g3, g4, g5, g6, g7⟩ := hagree c
  have e (r : Fin 4096) (k : Fin 1024) := br_eq m hpre c r k
  refine ⟨h4.trans ?_, h65.trans ?_, h66.trans ?_, h67.trans ?_, h62.trans ?_, h64.trans ?_, h39.trans ?_, h33.trans ?_, hargs⟩
  · rw [Cert.OutprojReferenceIdeal.Read.val_main_v4_eq, g0, g1, g2, g3, g4]
    exact ext2 fun r k => r4 _ _ _ _ _ r k
  · rw [Cert.OutprojReferenceIdeal.Read.val_main_v65_eq, g0, g1, g2, g3, g4, g5, g6]
    exact ext2 fun r k => r29 _ _ _ _ _ _ _ r k
  · rw [Cert.OutprojReferenceIdeal.Read.val_main_v66_eq, g0, g1, g2]
    exact ext2 fun r k => r0 _ _ _ r k
  · rw [Cert.OutprojReferenceIdeal.Read.val_main_v67_eq, g0, g1, g2, g3, g4, g5, g7]
    exact ext2 fun r k => (r61 _ _ _ _ _ _ _ r k).trans (e r k)
  · rw [Cert.OutprojReferenceIdeal.Read.val_main_v62_eq, g0, g1, g2, g3, g4, g5, g7]
    exact ext2 fun r k => (r62 _ _ _ _ _ _ _ r k).trans (Finset.sum_congr rfl fun q _ => congrArg (· * (a4 m c (ix2 k q) : EReal)) (e r q))
  · rw [Cert.OutprojReferenceIdeal.Read.val_main_v64_eq, g0, g1, g2, g3, g4, g5, g7]
    exact ext2 fun r k => (r64 _ _ _ _ _ _ _ r k).trans (congrArg (al * ·) (e r k))
  · rw [Cert.OutprojReferenceIdeal.Read.val_main_v39_eq, g0, g1, g2, g3, g4, g7]
    exact ext1 fun k => (r39 _ _ _ _ _ _ k).trans (Finset.sum_congr rfl fun r _ => mul_comm _ _)
  · rw [Cert.OutprojReferenceIdeal.Read.val_main_v33_eq, g7]
    exact ext1 fun k => r33 _ k

end Cert.Proof.Outproj

end
-- ==== Proof.FfnFrame.Runs.lean ====
/- The body along one path of its conditionals, run whole over any contents. -/
module

public import proofs.«01_k».proof.Proof.Gen.FfnKernelIdeal.Launch
public import proofs.«01_k».proof.Proof.Gen.FfnKernelIdeal.Frame
public import proofs.«01_k».proof.Proof.Gen.FfnKernelIdeal.Skeleton
public import proofs.«01_k».proof.Proof.Gen.FfnKernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The body's branch conditions -/

abbrev cond0_0 (i : grid0.Coords) : Prop := k0_cond1 i = 1#1
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 24 = 0)

abbrev cond0_1 (i : grid0.Coords) : Prop := k0_cond2 i = 1#1
theorem hcond0_1 : ∀ t : Fin cfg0.N, cond0_1 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 0)

abbrev cond0_2 (i : grid0.Coords) : Prop := k0_cond3 i = 1#1
theorem hcond0_2 : ∀ t : Fin cfg0.N, cond0_2 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem idleAt0_8_A : ∀ t : Fin cfg0.N, cond0_0 (grid0.coords t) → cond0_1 (grid0.coords t) → ¬cond0_2 (grid0.coords t) → cfg0.idle 8 (grid0.coords t) = true := by decide +kernel
theorem noFlush0_8_A : ∀ t : Fin cfg0.N, cond0_0 (grid0.coords t) → cond0_1 (grid0.coords t) → ¬cond0_2 (grid0.coords t) → (cfg0.win 8).flush t = false := by decide +kernel
theorem idleAt0_8_B : ∀ t : Fin cfg0.N, ¬cond0_0 (grid0.coords t) → ¬cond0_1 (grid0.coords t) → ¬cond0_2 (grid0.coords t) → cfg0.idle 8 (grid0.coords t) = true := by decide +kernel
theorem noFlush0_8_B : ∀ t : Fin cfg0.N, ¬cond0_0 (grid0.coords t) → ¬cond0_1 (grid0.coords t) → ¬cond0_2 (grid0.coords t) → (cfg0.win 8).flush t = false := by decide +kernel
theorem liveAt0_8_C : ∀ t : Fin cfg0.N, ¬cond0_0 (grid0.coords t) → ¬cond0_1 (grid0.coords t) → cond0_2 (grid0.coords t) → cfg0.idle 8 (grid0.coords t) = false := by decide +kernel
theorem idleAt0_8_D : ∀ t : Fin cfg0.N, ¬cond0_0 (grid0.coords t) → cond0_1 (grid0.coords t) → ¬cond0_2 (grid0.coords t) → cfg0.idle 8 (grid0.coords t) = true := by decide +kernel
theorem noFlush0_8_D : ∀ t : Fin cfg0.N, ¬cond0_0 (grid0.coords t) → cond0_1 (grid0.coords t) → ¬cond0_2 (grid0.coords t) → (cfg0.win 8).flush t = false := by decide +kernel
def freshTab0_12 : ℕ → Bool
  | 0 => true
  | n + 1 => (0x924924 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cond0_1 (grid0.coords t) → ¬cond0_2 (grid0.coords t) → cfg0.idle 12 (grid0.coords t) = false := by decide +kernel
theorem notFresh0_12_B : ∀ t : Fin cfg0.N, ¬cond0_0 (grid0.coords t) → ¬cond0_1 (grid0.coords t) → ¬cond0_2 (grid0.coords t) → cfg0.fresh 12 t.val = false := by
  intro t; rw [fresh0_12_eq t]; revert t; decide +kernel
theorem notFresh0_12_C : ∀ t : Fin cfg0.N, ¬cond0_0 (grid0.coords t) → ¬cond0_1 (grid0.coords t) → cond0_2 (grid0.coords t) → cfg0.fresh 12 t.val = false := by
  intro t; rw [fresh0_12_eq t]; revert t; decide +kernel
theorem liveAt0_12_D : ∀ t : Fin cfg0.N, ¬cond0_0 (grid0.coords t) → cond0_1 (grid0.coords t) → ¬cond0_2 (grid0.coords t) → cfg0.idle 12 (grid0.coords t) = false := by decide +kernel
def freshTab0_13 : ℕ → Bool
  | 0 => true
  | n + 1 => (0x800000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
theorem liveAt0_13_A : ∀ t : Fin cfg0.N, cond0_0 (grid0.coords t) → cond0_1 (grid0.coords t) → ¬cond0_2 (grid0.coords t) → cfg0.idle 13 (grid0.coords t) = false := by decide +kernel
theorem notFresh0_13_B : ∀ t : Fin cfg0.N, ¬cond0_0 (grid0.coords t) → ¬cond0_1 (grid0.coords t) → ¬cond0_2 (grid0.coords t) → cfg0.fresh 13 t.val = false := by
  intro t; rw [fresh0_13_eq t]; revert t; decide +kernel
theorem notFresh0_13_C : ∀ t : Fin cfg0.N, ¬cond0_0 (grid0.coords t) → ¬cond0_1 (grid0.coords t) → cond0_2 (grid0.coords t) → cfg0.fresh 13 t.val = false := by
  intro t; rw [fresh0_13_eq t]; revert t; decide +kernel
theorem liveAt0_13_D : ∀ t : Fin cfg0.N, ¬cond0_0 (grid0.coords t) → cond0_1 (grid0.coords t) → ¬cond0_2 (grid0.coords t) → cfg0.idle 13 (grid0.coords t) = false := by decide +kernel
theorem notFresh0_13_D : ∀ t : Fin cfg0.N, ¬cond0_0 (grid0.coords t) → cond0_1 (grid0.coords t) → ¬cond0_2 (grid0.coords t) → cfg0.fresh 13 t.val = false := by
  intro t; rw [fresh0_13_eq t]; revert t; decide +kernel

/-! ## The kernel body on any staging memrefs: a subtype the run finds -/

abbrev VO0_8 : View sig .tc .vmem S512x1024 .f32 := (Memref.whole cc0_stg8_0 : Memref sig .tc .vmem S512x1024 .f32).view
abbrev VO0_9 : View sig .tc .vmem S512x1024 .bf16 := (Memref.whole cc0_stg9_0 : Memref sig .tc .vmem S512x1024 .bf16).view
abbrev VO0_10 : View sig .tc .vmem S512x1024 .bf16 := (Memref.whole cc0_stg10_0 : Memref sig .tc .vmem S512x1024 .bf16).view
abbrev VO0_11 : View sig .tc .vmem S512x1024 .bf16 := (Memref.whole cc0_stg11_0 : Memref sig .tc .vmem S512x1024 .bf16).view
abbrev VO0_12 : View sig .tc .vmem S512x1024 .bf16 := (Memref.whole cc0_stg12_0 : Memref sig .tc .vmem S512x1024 .bf16).view
abbrev VO0_13 : View sig .tc .vmem S8x1024 .f32 := (Memref.whole cc0_stg13_0 : Memref sig .tc .vmem S8x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x1024 .f32 := win0_13.stage (cfg0.slots t 13)
abbrev hs0_13 (t : Fin cfg0.N) : (ms0_13 t).IsWhole := hstage0_13 ((cfg0.slots t 13).cast nbuf0_13)
abbrev scM0_0 : Memref sig .tc .vmem S512x1024 .f32 := Memref.whole cc0_scratch0
abbrev VS0_0 : View sig .tc .vmem S512x1024 .f32 := scM0_0.view

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.FfnKernelIdeal.Gen

end
-- ==== Proof.FfnFrame.RunA.lean ====
/- The body along one path of its conditionals, run whole over any contents. -/
module

public import proofs.«01_k».proof.Proof.FfnFrame.Runs

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_A (c : Dev nD) (i : grid0.Coords) (b2 : Memref sig .tc .vmem S512x1024 .f32) (g2 : b2.IsWhole) (b3 : Memref sig .tc .vmem S512x1024 .f32) (g3 : b3.IsWhole) (b4 : Memref sig .tc .vmem S512x1024 .bf16) (g4 : b4.IsWhole) (b5 : Memref sig .tc .vmem S512x1024 .bf16) (g5 : b5.IsWhole) (b6 : Memref sig .tc .vmem S1024x1024 .bf16) (g6 : b6.IsWhole) (b7 : Memref sig .tc .vmem S1024x1024 .bf16) (g7 : b7.IsWhole) (b8 : Memref sig .tc .vmem S1024x1024 .bf16) (g8 : b8.IsWhole) (b9 : Memref sig .tc .vmem S1x1024 .f32) (g9 : b9.IsWhole) (b11 : Memref sig .tc .vmem S512x1024 .f32) (g11 : b11.IsWhole) (b12 : Memref sig .tc .vmem S512x1024 .bf16) (g12 : b12.IsWhole) (b13 : Memref sig .tc .vmem S512x1024 .bf16) (g13 : b13.IsWhole) (b14 : Memref sig .tc .vmem S512x1024 .bf16) (g14 : b14.IsWhole) (b15 : Memref sig .tc .vmem S512x1024 .bf16) (g15 : b15.IsWhole) (b16 : Memref sig .tc .vmem S8x1024 .f32) (g16 : b16.IsWhole) (b17 : Memref sig .tc .vmem S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) :
    Σ' (L8 : List (View.Piece (Elt F) S512x1024 .f32)), Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x1024 .bf16)), Σ' (L13 : List (View.Piece (Elt F) S8x1024 .f32)), { LS0 : List (View.Piece (Elt F) S512x1024 .f32) //
      ∀ (xi8 : Vec F S512x1024 .f32) (E : Set ℕ) (K : PUnit → sProp (MT nD τ sig Unit (Elt F) ℕ (UR sig nD τ) ℕ)),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ d, owns (c : Thread nD τ) b12 fullShare d) ∗ (∃ d, owns (c : Thread nD τ) b13 fullShare d) ∗ (∃ d, owns (c : Thread nD τ) b14 fullShare d) ∗ (∃ d, owns (c : Thread nD τ) b15 fullShare d) ∗ (∃ d, owns (c : Thread nD τ) b16 fullShare d) ∗ (∃ d, owns (c : Thread nD τ) b17 fullShare d)
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ f, b12.view.loc (c : Thread nD τ) ↦[b12.view.set]{fullShare} b12.view.writes (Elt F) f L9) ∗ (∃ f, b13.view.loc (c : Thread nD τ) ↦[b13.view.set]{fullShare} b13.view.writes (Elt F) f L10) ∗ (∃ f, b14.view.loc (c : Thread nD τ) ↦[b14.view.set]{fullShare} b14.view.writes (Elt F) f L11) ∗ (∃ f, b15.view.loc (c : Thread nD τ) ↦[b15.view.set]{fullShare} b15.view.writes (Elt F) f L12) ∗ (∃ f, b16.view.loc (c : Thread nD τ) ↦[b16.view.set]{fullShare} b16.view.writes (Elt F) f L13) ∗ (∃ f, b17.view.loc (c : Thread nD τ) ↦[b17.view.set]{fullShare} b17.view.writes (Elt F) f LS0)) -∗ K ⟨⟩))
          ⊢ wp frame (wpE (defs₀ (F := F)) Variants.none c none) E (cc0_ffn_bwd i b2 g2 b3 g3 b4 g4 b5 g5 b6 g6 b7 g7 b8 g8 b9 g9 (Memref.whole main_v29) (Memref.isWhole_whole _) b11 g11 b12 g12 b13 g13 b14 g14 b15 g15 b16 g16 b17 g17) K } := by
  refine ⟨[], ?_, ?_, ?_, ?_, ?_, ?_, fun xi8 E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g11.eq_unread hf8
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g11.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.FfnKernelIdeal.Gen

end
-- ==== Proof.FfnFrame.RunB.lean ====
/- The body along one path of its conditionals, run whole over any contents. -/
module

public import proofs.«01_k».proof.Proof.FfnFrame.RunA

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_B (c : Dev nD) (i : grid0.Coords) (b2 : Memref sig .tc .vmem S512x1024 .f32) (g2 : b2.IsWhole) (b3 : Memref sig .tc .vmem S512x1024 .f32) (g3 : b3.IsWhole) (b4 : Memref sig .tc .vmem S512x1024 .bf16) (g4 : b4.IsWhole) (b5 : Memref sig .tc .vmem S512x1024 .bf16) (g5 : b5.IsWhole) (b6 : Memref sig .tc .vmem S1024x1024 .bf16) (g6 : b6.IsWhole) (b7 : Memref sig .tc .vmem S1024x1024 .bf16) (g7 : b7.IsWhole) (b8 : Memref sig .tc .vmem S1024x1024 .bf16) (g8 : b8.IsWhole) (b9 : Memref sig .tc .vmem S1x1024 .f32) (g9 : b9.IsWhole) (b11 : Memref sig .tc .vmem S512x1024 .f32) (g11 : b11.IsWhole) (b12 : Memref sig .tc .vmem S512x1024 .bf16) (g12 : b12.IsWhole) (b13 : Memref sig .tc .vmem S512x1024 .bf16) (g13 : b13.IsWhole) (b14 : Memref sig .tc .vmem S512x1024 .bf16) (g14 : b14.IsWhole) (b15 : Memref sig .tc .vmem S512x1024 .bf16) (g15 : b15.IsWhole) (b16 : Memref sig .tc .vmem S8x1024 .f32) (g16 : b16.IsWhole) (b17 : Memref sig .tc .vmem S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) :
    Σ' (L8 : List (View.Piece (Elt F) S512x1024 .f32)), Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x1024 .bf16)), Σ' (L13 : List (View.Piece (Elt F) S8x1024 .f32)), { LS0 : List (View.Piece (Elt F) S512x1024 .f32) //
      ∀ (xi8 : Vec F S512x1024 .f32) (E : Set ℕ) (K : PUnit → sProp (MT nD τ sig Unit (Elt F) ℕ (UR sig nD τ) ℕ)),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ d, owns (c : Thread nD τ) b12 fullShare d) ∗ (∃ d, owns (c : Thread nD τ) b13 fullShare d) ∗ (∃ d, owns (c : Thread nD τ) b14 fullShare d) ∗ owns (c : Thread nD τ) b15 fullShare xo12 ∗ owns (c : Thread nD τ) b16 fullShare xo13 ∗ owns (c : Thread nD τ) b17 fullShare xs0
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ f, b12.view.loc (c : Thread nD τ) ↦[b12.view.set]{fullShare} b12.view.writes (Elt F) f L9) ∗ (∃ f, b13.view.loc (c : Thread nD τ) ↦[b13.view.set]{fullShare} b13.view.writes (Elt F) f L10) ∗ (∃ f, b14.view.loc (c : Thread nD τ) ↦[b14.view.set]{fullShare} b14.view.writes (Elt F) f L11) ∗ owns (c : Thread nD τ) b15 fullShare xo12 ∗ owns (c : Thread nD τ) b16 fullShare xo13 ∗ (∃ f, b17.view.loc (c : Thread nD τ) ↦[b17.view.set]{fullShare} b17.view.writes (Elt F) f LS0)) -∗ K ⟨⟩))
          ⊢ wp frame (wpE (defs₀ (F := F)) Variants.none c none) E (cc0_ffn_bwd i b2 g2 b3 g3 b4 g4 b5 g5 b6 g6 b7 g7 b8 g8 b9 g9 (Memref.whole main_v29) (Memref.isWhole_whole _) b11 g11 b12 g12 b13 g13 b14 g14 b15 g15 b16 g16 b17 g17) K } := by
  refine ⟨[], ?_, ?_, ?_, [], [], ?_, fun xi8 E K => ?run⟩
  case run =>
    simp only [cc0_ffn_bwd_eq_skeleton]; unfold cc0_ffn_bwd_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g11.eq_unread hf8; obtain rfl := g15.eq_unread hf12; obtain rfl := g16.eq_unread hf13; obtain rfl := g17.eq_unread hfs0
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g11.read_unread _
      iexact H8
    isplitl [H9]; · iexists _; iexact H9
    isplitl [H10]; · iexists _; iexact H10
    isplitl [H11]; · iexists _; iexact H11
    isplitl [H12]
    · iexists _; isplitr; · ipureintro; exact g15.read_unread _
      iexact H12
    isplitl [H13]
    · iexists _; isplitr; · ipureintro; exact g16.read_unread _
      iexact H13
    iexists _; iexact HS0

end Cert.FfnKernelIdeal.Gen

end
-- ==== Proof.FfnFrame.RunC.lean ====
/- The body along one path of its conditionals, run whole over any contents. -/
module

public import proofs.«01_k».proof.Proof.FfnFrame.RunB

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_C (c : Dev nD) (i : grid0.Coords) (b2 : Memref sig .tc .vmem S512x1024 .f32) (g2 : b2.IsWhole) (b3 : Memref sig .tc .vmem S512x1024 .f32) (g3 : b3.IsWhole) (b4 : Memref sig .tc .vmem S512x1024 .bf16) (g4 : b4.IsWhole) (b5 : Memref sig .tc .vmem S512x1024 .bf16) (g5 : b5.IsWhole) (b6 : Memref sig .tc .vmem S1024x1024 .bf16) (g6 : b6.IsWhole) (b7 : Memref sig .tc .vmem S1024x1024 .bf16) (g7 : b7.IsWhole) (b8 : Memref sig .tc .vmem S1024x1024 .bf16) (g8 : b8.IsWhole) (b9 : Memref sig .tc .vmem S1x1024 .f32) (g9 : b9.IsWhole) (b11 : Memref sig .tc .vmem S512x1024 .f32) (g11 : b11.IsWhole) (b12 : Memref sig .tc .vmem S512x1024 .bf16) (g12 : b12.IsWhole) (b13 : Memref sig .tc .vmem S512x1024 .bf16) (g13 : b13.IsWhole) (b14 : Memref sig .tc .vmem S512x1024 .bf16) (g14 : b14.IsWhole) (b15 : Memref sig .tc .vmem S512x1024 .bf16) (g15 : b15.IsWhole) (b16 : Memref sig .tc .vmem S8x1024 .f32) (g16 : b16.IsWhole) (b17 : Memref sig .tc .vmem S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) :
    Σ' (L8 : List (View.Piece (Elt F) S512x1024 .f32)), Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x1024 .bf16)), Σ' (L13 : List (View.Piece (Elt F) S8x1024 .f32)), { LS0 : List (View.Piece (Elt F) S512x1024 .f32) //
      ∀ (E : Set ℕ) (K : PUnit → sProp (MT nD τ sig Unit (Elt F) ℕ (UR sig nD τ) ℕ)),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ (∃ d, owns (c : Thread nD τ) b11 fullShare d) ∗ (∃ d, owns (c : Thread nD τ) b12 fullShare d) ∗ (∃ d, owns (c : Thread nD τ) b13 fullShare d) ∗ (∃ d, owns (c : Thread nD τ) b14 fullShare d) ∗ owns (c : Thread nD τ) b15 fullShare xo12 ∗ owns (c : Thread nD τ) b16 fullShare xo13 ∗ owns (c : Thread nD τ) b17 fullShare xs0
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ (∃ f, b11.view.loc (c : Thread nD τ) ↦[b11.view.set]{fullShare} b11.view.writes (Elt F) f L8) ∗ (∃ f, b12.view.loc (c : Thread nD τ) ↦[b12.view.set]{fullShare} b12.view.writes (Elt F) f L9) ∗ (∃ f, b13.view.loc (c : Thread nD τ) ↦[b13.view.set]{fullShare} b13.view.writes (Elt F) f L10) ∗ (∃ f, b14.view.loc (c : Thread nD τ) ↦[b14.view.set]{fullShare} b14.view.writes (Elt F) f L11) ∗ owns (c : Thread nD τ) b15 fullShare xo12 ∗ owns (c : Thread nD τ) b16 fullShare xo13 ∗ (∃ f, b17.view.loc (c : Thread nD τ) ↦[b17.view.set]{fullShare} b17.view.writes (Elt F) f LS0)) -∗ K ⟨⟩))
          ⊢ wp frame (wpE (defs₀ (F := F)) Variants.none c none) E (cc0_ffn_bwd i b2 g2 b3 g3 b4 g4 b5 g5 b6 g6 b7 g7 b8 g8 b9 g9 (Memref.whole main_v29) (Memref.isWhole_whole _) b11 g11 b12 g12 b13 g13 b14 g14 b15 g15 b16 g16 b17 g17) K } := by
  refine ⟨?_, ?_, ?_, ?_, [], [], ?_, fun E K => ?run⟩
  case run =>
    simp only [cc0_ffn_bwd_eq_skeleton]; unfold cc0_ffn_bwd_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g15.eq_unread hf12; obtain rfl := g16.eq_unread hf13; obtain rfl := g17.eq_unread hfs0
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact g15.read_unread _
      iexact H12
    isplitl [H13]
    · iexists _; isplitr; · ipureintro; exact g16.read_unread _
      iexact H13
    iexists _; iexact HS0

end Cert.FfnKernelIdeal.Gen

end
-- ==== Proof.FfnFrame.RunD.lean ====
/- The body along one path of its conditionals, run whole over any contents. -/
module

public import proofs.«01_k».proof.Proof.FfnFrame.RunC

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_D (c : Dev nD) (i : grid0.Coords) (b2 : Memref sig .tc .vmem S512x1024 .f32) (g2 : b2.IsWhole) (b3 : Memref sig .tc .vmem S512x1024 .f32) (g3 : b3.IsWhole) (b4 : Memref sig .tc .vmem S512x1024 .bf16) (g4 : b4.IsWhole) (b5 : Memref sig .tc .vmem S512x1024 .bf16) (g5 : b5.IsWhole) (b6 : Memref sig .tc .vmem S1024x1024 .bf16) (g6 : b6.IsWhole) (b7 : Memref sig .tc .vmem S1024x1024 .bf16) (g7 : b7.IsWhole) (b8 : Memref sig .tc .vmem S1024x1024 .bf16) (g8 : b8.IsWhole) (b9 : Memref sig .tc .vmem S1x1024 .f32) (g9 : b9.IsWhole) (b11 : Memref sig .tc .vmem S512x1024 .f32) (g11 : b11.IsWhole) (b12 : Memref sig .tc .vmem S512x1024 .bf16) (g12 : b12.IsWhole) (b13 : Memref sig .tc .vmem S512x1024 .bf16) (g13 : b13.IsWhole) (b14 : Memref sig .tc .vmem S512x1024 .bf16) (g14 : b14.IsWhole) (b15 : Memref sig .tc .vmem S512x1024 .bf16) (g15 : b15.IsWhole) (b16 : Memref sig .tc .vmem S8x1024 .f32) (g16 : b16.IsWhole) (b17 : Memref sig .tc .vmem S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) :
    Σ' (L8 : List (View.Piece (Elt F) S512x1024 .f32)), Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x1024 .bf16)), Σ' (L13 : List (View.Piece (Elt F) S8x1024 .f32)), { LS0 : List (View.Piece (Elt F) S512x1024 .f32) //
      ∀ (xi8 : Vec F S512x1024 .f32) (E : Set ℕ) (K : PUnit → sProp (MT nD τ sig Unit (Elt F) ℕ (UR sig nD τ) ℕ)),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ d, owns (c : Thread nD τ) b12 fullShare d) ∗ (∃ d, owns (c : Thread nD τ) b13 fullShare d) ∗ (∃ d, owns (c : Thread nD τ) b14 fullShare d) ∗ (∃ d, owns (c : Thread nD τ) b15 fullShare d) ∗ owns (c : Thread nD τ) b16 fullShare xo13 ∗ (∃ d, owns (c : Thread nD τ) b17 fullShare d)
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ owns (c : Thread nD τ) b9 fullShare x7 ∗ owns (c : Thread nD τ) b11 fullShare xi8 ∗ (∃ f, b12.view.loc (c : Thread nD τ) ↦[b12.view.set]{fullShare} b12.view.writes (Elt F) f L9) ∗ (∃ f, b13.view.loc (c : Thread nD τ) ↦[b13.view.set]{fullShare} b13.view.writes (Elt F) f L10) ∗ (∃ f, b14.view.loc (c : Thread nD τ) ↦[b14.view.set]{fullShare} b14.view.writes (Elt F) f L11) ∗ (∃ f, b15.view.loc (c : Thread nD τ) ↦[b15.view.set]{fullShare} b15.view.writes (Elt F) f L12) ∗ (b16.view.loc (c : Thread nD τ) ↦[b16.view.set]{fullShare} b16.view.writes (Elt F) (g16.unread xo13) L13) ∗ (∃ f, b17.view.loc (c : Thread nD τ) ↦[b17.view.set]{fullShare} b17.view.writes (Elt F) f LS0)) -∗ K ⟨⟩))
          ⊢ wp frame (wpE (defs₀ (F := F)) Variants.none c none) E (cc0_ffn_bwd i b2 g2 b3 g3 b4 g4 b5 g5 b6 g6 b7 g7 b8 g8 b9 g9 (Memref.whole main_v29) (Memref.isWhole_whole _) b11 g11 b12 g12 b13 g13 b14 g14 b15 g15 b16 g16 b17 g17) K } := by
  refine ⟨[], ?_, ?_, ?_, ?_, ?_, ?_, fun xi8 E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%ds0, %fs0, -, HS0⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g11.eq_unread hf8; obtain rfl := g16.eq_unread hf13
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g11.read_unread _
      iexact H8
    isplitl [H9]; · iexists _; iexact H9
    isplitl [H10]; · iexists _; iexact H10
    isplitl [H11]; · iexists _; iexact H11
    isplitl [H12]; · iexists _; iexact H12
    isplitl [H13]; · iexact H13
    iexists _; iexact HS0

end Cert.FfnKernelIdeal.Gen

end
-- ==== Proof.FfnFrame.Outs.lean ====
/- What the output blocks and the scratch hold after each point, and the proof data. -/
module

public import proofs.«01_k».proof.Proof.FfnFrame.RunD
public import Idealize.ShloMosaic.Lib.Claim

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A block in the core's memory. -/
abbrev MR (s : Shape) (e : EltTy) := Memref sig .tc .vmem s e

variable (m : (ℓ : Loc nD τ sig) → Buf (Elt F) ℓ) (ρ : Dev nD → PrngReg)
def out0_A_8 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .f32 :=
  VO0_8.read (Elt F) (VO0_8.writes (Elt F) VO0_8.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).1)

theorem cover0_A_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S512x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.1, y ∈ pc.1.set :=
  View.cover_of_tiledL (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.1 S256x1024.size (by sl_kernel_rfl) y

def out0_A_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .bf16 :=
  VO0_9.read (Elt F) (VO0_9.writes (Elt F) VO0_9.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.1)

theorem cover0_A_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S512x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.1, y ∈ pc.1.set :=
  View.cover_of_tiledL (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.1 S256x1024.size (by sl_kernel_rfl) y

def out0_A_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .bf16 :=
  VO0_10.read (Elt F) (VO0_10.writes (Elt F) VO0_10.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.1)

theorem cover0_A_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S512x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.1, y ∈ pc.1.set :=
  View.cover_of_tiledL (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.1 S256x1024.size (by sl_kernel_rfl) y

def out0_A_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .bf16 :=
  VO0_11.read (Elt F) (VO0_11.writes (Elt F) VO0_11.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.1)

theorem cover0_A_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S512x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.1, y ∈ pc.1.set :=
  View.cover_of_tiledL (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.1 S512x1024.size (by sl_kernel_rfl) y

def out0_A_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .bf16 :=
  VO0_12.read (Elt F) (VO0_12.writes (Elt F) VO0_12.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.1)

theorem cover0_A_13 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S8x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.1, y ∈ pc.1.set :=
  View.cover_of_tiledBy (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.1 ![1, 1024] (by sl_kernel_rfl) y

def out0_A_13 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S8x1024 .f32 :=
  VO0_13.read (Elt F) (VO0_13.writes (Elt F) VO0_13.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.1)

theorem scover0_A_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (y : S512x1024.Idx) :
    ∃ pc ∈ (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.2.1, y ∈ pc.1.set :=
  View.cover_of_wholeMem (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.2.1 (by sl_whole_mem) y

def sout0_A_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) : Vec F S512x1024 .f32 :=
  VS0_0.read (Elt F) (VS0_0.writes (Elt F) VS0_0.junk (kernelRun0_A c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7).2.2.2.2.2.2.1)

def out0_B_8 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .f32 :=
  VO0_8.read (Elt F) (VO0_8.writes (Elt F) VO0_8.junk (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).1)

theorem cover0_B_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1, y ∈ pc.1.set :=
  View.cover_of_tiledL (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1 S256x1024.size (by sl_kernel_rfl) y

def out0_B_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_9.read (Elt F) (VO0_9.writes (Elt F) VO0_9.junk (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1)

theorem cover0_B_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1, y ∈ pc.1.set :=
  View.cover_of_tiledL (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1 S256x1024.size (by sl_kernel_rfl) y

def out0_B_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_10.read (Elt F) (VO0_10.writes (Elt F) VO0_10.junk (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1)

theorem cover0_B_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1, y ∈ pc.1.set :=
  View.cover_of_tiledL (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1 S256x1024.size (by sl_kernel_rfl) y

def out0_B_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_11.read (Elt F) (VO0_11.writes (Elt F) VO0_11.junk (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1)

def out0_B_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 := xo12

def out0_B_13 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S8x1024 .f32 := xo13

theorem scover0_B_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1, y ∈ pc.1.set :=
  View.cover_of_tiledL (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1 S256x1024.size (by sl_kernel_rfl) y

def sout0_B_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : ¬cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .f32 :=
  VS0_0.read (Elt F) (VS0_0.writes (Elt F) VS0_0.junk (kernelRun0_B c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1)

theorem cover0_C_8 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).1, y ∈ pc.1.set :=
  View.cover_of_tiledL (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).1 S512x1024.size (by sl_kernel_rfl) y

def out0_C_8 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .f32 :=
  VO0_8.read (Elt F) (VO0_8.writes (Elt F) VO0_8.junk (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).1)

theorem cover0_C_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1, y ∈ pc.1.set :=
  View.cover_of_tiledL (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1 S256x1024.size (by sl_kernel_rfl) y

def out0_C_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_9.read (Elt F) (VO0_9.writes (Elt F) VO0_9.junk (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.1)

theorem cover0_C_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1, y ∈ pc.1.set :=
  View.cover_of_tiledL (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1 S256x1024.size (by sl_kernel_rfl) y

def out0_C_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_10.read (Elt F) (VO0_10.writes (Elt F) VO0_10.junk (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.1)

theorem cover0_C_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1, y ∈ pc.1.set :=
  View.cover_of_tiledL (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1 S256x1024.size (by sl_kernel_rfl) y

def out0_C_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 :=
  VO0_11.read (Elt F) (VO0_11.writes (Elt F) VO0_11.junk (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.1)

def out0_C_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .bf16 := xo12

def out0_C_13 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S8x1024 .f32 := xo13

theorem scover0_C_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) (y : S512x1024.Idx) :
    ∃ pc ∈ (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1, y ∈ pc.1.set :=
  View.cover_of_tiledL (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1 S256x1024.size (by sl_kernel_rfl) y

def sout0_C_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : ¬cond0_1 i) (hc2 : cond0_2 i)
    (x0 x1 : Vec F S512x1024 .f32) (x2 x3 : Vec F S512x1024 .bf16) (x4 x5 x6 : Vec F S1024x1024 .bf16) (x7 : Vec F S1x1024 .f32) (xo12 : Vec F S512x1024 .bf16) (xo13 : Vec F S8x1024 .f32) (xs0 : Vec F S512x1024 .f32) : Vec F S512x1024 .f32 :=
  VS0_0.read (Elt F) (VS0_0.writes (Elt F) VS0_0.junk (kernelRun0_C c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo12 xo13 xs0).2.2.2.2.2.2.1)

def out0_D_8 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .f32 :=
  VO0_8.read (Elt F) (VO0_8.writes (Elt F) VO0_8.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).1)

theorem cover0_D_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) (y : S512x1024.Idx) :
    ∃ pc ∈ (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.1, y ∈ pc.1.set :=
  View.cover_of_tiledL (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.1 S256x1024.size (by sl_kernel_rfl) y

def out0_D_9 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .bf16 :=
  VO0_9.read (Elt F) (VO0_9.writes (Elt F) VO0_9.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.1)

theorem cover0_D_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) (y : S512x1024.Idx) :
    ∃ pc ∈ (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.1, y ∈ pc.1.set :=
  View.cover_of_tiledL (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.1 S256x1024.size (by sl_kernel_rfl) y

def out0_D_10 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .bf16 :=
  VO0_10.read (Elt F) (VO0_10.writes (Elt F) VO0_10.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.1)

theorem cover0_D_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) (y : S512x1024.Idx) :
    ∃ pc ∈ (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.1, y ∈ pc.1.set :=
  View.cover_of_tiledL (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.1 S256x1024.size (by sl_kernel_rfl) y

def out0_D_11 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .bf16 :=
  VO0_11.read (Elt F) (VO0_11.writes (Elt F) VO0_11.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.1)

theorem cover0_D_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) (y : S512x1024.Idx) :
    ∃ pc ∈ (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.1, y ∈ pc.1.set :=
  View.cover_of_tiledL (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.1 S512x1024.size (by sl_kernel_rfl) y

def out0_D_12 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .bf16 :=
  VO0_12.read (Elt F) (VO0_12.writes (Elt F) VO0_12.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.1)

def out0_D_13 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S8x1024 .f32 :=
  b16.view.read (Elt F) (b16.view.writes (Elt F) (g16.unread xo13) (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.2.1)

theorem scover0_D_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) (y : S512x1024.Idx) :
    ∃ pc ∈ (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.2.2.1, y ∈ pc.1.set :=
  View.cover_of_wholeMem (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.2.2.1 (by sl_whole_mem) y

def sout0_D_0 (c : Dev nD) (i : grid0.Coords) (b2 : MR S512x1024 .f32) (g2 : b2.IsWhole) (b3 : MR S512x1024 .f32) (g3 : b3.IsWhole) (b4 : MR S512x1024 .bf16) (g4 : b4.IsWhole) (b5 : MR S512x1024 .bf16) (g5 : b5.IsWhole) (b6 : MR S1024x1024 .bf16) (g6 : b6.IsWhole) (b7 : MR S1024x1024 .bf16) (g7 : b7.IsWhole) (b8 : MR S1024x1024 .bf16) (g8 : b8.IsWhole) (b9 : MR S1x1024 .f32) (g9 : b9.IsWhole) (b11 : MR S512x1024 .f32) (g11 : b11.IsWhole) (b12 : MR S512x1024 .bf16) (g12 : b12.IsWhole) (b13 : MR S512x1024 .bf16) (g13 : b13.IsWhole) (b14 : MR S512x1024 .bf16) (g14 : b14.IsWhole) (b15 : MR S512x1024 .bf16) (g15 : b15.IsWhole) (b16 : MR S8x1024 .f32) (g16 : b16.IsWhole) (b17 : MR S512x1024 .f32) (g17 : b17.IsWhole) (hc0 : ¬cond0_0 i) (hc1 : cond0_1 i) (hc2 : ¬cond0_2 i)
    (x0 x1 : Vec F S512x1024 .f32) (x2 x3 : Vec F S512x1024 .bf16) (x4 x5 x6 : Vec F S1024x1024 .bf16) (x7 : Vec F S1x1024 .f32) (xo13 : Vec F S8x1024 .f32) : Vec F S512x1024 .f32 :=
  VS0_0.read (Elt F) (VS0_0.writes (Elt F) VS0_0.junk (kernelRun0_D c i b2 g2 b3 g3 b4 g4 b5 g5 b6 g6 b7 g7 b8 g8 b9 g9 b11 g11 b12 g12 b13 g13 b14 g14 b15 g15 b16 g16 b17 g17 hc0 hc1 hc2 x0 x1 x2 x3 x4 x5 x6 x7 xo13).2.2.2.2.2.2.1)

/-! ## What the outputs hold after each point -/

end Cert.FfnKernelIdeal.Gen

end
-- ==== Proof.FfnFrame.Trajectory.lean ====
/- What the output blocks and the scratch hold after each point, one recursion over the points. -/
module

public import proofs.«01_k».proof.Proof.FfnFrame.Outs

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
def outsAt0 (c : Dev nD) : (n : ℕ) → n < cfg0.N → Vec F S512x1024 .f32 × Vec F S512x1024 .bf16 × Vec F S512x1024 .bf16 × Vec F S512x1024 .bf16 × Vec F S512x1024 .bf16 × Vec F S8x1024 .f32 × Vec F S512x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 24 = 0 then
      if h1 : (n + 1) % 3 = 0 then
        if h2 : (n + 1) % 3 = 2 then
          False.elim (by have hN : n + 1 < 24 := lt_of_lt_of_eq hn (show cfg0.N = 24 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 24 := lt_of_lt_of_eq hn (show cfg0.N = 24 from N_0); omega)
    else
      if h1 : (n + 1) % 3 = 0 then
        if h2 : (n + 1) % 3 = 2 then
          False.elim (by have hN : n + 1 < 24 := lt_of_lt_of_eq hn (show cfg0.N = 24 from N_0); omega)
        else
          (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, out0_D_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.1)
      else
        if h2 : (n + 1) % 3 = 2 then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)

theorem outsAt0_A (c : Dev nD) (t : Fin cfg0.N) (h0 : t.val % 24 = 0) (h1 : t.val % 3 = 0) (h2 : ¬t.val % 3 = 2) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 24 = 0) (h1 : ¬t.val % 3 = 0) (h2 : ¬t.val % 3 = 2) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt0_C (c : Dev nD) (t : Fin cfg0.N) (h0 : ¬t.val % 24 = 0) (h1 : ¬t.val % 3 = 0) (h2 : t.val % 3 = 2) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_D (c : Dev nD) (t : Fin cfg0.N) (h0 : ¬t.val % 24 = 0) (h1 : t.val % 3 = 0) (h2 : ¬t.val % 3 = 2) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

end Cert.FfnKernelIdeal.Gen

end
-- ==== Proof.FfnFrame.Data.lean ====
/- The proof data: what each window's block holds after each point. -/
module

public import proofs.«01_k».proof.Proof.FfnFrame.Trajectory

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 24 := lt_of_lt_of_eq t.isLt (show cfg0.N = 24 from N_0)
  rw [after0_12, after0_12]
  by_cases h0 : t.val % 24 = 0
  · by_cases h1 : t.val % 3 = 0
    · by_cases h2 : t.val % 3 = 2
      · exfalso; omega
      · rw [liveAt0_12_A t ((hcond0_0 t).mpr h0) ((hcond0_1 t).mpr h1) (fun h => h2 ((hcond0_2 t).mp h))] at hi
        exact absurd hi Bool.false_ne_true
    · exfalso; omega
  · by_cases h1 : t.val % 3 = 0
    · by_cases h2 : t.val % 3 = 2
      · exfalso; omega
      · rw [liveAt0_12_D t (fun h => h0 ((hcond0_0 t).mp h)) ((hcond0_1 t).mpr h1) (fun h => h2 ((hcond0_2 t).mp h))] at hi
        exact absurd hi Bool.false_ne_true
    · by_cases h2 : t.val % 3 = 2
      · rw [outsAt0_C m c t h0 h1 h2]; dsimp only [out0_C_12]
      · rw [outsAt0_B m c t h0 h1 h2]; dsimp only [out0_B_12]

theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 24 := lt_of_lt_of_eq t.isLt (show cfg0.N = 24 from N_0)
  rw [after0_13, after0_13]
  by_cases h0 : t.val % 24 = 0
  · by_cases h1 : t.val % 3 = 0
    · by_cases h2 : t.val % 3 = 2
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val % 3 = 0
    · by_cases h2 : t.val % 3 = 2
      · exfalso; omega
      · rw [liveAt0_13_D t (fun h => h0 ((hcond0_0 t).mp h)) ((hcond0_1 t).mpr h1) (fun h => h2 ((hcond0_2 t).mp h))] at hi
        exact absurd hi Bool.false_ne_true
    · by_cases h2 : t.val % 3 = 2
      · rw [outsAt0_C m c t h0 h1 h2]; dsimp only [out0_C_13]
      · rw [outsAt0_B m c t h0 h1 h2]; dsimp only [out0_B_13]
theorem before0_12_B (c : Dev nD) (t : Fin cfg0.N) (h0 : ¬t.val % 24 = 0) (h1 : ¬t.val % 3 = 0) (h2 : ¬t.val % 3 = 2) (d) :
    (dats m 0 c).before 12 t d = (outsAt0 m c (t.val - 1) (Nat.lt_of_le_of_lt (Nat.sub_le _ _) t.isLt)).2.2.2.2.1 := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h)) (fun h => h2 ((hcond0_2 t).mp h))]; exact Bool.false_ne_true)]
  dsimp only [dats]
theorem before0_13_B (c : Dev nD) (t : Fin cfg0.N) (h0 : ¬t.val % 24 = 0) (h1 : ¬t.val % 3 = 0) (h2 : ¬t.val % 3 = 2) (d) :
    (dats m 0 c).before 13 t d = (outsAt0 m c (t.val - 1) (Nat.lt_of_le_of_lt (Nat.sub_le _ _) t.isLt)).2.2.2.2.2.1 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h)) (fun h => h2 ((hcond0_2 t).mp h))]; exact Bool.false_ne_true)]
  dsimp only [dats]
theorem before0_12_C (c : Dev nD) (t : Fin cfg0.N) (h0 : ¬t.val % 24 = 0) (h1 : ¬t.val % 3 = 0) (h2 : t.val % 3 = 2) (d) :
    (dats m 0 c).before 12 t d = (outsAt0 m c (t.val - 1) (Nat.lt_of_le_of_lt (Nat.sub_le _ _) t.isLt)).2.2.2.2.1 := by
  rw [Dat.before_out_traj _ 12 rfl (fun _ _ => rfl) (hcarry0_12 m c) t.val t rfl d,
    if_neg (by rw [notFresh0_12_C t (fun h => h0 ((hcond0_0 t).mp h)) (fun h => h1 ((hcond0_1 t).mp h)) ((hcond0_2 t).mpr h2)]; exact Bool.false_ne_true)]
  dsimp only [dats]
theorem before0_13_C (c : Dev nD) (t : Fin cfg0.N) (h0 : ¬t.val % 24 = 0) (h1 : ¬t.val % 3 = 0) (h2 : t.val % 3 = 2) (d) :
    (dats m 0 c).before 13 t d = (outsAt0 m c (t.val - 1) (Nat.lt_of_le_of_lt (Nat.sub_le _ _) t.isLt)).2.2.2.2.2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
theorem before0_13_D (c : Dev nD) (t : Fin cfg0.N) (h0 : ¬t.val % 24 = 0) (h1 : t.val % 3 = 0) (h2 : ¬t.val % 3 = 2) (d) :
    (dats m 0 c).before 13 t d = (outsAt0 m c (t.val - 1) (Nat.lt_of_le_of_lt (Nat.sub_le _ _) t.isLt)).2.2.2.2.2.1 := by
  rw [Dat.before_out_traj _ 13 rfl (fun _ _ => rfl) (hcarry0_13 m c) t.val t rfl d,
    if_neg (by rw [notFresh0_13_D t (fun h => h0 ((hcond0_0 t).mp h)) ((hcond0_1 t).mpr h1) (fun h => h2 ((hcond0_2 t).mp h))]; exact Bool.false_ne_true)]
  dsimp only [dats]

/-- A block the body hands back as it found it, where what it found is what is stated after the point. -/
theorem kept (c : Dev nD) (w : Fin cfg0.W) (t : Fin cfg0.N) (x) (hb : ∀ d, (dats (F := F) m 0 c).before w t d = x)
    (ha : (dats (F := F) m 0 c).after w t = x) (d₀ : (cfg0.win w).block.Idx → Elt F (cfg0.win w).elt) :
    owns (c : Thread nD τ) ((cfg0.win w).stage (cfg0.slots t w)) fullShare x ⊢ (dats (F := F) m 0 c).leavesExact w t := by
  unfold Dat.leavesExact
  cases cfg0.idle w (cfg0.grid.coords t)
  · rw [← ha]
  · cases (cfg0.win w).flush t
    · dsimp only
      rw [← hb d₀]
      iintro H; iexists _; iexact H
    · rw [← ha]

theorem kept0_12_B (c : Dev nD) (t : Fin cfg0.N) (h0 : ¬t.val % 24 = 0) (h1 : ¬t.val % 3 = 0) (h2 : ¬t.val % 3 = 2) :
    owns (c : Thread nD τ) (ms0_12 t) fullShare (outsAt0 m c (t.val - 1) (Nat.lt_of_le_of_lt (Nat.sub_le _ _) t.isLt)).2.2.2.2.1 ⊢ (dats (F := F) m 0 c).leavesExact 12 t :=
  kept m c 12 t _ (before0_12_B m c t h0 h1 h2) (by rw [after0_12, outsAt0_B m c t h0 h1 h2]; dsimp only [out0_B_12])
    (outsAt0 m c (t.val - 1) (Nat.lt_of_le_of_lt (Nat.sub_le _ _) t.isLt)).2.2.2.2.1

theorem kept0_12_C (c : Dev nD) (t : Fin cfg0.N) (h0 : ¬t.val % 24 = 0) (h1 : ¬t.val % 3 = 0) (h2 : t.val % 3 = 2) :
    owns (c : Thread nD τ) (ms0_12 t) fullShare (outsAt0 m c (t.val - 1) (Nat.lt_of_le_of_lt (Nat.sub_le _ _) t.isLt)).2.2.2.2.1 ⊢ (dats (F := F) m 0 c).leavesExact 12 t :=
  kept m c 12 t _ (before0_12_C m c t h0 h1 h2) (by rw [after0_12, outsAt0_C m c t h0 h1 h2]; dsimp only [out0_C_12])
    (outsAt0 m c (t.val - 1) (Nat.lt_of_le_of_lt (Nat.sub_le _ _) t.isLt)).2.2.2.2.1

theorem kept0_13_B (c : Dev nD) (t : Fin cfg0.N) (h0 : ¬t.val % 24 = 0) (h1 : ¬t.val % 3 = 0) (h2 : ¬t.val % 3 = 2) :
    owns (c : Thread nD τ) (ms0_13 t) fullShare (outsAt0 m c (t.val - 1) (Nat.lt_of_le_of_lt (Nat.sub_le _ _) t.isLt)).2.2.2.2.2.1 ⊢ (dats (F := F) m 0 c).leavesExact 13 t :=
  kept m c 13 t _ (before0_13_B m c t h0 h1 h2) (by rw [after0_13, outsAt0_B m c t h0 h1 h2]; dsimp only [out0_B_13])
    (outsAt0 m c (t.val - 1) (Nat.lt_of_le_of_lt (Nat.sub_le _ _) t.isLt)).2.2.2.2.2.1

theorem kept0_13_C (c : Dev nD) (t : Fin cfg0.N) (h0 : ¬t.val % 24 = 0) (h1 : ¬t.val % 3 = 0) (h2 : t.val % 3 = 2) :
    owns (c : Thread nD τ) (ms0_13 t) fullShare (outsAt0 m c (t.val - 1) (Nat.lt_of_le_of_lt (Nat.sub_le _ _) t.isLt)).2.2.2.2.2.1 ⊢ (dats (F := F) m 0 c).leavesExact 13 t :=
  kept m c 13 t _ (before0_13_C m c t h0 h1 h2) (by rw [after0_13, outsAt0_C m c t h0 h1 h2]; dsimp only [out0_C_13])
    (outsAt0 m c (t.val - 1) (Nat.lt_of_le_of_lt (Nat.sub_le _ _) t.isLt)).2.2.2.2.2.1

end Cert.FfnKernelIdeal.Gen

end
-- ==== Proof.FfnFrame.Body.lean ====
/- The body at a grid point, and the whole run. -/
module

public import proofs.«01_k».proof.Proof.FfnFrame.Data

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases h1 : t.val % 3 = 0
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        by_cases hz : t.val = 0
        · rw [PhiS_castSucc m c t, PhiS_zero m c _ _ hz, PhiA0_eq]
          rw [outsAt0_A m c t h0 h1 h2]
          unfold out0_A_9 out0_A_10 out0_A_11 out0_A_12 out0_A_13 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [HS0]; · iexact HS0
          iintro ⟨H0, H1, H2, H3, H4, H5, H6, H7, H8, ⟨%e9, H9⟩, ⟨%e10, H10⟩, ⟨%e11, H11⟩, ⟨%e12, H12⟩, ⟨%e13, H13⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _)
          unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _)
        · exfalso; have hN : t.val < 24 := lt_of_lt_of_eq t.isLt (show cfg0.N = 24 from N_0); omega
    · exfalso; omega
  · by_cases h1 : t.val % 3 = 0
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [Dat.leavesExact_idle (dats m 0 c) 8 t (idleAt0_8_D t (fun h => h0 ((hcond0_0 t).mp h)) ((hcond0_1 t).mpr h1) (fun h => h2 ((hcond0_2 t).mp h))) (noFlush0_8_D t (fun h => h0 ((hcond0_0 t).mp h)) ((hcond0_1 t).mpr h1) (fun h => h2 ((hcond0_2 t).mp h)))]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_D t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_D t (fun h => h0 ((hcond0_0 t).mp h)) ((hcond0_1 t).mpr h1) (fun h => h2 ((hcond0_2 t).mp h))], after0_13]
        by_cases hz : t.val = 0
        · exfalso; have hN : t.val < 24 := lt_of_lt_of_eq t.isLt (show cfg0.N = 24 from N_0); omega
        · rw [PhiS_castSucc m c t, PhiS_pos m c _ _ hz]
          rw [outsAt0_D m c t h0 h1 h2]
          simp only [before0_13_D m c t h0 h1 h2]
          unfold out0_D_9 out0_D_10 out0_D_11 out0_D_12 out0_D_13 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_D c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _).2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexact H13
          isplitl [HS0]; · iexists _; iexact HS0
          iintro ⟨H0, H1, H2, H3, H4, H5, H6, H7, H8, ⟨%e9, H9⟩, ⟨%e10, H10⟩, ⟨%e11, H11⟩, ⟨%e12, H12⟩, H13, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]
          · unfold owns; iexists _; isplitr
            swap; · iexact H9
            ipureintro; exact View.read_writes_of_cover _ _ _ _ _ (cover0_D_9 c _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _)
          unfold owns; iexists _; isplitr
          swap; · iexact H13
          ipureintro; rfl
    · by_cases h2 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · exfalso; have hN : t.val < 24 := lt_of_lt_of_eq t.isLt (show cfg0.N = 24 from N_0); omega
        · rw [PhiS_castSucc m c t, PhiS_pos m c _ _ hz]
          rw [outsAt0_C m c t h0 h1 h2]
          simp only [before0_12_C m c t h0 h1 h2, before0_13_C m c t h0 h1 h2]
          unfold out0_C_8 out0_C_9 out0_C_10 out0_C_11 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _ _).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexact H12
          isplitl [H13]; · iexact H13
          isplitl [HS0]; · iexact HS0
          iintro ⟨H0, H1, H2, H3, H4, H5, H6, H7, ⟨%e8, H8⟩, ⟨%e9, H9⟩, ⟨%e10, H10⟩, ⟨%e11, H11⟩, H12, H13, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _)
          isplitl [H12]; · iapply (kept0_12_C m c t h0 h1 h2); iexact H12
          iapply (kept0_13_C m c t h0 h1 h2); iexact H13
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · exfalso; have hN : t.val < 24 := lt_of_lt_of_eq t.isLt (show cfg0.N = 24 from N_0); omega
        · rw [PhiS_castSucc m c t, PhiS_pos m c _ _ hz]
          rw [outsAt0_B m c t h0 h1 h2]
          simp only [before0_12_B m c t h0 h1 h2, before0_13_B m c t h0 h1 h2]
          unfold out0_B_9 out0_B_10 out0_B_11 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) _ _ _).2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexact H12
          isplitl [H13]; · iexact H13
          isplitl [HS0]; · iexact HS0
          iintro ⟨H0, H1, H2, H3, H4, H5, H6, H7, H8, ⟨%e9, H9⟩, ⟨%e10, H10⟩, ⟨%e11, H11⟩, H12, H13, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _)
          isplitl [H12]; · iapply (kept0_12_B m c t h0 h1 h2); iexact H12
          iapply (kept0_13_B m c t h0 h1 h2); iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 24 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnKernelIdeal.Gen

end
-- ==== Proof.FfnBits.lean ====
/- The feed-forward block's derivative on words: the run the frame of the real reading was proved by. -/
module

public import proofs.«01_k».proof.Defs
public import proofs.«01_k».proof.Proof.FfnFrame.Body
public import proofs.«01_k».proof.Proof.Gen.FfnKernel
public import Idealize.ShloMosaic.Lib.Claim

@[expose] public section

set_option maxRecDepth 16384

noncomputable section

open Idealize.ShloMosaic Idealize.ShloMosaic.TcCoe Idealize.SL.Sem

namespace Cert.Proof.Ffn

open Cert.FfnKernelIdeal in
/-- The frame's statement on words is the one the run gives: the two programs are one text. -/
theorem one_text : Cert.quiescent_FfnKernel = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  sl_kernel_rfl

theorem frame_kernel : Cert.quiescent_FfnKernel :=
  one_text.mpr fun m ρ _ => Cert.FfnKernelIdeal.Gen.frame (F := Bits) m ρ

end Cert.Proof.Ffn

end
-- ==== Proof.Halves.lean ====
module

public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe

/-! Blocks of 512 rows stored as two halves of 256, and an axis of 8 times 352 laid out as 8 times 384. -/

namespace Cert.Halves

abbrev B : Shape := ⟨2, ![512, 1024]⟩
abbrev H : Shape := ⟨2, ![256, 1024]⟩

/-- What a list of stores holds whose two newest are the lower and the upper half. -/
theorem two {sig : RefSig} {κ : Kind} {sp : Space} {e : EltTy} (v : View sig κ sp B e)
    (i0 : ∀ a, (![0, 0] : Fin 2 → Nat) a + ![256, 1024] a ≤ B.size a) (i1 : ∀ a, (![256, 0] : Fin 2 → Nat) a + ![256, 1024] a ≤ B.size a)
    (p0 p1 : H.Idx → Elt Ideal e) (L : List (View.Piece (Elt Ideal) B e)) (j : B.Idx) (G : B.Idx → Elt Ideal e)
    (h0 : ∀ (r : Fin 256) (k : Fin 1024), p0 (ix2 r k) = G (ix2 ⟨r.val, by omega⟩ k))
    (h1 : ∀ (r : Fin 256) (k : Fin 1024), p1 (ix2 r k) = G (ix2 ⟨256 + r.val, by omega⟩ k)) :
    View.canon (Val := Elt Ideal) (⟨Rect.unit ![256, 0] ![256, 1024] i1, p1⟩ :: ⟨Rect.unit ![0, 0] ![256, 1024] i0, p0⟩ :: L) j = G j := by
  have hj : (j 0).val < 512 := (j 0).isLt
  rw [← View.read_writes_junk_apply_eq_canon v]
  by_cases h : (j 0).val < 256
  · rw [View.read_writes_cons_rows_of_not_mem (o := 256) (W := 256) v v.junk i1 p1 _ j rfl rfl (by omega),
      View.read_writes_cons_rows_of_mem (o := 0) v v.junk i0 p0 _ j (ix2 ⟨(j 0).val, h⟩ (j 1)) rfl (by simp) rfl]
    refine (h0 ⟨(j 0).val, h⟩ (j 1)).trans (congrArg G ?_)
    idx_ext
  · rw [View.read_writes_cons_rows_of_mem (o := 256) v v.junk i1 p1 _ j (ix2 ⟨(j 0).val - 256, by omega⟩ (j 1)) rfl (by simp; omega) rfl]
    refine (h1 ⟨(j 0).val - 256, by omega⟩ (j 1)).trans (congrArg G ?_)
    idx_ext

/-- A row of the upper half, where the newest store is the lower half. -/
theorem skip {sig : RefSig} {κ : Kind} {sp : Space} {e : EltTy} (v : View sig κ sp B e)
    (i0 : ∀ a, (![0, 0] : Fin 2 → Nat) a + ![256, 1024] a ≤ B.size a) (p0 : H.Idx → Elt Ideal e)
    (L : List (View.Piece (Elt Ideal) B e)) (j : B.Idx) (h : 256 ≤ (j 0).val) :
    View.canon (Val := Elt Ideal) (⟨Rect.unit ![0, 0] ![256, 1024] i0, p0⟩ :: L) j = View.canon (Val := Elt Ideal) L j := by
  rw [← View.read_writes_junk_apply_eq_canon v, View.read_writes_cons_rows_of_not_mem (o := 0) (W := 256) v v.junk i0 p0 _ j rfl rfl (by omega),
    View.read_writes_junk_apply_eq_canon v]

/-- Where column `c` of 8 times 352 lies among 8 times 384. -/
def wide (c : Fin 2816) : Fin 3072 := ⟨384 * (c.val / 352) + c.val % 352, by omega⟩
/-- Columns of 8 times 352 laid out as 8 times 384, with zeros between. -/
def spread (f : Fin 2816 → EReal) (p : Fin 3072) : EReal :=
  if h : p.val % 384 < 352 then f ⟨352 * (p.val / 384) + p.val % 384, by omega⟩ else 0

theorem spread_wide (f : Fin 2816 → EReal) (c : Fin 2816) : spread f (wide c) = f c := by
  unfold spread wide
  rw [dif_pos (by simp only; omega)]
  exact congrArg f (Fin.ext (by simp only; omega))

theorem spread_off (f : Fin 2816 → EReal) (p : Fin 3072) (h : ¬ p.val % 384 < 352) : spread f p = 0 := dif_neg h

/-- A sum over the wide axis, of a term that is zero between the columns. -/
theorem sum_wide (F : Fin 3072 → EReal) (h : ∀ p : Fin 3072, ¬ p.val % 384 < 352 → F p = 0) : ∑ p, F p = ∑ c, F (wide c) := by
  symm
  refine Finset.sum_of_injOn wide ?_ ?_ ?_ ?_
  · intro a _ b _ hab
    have := congrArg Fin.val hab
    simp only [wide] at this
    exact Fin.ext (by omega)
  · intro a _; exact Finset.mem_univ _
  · intro p _ hp
    refine h p fun hlt => hp ⟨⟨352 * (p.val / 384) + p.val % 384, by omega⟩, Finset.mem_univ _, Fin.ext ?_⟩
    simp only [wide]; omega
  · intro a _; rfl

/-- The wide axis cut into three blocks. -/
theorem sum_three (F : Fin 3072 → EReal) : ∑ p, F p = (∑ q : Fin 1024, F ⟨q.val, by omega⟩) + (∑ q : Fin 1024, F ⟨1024 + q.val, by omega⟩)
    + ∑ q : Fin 1024, F ⟨2048 + q.val, by omega⟩ := by
  have e : ∑ p, F p = ∑ p : Fin (1024 + 1024 + 1024), F ⟨p.val, by omega⟩ := rfl
  rw [e, Fin.sum_univ_add, Fin.sum_univ_add]
  rfl

end Cert.Halves
end
-- ==== Proof.FfnBlock.lean ====
module

public import proofs.«01_k».proof.Defs
public import proofs.«01_k».proof.Proof.Norm
public import proofs.«01_k».proof.Proof.Halves
public import proofs.«01_k».proof.Proof.FfnFrame.Body
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.FfnValue

open Cert.FfnKernelIdeal Cert.FfnKernelIdeal.Gen Cert.Norm Cert.Halves

theorem h13 (x : FVec Ideal S256x1024 .bf16) (w : FVec Ideal S1024x1024 .bf16) (r : Fin 256) (k : Fin 1024) :
    (k0_pay13 (F := Ideal) x w (ix2 r k) : EReal) = ∑ q, x (ix2 r q) * w (ix2 k q) := by
  pointwise [k0_pay13]

/-- The gate's own value and its slope. -/
def sl (g : EReal) : EReal := g * Ideal.logistic g
def dsl (g : EReal) : EReal := Ideal.logistic g * (1 + g * (1 - Ideal.logistic g))

section Entry

variable (D G U : FVec Ideal S512x1024 .bf16) (wd wg wu : FVec Ideal S1024x1024 .bf16)

/-- What the hidden layer receives. -/
def dh (j : S512x1024.Idx) : EReal := ∑ q, D (ix2 (j 0) q) * wd (ix2 (j 1) q)
def dgp (j : S512x1024.Idx) : EReal := dh D wd j * U j * dsl (G j)
def dup (j : S512x1024.Idx) : EReal := dh D wd j * sl (G j)
def hid (j : S512x1024.Idx) : EReal := sl (G j) * U j
/-- What one block of columns adds to a row's derivative. -/
def term (j : S512x1024.Idx) : EReal :=
  (∑ q, dgp D G U wd (ix2 (j 0) q) * wg (ix2 (j 1) q)) + ∑ q, dup D G wd (ix2 (j 0) q) * wu (ix2 (j 1) q)

end Entry

theorem hgp (g u d : FVec Ideal S256x1024 .bf16) (w : FVec Ideal S1024x1024 .bf16) (r : Fin 256) (k : Fin 1024) :
    (k0_pay23 (F := Ideal) (k0_pay15 g) (k0_pay17 g) (k0_pay21 d w u) k0_pay22 (ix2 r k) : EReal)
      = (∑ q, d (ix2 r q) * w (ix2 k q)) * u (ix2 r k) * dsl (g (ix2 r k)) := by
  rw [← h13]
  unfold k0_pay21
  generalize k0_pay13 (F := Ideal) d w = a
  pointwise [k0_pay23, k0_pay15, k0_pay17, k0_pay16, k0_pay22]
  rfl
theorem hup (g d : FVec Ideal S256x1024 .bf16) (w : FVec Ideal S1024x1024 .bf16) (r : Fin 256) (k : Fin 1024) :
    (k0_pay20 (F := Ideal) d w g (ix2 r k) : EReal) = (∑ q, d (ix2 r q) * w (ix2 k q)) * sl (g (ix2 r k)) := by
  rw [← h13]
  unfold k0_pay20
  generalize k0_pay13 (F := Ideal) d w = a
  pointwise [k0_pay18, k0_pay15, k0_pay17]
  rfl
theorem hhid (g u : FVec Ideal S256x1024 .bf16) (r : Fin 256) (k : Fin 1024) :
    (k0_pay19 (F := Ideal) g u (ix2 r k) : EReal) = sl (g (ix2 r k)) * u (ix2 r k) := by
  pointwise [k0_pay19, k0_pay18, k0_pay15, k0_pay17, k0_pay16]
  rfl
theorem hacc (v20 v24 v31 v32 a : FVec Ideal S256x1024 .f32) (v30 : FVec Ideal S256x1024 .bf16) (wg wu : FVec Ideal S1024x1024 .bf16) (r : Fin 256) (k : Fin 1024) :
    (k0_pay24 (F := Ideal) v20 v24 v30 v31 v32 a wg wu (ix2 r k) : EReal)
      = a (ix2 r k) + ((∑ q, k0_pay23 (F := Ideal) v20 v24 v31 v32 (ix2 r q) * wg (ix2 k q)) + ∑ q, v30 (ix2 r q) * wu (ix2 k q)) := by
  generalize h : k0_pay23 (F := Ideal) v20 v24 v31 v32 = e
  unfold k0_pay24
  rw [h]
  pointwise
theorem hacc' (v56 v60 v67 a : FVec Ideal S256x1024 .f32) (v66 : FVec Ideal S256x1024 .bf16) (wg wu : FVec Ideal S1024x1024 .bf16) (r : Fin 256) (k : Fin 1024) :
    (k0_pay2 (F := Ideal) v56 v60 v66 v67 a wg wu (ix2 r k) : EReal)
      = a (ix2 r k) + ((∑ q, k0_pay1 (F := Ideal) v56 v60 v67 (ix2 r q) * wg (ix2 k q)) + ∑ q, v66 (ix2 r q) * wu (ix2 k q)) := by
  generalize h : k0_pay1 (F := Ideal) v56 v60 v67 = e
  unfold k0_pay2
  rw [h]
  pointwise

abbrev r0 : Rect S512x1024 := Rect.unit ![0, 0] ![256, 1024] inb_S512x1024_S256x1024_0_0
abbrev r1 : Rect S512x1024 := Rect.unit ![256, 0] ![256, 1024] inb_S512x1024_S256x1024_256_0
abbrev rw : Rect S512x1024 := Rect.unit ![0, 0] ![512, 1024] inb_S512x1024_S512x1024_0_0

theorem emb0 (r : Fin 256) (k : Fin 1024) : r0.idx (ix2 r k) = (ix2 ⟨r.val, by omega⟩ k : S512x1024.Idx) := by idx_ext
theorem emb1 (r : Fin 256) (k : Fin 1024) : r1.idx (ix2 r k) = (ix2 ⟨256 + r.val, by omega⟩ k : S512x1024.Idx) := by idx_ext
theorem whole_idx (j : S512x1024.Idx) : rw.idx j = j := by idx_ext

/-- `d0` and `d1` are the lower and the upper half of `D`. -/
def Half {e : EltTy} (d0 d1 : S256x1024.Idx → Elt Ideal e) (D : S512x1024.Idx → Elt Ideal e) : Prop :=
  (∀ (r : Fin 256) (q : Fin 1024), d0 (ix2 r q) = D (ix2 ⟨r.val, by omega⟩ q)) ∧ ∀ (r : Fin 256) (q : Fin 1024), d1 (ix2 r q) = D (ix2 ⟨256 + r.val, by omega⟩ q)

theorem half_ld {e : EltTy} (D : S512x1024.Idx → Elt Ideal e) : Half (e := e) (View.ld D r0) (View.ld D r1) D :=
  ⟨fun r q => congrArg D (emb0 r q), fun r q => congrArg D (emb1 r q)⟩

theorem canon_whole {e : EltTy} (p : S512x1024.Idx → Elt Ideal e) (j : S512x1024.Idx) :
    View.canon (Val := Elt Ideal) (e := e) (s := S512x1024) [⟨rw, p⟩] j = p j := by
  refine View.canon_apply_of_pieces (Val := Elt Ideal) (e := e) (S := S512x1024) p _ (fun q hq x => ?_) j
    (View.cover_of_tiledBy _ ![512, 1024] (by sl_kernel_rfl) j)
  rcases List.mem_singleton.mp hq with rfl
  exact congrArg p (whole_idx x).symm

theorem half_readCov {e : EltTy} (v : View sig .tc .vmem S512x1024 e) (p : S512x1024.Idx → Elt Ideal e) :
    Half (e := e) (v.readCov (Val := Elt Ideal) [⟨rw, p⟩] r0.toLoadRect) (v.readCov (Val := Elt Ideal) [⟨rw, p⟩] r1.toLoadRect) p :=
  ⟨fun r q => by rw [View.readCov_eq_canon']; exact (canon_whole p _).trans (congrArg p (emb0 r q)),
    fun r q => by rw [View.readCov_eq_canon']; exact (canon_whole p _).trans (congrArg p (emb1 r q))⟩

section Blocks

variable (D G U : FVec Ideal S512x1024 .bf16) (d0 d1 : FVec Ideal S256x1024 .bf16) (wd wg wu : FVec Ideal S1024x1024 .bf16) (j : S512x1024.Idx)

theorem gp0 (h : Half (e := .bf16) d0 d1 D) (r : Fin 256) (k : Fin 1024) :
    (k0_pay23 (F := Ideal) (k0_pay15 (View.ld G r0)) (k0_pay17 (View.ld G r0)) (k0_pay21 d0 wd (View.ld U r0)) k0_pay22 (ix2 r k) : EReal)
      = dgp D G U wd (ix2 ⟨r.val, by omega⟩ k) := by
  refine (hgp _ _ _ _ _ _).trans ?_
  simp only [h.1, (half_ld (e := .bf16) G).1, (half_ld (e := .bf16) U).1]
  rfl
theorem gp1 (h : Half (e := .bf16) d0 d1 D) (r : Fin 256) (k : Fin 1024) :
    (k0_pay1 (F := Ideal) (k0_pay25 (View.ld G r1)) (k0_pay27 (View.ld G r1)) (k0_pay31 (k0_pay14 d1 wd) (View.ld U r1)) (ix2 r k) : EReal)
      = dgp D G U wd (ix2 ⟨256 + r.val, by omega⟩ k) := by
  refine (show _ = (k0_pay23 (F := Ideal) (k0_pay15 (View.ld G r1)) (k0_pay17 (View.ld G r1)) (k0_pay21 d1 wd (View.ld U r1)) k0_pay22 (ix2 r k) : EReal) from rfl).trans ((hgp _ _ _ _ _ _).trans ?_)
  simp only [h.2, (half_ld (e := .bf16) G).2, (half_ld (e := .bf16) U).2]
  rfl
theorem up0 (h : Half (e := .bf16) d0 d1 D) (r : Fin 256) (k : Fin 1024) :
    (k0_pay20 (F := Ideal) d0 wd (View.ld G r0) (ix2 r k) : EReal) = dup D G wd (ix2 ⟨r.val, by omega⟩ k) := by
  refine (hup _ _ _ _ _).trans ?_
  simp only [h.1, (half_ld (e := .bf16) G).1]
  rfl
theorem up1 (h : Half (e := .bf16) d0 d1 D) (r : Fin 256) (k : Fin 1024) :
    (k0_pay30 (F := Ideal) (k0_pay14 d1 wd) (View.ld G r1) (ix2 r k) : EReal) = dup D G wd (ix2 ⟨256 + r.val, by omega⟩ k) := by
  refine (show _ = (k0_pay20 (F := Ideal) d1 wd (View.ld G r1) (ix2 r k) : EReal) from rfl).trans ((hup _ _ _ _ _).trans ?_)
  simp only [h.2, (half_ld (e := .bf16) G).2]
  rfl

theorem gates (v : View sig .tc .vmem S512x1024 .bf16) (h : Half (e := .bf16) d0 d1 D) :
    View.canon (Val := Elt Ideal) (e := .bf16) (s := S512x1024)
      [⟨r1, k0_pay1 (F := Ideal) (k0_pay25 (View.ld G r1)) (k0_pay27 (View.ld G r1)) (k0_pay31 (k0_pay14 d1 wd) (View.ld U r1))⟩,
        ⟨r0, k0_pay23 (F := Ideal) (k0_pay15 (View.ld G r0)) (k0_pay17 (View.ld G r0)) (k0_pay21 d0 wd (View.ld U r0)) k0_pay22⟩] j = dgp D G U wd j :=
  two (e := .bf16) v _ _ _ _ _ j (dgp D G U wd) (gp0 D G U d0 d1 wd h) (gp1 D G U d0 d1 wd h)
theorem ups (v : View sig .tc .vmem S512x1024 .bf16) (h : Half (e := .bf16) d0 d1 D) :
    View.canon (Val := Elt Ideal) (e := .bf16) (s := S512x1024)
      [⟨r1, k0_pay30 (F := Ideal) (k0_pay14 d1 wd) (View.ld G r1)⟩, ⟨r0, k0_pay20 (F := Ideal) d0 wd (View.ld G r0)⟩] j = dup D G wd j :=
  two (e := .bf16) v _ _ _ _ _ j (dup D G wd) (up0 D G d0 d1 wd h) (up1 D G d0 d1 wd h)
theorem hids (v : View sig .tc .vmem S512x1024 .bf16) :
    View.canon (Val := Elt Ideal) (e := .bf16) (s := S512x1024)
      [⟨r1, k0_pay29 (F := Ideal) (View.ld G r1) (View.ld U r1)⟩, ⟨r0, k0_pay19 (F := Ideal) (View.ld G r0) (View.ld U r0)⟩] j = hid G U j := by
  refine two (e := .bf16) v _ _ _ _ _ j (hid G U) (fun r k => ?_) (fun r k => ?_)
  · refine (hhid _ _ _ _).trans ?_
    rw [(half_ld (e := .bf16) G).1, (half_ld (e := .bf16) U).1]; rfl
  · refine (show _ = k0_pay19 (F := Ideal) (View.ld G r1) (View.ld U r1) (ix2 r k) from rfl).trans ((hhid _ _ _ _).trans ?_)
    rw [(half_ld (e := .bf16) G).2, (half_ld (e := .bf16) U).2]; rfl

/-- The running sum after one point's two halves. -/
theorem sums (u : View sig .tc .vmem S512x1024 .f32) (A : FVec Ideal S512x1024 .f32) (a0 a1 : FVec Ideal S256x1024 .f32) (L : List (View.Piece (Elt Ideal) S512x1024 .f32))
    (h : Half (e := .bf16) d0 d1 D) (ha : Half (e := .f32) a0 a1 A) :
    View.canon (Val := Elt Ideal) (e := .f32) (s := S512x1024)
      (⟨r1, k0_pay2 (F := Ideal) (k0_pay25 (View.ld G r1)) (k0_pay27 (View.ld G r1)) (k0_pay30 (k0_pay14 d1 wd) (View.ld G r1)) (k0_pay31 (k0_pay14 d1 wd) (View.ld U r1)) a1 wg wu⟩
        :: ⟨r0, k0_pay24 (F := Ideal) (k0_pay15 (View.ld G r0)) (k0_pay17 (View.ld G r0)) (k0_pay20 d0 wd (View.ld G r0)) (k0_pay21 d0 wd (View.ld U r0)) k0_pay22 a0 wg wu⟩ :: L) j
      = (A j : EReal) + term D G U wd wg wu j := by
  refine two (e := .f32) u _ _ _ _ _ j (fun j => (A j : EReal) + term D G U wd wg wu j) (fun r k => ?_) (fun r k => ?_)
  · refine (hacc _ _ _ _ _ _ _ _ _ _).trans (congrArg₂ (fun a b : EReal => a + b) (ha.1 r k) ?_)
    simp only [gp0 D G U d0 d1 wd h, up0 D G d0 d1 wd h]
    rfl
  · refine (hacc' _ _ _ _ _ _ _ _ _).trans (congrArg₂ (fun a b : EReal => a + b) (ha.2 r k) ?_)
    simp only [gp1 D G U d0 d1 wd h, up1 D G d0 d1 wd h]
    rfl

end Blocks

/-! ## The norm's rows -/

abbrev al : EReal := Ideal.ofBits .f32 0x3FD744FD#32

theorem hhat (z : FVec Ideal S512x1024 .f32) (r : Fin 512) (k : Fin 1024) :
    (k0_pay5 (F := Ideal) z (ix2 r k) : EReal) = hat (fun q => z (ix2 r q)) k := by
  pointwise [k0_pay3, k0_pay4, k0_pay5]
  simp only [c_1024, c_eps, div_1024]
  rfl
theorem hback (d z : FVec Ideal S512x1024 .f32) (g : FVec Ideal S1x1024 .f32) (r : Fin 512) (k : Fin 1024) :
    (k0_pay6 (F := Ideal) d z g (ix2 r k) : EReal) = back (fun q => z (ix2 r q)) (fun q => d (ix2 r q) * g (ix2 0 q)) k := by
  pointwise [k0_pay3, k0_pay4, k0_pay5, k0_pay6]
  simp only [c_1024, c_eps, div_1024]
  rfl
theorem hback8 (d z : FVec Ideal S512x1024 .f32) (g : FVec Ideal S1x1024 .f32) (r : Fin 512) (k : Fin 1024) :
    (k0_pay8 (F := Ideal) d z g (ix2 r k) : EReal) = back (fun q => z (ix2 r q)) (fun q => d (ix2 r q) * g (ix2 0 q)) k :=
  (show _ = (k0_pay6 (F := Ideal) d z g (ix2 r k) : EReal) from rfl).trans (hback d z g r k)
theorem hacc0 (d z : FVec Ideal S512x1024 .f32) (g : FVec Ideal S1x1024 .f32) (r : Fin 512) (k : Fin 1024) :
    (k0_pay10 (F := Ideal) (k0_pay6 d z g) (ix2 r k) : EReal) = al * back (fun q => z (ix2 r q)) (fun q => d (ix2 r q) * g (ix2 0 q)) k := by
  rw [← hback]
  generalize k0_pay6 (F := Ideal) d z g = a
  pointwise [k0_pay10]
theorem h11 (d z : FVec Ideal S512x1024 .f32) (a : FVec Ideal S1x1024 .f32) (k : Fin 1024) :
    (k0_pay11 (F := Ideal) (k0_pay7 d z) a (ix2 0 k) : EReal) = a (ix2 0 k) + ∑ r : Fin 512, d (ix2 r k) * hat (fun q => z (ix2 r q)) k := by
  simp only [← hhat]
  unfold k0_pay7
  generalize k0_pay5 (F := Ideal) z = e
  pointwise [k0_pay11]
theorem h12 (d : FVec Ideal S512x1024 .f32) (a : FVec Ideal S1x1024 .f32) (k : Fin 1024) :
    (k0_pay12 (F := Ideal) d a (ix2 0 k) : EReal) = a (ix2 0 k) + ∑ r : Fin 512, d (ix2 r k) := by
  pointwise [k0_pay12]
theorem h9 (j : S8x1024.Idx) : (k0_pay9 (F := Ideal) j : EReal) = 0 := by pointwise [k0_pay9]

end Cert.FfnKernelIdeal.FfnValue
end
-- ==== Proof.FfnValue.lean ====
module

public import proofs.«01_k».proof.Defs
public import proofs.«01_k».proof.Proof.Norm
public import proofs.«01_k».proof.Proof.Halves
public import proofs.«01_k».proof.Proof.FfnBlock
public import proofs.«01_k».proof.Proof.FfnFrame.Body
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.FfnValue

open Cert.FfnKernelIdeal Cert.FfnKernelIdeal.Gen Cert.Norm Cert.Halves

variable (m : (ℓ : Loc nD τ sig) → Buf (Elt Ideal) ℓ)

theorem idx0 : ∀ t : Fin cfg0.N, win0_0.index t = ![t.val / 3, 0] ∧ win0_1.index t = ![t.val / 3, 0] ∧ win0_2.index t = ![t.val / 3, t.val % 3]
    ∧ win0_3.index t = ![t.val / 3, t.val % 3] ∧ win0_4.index t = ![0, t.val % 3] ∧ win0_5.index t = ![0, t.val % 3] ∧ win0_6.index t = ![t.val % 3, 0]
    ∧ win0_7.index t = ![0, 0] ∧ win0_8.index t = ![t.val / 3, 0]
    ∧ win0_9.index t = ![t.val / 3, t.val % 3] ∧ win0_10.index t = ![t.val / 3, t.val % 3] ∧ win0_11.index t = ![t.val / 3, t.val % 3]
    ∧ win0_12.index t = ![t.val / 3, 0] ∧ win0_13.index t = ![0, 0] :=
  (by decide +kernel : ∀ t : Fin grid0.N, _)

/-! ## The blocks as parts of the arrays -/

def row (t : Fin cfg0.N) (r : Fin 512) : Fin 4096 := ⟨512 * (t.val / 3) + r.val, by have : t.val < 24 := lt_of_lt_of_eq t.isLt N_0; omega⟩
def col (t : Fin cfg0.N) (q : Fin 1024) : Fin 3072 := ⟨1024 * (t.val % 3) + q.val, by omega⟩

theorem b0 (c : Dev nD) (t : Fin cfg0.N) (r : Fin 512) (q : Fin 1024) : iblk m c 0 t (ix2 r q) = V m c main_arg5 (ix2 (row t r) q) := by
  blk_ext [iblk, idx0 t, row]
theorem b1 (c : Dev nD) (t : Fin cfg0.N) (r : Fin 512) (q : Fin 1024) : iblk m c 1 t (ix2 r q) = V m c main_v7 (ix2 (row t r) q) := by
  blk_ext [iblk, idx0 t, row]
theorem b2 (c : Dev nD) (t : Fin cfg0.N) (r : Fin 512) (q : Fin 1024) : iblk m c 2 t (ix2 r q) = V m c main_v23 (ix2 (row t r) (col t q)) := by
  blk_ext [iblk, idx0 t, row, col]
theorem b3 (c : Dev nD) (t : Fin cfg0.N) (r : Fin 512) (q : Fin 1024) : iblk m c 3 t (ix2 r q) = V m c main_v27 (ix2 (row t r) (col t q)) := by
  blk_ext [iblk, idx0 t, row, col]
theorem b4 (c : Dev nD) (t : Fin cfg0.N) (k q : Fin 1024) : iblk m c 4 t (ix2 k q) = V m c main_v11 (ix2 k (col t q)) := by
  blk_ext [iblk, idx0 t, col]
theorem b5 (c : Dev nD) (t : Fin cfg0.N) (k q : Fin 1024) : iblk m c 5 t (ix2 k q) = V m c main_v15 (ix2 k (col t q)) := by
  blk_ext [iblk, idx0 t, col]
theorem b6 (c : Dev nD) (t : Fin cfg0.N) (q k : Fin 1024) : iblk m c 6 t (ix2 q k) = V m c main_v19 (ix2 (col t q) k) := by
  blk_ext [iblk, idx0 t, col]
theorem b7 (c : Dev nD) (t : Fin cfg0.N) (q : Fin 1024) : iblk m c 7 t (ix2 0 q) = V m c main_v28 (ix2 0 q) := by
  blk_ext [iblk, idx0 t]

section Arrays

variable (x z : FVec Ideal S4096x1024 .f32) (g : Fin 1024 → EReal) (gp up : FVec Ideal S4096x3072 .bf16) (wg wu : FVec Ideal S1024x3072 .bf16) (wd : FVec Ideal S3072x1024 .bf16)

/-- A row's derivative before the norm. -/
def dzA (r : Fin 4096) (k : Fin 1024) : EReal := back (fun q => z (ix2 r q)) (fun q => x (ix2 r q) * g q) k
/-- What column `p` of the hidden layer receives. -/
def dhA (r : Fin 4096) (p : Fin 3072) : EReal := ∑ q, dzA x z g r q * wd (ix2 p q)
def dgpA (r : Fin 4096) (p : Fin 3072) : EReal := dhA x z g wd r p * up (ix2 r p) * dsl (gp (ix2 r p))
def dupA (r : Fin 4096) (p : Fin 3072) : EReal := dhA x z g wd r p * sl (gp (ix2 r p))
def hidA (r : Fin 4096) (p : Fin 3072) : EReal := sl (gp (ix2 r p)) * up (ix2 r p)
/-- What column `p` of the hidden layer adds to entry `k` of row `r`. -/
def partA (r : Fin 4096) (k : Fin 1024) (p : Fin 3072) : EReal := dgpA x z g gp up wd r p * wg (ix2 k p) + dupA x z g gp wd r p * wu (ix2 k p)

end Arrays

abbrev gV (c : Dev nD) : Fin 1024 → EReal := fun q => V m c main_v28 (ix2 0 q)
abbrev DZ (c : Dev nD) (r : Fin 4096) (k : Fin 1024) : EReal := dzA (V m c main_arg5) (V m c main_v7) (gV m c) r k
abbrev DGP (c : Dev nD) (r : Fin 4096) (p : Fin 3072) : EReal := dgpA (V m c main_arg5) (V m c main_v7) (gV m c) (V m c main_v23) (V m c main_v27) (V m c main_v19) r p
abbrev DUP (c : Dev nD) (r : Fin 4096) (p : Fin 3072) : EReal := dupA (V m c main_arg5) (V m c main_v7) (gV m c) (V m c main_v23) (V m c main_v19) r p
abbrev HID (c : Dev nD) (r : Fin 4096) (p : Fin 3072) : EReal := hidA (V m c main_v23) (V m c main_v27) r p
abbrev PART (c : Dev nD) (r : Fin 4096) (k : Fin 1024) (p : Fin 3072) : EReal :=
  partA (V m c main_arg5) (V m c main_v7) (gV m c) (V m c main_v23) (V m c main_v27) (V m c main_v11) (V m c main_v15) (V m c main_v19) r k p

theorem dz8 (c : Dev nD) (t : Fin cfg0.N) (r : Fin 512) (k : Fin 1024) :
    (k0_pay8 (F := Ideal) (iblk m c 0 t) (iblk m c 1 t) (iblk m c 7 t) (ix2 r k) : EReal) = DZ m c (row t r) k := by
  refine (hback8 _ _ _ _ _).trans ?_
  simp only [b0, b1, b7]
  rfl
theorem dz10 (c : Dev nD) (t : Fin cfg0.N) (r : Fin 512) (k : Fin 1024) :
    (k0_pay10 (F := Ideal) (k0_pay6 (iblk m c 0 t) (iblk m c 1 t) (iblk m c 7 t)) (ix2 r k) : EReal) = al * DZ m c (row t r) k := by
  refine (hacc0 _ _ _ _ _).trans ?_
  simp only [b0, b1, b7]
  rfl

/-! ## What the points leave -/

/-- The rows' derivative as the point holds it. -/
abbrev dzb (c : Dev nD) (t : Fin cfg0.N) : FVec Ideal S512x1024 .bf16 := (outsAt0 m c t.val t.isLt).2.2.2.2.1

theorem dzb_first (c : Dev nD) (t : Fin cfg0.N) (h : t.val % 3 = 0) : dzb m c t = k0_pay8 (F := Ideal) (iblk m c 0 t) (iblk m c 1 t) (iblk m c 7 t) := by
  funext j
  by_cases h0 : t.val % 24 = 0
  · unfold dzb; rw [outsAt0_A m c t h0 h (by omega)]; frame_out; try exact canon_whole _ _
  · unfold dzb; rw [outsAt0_D m c t h0 h (by omega)]; frame_out; try exact canon_whole _ _
theorem dzb_next (c : Dev nD) (t : Fin cfg0.N) (h : ¬ t.val % 3 = 0) : dzb m c t = (outsAt0 m c (t.val - 1) (Nat.lt_of_le_of_lt (Nat.sub_le _ _) t.isLt)).2.2.2.2.1 := by
  by_cases h2 : t.val % 3 = 2
  · unfold dzb; rw [outsAt0_C m c t (by omega) h h2]; rfl
  · unfold dzb; rw [outsAt0_B m c t (by omega) h h2]; rfl
theorem dln_next (c : Dev nD) (t : Fin cfg0.N) (h : ¬ t.val % 3 = 0) : (outsAt0 m c t.val t.isLt).2.2.2.2.2.1 = (outsAt0 m c (t.val - 1) (Nat.lt_of_le_of_lt (Nat.sub_le _ _) t.isLt)).2.2.2.2.2.1 := by
  by_cases h2 : t.val % 3 = 2
  · rw [outsAt0_C m c t (by omega) h h2]; rfl
  · rw [outsAt0_B m c t (by omega) h h2]; rfl

theorem dzb_eq (c : Dev nD) : ∀ (n : Nat) (hn : n < cfg0.N) (r : Fin 512) (k : Fin 1024), (dzb m c ⟨n, hn⟩ (ix2 r k) : EReal) = DZ m c (row ⟨n, hn⟩ r) k := by
  intro n
  induction n with
  | zero => intro hn r k; rw [dzb_first m c ⟨0, hn⟩ rfl]; exact dz8 m c _ r k
  | succ n ih =>
    intro hn r k
    by_cases h : (n + 1) % 3 = 0
    · rw [dzb_first m c ⟨n + 1, hn⟩ h]; exact dz8 m c _ r k
    · rw [dzb_next m c ⟨n + 1, hn⟩ h]
      refine (ih (by omega) r k).trans (congrArg (fun r => DZ m c r k) (Fin.ext ?_))
      simp only [row]; omega

/-- What the point adds to its rows. -/
abbrev termAt (c : Dev nD) (t : Fin cfg0.N) : S512x1024.Idx → EReal :=
  term (dzb m c t) (iblk m c 2 t) (iblk m c 3 t) (iblk m c 6 t) (iblk m c 4 t) (iblk m c 5 t)

theorem half_first (c : Dev nD) (t : Fin cfg0.N) (h : t.val % 3 = 0) :
    Half (e := .bf16) ((ms0_12 t).view.readCov (Val := Elt Ideal) [⟨rw, k0_pay8 (F := Ideal) (iblk m c 0 t) (iblk m c 1 t) (iblk m c 7 t)⟩] r0.toLoadRect)
      ((ms0_12 t).view.readCov (Val := Elt Ideal) [⟨rw, k0_pay8 (F := Ideal) (iblk m c 0 t) (iblk m c 1 t) (iblk m c 7 t)⟩] r1.toLoadRect) (dzb m c t) := by
  rw [dzb_first m c t h]
  exact half_readCov (e := .bf16) _ _
theorem half_next (c : Dev nD) (t : Fin cfg0.N) (h : ¬ t.val % 3 = 0) :
    Half (e := .bf16) (View.ld (outsAt0 m c (t.val - 1) (Nat.lt_of_le_of_lt (Nat.sub_le _ _) t.isLt)).2.2.2.2.1 r0) (View.ld (outsAt0 m c (t.val - 1) (Nat.lt_of_le_of_lt (Nat.sub_le _ _) t.isLt)).2.2.2.2.1 r1) (dzb m c t) := by
  rw [dzb_next m c t h]
  exact half_ld (e := .bf16) _

theorem outgp (c : Dev nD) (t : Fin cfg0.N) (j : S512x1024.Idx) : (outsAt0 m c t.val t.isLt).2.1 j = dgp (dzb m c t) (iblk m c 2 t) (iblk m c 3 t) (iblk m c 6 t) j := by
  by_cases h : t.val % 3 = 0
  · by_cases h0 : t.val % 24 = 0
    · rw [outsAt0_A m c t h0 h (by omega)]; frame_out; exact gates _ _ _ _ _ _ _ (ms0_9 t).view (half_first m c t h)
    · rw [outsAt0_D m c t h0 h (by omega)]; frame_out; exact gates _ _ _ _ _ _ _ (ms0_9 t).view (half_first m c t h)
  · by_cases h2 : t.val % 3 = 2
    · rw [outsAt0_C m c t (by omega) h h2]; frame_out; exact gates _ _ _ _ _ _ _ (ms0_9 t).view (half_next m c t h)
    · rw [outsAt0_B m c t (by omega) h h2]; frame_out; exact gates _ _ _ _ _ _ _ (ms0_9 t).view (half_next m c t h)
theorem outup (c : Dev nD) (t : Fin cfg0.N) (j : S512x1024.Idx) : (outsAt0 m c t.val t.isLt).2.2.1 j = dup (dzb m c t) (iblk m c 2 t) (iblk m c 6 t) j := by
  by_cases h : t.val % 3 = 0
  · by_cases h0 : t.val % 24 = 0
    · rw [outsAt0_A m c t h0 h (by omega)]; frame_out; exact ups _ _ _ _ _ _ (ms0_10 t).view (half_first m c t h)
    · rw [outsAt0_D m c t h0 h (by omega)]; frame_out; exact ups _ _ _ _ _ _ (ms0_10 t).view (half_first m c t h)
  · by_cases h2 : t.val % 3 = 2
    · rw [outsAt0_C m c t (by omega) h h2]; frame_out; exact ups _ _ _ _ _ _ (ms0_10 t).view (half_next m c t h)
    · rw [outsAt0_B m c t (by omega) h h2]; frame_out; exact ups _ _ _ _ _ _ (ms0_10 t).view (half_next m c t h)
theorem outhid (c : Dev nD) (t : Fin cfg0.N) (j : S512x1024.Idx) : (outsAt0 m c t.val t.isLt).2.2.2.1 j = hid (iblk m c 2 t) (iblk m c 3 t) j := by
  by_cases h : t.val % 3 = 0
  · by_cases h0 : t.val % 24 = 0
    · rw [outsAt0_A m c t h0 h (by omega)]; frame_out; exact hids _ _ _ (ms0_11 t).view
    · rw [outsAt0_D m c t h0 h (by omega)]; frame_out; exact hids _ _ _ (ms0_11 t).view
  · by_cases h2 : t.val % 3 = 2
    · rw [outsAt0_C m c t (by omega) h h2]; frame_out; exact hids _ _ _ (ms0_11 t).view
    · rw [outsAt0_B m c t (by omega) h h2]; frame_out; exact hids _ _ _ (ms0_11 t).view

theorem half_scratch (c : Dev nD) (t : Fin cfg0.N) (p : FVec Ideal S512x1024 .f32) (x : FVec Ideal S256x1024 .f32) :
    Half (e := .f32) ((View.whole cc0_scratch0).readCov (Val := Elt Ideal) [⟨rw, p⟩] r0.toLoadRect)
      ((View.whole cc0_scratch0).readCov (Val := Elt Ideal) [⟨r0, x⟩, ⟨rw, p⟩] r1.toLoadRect) p := by
  refine ⟨(half_readCov (e := .f32) (View.whole cc0_scratch0) p).1, fun r k => ?_⟩
  rw [View.readCov_eq_canon']
  refine (skip (e := .f32) (View.whole cc0_scratch0) _ _ _ _ ?_).trans ((canon_whole (e := .f32) p _).trans (congrArg p (emb1 r k)))
  show 256 ≤ (r1.idx (ix2 r k) 0).val
  rw [emb1]
  show 256 ≤ 256 + r.val
  omega

theorem step_first (c : Dev nD) (t : Fin cfg0.N) (h : t.val % 3 = 0) (j : S512x1024.Idx) :
    (outsAt0 m c t.val t.isLt).2.2.2.2.2.2 j = (k0_pay10 (F := Ideal) (k0_pay6 (iblk m c 0 t) (iblk m c 1 t) (iblk m c 7 t)) j : EReal) + termAt m c t j := by
  by_cases h0 : t.val % 24 = 0
  · rw [outsAt0_A m c t h0 h (by omega)]; frame_out
    exact sums _ _ _ _ _ _ _ _ _ (View.whole cc0_scratch0) _ _ _ _ (half_first m c t h) (half_scratch c t _ _)
  · rw [outsAt0_D m c t h0 h (by omega)]; frame_out
    exact sums _ _ _ _ _ _ _ _ _ (View.whole cc0_scratch0) _ _ _ _ (half_first m c t h) (half_scratch c t _ _)

theorem sums_next (c : Dev nD) (t : Fin cfg0.N) (h : ¬ t.val % 3 = 0) (j : S512x1024.Idx) :
    View.canon (Val := Elt Ideal) (e := .f32) (s := S512x1024)
      [⟨r1, k0_pay2 (F := Ideal) (k0_pay25 (View.ld (iblk m c 2 t) r1)) (k0_pay27 (View.ld (iblk m c 2 t) r1)) (k0_pay30 (k0_pay14 (View.ld (outsAt0 m c (t.val - 1) (Nat.lt_of_le_of_lt (Nat.sub_le _ _) t.isLt)).2.2.2.2.1 r1) (iblk m c 6 t)) (View.ld (iblk m c 2 t) r1))
          (k0_pay31 (k0_pay14 (View.ld (outsAt0 m c (t.val - 1) (Nat.lt_of_le_of_lt (Nat.sub_le _ _) t.isLt)).2.2.2.2.1 r1) (iblk m c 6 t)) (View.ld (iblk m c 3 t) r1))
          (View.ld (View.read (Elt Ideal) (View.whole cc0_scratch0) ((Memref.isWhole_whole cc0_scratch0).unread (outsAt0 m c (t.val - 1) (Nat.lt_of_le_of_lt (Nat.sub_le _ _) t.isLt)).2.2.2.2.2.2)) r1) (iblk m c 4 t) (iblk m c 5 t)⟩,
        ⟨r0, k0_pay24 (F := Ideal) (k0_pay15 (View.ld (iblk m c 2 t) r0)) (k0_pay17 (View.ld (iblk m c 2 t) r0)) (k0_pay20 (View.ld (outsAt0 m c (t.val - 1) (Nat.lt_of_le_of_lt (Nat.sub_le _ _) t.isLt)).2.2.2.2.1 r0) (iblk m c 6 t) (View.ld (iblk m c 2 t) r0))
          (k0_pay21 (View.ld (outsAt0 m c (t.val - 1) (Nat.lt_of_le_of_lt (Nat.sub_le _ _) t.isLt)).2.2.2.2.1 r0) (iblk m c 6 t) (View.ld (iblk m c 3 t) r0)) k0_pay22
          (View.ld (View.read (Elt Ideal) (View.whole cc0_scratch0) ((Memref.isWhole_whole cc0_scratch0).unread (outsAt0 m c (t.val - 1) (Nat.lt_of_le_of_lt (Nat.sub_le _ _) t.isLt)).2.2.2.2.2.2)) r0) (iblk m c 4 t) (iblk m c 5 t)⟩] j
      = ((outsAt0 m c (t.val - 1) (Nat.lt_of_le_of_lt (Nat.sub_le _ _) t.isLt)).2.2.2.2.2.2 j : EReal) + termAt m c t j := by
  rw [(Memref.isWhole_whole cc0_scratch0).read_unread]
  exact sums _ _ _ _ _ _ _ _ _ (View.whole cc0_scratch0) _ _ _ _ (half_next m c t h) (half_ld (e := .f32) _)

theorem step_next (c : Dev nD) (t : Fin cfg0.N) (h : ¬ t.val % 3 = 0) (h2 : ¬ t.val % 3 = 2) (j : S512x1024.Idx) :
    (outsAt0 m c t.val t.isLt).2.2.2.2.2.2 j = ((outsAt0 m c (t.val - 1) (Nat.lt_of_le_of_lt (Nat.sub_le _ _) t.isLt)).2.2.2.2.2.2 j : EReal) + termAt m c t j := by
  rw [outsAt0_B m c t (by omega) h h2]; frame_out
  exact sums_next m c t h j
theorem outdx (c : Dev nD) (t : Fin cfg0.N) (h2 : t.val % 3 = 2) (j : S512x1024.Idx) :
    (outsAt0 m c t.val t.isLt).1 j = ((outsAt0 m c (t.val - 1) (Nat.lt_of_le_of_lt (Nat.sub_le _ _) t.isLt)).2.2.2.2.2.2 j : EReal) + termAt m c t j := by
  rw [outsAt0_C m c t (by omega) (by omega) h2]; frame_out
  rw [View.readCov_eq_canon']
  refine (sums_next m c t (by omega) _).trans ?_
  rw [whole_idx]

/-- A row's derivative at the last point of its rows. -/
theorem total (c : Dev nD) (t s u : Fin cfg0.N) (h : t.val % 3 = 2) (hs : s.val = t.val - 1) (hu : u.val = t.val - 2) (j : S512x1024.Idx) :
    (outsAt0 m c t.val t.isLt).1 j = (k0_pay10 (F := Ideal) (k0_pay6 (iblk m c 0 u) (iblk m c 1 u) (iblk m c 7 u)) j : EReal) + termAt m c u j + termAt m c s j + termAt m c t j := by
  have e1 := step_next m c s (by omega) (by omega) j
  have e0 := step_first m c u (by omega) j
  rw [outdx m c t h j]
  refine congrArg (fun a : EReal => a + _) ?_
  simp only [hs] at e1
  rw [e1]
  refine congrArg (fun a : EReal => a + _) (Eq.trans ?_ e0)
  have hv : t.val - 1 - 1 = u.val := by omega
  simp only [hv]

/-! ## The norm's parameters -/

/-- What one block of rows adds to the gain's gradient (row 0) and to the bias's (row 1). -/
def lnTerm (d z : FVec Ideal S512x1024 .f32) (j : S8x1024.Idx) : EReal :=
  if (j 0).val = 0 then ∑ r : Fin 512, d (ix2 r (j 1)) * hat (fun q => z (ix2 r q)) (j 1)
  else if (j 0).val = 1 then ∑ r : Fin 512, d (ix2 r (j 1)) else 0

theorem read_rows {κ : Kind} {sp : Space} (v : View sig κ sp S8x1024 .f32) (f : v.ty.Contents (Elt Ideal)) (p0 p1 : FVec Ideal S1x1024 .f32)
    (L : List (View.Piece (Elt Ideal) S8x1024 .f32)) (j : S8x1024.Idx) :
    v.read (Elt Ideal) (v.writes (Elt Ideal) f (⟨Rect.unit ![1, 0] ![1, 1024] inb_S8x1024_S1x1024_1_0, p1⟩
      :: ⟨Rect.unit ![0, 0] ![1, 1024] inb_S8x1024_S1x1024_0_0, p0⟩ :: L)) j
    = if (j 0).val = 0 then p0 (ix2 0 (j 1)) else if (j 0).val = 1 then p1 (ix2 0 (j 1))
      else v.read (Elt Ideal) (v.writes (Elt Ideal) f L) j := by
  by_cases h1 : (j 0).val = 1
  · rw [if_neg (by omega), if_pos h1]
    exact View.read_writes_cons_rows_of_mem (o := 1) v f inb_S8x1024_S1x1024_1_0 p1 _ j (ix2 0 (j 1)) rfl (by rw [h1]; rfl) rfl
  · rw [View.read_writes_cons_rows_of_not_mem (o := 1) (W := 1) v f inb_S8x1024_S1x1024_1_0 p1 _ j rfl rfl (by omega)]
    by_cases h0 : (j 0).val = 0
    · rw [if_pos h0]
      exact View.read_writes_cons_rows_of_mem (o := 0) v f inb_S8x1024_S1x1024_0_0 p0 _ j (ix2 0 (j 1)) rfl (by rw [h0]; rfl) rfl
    · rw [if_neg h0, if_neg h1, View.read_writes_cons_rows_of_not_mem (o := 0) (W := 1) v f inb_S8x1024_S1x1024_0_0 p0 _ j rfl rfl (by omega)]

theorem zero_canon (j : S8x1024.Idx) :
    View.canon (Val := Elt Ideal) (e := .f32) (s := S8x1024) [⟨Rect.unit ![0, 0] ![8, 1024] inb_S8x1024_S8x1024_0_0, k0_pay9 (F := Ideal)⟩] j = (0 : EReal) := by
  refine View.canon_apply_of_pieces (Val := Elt Ideal) (e := .f32) (S := S8x1024) (fun _ => (0 : EReal)) _ (fun p hp x => ?_) j
    (View.cover_of_tiledBy _ ![8, 1024] (by sl_kernel_rfl) j)
  rcases List.mem_singleton.mp hp with rfl
  exact h9 (x : S8x1024.Idx)
theorem zero_row (v : View sig .tc .vmem S8x1024 .f32) (k : Fin 1024) (o : Nat) (h : ∀ a, (![o, 0] : Fin 2 → Nat) a + S1x1024.size a ≤ S8x1024.size a) :
    v.readCov (Val := Elt Ideal) [⟨Rect.unit ![0, 0] ![8, 1024] inb_S8x1024_S8x1024_0_0, k0_pay9 (F := Ideal)⟩]
          (Rect.unit (s := S8x1024) ![o, 0] S1x1024.size h).toLoadRect (ix2 0 k) = (0 : EReal) := by
  rw [View.readCov_eq_canon']
  exact zero_canon _
theorem skip_row (v : View sig .tc .vmem S8x1024 .f32) (p : FVec Ideal S1x1024 .f32) (j : S8x1024.Idx) (h : (j 0).val = 1) :
    View.canon (Val := Elt Ideal) (e := .f32) (s := S8x1024) [⟨Rect.unit ![0, 0] ![1, 1024] inb_S8x1024_S1x1024_0_0, p⟩,
      ⟨Rect.unit ![0, 0] ![8, 1024] inb_S8x1024_S8x1024_0_0, k0_pay9 (F := Ideal)⟩] j = (0 : EReal) := by
  rw [← View.read_writes_junk_apply_eq_canon v]
  refine (View.read_writes_cons_rows_of_not_mem (Val := Elt Ideal) (size := ![1, 1024]) (o := 0) (W := 1) v v.junk inb_S8x1024_S1x1024_0_0 p _ j rfl rfl (by omega)).trans ?_
  rw [View.read_writes_junk_apply_eq_canon]
  exact zero_canon j

theorem dlnA (c : Dev nD) (t : Fin cfg0.N) (h0 : t.val % 24 = 0) (j : S8x1024.Idx) :
    (outsAt0 m c t.val t.isLt).2.2.2.2.2.1 j = (0 : EReal) + lnTerm (iblk m c 0 t) (iblk m c 1 t) j := by
  rw [outsAt0_A m c t h0 (by omega) (by omega)]
  frame_out
  rw [← View.read_writes_junk_apply_eq_canon (ms0_13 t).view, read_rows]
  unfold lnTerm
  split_ifs with h h'
  · exact (h11 _ _ _ _).trans (congrArg (fun a : EReal => a + _) (zero_row _ _ _ _))
  · refine (h12 _ _ _).trans (congrArg (fun a : EReal => a + _) ?_)
    rw [View.readCov_eq_canon']
    exact skip_row (ms0_13 t).view _ _ rfl
  · rw [add_zero, View.read_writes_junk_apply_eq_canon]
    exact zero_canon _
theorem dlnD (c : Dev nD) (t : Fin cfg0.N) (h0 : ¬ t.val % 24 = 0) (h1 : t.val % 3 = 0) (j : S8x1024.Idx) :
    (outsAt0 m c t.val t.isLt).2.2.2.2.2.1 j = ((outsAt0 m c (t.val - 1) (Nat.lt_of_le_of_lt (Nat.sub_le _ _) t.isLt)).2.2.2.2.2.1 j : EReal) + lnTerm (iblk m c 0 t) (iblk m c 1 t) j := by
  rw [outsAt0_D m c t h0 h1 (by omega)]
  frame_out
  rw [read_rows]
  unfold lnTerm
  split_ifs with h h'
  · refine (h11 _ _ _ _).trans (congrArg (fun a : EReal => a + _) ?_)
    refine congrArg (outsAt0 m c (t.val - 1) (Nat.lt_of_le_of_lt (Nat.sub_le _ _) t.isLt)).2.2.2.2.2.1 ?_
    idx_ext
  · refine (h12 _ _ _).trans (congrArg (fun a : EReal => a + _) ?_)
    refine congrArg (outsAt0 m c (t.val - 1) (Nat.lt_of_le_of_lt (Nat.sub_le _ _) t.isLt)).2.2.2.2.2.1 ?_
    idx_ext
  · rw [add_zero]
    exact congrFun ((hs0_13 t).read_unread _) j

end Cert.FfnKernelIdeal.FfnValue
end
-- ==== Proof.FfnArrays.lean ====
module

public import proofs.«01_k».proof.Defs
public import proofs.«01_k».proof.Proof.Norm
public import proofs.«01_k».proof.Proof.Halves
public import proofs.«01_k».proof.Proof.FfnValue
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.FfnValue

open Cert.FfnKernelIdeal Cert.FfnKernelIdeal.Gen Cert.Norm Cert.Halves

variable (m : (ℓ : Loc nD τ sig) → Buf (Elt Ideal) ℓ)

/-! ## The blocks of each result, of the arrays the call gets -/

theorem dh_at (c : Dev nD) (t : Fin cfg0.N) (r : Fin 512) (q : Fin 1024) :
    dh (dzb m c t) (iblk m c 6 t) (ix2 r q) = dhA (V m c main_arg5) (V m c main_v7) (gV m c) (V m c main_v19) (row t r) (col t q) :=
  Finset.sum_congr rfl fun k _ => congrArg₂ (fun a b : EReal => a * b) (dzb_eq m c t.val t.isLt r k) (b6 m c t q k)
theorem dgp_at (c : Dev nD) (t : Fin cfg0.N) (r : Fin 512) (q : Fin 1024) :
    dgp (dzb m c t) (iblk m c 2 t) (iblk m c 3 t) (iblk m c 6 t) (ix2 r q) = DGP m c (row t r) (col t q) :=
  congrArg₂ (fun a b : EReal => a * b) (congrArg₂ (fun a b : EReal => a * b) (dh_at m c t r q) (b3 m c t r q)) (congrArg dsl (b2 m c t r q))
theorem dup_at (c : Dev nD) (t : Fin cfg0.N) (r : Fin 512) (q : Fin 1024) :
    dup (dzb m c t) (iblk m c 2 t) (iblk m c 6 t) (ix2 r q) = DUP m c (row t r) (col t q) :=
  congrArg₂ (fun a b : EReal => a * b) (dh_at m c t r q) (congrArg sl (b2 m c t r q))
theorem hid_at (c : Dev nD) (t : Fin cfg0.N) (r : Fin 512) (q : Fin 1024) :
    hid (iblk m c 2 t) (iblk m c 3 t) (ix2 r q) = HID m c (row t r) (col t q) :=
  congrArg₂ (fun a b : EReal => a * b) (congrArg sl (b2 m c t r q)) (b3 m c t r q)
theorem term_at (c : Dev nD) (t : Fin cfg0.N) (r : Fin 512) (k : Fin 1024) :
    termAt m c t (ix2 r k) = ∑ q, PART m c (row t r) k (col t q) := by
  refine Eq.trans (congrArg₂ (fun a b : EReal => a + b)
    (Finset.sum_congr rfl fun q _ => congrArg₂ (fun a b : EReal => a * b) (dgp_at m c t r q) (b4 m c t k q))
    (Finset.sum_congr rfl fun q _ => congrArg₂ (fun a b : EReal => a * b) (dup_at m c t r q) (b5 m c t k q))) ?_
  exact Finset.sum_add_distrib.symm

theorem three (F : Fin 4096 → Fin 3072 → EReal) (t s u : Fin cfg0.N) (h : t.val % 3 = 2) (hs : s.val = t.val - 1) (hu : u.val = t.val - 2) (r : Fin 512) :
    (∑ q, F (row u r) (col u q)) + (∑ q, F (row s r) (col s q)) + ∑ q, F (row t r) (col t q) = ∑ p, F (row t r) p := by
  rw [sum_three]
  refine congrArg₂ (fun a b : EReal => a + b) (congrArg₂ (fun a b : EReal => a + b) ?_ ?_) ?_
  · exact Finset.sum_congr rfl fun q _ => congrArg₂ F (Fin.ext (by simp only [row]; omega)) (Fin.ext (by simp only [col]; omega))
  · exact Finset.sum_congr rfl fun q _ => congrArg₂ F (Fin.ext (by simp only [row]; omega)) (Fin.ext (by simp only [col]; omega))
  · exact Finset.sum_congr rfl fun q _ => congrArg₂ F rfl (Fin.ext (by simp only [col]; omega))

/-- A row's derivative after the block, of the arrays the call gets. -/
abbrev DX (c : Dev nD) (r : Fin 4096) (k : Fin 1024) : EReal := al * DZ m c r k + ∑ p, PART m c r k p

theorem four (a b c d : EReal) : a + b + c + d = a + (b + c + d) := by rw [add_assoc, add_assoc, add_assoc b]

theorem dx_at' (c : Dev nD) (t s u : Fin cfg0.N) (h : t.val % 3 = 2) (hs : s.val = t.val - 1) (hu : u.val = t.val - 2) (r : Fin 512) (k : Fin 1024) :
    ((outsAt0 m c t.val t.isLt).1 (ix2 r k) : EReal) = DX m c (row t r) k := by
  have e : row u r = row t r := Fin.ext (by simp only [row]; omega)
  refine (total m c t s u h hs hu (ix2 r k)).trans ?_
  refine (congrArg₂ (fun a b : EReal => a + b) (congrArg₂ (fun a b : EReal => a + b) (congrArg₂ (fun a b : EReal => a + b) (dz10 m c u r k) (term_at m c u r k))
    (term_at m c s r k)) (term_at m c t r k)).trans ?_
  refine (four _ _ _ _).trans ?_
  exact congrArg₂ (fun a b : EReal => a + b) (congrArg (fun r => (al * DZ m c r k : EReal)) e) (three (fun r p => PART m c r k p) t s u h hs hu r)

theorem dx_at (c : Dev nD) (t : Fin cfg0.N) (h : t.val % 3 = 2) (r : Fin 512) (k : Fin 1024) :
    ((outsAt0 m c t.val t.isLt).1 (ix2 r k) : EReal) = DX m c (row t r) k :=
  dx_at' m c t ⟨t.val - 1, Nat.lt_of_le_of_lt (Nat.sub_le _ _) t.isLt⟩ ⟨t.val - 2, Nat.lt_of_le_of_lt (Nat.sub_le _ _) t.isLt⟩ h rfl rfl r k

theorem last8 : ∀ t : Fin cfg0.N, (cfg0.win 8).flush t = true → t.val % 3 = 2 := (by decide +kernel : ∀ t : Fin grid0.N, _)

theorem final_dx (c : Dev nD) : (dats m 0 c).arrAt 8 cfg0.N = fun i => DX m c (i 0) (i 1) := by
  refine (dats m 0 c).arrAt_eq_of_covers 8 _ (by decide +kernel) fun t hf y => ?_
  have h := last8 t hf
  blk_simp
  rw [after0_8]
  idx_vars y
  refine (dx_at m c t h _ _).trans ?_
  refine congrArg₂ (DX m c) (Fin.ext ?_) (Fin.ext ?_)
  · have h := (idx0 t).2.2.2.2.2.2.2.2.1
    simp [Pipeline.Window.blk, h, row]; omega
  · have h := (idx0 t).2.2.2.2.2.2.2.2.1
    simp [Pipeline.Window.blk, h]
theorem final_gp (c : Dev nD) : (dats m 0 c).arrAt 9 cfg0.N = fun i => DGP m c (i 0) (i 1) := by
  refine (dats m 0 c).arrAt_eq_of_covers 9 _ (by decide +kernel) fun t hf y => ?_
  blk_simp
  rw [after0_9, outgp]
  idx_vars y
  refine (dgp_at m c t _ _).trans ?_
  refine congrArg₂ (DGP m c) (Fin.ext ?_) (Fin.ext ?_)
  · have h := (idx0 t).2.2.2.2.2.2.2.2.2.1
    simp [Pipeline.Window.blk, h, row]; omega
  · have h := (idx0 t).2.2.2.2.2.2.2.2.2.1
    simp [Pipeline.Window.blk, h, col]; omega
theorem final_up (c : Dev nD) : (dats m 0 c).arrAt 10 cfg0.N = fun i => DUP m c (i 0) (i 1) := by
  refine (dats m 0 c).arrAt_eq_of_covers 10 _ (by decide +kernel) fun t hf y => ?_
  blk_simp
  rw [after0_10, outup]
  idx_vars y
  refine (dup_at m c t _ _).trans ?_
  refine congrArg₂ (DUP m c) (Fin.ext ?_) (Fin.ext ?_)
  · have h := (idx0 t).2.2.2.2.2.2.2.2.2.2.1
    simp [Pipeline.Window.blk, h, row]; omega
  · have h := (idx0 t).2.2.2.2.2.2.2.2.2.2.1
    simp [Pipeline.Window.blk, h, col]; omega
theorem final_hid (c : Dev nD) : (dats m 0 c).arrAt 11 cfg0.N = fun i => HID m c (i 0) (i 1) := by
  refine (dats m 0 c).arrAt_eq_of_covers 11 _ (by decide +kernel) fun t hf y => ?_
  blk_simp
  rw [after0_11, outhid]
  idx_vars y
  refine (hid_at m c t _ _).trans ?_
  refine congrArg₂ (HID m c) (Fin.ext ?_) (Fin.ext ?_)
  · have h := (idx0 t).2.2.2.2.2.2.2.2.2.2.2.1
    simp [Pipeline.Window.blk, h, row]; omega
  · have h := (idx0 t).2.2.2.2.2.2.2.2.2.2.2.1
    simp [Pipeline.Window.blk, h, col]; omega
theorem final_dz (c : Dev nD) : (dats m 0 c).arrAt 12 cfg0.N = fun i => DZ m c (i 0) (i 1) := by
  refine (dats m 0 c).arrAt_eq_of_covers 12 _ (by decide +kernel) fun t hf y => ?_
  blk_simp
  rw [after0_12]
  idx_vars y
  refine (dzb_eq m c t.val t.isLt _ _).trans ?_
  refine congrArg₂ (DZ m c) (Fin.ext ?_) (Fin.ext ?_)
  · have h := (idx0 t).2.2.2.2.2.2.2.2.2.2.2.2.1
    simp [Pipeline.Window.blk, h, row]; omega
  · have h := (idx0 t).2.2.2.2.2.2.2.2.2.2.2.2.1
    simp [Pipeline.Window.blk, h]

/-! ## The norm's gain and bias: one sum over the blocks of rows -/

/-- What the last output's block holds after a point. -/
def LN (c : Dev nD) (n : ℕ) (h : n < cfg0.N) : S8x1024.Idx → EReal := (outsAt0 m c n h).2.2.2.2.2.1

theorem ln_next (c : Dev nD) (n : ℕ) (h : n + 1 < cfg0.N) (h3 : ¬ (n + 1) % 3 = 0) : LN m c (n + 1) h = LN m c n (by omega) := by
  have e := dln_next m c ⟨n + 1, h⟩ h3
  simp only [Nat.add_sub_cancel] at e
  exact e
theorem ln_step (c : Dev nD) (n : ℕ) (h : n + 3 < cfg0.N) (h3 : (n + 3) % 3 = 0) (j : S8x1024.Idx) :
    LN m c (n + 3) h j = LN m c n (by omega) j + lnTerm (iblk m c 0 ⟨n + 3, h⟩) (iblk m c 1 ⟨n + 3, h⟩) j := by
  have hN : n + 3 < 24 := lt_of_lt_of_eq h N_0
  have e := dlnD m c ⟨n + 3, h⟩ (by simp only; omega) h3 j
  have e' : n + 3 - 1 = n + 2 := by omega
  simp only [e'] at e
  refine e.trans (congrArg (fun a : EReal => a + _) (congrFun ?_ j))
  exact (ln_next m c (n + 1) (by omega) (by omega)).trans (ln_next m c n (by omega) (by omega))

theorem N24 : cfg0.N = 24 := N_0
def pt (s : Fin 8) : Fin cfg0.N := ⟨3 * s.val, by rw [N24]; omega⟩
def t23 : Fin cfg0.N := ⟨23, by rw [N24]; decide⟩

theorem ln_last (c : Dev nD) (j : S8x1024.Idx) : LN m c 23 t23.isLt j = (0 : EReal) + ∑ s : Fin 8, lnTerm (iblk m c 0 (pt s)) (iblk m c 1 (pt s)) j := by
  have hl : LN m c 23 t23.isLt = LN m c (pt 7).val (pt 7).isLt :=
    (ln_next m c 22 t23.isLt (by decide)).trans (ln_next m c 21 (by rw [N24]; decide) (by decide))
  rw [hl]
  exact Pipeline.eq_sum_fin_of_reset_step_apply_last (M := EReal) (ι := S8x1024.Idx) (N := 8) (fun n h => LN m c (3 * n) (pt ⟨n, h⟩).isLt) 8 (fun _ => 0)
    (fun s => lnTerm (iblk m c 0 (pt s)) (iblk m c 1 (pt s)))
    (fun s hs j => dlnA m c (pt s) (by simp only [pt]; omega) j)
    (fun s hs j => by
      obtain ⟨n, hn⟩ := s
      cases n with
      | zero => exact absurd rfl hs
      | succ n => exact ln_step m c (3 * n) (pt ⟨n + 1, hn⟩).isLt (by omega) j)
    (le_refl 8) 7 rfl j

/-- The sums the call leaves: the gain's gradient in row 0, the bias's in row 1. -/
def lnGrad (d z : FVec Ideal S4096x1024 .f32) (i : S8x1024.Idx) : EReal :=
  if (i 0).val = 0 then ∑ r : Fin 4096, d (ix2 r (i 1)) * hat (fun q => z (ix2 r q)) (i 1)
  else if (i 0).val = 1 then ∑ r : Fin 4096, d (ix2 r (i 1)) else 0

theorem row_pt (s : Fin 8) (k : Fin 512) (h : s.val * 512 + k.val < 4096) : row (pt s) k = ⟨s.val * 512 + k.val, h⟩ :=
  Fin.ext (by simp only [row, pt]; omega)

theorem ln_sum (c : Dev nD) (j : S8x1024.Idx) : (∑ s : Fin 8, lnTerm (iblk m c 0 (pt s)) (iblk m c 1 (pt s)) j) = lnGrad (V m c main_arg5) (V m c main_v7) j := by
  unfold lnGrad lnTerm
  split_ifs with h h'
  · refine Fin.sum_mul_add_congr fun s k hl => ?_
    have e := row_pt s k hl
    exact congrArg₂ (fun a b : EReal => a * b) ((b0 m c (pt s) k (j 1)).trans (by rw [e]))
      (congrArg (fun f : Fin 1024 → EReal => hat f (j 1)) (funext fun q => (b1 m c (pt s) k q).trans (by rw [e])))
  · refine Fin.sum_mul_add_congr fun s k hl => ?_
    exact (b0 m c (pt s) k (j 1)).trans (by rw [row_pt s k hl])
  · exact Finset.sum_const_zero (M := EReal)

theorem final_dln (c : Dev nD) : (dats m 0 c).arrAt 13 cfg0.N = lnGrad (V m c main_arg5) (V m c main_v7) := by
  refine (dats m 0 c).arrAt_eq_of_after_last 13 t23 (by decide +kernel) _ fun j => ?_
  blk_simp
  rw [after0_13]
  exact (ln_last m c j).trans ((zero_add _).trans (ln_sum m c j))

end Cert.FfnKernelIdeal.FfnValue
end
-- ==== Proof.FfnReference.lean ====
/- The feed-forward block's derivative, the reference's form, read row by row. -/
module

public import proofs.«01_k».proof.Defs
public import proofs.«01_k».proof.Proof.FfnBlock
public import proofs.«01_k».proof.Proof.Gen.FfnReferenceIdeal.Run
public import proofs.«01_k».proof.Proof.Gen.FfnReferenceIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.FfnReferenceIdeal.FfnRows

open Cert.FfnReferenceIdeal Cert.FfnReferenceIdeal.Gen Cert.FfnReferenceIdeal.Read Cert.Norm
open Cert.FfnKernelIdeal.FfnValue (sl al)

variable (x0 : FVec Ideal S4096x1024 .f32) (x1 x2 : FVec Ideal S1024x2816 .f32) (x3 : FVec Ideal S2816x1024 .f32) (x4 : FVec Ideal S1024 .f32) (x5 : FVec Ideal S4096x1024 .f32)

/-- The row times a matrix. -/
def proj (w : FVec Ideal S1024x2816 .f32) (r : Fin 4096) (p : Fin 2816) : EReal := ∑ q, x0 (ix2 r q) * w (ix2 q p)
/-- The hidden layer's row. -/
def hidden (r : Fin 4096) (p : Fin 2816) : EReal := sl (proj x0 x1 r p) * proj x0 x2 r p
/-- The row after the block, with the scaled residual. -/
def zRow (r : Fin 4096) (k : Fin 1024) : EReal := al * x0 (ix2 r k) + ∑ p, hidden x0 x1 x2 r p * x3 (ix2 p k)
/-- The row's derivative before the norm. -/
abbrev dz' (r : Fin 4096) (k : Fin 1024) : EReal := back' (zRow x0 x1 x2 x3 r) (fun q => x5 (ix2 r q) * x4 (ix1 q)) k
/-- What the hidden layer receives. -/
def dh' (r : Fin 4096) (p : Fin 2816) : EReal := ∑ q, dz' x0 x1 x2 x3 x4 x5 r q * x3 (ix2 p q)
/-- What the gate's input receives. -/
def dgp' (r : Fin 4096) (p : Fin 2816) : EReal :=
  dh' x0 x1 x2 x3 x4 x5 r p * proj x0 x2 r p * Ideal.logistic (proj x0 x1 r p)
    + proj x0 x1 r p * (dh' x0 x1 x2 x3 x4 x5 r p * proj x0 x2 r p) * (Ideal.logistic (proj x0 x1 r p) * (1 - Ideal.logistic (proj x0 x1 r p)))
/-- What the second factor receives. -/
def dup' (r : Fin 4096) (p : Fin 2816) : EReal := sl (proj x0 x1 r p) * dh' x0 x1 x2 x3 x4 x5 r p

theorem r4 (r : Fin 4096) (p : Fin 2816) : (val_main_v4 (F := Ideal) x0 x1 (ix2 r p) : EReal) = proj x0 x1 r p := by
  have el (q : Fin 1024) : lidx_main_v3 (ix2 r p) q = ix2 r q := by idx_ext
  have er (q : Fin 1024) : ridx_main_v3 (ix2 r p) q = ix2 q p := by idx_ext
  simp only [val_main_v4_apply, val_main_v3_apply, val_main_v0_apply, val_main_cst_apply, el, er, Ideal.addf_def, Ideal.ofBits_def, Ideal.ofBits_zero_f32, add_zero]
  rfl
theorem r7 (r : Fin 4096) (p : Fin 2816) : (val_main_v7 (F := Ideal) x0 x2 (ix2 r p) : EReal) = proj x0 x2 r p := by
  have el (q : Fin 1024) : lidx_main_v6 (ix2 r p) q = ix2 r q := by idx_ext
  have er (q : Fin 1024) : ridx_main_v6 (ix2 r p) q = ix2 q p := by idx_ext
  simp only [val_main_v7_apply, val_main_v6_apply, val_main_v0_apply, val_main_cst_apply, el, er, Ideal.addf_def, Ideal.ofBits_def, Ideal.ofBits_zero_f32, add_zero]
  rfl
theorem r52 (r : Fin 4096) (p : Fin 2816) : (val_main_v5_2 (F := Ideal) x0 x1 (ix2 r p) : EReal) = Ideal.logistic (proj x0 x1 r p) := by
  simp only [val_main_v5_2_apply, val_main_call0_v4_apply, val_main_call0_v3_apply, val_main_call0_v2_apply,
    val_main_call0_v1_apply, val_main_call0_v0_apply, val_main_call0_cst_apply, val_main_call0_cst_0_apply, r4, Ideal.addf_def, Ideal.hostDivf_def,
    Ideal.ofBits_def, Ideal.ofBits_one_f32]
  rfl
theorem r51' (r : Fin 4096) (p : Fin 2816) : (val_main_v5_1 (F := Ideal) x0 x1 (ix2 r p) : EReal) = Ideal.logistic (proj x0 x1 r p) * (1 - Ideal.logistic (proj x0 x1 r p)) := by
  simp only [val_main_v5_1_apply, val_main_call0_v7_apply, val_main_call0_v6_apply, val_main_call0_cst_1_apply, r52, Ideal.mulf_def, Ideal.subf_def,
    Ideal.ofBits_def, Ideal.ofBits_one_f32]
theorem r50' (r : Fin 4096) (p : Fin 2816) : (val_main_v5_0 (F := Ideal) x0 x1 (ix2 r p) : EReal) = sl (proj x0 x1 r p) := by
  simp only [val_main_v5_0_apply, r52, r4, Ideal.mulf_def]
  rfl
theorem r8 (r : Fin 4096) (p : Fin 2816) : (val_main_v8 (F := Ideal) x0 x1 x2 (ix2 r p) : EReal) = hidden x0 x1 x2 r p := by
  simp only [val_main_v8_apply, r50', r7, Ideal.mulf_def]
  rfl
theorem r13 (r : Fin 4096) (k : Fin 1024) : (val_main_v13 (F := Ideal) x0 x1 x2 x3 (ix2 r k) : EReal) = zRow x0 x1 x2 x3 r k := by
  have el (q : Fin 2816) : lidx_main_v11 (ix2 r k) q = ix2 r q := by idx_ext
  have er (q : Fin 2816) : ridx_main_v11 (ix2 r k) q = ix2 q k := by idx_ext
  simp only [val_main_v13_apply, val_main_v12_apply, val_main_v11_apply, val_main_v10_apply, val_main_v9_apply, val_main_v1_apply, val_main_cst_2_apply, val_main_cst_0_apply,
    el, er, r8, Ideal.mulf_def, Ideal.addf_def, Ideal.ofBits_def, Ideal.ofBits_zero_f32, add_zero]
  rfl

theorem r19 (r : Fin 4096) (k : Fin 1024) : (val_main_v19 (F := Ideal) x0 x1 x2 x3 (ix2 r k) : EReal) = cen (zRow x0 x1 x2 x3 r) k := by
  have e9 : idx_main_v18 (ix2 r k) = ix2 r 0 := by idx_ext
  have e6 : idx_main_v15 (ix2 r 0) = ix1 r := by idx_ext
  have e5 (q : Fin 1024) : idx_main_v14 (ix1 r) q = ix2 r q := by idx_ext
  simp only [val_main_v19_apply, val_main_v18_apply, val_main_v17_apply, val_main_v16_apply, val_main_v15_apply, val_main_v14_apply,
    val_main_cst_3_apply, val_main_cst_4_apply, e9, e6, e5, r13, Ideal.subf_def, Ideal.hostDivf_def, Ideal.ofBits_def, Ideal.ofBits_zero_f32, zero_add, c_1024, div_1024]
  rfl

theorem r26 (r : Fin 4096) : (val_main_v26 (F := Ideal) x0 x1 x2 x3 (ix2 r 0) : EReal) = var (zRow x0 x1 x2 x3 r) := by
  have e13 : idx_main_v22 (ix2 r 0) = ix1 r := by idx_ext
  have e12 (q : Fin 1024) : idx_main_v21 (ix1 r) q = ix2 r q := by idx_ext
  simp only [val_main_v26_apply, val_main_v25_apply, val_main_v24_apply, val_main_v23_apply, val_main_v22_apply, val_main_v21_apply, val_main_v20_apply,
    val_main_cst_5_apply, val_main_cst_6_apply, val_main_cst_7_apply, e13, e12, r19, Ideal.mulf_def, Ideal.addf_def, Ideal.hostDivf_def, Ideal.ofBits_def, Ideal.ofBits_zero_f32,
    zero_add, c_1024, c_eps, div_1024]
  rfl

theorem r27 (r : Fin 4096) : (val_main_v27 (F := Ideal) x0 x1 x2 x3 (ix2 r 0) : EReal) = rstd (zRow x0 x1 x2 x3 r) := by
  rw [val_main_v27_apply, r26]
  rfl

theorem r32 (r : Fin 4096) (k : Fin 1024) : (val_main_v32 (F := Ideal) x0 x1 x2 x3 (ix2 r k) : EReal) = hat (zRow x0 x1 x2 x3 r) k := by
  have e22 : idx_main_v31 (ix2 r k) = ix2 r 0 := by idx_ext
  simp only [val_main_v32_apply, val_main_v31_apply, e22, r19, r27, Ideal.mulf_def]
  rfl

theorem r39 (r : Fin 4096) (k : Fin 1024) : (val_main_v39 (F := Ideal) x5 (ix2 r k) : EReal) = x5 (ix2 r k) := by
  have e30 : idx_main_v39 (ix2 r k) = ix2 r k := by idx_ext
  rw [val_main_v39_apply, e30]

theorem r42 (k : Fin 1024) : (val_main_v42 (F := Ideal) x5 (ix1 k) : EReal) = ∑ r : Fin 4096, x5 (ix2 r k) := by
  have e33 (q : Fin 1) : idx_main_v41 (idx_main_v42 (ix1 k) q) = ix1 k := by idx_ext
  have e31 (r : Fin 4096) : idx_main_v40 (ix1 k) r = ix2 r k := by idx_ext
  simp only [val_main_v42_apply, val_main_v41_apply, val_main_v40_apply, val_main_cst_9_apply, val_main_cst_10_apply, e33, e31,
    Ideal.ofBits_def, Ideal.ofBits_zero_f32, zero_add, Fin.sum_univ_one]

theorem r48 (k : Fin 1024) : (val_main_v48 (F := Ideal) x0 x1 x2 x3 x5 (ix1 k) : EReal) = ∑ r : Fin 4096, hat (zRow x0 x1 x2 x3 r) k * x5 (ix2 r k) := by
  have e39 (q : Fin 1) : idx_main_v45 (idx_main_v48 (ix1 k) q) = ix1 k := by idx_ext
  have e35 (r : Fin 4096) : idx_main_v44 (ix1 k) r = ix2 r k := by idx_ext
  simp only [val_main_v48_apply, val_main_v45_apply, val_main_v44_apply, val_main_v43_apply, val_main_cst_11_apply, val_main_cst_12_apply, e39, e35, r32, r39,
    Ideal.ofBits_def, Ideal.ofBits_zero_f32, Ideal.mulf_def, zero_add, Fin.sum_univ_one]

theorem r47 (r : Fin 4096) (k : Fin 1024) : (val_main_v47 (F := Ideal) x4 x5 (ix2 r k) : EReal) = x5 (ix2 r k) * x4 (ix1 k) := by
  have e37 : idx_main_v33 (idx_main_v46 (ix2 r k)) = ix1 k := by idx_ext
  simp only [val_main_v47_apply, val_main_v46_apply, val_main_v33_apply, e37, r39, Ideal.mulf_def]

theorem r58 (r : Fin 4096) (k : Fin 1024) : (val_main_v58 (F := Ideal) x0 x1 x2 x3 x4 x5 (ix2 r k) : EReal) = slope (zRow x0 x1 x2 x3 r) (fun q => x5 (ix2 r q) * x4 (ix1 q)) := by
  have e48 (q : Fin 1) : idx_main_v57 (idx_main_v58 (ix2 r k)) q = ix2 r 0 := by idx_ext
  have e42 : idx_main_v51 (ix2 r 0) = ix1 r := by idx_ext
  have e41 (q : Fin 1024) : idx_main_v50 (ix1 r) q = ix2 r q := by idx_ext
  simp only [val_main_v58_apply, val_main_v57_apply, val_main_v56_apply, val_main_v55_apply, val_main_v54_apply, val_main_v51_apply, val_main_v50_apply, val_main_v49_apply,
    val_main_v30_apply, val_main_v29_apply, val_main_v28_apply, val_main_cst_8_apply, val_main_cst_13_apply, val_main_cst_14_apply, val_main_cst_15_apply, e48, e42, e41,
    r47, r19, r26, r27, Ideal.ofBits_def, Ideal.ofBits_zero_f32, Ideal.mulf_def, Ideal.hostDivf_def, zero_add, Fin.sum_univ_one, c_1024, c_mhalf, div_1024]
  rfl

theorem r62 (r : Fin 4096) (k : Fin 1024) : (val_main_v62 (F := Ideal) x0 x1 x2 x3 x4 x5 (ix2 r k) : EReal) = mid (zRow x0 x1 x2 x3 r) (fun q => x5 (ix2 r q) * x4 (ix1 q)) k := by
  have e43 : idx_main_v52 (ix2 r k) = ix2 r 0 := by idx_ext
  simp only [val_main_v62_apply, val_main_v61_apply, val_main_v60_apply, val_main_v59_apply, val_main_v53_apply, val_main_v52_apply, e43, r58, r47, r19, r27,
    Ideal.mulf_def, Ideal.addf_def]
  rfl

theorem r70 (r : Fin 4096) (k : Fin 1024) : (val_main_v70 (F := Ideal) x0 x1 x2 x3 x4 x5 (ix2 r k) : EReal) = back' (zRow x0 x1 x2 x3 r) (fun q => x5 (ix2 r q) * x4 (ix1 q)) k := by
  have e60 (q : Fin 1) : idx_main_v65 (idx_main_v68 (idx_main_v69 (ix2 r k)) q) = ix1 r := by idx_ext
  have e55 (q : Fin 1024) : idx_main_v64 (ix1 r) q = ix2 r q := by idx_ext
  simp only [val_main_v70_apply, val_main_v69_apply, val_main_v68_apply, val_main_v67_apply, val_main_v66_apply, val_main_v65_apply, val_main_v64_apply, val_main_v63_apply,
    val_main_cst_16_apply, val_main_cst_17_apply, val_main_cst_18_apply, e60, e55, r62, Ideal.ofBits_def, Ideal.ofBits_zero_f32, Ideal.addf_def, Ideal.hostDivf_def,
    zero_add, Fin.sum_univ_one, c_1024, div_1024]
  rfl

theorem r71 (r : Fin 4096) (p : Fin 2816) : (val_main_v71 (F := Ideal) x0 x1 x2 x3 x4 x5 (ix2 r p) : EReal) = dh' x0 x1 x2 x3 x4 x5 r p := by
  have el (q : Fin 1024) : lidx_main_v71 (ix2 r p) q = ix2 r q := by idx_ext
  have er (q : Fin 1024) : ridx_main_v71 (ix2 r p) q = ix2 p q := by idx_ext
  simp only [val_main_v71_apply, el, er, r70]
  rfl
theorem r74 (r : Fin 4096) (p : Fin 2816) : (val_main_v74 (F := Ideal) x0 x1 x2 x3 x4 x5 (ix2 r p) : EReal) = dup' x0 x1 x2 x3 x4 x5 r p := by
  simp only [val_main_v74_apply, r50', r71, Ideal.mulf_def]
  rfl
theorem r78 (r : Fin 4096) (p : Fin 2816) : (val_main_v78 (F := Ideal) x0 x1 x2 x3 x4 x5 (ix2 r p) : EReal) = dgp' x0 x1 x2 x3 x4 x5 r p := by
  simp only [val_main_v78_apply, val_main_call1_v2_apply, val_main_call1_v1_apply, val_main_call1_v0_apply, val_main_v75_apply, r71, r7, r4, r52, r51', Ideal.mulf_def, Ideal.addf_def]
  rfl
theorem r80 (r : Fin 4096) (k : Fin 1024) : (val_main_v80 (F := Ideal) x0 x1 x2 x3 x4 x5 (ix2 r k) : EReal)
    = al * dz' x0 x1 x2 x3 x4 x5 r k + (∑ p, dup' x0 x1 x2 x3 x4 x5 r p * x2 (ix2 k p)) + ∑ p, dgp' x0 x1 x2 x3 x4 x5 r p * x1 (ix2 k p) := by
  have el (q : Fin 2816) : lidx_main_v76 (ix2 r k) q = ix2 r q := by idx_ext
  have er (q : Fin 2816) : ridx_main_v76 (ix2 r k) q = ix2 k q := by idx_ext
  have el' (q : Fin 2816) : lidx_main_v79 (ix2 r k) q = ix2 r q := by idx_ext
  have er' (q : Fin 2816) : ridx_main_v79 (ix2 r k) q = ix2 k q := by idx_ext
  simp only [val_main_v80_apply, val_main_v79_apply, val_main_v77_apply, val_main_v76_apply, val_main_v73_apply, val_main_v72_apply, val_main_cst_19_apply,
    el, er, el', er', r70, r74, r78, Ideal.mulf_def, Ideal.addf_def, Ideal.ofBits_def]
theorem r81 (r : Fin 4096) (k : Fin 1024) : (val_main_v81 (F := Ideal) x0 x1 x2 x3 x4 x5 (ix2 r k) : EReal) = dz' x0 x1 x2 x3 x4 x5 r k :=
  r70 x0 x1 x2 x3 x4 x5 r k

end Cert.FfnReferenceIdeal.FfnRows
end
-- ==== Proof.FfnHost.lean ====
module

public import proofs.«01_k».proof.Defs
public import proofs.«01_k».proof.Proof.Norm
public import proofs.«01_k».proof.Proof.Halves
public import proofs.«01_k».proof.Proof.FfnArrays
public import proofs.«01_k».proof.Proof.FfnReference
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.FfnValue

open Cert.FfnKernelIdeal Cert.FfnKernelIdeal.Gen Cert.Norm Cert.Halves

open Cert.FfnReferenceIdeal.FfnRows (proj zRow)

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S1024x2816 .f32 := m ((c : Thread nD τ).loc main_arg1)
abbrev a2 (c : Dev nD) : FVec Ideal S1024x2816 .f32 := m ((c : Thread nD τ).loc main_arg2)
abbrev a3 (c : Dev nD) : FVec Ideal S2816x1024 .f32 := m ((c : Thread nD τ).loc main_arg3)
abbrev a4 (c : Dev nD) : FVec Ideal S1024 .f32 := m ((c : Thread nD τ).loc main_arg4)
abbrev a5 (c : Dev nD) : FVec Ideal S4096x1024 .f32 := m ((c : Thread nD τ).loc main_arg5)

/-! ## The host's lines before the call -/

/-- A matrix's columns, groups of 352 padded to groups of 384. -/
def padCols (w : FVec Ideal S1024x2816 .f32) : FVec Ideal S1024x3072 .bf16 :=
  truncf .bf16 (shapeCast S1024x3072 (pad S1024x8x384 ![0, 0, 0] ![0, 0, 32] ![0, 0, 0] (shapeCast S1024x8x352 w shapeCasts_S1024x2816_S1024x8x352)
    (sitofp .f32 (constantI S_ 32 0#32)) pads_S1024x8x352_S1024x8x384_000_000_0320 h_S_) shapeCasts_S1024x8x384_S1024x3072) bitsLt_bf16_f32
/-- A matrix's rows, padded alike. -/
def padRows (w : FVec Ideal S2816x1024 .f32) : FVec Ideal S3072x1024 .bf16 :=
  truncf .bf16 (shapeCast S3072x1024 (pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_) shapeCasts_S8x384x1024_S3072x1024) bitsLt_bf16_f32
/-- The hidden layer's columns, padded alike. -/
def padHid (w : FVec Ideal S4096x2816 .f32) : FVec Ideal S4096x3072 .bf16 :=
  truncf .bf16 (shapeCast S4096x3072 (pad S4096x8x384 ![0, 0, 0] ![0, 0, 32] ![0, 0, 0] (shapeCast S4096x8x352 w shapeCasts_S4096x2816_S4096x8x352)
    (sitofp .f32 (constantI S_ 32 0#32)) pads_S4096x8x352_S4096x8x384_000_000_0320 h_S_) shapeCasts_S4096x8x384_S4096x3072) bitsLt_bf16_f32

theorem zero_int : (FloatOps.sitofp (F := Ideal) .f32 0#32 : EReal) = 0 := by
  show (((0#32 : BitVec 32).toInt : ℝ) : EReal) = 0
  simp

theorem padCols_apply (w : FVec Ideal S1024x2816 .f32) (q : Fin 1024) (p : Fin 3072) : (padCols w (ix2 q p) : EReal) = spread (fun c => w (ix2 q c)) p := by
  unfold padCols spread
  pointwise
  by_cases h : p.val % 384 < 352
  · rw [dif_pos h, dif_pos ⟨by omega, h⟩]
    exact congrArg w (congrArg (ix2 q) (Fin.ext (by simp only; omega)))
  · rw [dif_neg h, dif_neg fun h' => h h'.2, zero_int]
theorem padHid_apply (w : FVec Ideal S4096x2816 .f32) (q : Fin 4096) (p : Fin 3072) : (padHid w (ix2 q p) : EReal) = spread (fun c => w (ix2 q c)) p := by
  unfold padHid spread
  pointwise
  by_cases h : p.val % 384 < 352
  · rw [dif_pos h, dif_pos ⟨by omega, h⟩]
    exact congrArg w (congrArg (ix2 q) (Fin.ext (by simp only; omega)))
  · rw [dif_neg h, dif_neg fun h' => h h'.2, zero_int]
theorem padRows_apply (w : FVec Ideal S2816x1024 .f32) (p : Fin 3072) (k : Fin 1024) : (padRows w (ix2 p k) : EReal) = spread (fun c => w (ix2 c k)) p := by
  unfold padRows spread
  pointwise
  by_cases h : p.val % 384 < 352
  · rw [dif_pos h, dif_pos ⟨by omega, h⟩]
    exact congrArg w (congrArg (ix2 · k) (Fin.ext (by simp only; omega)))
  · rw [dif_neg h, dif_neg fun h' => h h'.2, zero_int]

/-- The host's product of the rows with a matrix. -/
def linH (x : FVec Ideal S4096x1024 .f32) (w : FVec Ideal S1024x2816 .f32) : FVec Ideal S4096x2816 .f32 :=
  Host.dotGeneral dot_S4096x1024_S1024x2816_S4096x2816_1_0_0_1_n_n none x w
theorem linH_apply (x : FVec Ideal S4096x1024 .f32) (w : FVec Ideal S1024x2816 .f32) (r : Fin 4096) (p : Fin 2816) : (linH x w (ix2 r p) : EReal) = proj x w r p := by
  unfold linH proj
  pointwise
/-- The gate's value of an array, as the host writes it. -/
def siluH (g : FVec Ideal S4096x2816 .f32) : FVec Ideal S4096x2816 .f32 :=
  mulf g (Host.divf (broadcastInDim S4096x2816 ![] bcast_S_S4096x2816 (constant S_ .f32 0x3F800000#32))
    (addf (broadcastInDim S4096x2816 ![] bcast_S_S4096x2816 (constant S_ .f32 0x3F800000#32)) (Host.exp (negf g))))
theorem siluH_apply (g : FVec Ideal S4096x2816 .f32) (j : S4096x2816.Idx) : (siluH g j : EReal) = sl (g j) := by
  unfold siluH
  pointwise
  rfl

theorem v11 (c : Dev nD) : V m c main_v11 = padCols (a1 m c) := by
  rfl
theorem v15 (c : Dev nD) : V m c main_v15 = padCols (a2 m c) := by
  rfl
theorem v19 (c : Dev nD) : V m c main_v19 = padRows (a3 m c) := by
  rfl
theorem v23 (c : Dev nD) : V m c main_v23 = padHid (linH (a0 m c) (a1 m c)) := by
  rfl
theorem v27 (c : Dev nD) : V m c main_v27 = padHid (linH (a0 m c) (a2 m c)) := by
  rfl
theorem v7 (c : Dev nD) (r : Fin 4096) (k : Fin 1024) : (V m c main_v7 (ix2 r k) : EReal) = zRow (a0 m c) (a1 m c) (a2 m c) (a3 m c) r k := by
  refine Eq.trans (b := addf (mulf (broadcastInDim S4096x1024 ![] bcast_S_S4096x1024 (constant S_ .f32 0x3FD744FD#32)) (a0 m c))
    (Host.dotGeneral dot_S4096x2816_S2816x1024_S4096x1024_1_0_0_1_n_n none (mulf (siluH (linH (a0 m c) (a1 m c))) (linH (a0 m c) (a2 m c))) (a3 m c)) (ix2 r k)) rfl ?_
  unfold zRow Cert.FfnReferenceIdeal.FfnRows.hidden
  simp only [← linH_apply]
  simp only [← siluH_apply]
  generalize siluH (linH (a0 m c) (a1 m c)) = s
  generalize linH (a0 m c) (a2 m c) = u
  pointwise
theorem v28 (c : Dev nD) (k : Fin 1024) : V m c main_v28 (ix2 0 k) = a4 m c (ix1 k) := by
  refine Eq.trans (b := broadcastInDim S1x1024 ![1] bcast_S1024_S1x1024_1 (a4 m c) (ix2 0 k)) rfl ?_
  pointwise

end Cert.FfnKernelIdeal.FfnValue
end
-- ==== Proof.FfnRun.lean ====
module

public import proofs.«01_k».proof.Defs
public import proofs.«01_k».proof.Proof.Norm
public import proofs.«01_k».proof.Proof.Halves
public import proofs.«01_k».proof.Proof.FfnHost
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.FfnValue

open Cert.FfnKernelIdeal Cert.FfnKernelIdeal.Gen Cert.Norm Cert.Halves

open Cert.FfnReferenceIdeal.FfnRows (proj zRow)

variable (m : (ℓ : Loc nD τ sig) → Buf (Elt Ideal) ℓ) (ρ : Dev nD → PrngReg)

section Rows

variable (x0 : FVec Ideal S4096x1024 .f32) (x1 x2 : FVec Ideal S1024x2816 .f32) (x3 : FVec Ideal S2816x1024 .f32) (x4 : FVec Ideal S1024 .f32) (x5 : FVec Ideal S4096x1024 .f32)

/-- The call's results, of the launched arrays: the row's derivative before the norm, what the hidden layer receives, the two factors' derivatives, the row's own. -/
def dzN (r : Fin 4096) (k : Fin 1024) : EReal := back (zRow x0 x1 x2 x3 r) (fun q => x5 (ix2 r q) * x4 (ix1 q)) k
def dhN (r : Fin 4096) (p : Fin 2816) : EReal := ∑ q, dzN x0 x1 x2 x3 x4 x5 r q * x3 (ix2 p q)
def dgpN (r : Fin 4096) (p : Fin 2816) : EReal := dhN x0 x1 x2 x3 x4 x5 r p * proj x0 x2 r p * dsl (proj x0 x1 r p)
def dupN (r : Fin 4096) (p : Fin 2816) : EReal := dhN x0 x1 x2 x3 x4 x5 r p * sl (proj x0 x1 r p)
def dxN (r : Fin 4096) (k : Fin 1024) : EReal :=
  al * dzN x0 x1 x2 x3 x4 x5 r k + ∑ p, (dgpN x0 x1 x2 x3 x4 x5 r p * x1 (ix2 k p) + dupN x0 x1 x2 x3 x4 x5 r p * x2 (ix2 k p))

end Rows

theorem dz_row (c : Dev nD) (r : Fin 4096) (k : Fin 1024) : DZ m c r k = dzN (a0 m c) (a1 m c) (a2 m c) (a3 m c) (a4 m c) (a5 m c) r k := by
  have ez : (fun q => V m c main_v7 (ix2 r q)) = zRow (a0 m c) (a1 m c) (a2 m c) (a3 m c) r := funext (v7 m c r)
  have ed : (fun q => (show FVec Ideal S4096x1024 .f32 from V m c main_arg5) (ix2 r q) * gV m c q) = fun q => (a5 m c (ix2 r q) : EReal) * a4 m c (ix1 q) :=
    funext fun q => congrArg₂ (fun a b : EReal => a * b) (congrFun (V_main_arg5 m c) _) (v28 m c q)
  exact congrArg₂ (fun z d : Fin 1024 → EReal => back z d k) ez ed

theorem dh_row (c : Dev nD) (r : Fin 4096) (p : Fin 2816) :
    dhA (V m c main_arg5) (V m c main_v7) (gV m c) (V m c main_v19) r (wide p) = dhN (a0 m c) (a1 m c) (a2 m c) (a3 m c) (a4 m c) (a5 m c) r p :=
  Finset.sum_congr rfl fun q _ => congrArg₂ (fun a b : EReal => a * b) (dz_row m c r q) (by
    rw [v19]; exact (padRows_apply _ _ _).trans (spread_wide _ p))
theorem gp_row (c : Dev nD) (r : Fin 4096) (p : Fin 2816) : (V m c main_v23 (ix2 r (wide p)) : EReal) = proj (a0 m c) (a1 m c) r p := by
  rw [v23]; exact (padHid_apply _ _ _).trans ((spread_wide _ p).trans (linH_apply _ _ _ _))
theorem up_row (c : Dev nD) (r : Fin 4096) (p : Fin 2816) : (V m c main_v27 (ix2 r (wide p)) : EReal) = proj (a0 m c) (a2 m c) r p := by
  rw [v27]; exact (padHid_apply _ _ _).trans ((spread_wide _ p).trans (linH_apply _ _ _ _))

theorem dgp_row (c : Dev nD) (r : Fin 4096) (p : Fin 2816) : DGP m c r (wide p) = dgpN (a0 m c) (a1 m c) (a2 m c) (a3 m c) (a4 m c) (a5 m c) r p :=
  congrArg₂ (fun a b : EReal => a * b) (congrArg₂ (fun a b : EReal => a * b) (dh_row m c r p) (up_row m c r p)) (congrArg dsl (gp_row m c r p))
theorem dup_row (c : Dev nD) (r : Fin 4096) (p : Fin 2816) : DUP m c r (wide p) = dupN (a0 m c) (a1 m c) (a2 m c) (a3 m c) (a4 m c) (a5 m c) r p :=
  congrArg₂ (fun a b : EReal => a * b) (dh_row m c r p) (congrArg sl (gp_row m c r p))
theorem hid_row (c : Dev nD) (r : Fin 4096) (p : Fin 2816) : HID m c r (wide p) = Cert.FfnReferenceIdeal.FfnRows.hidden (a0 m c) (a1 m c) (a2 m c) r p :=
  congrArg₂ (fun a b : EReal => a * b) (congrArg sl (gp_row m c r p)) (up_row m c r p)
theorem wg_row (c : Dev nD) (k : Fin 1024) (p : Fin 3072) : (V m c main_v11 (ix2 k p) : EReal) = spread (fun q => a1 m c (ix2 k q)) p := by
  rw [v11]; exact padCols_apply _ _ _
theorem wu_row (c : Dev nD) (k : Fin 1024) (p : Fin 3072) : (V m c main_v15 (ix2 k p) : EReal) = spread (fun q => a2 m c (ix2 k q)) p := by
  rw [v15]; exact padCols_apply _ _ _
theorem dx_row (c : Dev nD) (r : Fin 4096) (k : Fin 1024) : DX m c r k = dxN (a0 m c) (a1 m c) (a2 m c) (a3 m c) (a4 m c) (a5 m c) r k := by
  refine congrArg₂ (fun a b : EReal => a + b) (congrArg (al * ·) (dz_row m c r k)) ?_
  refine (sum_wide _ fun p h => ?_).trans (Finset.sum_congr rfl fun p _ => ?_)
  · exact (congrArg₂ (fun a b : EReal => a + b)
      ((congrArg (DGP m c r p * ·) ((wg_row m c k p).trans (spread_off _ p h))).trans (mul_zero _))
      ((congrArg (DUP m c r p * ·) ((wu_row m c k p).trans (spread_off _ p h))).trans (mul_zero _))).trans (add_zero _)
  · exact congrArg₂ (fun a b : EReal => a + b)
      (congrArg₂ (fun a b : EReal => a * b) (dgp_row m c r p) ((wg_row m c k (wide p)).trans (spread_wide _ p)))
      (congrArg₂ (fun a b : EReal => a * b) (dup_row m c r p) ((wu_row m c k (wide p)).trans (spread_wide _ p)))

/-! ## The host's lines after the call -/

/-- The columns kept of an array whose columns were padded. -/
def cut (x : FVec Ideal S4096x3072 .bf16) : FVec Ideal S4096x2816 .f32 :=
  extf .f32 (shapeCast S4096x2816 (extractStridedSlice S4096x8x352 ![0, 0, 0] (shapeCast S4096x8x384 x shapeCasts_S4096x3072_S4096x8x384)
    slices_S4096x8x384_S4096x8x352_0_0_0) shapeCasts_S4096x8x352_S4096x2816) bitsLt_bf16_f32

theorem cut_apply (x : FVec Ideal S4096x3072 .bf16) (r : Fin 4096) (p : Fin 2816) : (cut x (ix2 r p) : EReal) = x (ix2 r (wide p)) := by
  unfold cut
  pointwise
  exact congrArg x (congrArg (ix2 r) (Fin.ext (by simp only [wide]; omega)))

abbrev W (c : Dev nD) := Pipeline.withArrays (cfgs 0).spec c (V0 m c) (fun w => (dats m 0 c).arrAt w (cfgs 0).N)

theorem tail_gp (c : Dev nD) : Pipeline.afterTail₀ cfgs (dats m) 0 (V0 m) [hostOps1] c main_v34
    = fun i : S4096x2816.Idx => dgpN (a0 m c) (a1 m c) (a2 m c) (a3 m c) (a4 m c) (a5 m c) (i 0) (i 1) := by
  refine Eq.trans (b := cut (W m c (Proc.devRef .tc main_v30_1))) rfl ?_
  rw [show W m c (Proc.devRef .tc main_v30_1) = _ from
    Pipeline.withArrays_arr spec0 (by decide) c (V0 m c) (fun w => (dats m 0 c).arrAt w (cfgs 0).N) 9]
  rw [show (dats m 0 c).arrAt 9 (cfgs 0).N = _ from final_gp m c]
  funext i
  idx_vars i
  exact (cut_apply _ _ _).trans (dgp_row m c _ _)
theorem tail_up (c : Dev nD) : Pipeline.afterTail₀ cfgs (dats m) 0 (V0 m) [hostOps1] c main_v38
    = fun i : S4096x2816.Idx => dupN (a0 m c) (a1 m c) (a2 m c) (a3 m c) (a4 m c) (a5 m c) (i 0) (i 1) := by
  refine Eq.trans (b := cut (W m c (Proc.devRef .tc main_v30_2))) rfl ?_
  rw [show W m c (Proc.devRef .tc main_v30_2) = _ from
    Pipeline.withArrays_arr spec0 (by decide) c (V0 m c) (fun w => (dats m 0 c).arrAt w (cfgs 0).N) 10]
  rw [show (dats m 0 c).arrAt 10 (cfgs 0).N = _ from final_up m c]
  funext i
  idx_vars i
  exact (cut_apply _ _ _).trans (dup_row m c _ _)
theorem tail_hid (c : Dev nD) : Pipeline.afterTail₀ cfgs (dats m) 0 (V0 m) [hostOps1] c main_v42
    = fun i : S4096x2816.Idx => Cert.FfnReferenceIdeal.FfnRows.hidden (a0 m c) (a1 m c) (a2 m c) (i 0) (i 1) := by
  refine Eq.trans (b := cut (W m c (Proc.devRef .tc main_v30_3))) rfl ?_
  rw [show W m c (Proc.devRef .tc main_v30_3) = _ from
    Pipeline.withArrays_arr spec0 (by decide) c (V0 m c) (fun w => (dats m 0 c).arrAt w (cfgs 0).N) 11]
  rw [show (dats m 0 c).arrAt 11 (cfgs 0).N = _ from final_hid m c]
  funext i
  idx_vars i
  exact (cut_apply _ _ _).trans (hid_row m c _ _)

theorem z_fun (c : Dev nD) (r : Fin 4096) : (fun q => V m c main_v7 (ix2 r q)) = zRow (a0 m c) (a1 m c) (a2 m c) (a3 m c) r := funext (v7 m c r)

theorem tail_dg (c : Dev nD) : Pipeline.afterTail₀ cfgs (dats m) 0 (V0 m) [hostOps1] c main_v44
    = fun i : S1024.Idx => ∑ r : Fin 4096, (a5 m c (ix2 r (i 0)) : EReal) * hat (zRow (a0 m c) (a1 m c) (a2 m c) (a3 m c) r) (i 0) := by
  refine Eq.trans (b := shapeCast S1024 (extractStridedSlice S1x1024 ![0, 0] (W m c (Proc.devRef .tc main_v30_5)) slices_S8x1024_S1x1024_0_0) shapeCasts_S1x1024_S1024) rfl ?_
  rw [show W m c (Proc.devRef .tc main_v30_5) = _ from
    Pipeline.withArrays_arr spec0 (by decide) c (V0 m c) (fun w => (dats m 0 c).arrAt w (cfgs 0).N) 13]
  rw [show (dats m 0 c).arrAt 13 (cfgs 0).N = _ from final_dln m c, V_main_arg5]
  funext i
  idx_vars i
  pointwise
  refine (if_pos rfl).trans ?_
  simp only [z_fun]
  rfl
theorem tail_db (c : Dev nD) : Pipeline.afterTail₀ cfgs (dats m) 0 (V0 m) [hostOps1] c main_v46
    = fun i : S1024.Idx => ∑ r : Fin 4096, (a5 m c (ix2 r (i 0)) : EReal) := by
  refine Eq.trans (b := shapeCast S1024 (extractStridedSlice S1x1024 ![1, 0] (W m c (Proc.devRef .tc main_v30_5)) slices_S8x1024_S1x1024_1_0) shapeCasts_S1x1024_S1024) rfl ?_
  rw [show W m c (Proc.devRef .tc main_v30_5) = _ from
    Pipeline.withArrays_arr spec0 (by decide) c (V0 m c) (fun w => (dats m 0 c).arrAt w (cfgs 0).N) 13]
  rw [show (dats m 0 c).arrAt 13 (cfgs 0).N = _ from final_dln m c, V_main_arg5]
  funext i
  idx_vars i
  pointwise
  exact (if_neg Nat.one_ne_zero).trans (if_pos rfl)

/-- The call's run: every array it returns, and the arguments as they were. -/
theorem run : θ_run defs (onTc (τ := τ) (main (F := Ideal))) ⟨m, fun _ => 0, ρ⟩ (fun r => ∀ c : Dev nD,
      r.2.mem ((c.tc : Thread nD τ).loc main_v30_0) = (fun i : S4096x1024.Idx => dxN (a0 m c) (a1 m c) (a2 m c) (a3 m c) (a4 m c) (a5 m c) (i 0) (i 1))
      ∧ r.2.mem ((c.tc : Thread nD τ).loc main_v34) = (fun i : S4096x2816.Idx => dgpN (a0 m c) (a1 m c) (a2 m c) (a3 m c) (a4 m c) (a5 m c) (i 0) (i 1))
      ∧ r.2.mem ((c.tc : Thread nD τ).loc main_v38) = (fun i : S4096x2816.Idx => dupN (a0 m c) (a1 m c) (a2 m c) (a3 m c) (a4 m c) (a5 m c) (i 0) (i 1))
      ∧ r.2.mem ((c.tc : Thread nD τ).loc main_v42) = (fun i : S4096x2816.Idx => Cert.FfnReferenceIdeal.FfnRows.hidden (a0 m c) (a1 m c) (a2 m c) (i 0) (i 1))
      ∧ r.2.mem ((c.tc : Thread nD τ).loc main_v30_4) = (fun i : S4096x1024.Idx => dzN (a0 m c) (a1 m c) (a2 m c) (a3 m c) (a4 m c) (a5 m c) (i 0) (i 1))
      ∧ r.2.mem ((c.tc : Thread nD τ).loc main_v44) = (fun i : S1024.Idx => ∑ r : Fin 4096, (a5 m c (ix2 r (i 0)) : EReal) * hat (zRow (a0 m c) (a1 m c) (a2 m c) (a3 m c) r) (i 0))
      ∧ r.2.mem ((c.tc : Thread nD τ).loc main_v46) = (fun i : S1024.Idx => ∑ r : Fin 4096, (a5 m c (ix2 r (i 0)) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.2 c).1 8).trans ((final_dx m c).trans (funext fun i => dx_row m c (i 0) (i 1))),
      ((h.2 c).2 main_v34 (Pipeline.mem_restRefs_of main_v34 (by decide) (by decide))).trans (tail_gp m c),
      ((h.2 c).2 main_v38 (Pipeline.mem_restRefs_of main_v38 (by decide) (by decide))).trans (tail_up m c),
      ((h.2 c).2 main_v42 (Pipeline.mem_restRefs_of main_v42 (by decide) (by decide))).trans (tail_hid m c),
      ((h.2 c).1 12).trans ((final_dz m c).trans (funext fun i => dz_row m c (i 0) (i 1))),
      ((h.2 c).2 main_v44 (Pipeline.mem_restRefs_of main_v44 (by decide) (by decide))).trans (tail_dg m c),
      ((h.2 c).2 main_v46 (Pipeline.mem_restRefs_of main_v46 (by decide) (by decide))).trans (tail_db m c), h.1 c⟩)
    (θ_run_and (unchanged m ρ) (run_main m ρ))

end Cert.FfnKernelIdeal.FfnValue
end
-- ==== Proof.FfnClaim.lean ====
/- The feed-forward block's derivative: the kernel's arrays are the reference's. -/
module

public import proofs.«01_k».proof.Proof.FfnRun
public import proofs.«01_k».proof.Proof.OutprojClaim
public import proofs.«01_k».proof.Proof.FfnReference
public import proofs.«01_k».proof.Proof.Gen.Pre_ffn_finite

@[expose] public section

set_option maxRecDepth 16384

noncomputable section

open Idealize.ShloMosaic Idealize.ShloMosaic.TcCoe Idealize.SL.Sem
open Cert.Norm Cert.FfnKernelIdeal.FfnValue Cert.FfnReferenceIdeal.FfnRows

namespace Cert.Proof.Ffn

open Cert.Proof.Outproj (Finite finite_of ext1 ext2)

theorem real_al : Real' al := ⟨14107901 / 2 ^ 23, by unfold al; simp [Ideal.ofBits, Ideal.ieee, -EReal.coe_mul]; norm_num⟩

instance : Cert.Pre_ffn_finite.Facts := Cert.Pre_ffn_finite.Gen.facts

theorem real_logistic {x : EReal} (h : Real' x) : Real' (Ideal.logistic x) := by
  obtain ⟨a, rfl⟩ := h
  rw [Ideal.logistic_coe]
  exact .coe _
theorem real_sl {x : EReal} (h : Real' x) : Real' (sl x) := h.mul (real_logistic h)
theorem real_back' (r d : Fin 1024 → EReal) (hr : ∀ k, Real' (r k)) (hd : ∀ k, Real' (d k)) (k : Fin 1024) : Real' (back' r d k) := by
  choose R hR using hr
  choose D hD using hd
  obtain rfl : r = fun k => (R k : EReal) := funext hR
  obtain rfl : d = fun k => (D k : EReal) := funext hD
  rw [back'_coe]
  exact .coe _

/-- The gate's slope, written as one product and as two. -/
theorem slope_two {h u g : EReal} (hh : Real' h) (hu : Real' u) (hg : Real' g) :
    h * u * dsl g = h * u * Ideal.logistic g + g * (h * u) * (Ideal.logistic g * (1 - Ideal.logistic g)) := by
  unfold dsl
  obtain ⟨s, hs⟩ := real_logistic hg
  rw [hs]
  obtain ⟨a, rfl⟩ := hh
  obtain ⟨b, rfl⟩ := hu
  obtain ⟨x, rfl⟩ := hg
  simp only [← EReal.coe_one, ← EReal.coe_sub, ← EReal.coe_mul, ← EReal.coe_add]
  exact congrArg _ (by ring)

section

variable {x0 : FVec Ideal ⟨2, ![4096, 1024]⟩ .f32} {x1 x2 : FVec Ideal ⟨2, ![1024, 2816]⟩ .f32} {x3 : FVec Ideal ⟨2, ![2816, 1024]⟩ .f32}
  {x4 : FVec Ideal ⟨1, ![1024]⟩ .f32} {x5 : FVec Ideal ⟨2, ![4096, 1024]⟩ .f32}
  (e0 : Finite x0) (e1 : Finite x1) (e2 : Finite x2) (e3 : Finite x3) (e4 : Finite x4) (e5 : Finite x5)

include e0 in
theorem real_proj {w : FVec Ideal ⟨2, ![1024, 2816]⟩ .f32} (hw : Finite w) (r : Fin 4096) (p : Fin 2816) : Real' (proj x0 w r p) :=
  Real'.sum _ _ fun q => (e0 _).mul (hw _)
include e0 e1 e2 e3 in
theorem real_z (r : Fin 4096) (k : Fin 1024) : Real' (zRow x0 x1 x2 x3 r k) :=
  (real_al.mul (e0 _)).add (Real'.sum _ _ fun p => ((real_sl (real_proj e0 e1 r p)).mul (real_proj e0 e2 r p)).mul (e3 _))
include e0 e1 e2 e3 e4 e5 in
theorem dz_eq (r : Fin 4096) (k : Fin 1024) : dz' x0 x1 x2 x3 x4 x5 r k = dzN x0 x1 x2 x3 x4 x5 r k :=
  (back_eq _ _ (real_z e0 e1 e2 e3 r) (fun q => (e5 _).mul (e4 _)) k).symm
include e0 e1 e2 e3 e4 e5 in
theorem dh_eq (r : Fin 4096) (p : Fin 2816) : dh' x0 x1 x2 x3 x4 x5 r p = dhN x0 x1 x2 x3 x4 x5 r p :=
  Finset.sum_congr rfl fun q _ => congrArg (fun a : EReal => a * x3 (ix2 p q)) (dz_eq e0 e1 e2 e3 e4 e5 r q)
include e0 e1 e2 e3 e4 e5 in
theorem real_dh (r : Fin 4096) (p : Fin 2816) : Real' (dh' x0 x1 x2 x3 x4 x5 r p) :=
  Real'.sum _ _ fun q => (real_back' _ _ (real_z e0 e1 e2 e3 r) (fun q => (e5 _).mul (e4 _)) q).mul (e3 _)
include e0 e1 e2 e3 e4 e5 in
theorem dgp_eq (r : Fin 4096) (p : Fin 2816) : dgp' x0 x1 x2 x3 x4 x5 r p = dgpN x0 x1 x2 x3 x4 x5 r p := by
  unfold dgpN
  rw [← dh_eq e0 e1 e2 e3 e4 e5]
  exact (slope_two (real_dh e0 e1 e2 e3 e4 e5 r p) (real_proj e0 e2 r p) (real_proj e0 e1 r p)).symm
include e0 e1 e2 e3 e4 e5 in
theorem dup_eq (r : Fin 4096) (p : Fin 2816) : dup' x0 x1 x2 x3 x4 x5 r p = dupN x0 x1 x2 x3 x4 x5 r p := by
  unfold dupN
  rw [← dh_eq e0 e1 e2 e3 e4 e5]
  exact mul_comm _ _
include e0 e1 e2 e3 e4 e5 in
theorem dx_eq (r : Fin 4096) (k : Fin 1024) :
    al * dz' x0 x1 x2 x3 x4 x5 r k + (∑ p, dup' x0 x1 x2 x3 x4 x5 r p * x2 (ix2 k p)) + ∑ p, dgp' x0 x1 x2 x3 x4 x5 r p * x1 (ix2 k p) = dxN x0 x1 x2 x3 x4 x5 r k := by
  unfold dxN
  simp only [dz_eq e0 e1 e2 e3 e4 e5, dup_eq e0 e1 e2 e3 e4 e5, dgp_eq e0 e1 e2 e3 e4 e5]
  rw [add_assoc]
  refine congrArg (fun a : EReal => _ + a) ((add_comm _ _).trans ?_)
  exact Finset.sum_add_distrib.symm

end

theorem frame_reference : Cert.quiescent_FfnReferenceIdeal := fun m ρ _ =>
  (θ_run Cert.FfnReferenceIdeal.defs _ _).mono (fun r h => ⟨fun c => (h c).2.2.2.2.2.2.2,
      Idealize.ShloMosaic.sem_eq_zero_of_no_sems (by decide) r.2⟩)
    (Cert.FfnReferenceIdeal.Value.run (F := Ideal) m ρ)

/-- Every array the call returns is the reference's. -/
theorem algebraic : Cert.algebraic_FfnKernelIdeal_FfnReferenceIdeal_pre_ffn_finite := by
  intro m ρ m' ρ' hpre hagree
  refine ⟨_, _, _, _, _, _, _, Cert.FfnKernelIdeal.FfnValue.run m ρ, ?_⟩
  refine (θ_run Cert.FfnReferenceIdeal.defs _ _).mono (fun _ h c => ?_) (Cert.FfnReferenceIdeal.Value.run (F := Ideal) m' ρ')
  obtain ⟨h80, h78, h74, h8, h81, h48, h42, hargs⟩ := h c
  obtain ⟨g0, g1, g2, g3, g4, g5⟩ := hagree c
  obtain ⟨f0, f1, f2, f3, f4, f5⟩ := hpre c
  have l0 : StableHlo.launchContents m' c (Proc.devRef .tc Cert.FfnReferenceIdeal.main_arg0) = a0 m c := g0
  have l1 : StableHlo.launchContents m' c (Proc.devRef .tc Cert.FfnReferenceIdeal.main_arg1) = a1 m c := g1
  have l2 : StableHlo.launchContents m' c (Proc.devRef .tc Cert.FfnReferenceIdeal.main_arg2) = a2 m c := g2
  have l3 : StableHlo.launchContents m' c (Proc.devRef .tc Cert.FfnReferenceIdeal.main_arg3) = a3 m c := g3
  have l4 : StableHlo.launchContents m' c (Proc.devRef .tc Cert.FfnReferenceIdeal.main_arg4) = a4 m c := g4
  have l5 : StableHlo.launchContents m' c (Proc.devRef .tc Cert.FfnReferenceIdeal.main_arg5) = a5 m c := g5
  have e0 : Finite (a0 m c) := finite_of _ _ f0
  have e1 : Finite (a1 m c) := finite_of _ _ f1
  have e2 : Finite (a2 m c) := finite_of _ _ f2
  have e3 : Finite (a3 m c) := finite_of _ _ f3
  have e4 : Finite (a4 m c) := finite_of _ _ f4
  have e5 : Finite (a5 m c) := finite_of _ _ f5
  refine ⟨h80.trans ?_, h78.trans ?_, h74.trans ?_, h8.trans ?_, h81.trans ?_, h48.trans ?_, h42.trans ?_, hargs⟩
  · rw [Cert.FfnReferenceIdeal.Read.val_main_v80_eq, l0, l1, l2, l3, l4, l5]
    exact ext2 fun r k => (r80 _ _ _ _ _ _ r k).trans (dx_eq e0 e1 e2 e3 e4 e5 r k)
  · rw [Cert.FfnReferenceIdeal.Read.val_main_v78_eq, l0, l1, l2, l3, l4, l5]
    exact ext2 fun r p => (r78 _ _ _ _ _ _ r p).trans (dgp_eq e0 e1 e2 e3 e4 e5 r p)
  · rw [Cert.FfnReferenceIdeal.Read.val_main_v74_eq, l0, l1, l2, l3, l4, l5]
    exact ext2 fun r p => (r74 _ _ _ _ _ _ r p).trans (dup_eq e0 e1 e2 e3 e4 e5 r p)
  · rw [Cert.FfnReferenceIdeal.Read.val_main_v8_eq, l0, l1, l2]
    exact ext2 fun r p => r8 _ _ _ r p
  · rw [Cert.FfnReferenceIdeal.Read.val_main_v81_eq, l0, l1, l2, l3, l4, l5]
    exact ext2 fun r k => (r81 _ _ _ _ _ _ r k).trans (dz_eq e0 e1 e2 e3 e4 e5 r k)
  · rw [Cert.FfnReferenceIdeal.Read.val_main_v48_eq, l0, l1, l2, l3, l5]
    exact ext1 fun k => (r48 _ _ _ _ _ k).trans (Finset.sum_congr rfl fun r _ => mul_comm _ _)
  · rw [Cert.FfnReferenceIdeal.Read.val_main_v42_eq, l5]
    exact ext1 fun k => r42 _ k

end Cert.Proof.Ffn

end
-- ==== Proof.FfnFwdValue.lean ====
module

public import proofs.«01_k».proof.Defs
public import proofs.«01_k».proof.Proof.Norm
public import proofs.«01_k».proof.Proof.Halves
public import proofs.«01_k».proof.Proof.Gen.FfnFwdKernelIdeal.Frame
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnFwdKernelIdeal.FfnFwdValue

open Cert.FfnFwdKernelIdeal Cert.FfnFwdKernelIdeal.Gen Cert.Norm Cert.Halves

variable (m : (ℓ : Loc nD τ sig) → Buf (Elt Ideal) ℓ)

theorem idx0 : ∀ t : Fin cfg0.N, win0_0.index t = ![t.val / 3, 0] ∧ win0_1.index t = ![t.val / 3, 0] ∧ win0_2.index t = ![0, t.val % 3]
    ∧ win0_3.index t = ![0, t.val % 3] ∧ win0_4.index t = ![t.val % 3, 0] ∧ win0_5.index t = ![0, 0] ∧ win0_6.index t = ![0, 0]
    ∧ win0_7.index t = ![0, 0] ∧ win0_8.index t = ![0, 0]
    ∧ win0_9.index t = ![t.val / 3, 0] ∧ win0_10.index t = ![t.val / 3, 0] ∧ win0_11.index t = ![t.val / 3, 0]
    ∧ win0_12.index t = ![t.val / 3, t.val % 3] ∧ win0_13.index t = ![t.val / 3, t.val % 3] :=
  (by decide +kernel : ∀ t : Fin grid0.N, _)

theorem hg (x : FVec Ideal S256x1024 .bf16) (w : FVec Ideal S1024x1024 .bf16) (r : Fin 256) (k : Fin 1024) :
    (k0_pay14 (F := Ideal) x w (ix2 r k) : EReal) = ∑ q, x (ix2 r q) * w (ix2 q k) := by
  pointwise [k0_pay14, k0_pay13]
theorem hu (x : FVec Ideal S256x1024 .bf16) (w : FVec Ideal S1024x1024 .bf16) (r : Fin 256) (k : Fin 1024) :
    (k0_pay15 (F := Ideal) x w (ix2 r k) : EReal) = ∑ q, x (ix2 r q) * w (ix2 q k) := by
  pointwise [k0_pay15, k0_pay13]
theorem hg' (x : FVec Ideal S256x1024 .bf16) (w : FVec Ideal S1024x1024 .bf16) (r : Fin 256) (k : Fin 1024) :
    (k0_pay20 (F := Ideal) x w (ix2 r k) : EReal) = ∑ q, x (ix2 r q) * w (ix2 q k) := by
  pointwise [k0_pay20, k0_pay19]
theorem hu' (x : FVec Ideal S256x1024 .bf16) (w : FVec Ideal S1024x1024 .bf16) (r : Fin 256) (k : Fin 1024) :
    (k0_pay21 (F := Ideal) x w (ix2 r k) : EReal) = ∑ q, x (ix2 r q) * w (ix2 q k) := by
  pointwise [k0_pay21, k0_pay19]

/-- The gated product of two numbers. -/
def swi (g u : EReal) : EReal := g * Ideal.logistic g * u

theorem hh (x : FVec Ideal S256x1024 .bf16) (wg wu : FVec Ideal S1024x1024 .bf16) (r : Fin 256) (k : Fin 1024) :
    (k0_pay18 (F := Ideal) x wg wu (ix2 r k) : EReal) = swi (∑ q, x (ix2 r q) * wg (ix2 q k)) (∑ q, x (ix2 r q) * wu (ix2 q k)) := by
  rw [← hg, ← hu]
  unfold k0_pay18
  generalize k0_pay14 (F := Ideal) x wg = a, k0_pay15 (F := Ideal) x wu = b
  pointwise
  rfl

theorem hacc (h : FVec Ideal S256x1024 .bf16) (a : FVec Ideal S256x1024 .f32) (w : FVec Ideal S1024x1024 .bf16) (r : Fin 256) (k : Fin 1024) :
    (k0_pay1 (F := Ideal) h a w (ix2 r k) : EReal) = a (ix2 r k) + ∑ q, h (ix2 r q) * w (ix2 q k) := by
  pointwise [k0_pay1]
theorem hacc' (g u a : FVec Ideal S256x1024 .f32) (w : FVec Ideal S1024x1024 .bf16) (r : Fin 256) (k : Fin 1024) :
    (k0_pay4 (F := Ideal) g u a w (ix2 r k) : EReal) = a (ix2 r k) + ∑ q, swi (g (ix2 r q)) (u (ix2 r q)) * w (ix2 q k) := by
  pointwise [k0_pay4]
  rfl
theorem hzero (j : S512x1024.Idx) : (k0_pay12 (F := Ideal) j : EReal) = 0 := by pointwise [k0_pay12]

/-- What one point adds to the block's output: the gated products of its columns times its rows of the last weight. -/
def term (x : FVec Ideal S512x1024 .bf16) (wg wu wd : FVec Ideal S1024x1024 .bf16) (j : S512x1024.Idx) : EReal :=
  ∑ q, swi (∑ p, x (ix2 (j 0) p) * wg (ix2 p q)) (∑ p, x (ix2 (j 0) p) * wu (ix2 p q)) * wd (ix2 q (j 1))

abbrev r0 : Rect S512x1024 := Rect.unit ![0, 0] ![256, 1024] inb_S512x1024_S256x1024_0_0
abbrev r1 : Rect S512x1024 := Rect.unit ![256, 0] ![256, 1024] inb_S512x1024_S256x1024_256_0

theorem emb0 (r : Fin 256) (k : Fin 1024) : r0.idx (ix2 r k) = (ix2 ⟨r.val, by omega⟩ k : S512x1024.Idx) := by idx_ext
theorem emb1 (r : Fin 256) (k : Fin 1024) : r1.idx (ix2 r k) = (ix2 ⟨256 + r.val, by omega⟩ k : S512x1024.Idx) := by idx_ext

theorem low (x : FVec Ideal S512x1024 .bf16) (wg wu wd : FVec Ideal S1024x1024 .bf16) (a : FVec Ideal S256x1024 .f32) (A : FVec Ideal S512x1024 .f32)
    (r : Fin 256) (k : Fin 1024) (h : a (ix2 r k) = A (ix2 ⟨r.val, by omega⟩ k)) :
    (k0_pay1 (F := Ideal) (k0_pay18 (View.ld x r0) wg wu) a wd (ix2 r k) : EReal)
      = (fun j : S512x1024.Idx => (A j : EReal) + term x wg wu wd j) (ix2 ⟨r.val, by omega⟩ k) := by
  rw [hacc, h]
  simp only [hh]
  unfold term View.ld
  simp only [emb0]
  rfl
theorem high (x : FVec Ideal S512x1024 .bf16) (wg wu wd : FVec Ideal S1024x1024 .bf16) (a : FVec Ideal S256x1024 .f32) (A : FVec Ideal S512x1024 .f32)
    (r : Fin 256) (k : Fin 1024) (h : a (ix2 r k) = A (ix2 ⟨256 + r.val, by omega⟩ k)) :
    (k0_pay4 (F := Ideal) (k0_pay20 (View.ld x r1) wg) (k0_pay21 (View.ld x r1) wu) a wd (ix2 r k) : EReal)
      = (fun j : S512x1024.Idx => (A j : EReal) + term x wg wu wd j) (ix2 ⟨256 + r.val, by omega⟩ k) := by
  rw [hacc', h]
  simp only [hg', hu']
  unfold term View.ld
  simp only [emb1]
  rfl

theorem zero_canon (j : S512x1024.Idx) :
    View.canon (Val := Elt Ideal) (e := .f32) (s := S512x1024) [⟨Rect.unit ![0, 0] ![512, 1024] inb_S512x1024_S512x1024_0_0, k0_pay12 (F := Ideal)⟩] j = (0 : EReal) := by
  refine View.canon_apply_of_pieces (Val := Elt Ideal) (e := .f32) (S := S512x1024) (fun _ => (0 : EReal)) _ (fun p hp x => ?_) j
    (View.cover_of_tiledBy _ ![512, 1024] (by sl_kernel_rfl) j)
  rcases List.mem_singleton.mp hp with rfl
  exact hzero (x : S512x1024.Idx)

/-- The running sum after a point that does not begin a block of rows. -/
theorem sums (c : Dev nD) (t : Fin cfg0.N) (a : FVec Ideal S512x1024 .f32) (j : S512x1024.Idx) :
    View.canon (Val := Elt Ideal) (e := .f32) (s := S512x1024)
      [⟨r1, k0_pay4 (F := Ideal) (k0_pay20 (View.ld (iblk m c 1 t) r1) (iblk m c 2 t)) (k0_pay21 (View.ld (iblk m c 1 t) r1) (iblk m c 3 t)) (View.ld a r1) (iblk m c 4 t)⟩,
        ⟨r0, k0_pay1 (F := Ideal) (k0_pay18 (View.ld (iblk m c 1 t) r0) (iblk m c 2 t) (iblk m c 3 t)) (View.ld a r0) (iblk m c 4 t)⟩] j
    = (a j : EReal) + term (iblk m c 1 t) (iblk m c 2 t) (iblk m c 3 t) (iblk m c 4 t) j :=
  two (e := .f32) (View.whole cc0_scratch0) _ _ _ _ _ j (fun j => (a j : EReal) + term (iblk m c 1 t) (iblk m c 2 t) (iblk m c 3 t) (iblk m c 4 t) j)
    (fun r k => low _ _ _ _ _ a r k (congrArg a (emb0 r k))) (fun r k => high _ _ _ _ _ a r k (congrArg a (emb1 r k)))

theorem stepB (c : Dev nD) (t : Fin cfg0.N) (h0 : ¬ t.val % 3 = 0) (h1 : ¬ t.val % 3 = 2) (j : S512x1024.Idx) :
    (outsAt0 m c t.val t.isLt).2.2.2.2.2 j = ((outsAt0 m c (t.val - 1) (Nat.lt_of_le_of_lt (Nat.sub_le _ _) t.isLt)).2.2.2.2.2 j : EReal)
      + term (iblk m c 1 t) (iblk m c 2 t) (iblk m c 3 t) (iblk m c 4 t) j := by
  rw [outsAt0_B m c t h0 h1]
  frame_out
  refine (sums m c t _ j).trans ?_
  refine congrArg (fun a : EReal => a + _) ?_
  exact congrFun ((Memref.isWhole_whole cc0_scratch0).read_unread _) j
theorem stepA (c : Dev nD) (t : Fin cfg0.N) (h0 : t.val % 3 = 0) (h1 : ¬ t.val % 3 = 2) (j : S512x1024.Idx) :
    (outsAt0 m c t.val t.isLt).2.2.2.2.2 j = (0 : EReal) + term (iblk m c 1 t) (iblk m c 2 t) (iblk m c 3 t) (iblk m c 4 t) j := by
  rw [outsAt0_A m c t h0 h1]
  frame_out
  refine two (e := .f32) (View.whole cc0_scratch0) _ _ _ _ _ j (fun j => (0 : EReal) + term (iblk m c 1 t) (iblk m c 2 t) (iblk m c 3 t) (iblk m c 4 t) j)
    (fun r k => low _ _ _ _ _ (fun _ => (0 : EReal)) r k ?_) (fun r k => high _ _ _ _ _ (fun _ => (0 : EReal)) r k ?_)
  · rw [View.readCov_eq_canon']
    exact zero_canon _
  · rw [View.readCov_eq_canon']
    refine (skip (e := .f32) (View.whole cc0_scratch0) _ _ _ _ ?_).trans (zero_canon _)
    show 256 ≤ (r1.idx (ix2 r k) 0).val
    rw [emb1]
    show 256 ≤ 256 + r.val
    omega

/-- The block's output at the last point of its rows. -/
theorem total (c : Dev nD) (t s u : Fin cfg0.N) (h : t.val % 3 = 2) (hs : s.val = t.val - 1) (hu : u.val = t.val - 2) (j : S512x1024.Idx) :
    ((outsAt0 m c (t.val - 1) (Nat.lt_of_le_of_lt (Nat.sub_le _ _) t.isLt)).2.2.2.2.2 j : EReal)
      = term (iblk m c 1 u) (iblk m c 2 u) (iblk m c 3 u) (iblk m c 4 u) j + term (iblk m c 1 s) (iblk m c 2 s) (iblk m c 3 s) (iblk m c 4 s) j := by
  have e1 := stepB m c s (by omega) (by omega) j
  have e0 := stepA m c u (by omega) (by omega) j
  simp only [hs, zero_add] at e0 e1
  rw [e1]
  refine congrArg (fun a : EReal => a + _) (Eq.trans ?_ e0)
  have hv : t.val - 1 - 1 = u.val := by omega
  simp only [hv]

/-- The running sum after the last point of a block of rows. -/
def sumAt (c : Dev nD) (t : Fin cfg0.N) : FVec Ideal S512x1024 .f32 := fun j =>
  ((outsAt0 m c (t.val - 1) (Nat.lt_of_le_of_lt (Nat.sub_le _ _) t.isLt)).2.2.2.2.2 j : EReal)
    + term (iblk m c 1 t) (iblk m c 2 t) (iblk m c 3 t) (iblk m c 4 t) j

theorem whole_idx (j : S512x1024.Idx) : (Rect.unit (s := S512x1024) ![0, 0] ![512, 1024] inb_S512x1024_S512x1024_0_0).idx j = j := by
  idx_ext

theorem read_sum (c : Dev nD) (t : Fin cfg0.N) :
    (View.whole cc0_scratch0).readCov (Val := Elt Ideal)
      [⟨r1, k0_pay4 (F := Ideal) (k0_pay20 (View.ld (iblk m c 1 t) r1) (iblk m c 2 t)) (k0_pay21 (View.ld (iblk m c 1 t) r1) (iblk m c 3 t))
          (View.ld (View.read (Elt Ideal) (View.whole cc0_scratch0) ((Memref.isWhole_whole cc0_scratch0).unread (outsAt0 m c (t.val - 1) (Nat.lt_of_le_of_lt (Nat.sub_le _ _) t.isLt)).2.2.2.2.2)) r1) (iblk m c 4 t)⟩,
        ⟨r0, k0_pay1 (F := Ideal) (k0_pay18 (View.ld (iblk m c 1 t) r0) (iblk m c 2 t) (iblk m c 3 t))
          (View.ld (View.read (Elt Ideal) (View.whole cc0_scratch0) ((Memref.isWhole_whole cc0_scratch0).unread (outsAt0 m c (t.val - 1) (Nat.lt_of_le_of_lt (Nat.sub_le _ _) t.isLt)).2.2.2.2.2)) r0) (iblk m c 4 t)⟩]
      (Rect.unit ![0, 0] ![512, 1024] inb_S512x1024_S512x1024_0_0).toLoadRect = sumAt m c t := by
  funext i
  rw [View.readCov_eq_canon']
  refine (sums m c t _ _).trans ?_
  rw [whole_idx]
  exact congrArg (fun a : EReal => a + _) (congrFun ((Memref.isWhole_whole cc0_scratch0).read_unread _) i)

theorem outz (c : Dev nD) (t : Fin cfg0.N) (h0 : ¬ t.val % 3 = 0) (h1 : t.val % 3 = 2) :
    (outsAt0 m c t.val t.isLt).1 = k0_pay7 (F := Ideal) (iblk m c 0 t) (iblk m c 7 t) (iblk m c 8 t) (sumAt m c t) := by
  funext j
  rw [outsAt0_C m c t h0 h1]
  frame_out
  exact congrFun (congrArg (k0_pay7 (F := Ideal) _ _ _) (read_sum m c t)) j
theorem outx (c : Dev nD) (t : Fin cfg0.N) (h0 : ¬ t.val % 3 = 0) (h1 : t.val % 3 = 2) :
    (outsAt0 m c t.val t.isLt).2.1 = k0_pay5 (F := Ideal) (k0_pay7 (iblk m c 0 t) (iblk m c 7 t) (iblk m c 8 t) (sumAt m c t))
      (k0_pay8 (iblk m c 5 t)) (k0_pay9 (iblk m c 6 t)) (k0_pay10 (iblk m c 0 t) (iblk m c 7 t) (iblk m c 8 t) (sumAt m c t)) k0_pay11 := by
  funext j
  rw [outsAt0_C m c t h0 h1]
  frame_out
  exact congrFun (congrArg (fun a => k0_pay5 (F := Ideal) (k0_pay7 (iblk m c 0 t) (iblk m c 7 t) (iblk m c 8 t) a)
      (k0_pay8 (iblk m c 5 t)) (k0_pay9 (iblk m c 6 t)) (k0_pay10 (iblk m c 0 t) (iblk m c 7 t) (iblk m c 8 t) a) k0_pay11) (read_sum m c t)) j
theorem outxb (c : Dev nD) (t : Fin cfg0.N) (h0 : ¬ t.val % 3 = 0) (h1 : t.val % 3 = 2) :
    (outsAt0 m c t.val t.isLt).2.2.1 = k0_pay6 (F := Ideal) (k0_pay7 (iblk m c 0 t) (iblk m c 7 t) (iblk m c 8 t) (sumAt m c t))
      (k0_pay8 (iblk m c 5 t)) (k0_pay9 (iblk m c 6 t)) (k0_pay10 (iblk m c 0 t) (iblk m c 7 t) (iblk m c 8 t) (sumAt m c t)) k0_pay11 := by
  funext j
  rw [outsAt0_C m c t h0 h1]
  frame_out
  exact congrFun (congrArg (fun a => k0_pay6 (F := Ideal) (k0_pay7 (iblk m c 0 t) (iblk m c 7 t) (iblk m c 8 t) a)
      (k0_pay8 (iblk m c 5 t)) (k0_pay9 (iblk m c 6 t)) (k0_pay10 (iblk m c 0 t) (iblk m c 7 t) (iblk m c 8 t) a) k0_pay11) (read_sum m c t)) j

/-- A block of rows times a block of columns, stored as two halves. -/
def prod (x : FVec Ideal S512x1024 .bf16) (w : FVec Ideal S1024x1024 .bf16) (j : S512x1024.Idx) : EReal := ∑ p, x (ix2 (j 0) p) * w (ix2 p (j 1))

theorem gates (v : View sig .tc .vmem S512x1024 .bf16) (x : FVec Ideal S512x1024 .bf16) (w : FVec Ideal S1024x1024 .bf16) (j : S512x1024.Idx) :
    View.canon (Val := Elt Ideal) (e := .bf16) (s := S512x1024) [⟨r1, k0_pay2 (F := Ideal) (k0_pay20 (View.ld x r1) w)⟩, ⟨r0, k0_pay16 (F := Ideal) (View.ld x r0) w⟩] j
      = prod x w j := by
  refine two (e := .bf16) v _ _ _ _ _ j (prod x w) (fun r k => ?_) (fun r k => ?_)
  · refine (show k0_pay16 (F := Ideal) (View.ld x r0) w (ix2 r k) = k0_pay14 (F := Ideal) (View.ld x r0) w (ix2 r k) from rfl).trans ((hg _ _ _ _).trans ?_)
    unfold prod View.ld
    simp only [emb0]
    rfl
  · refine (show k0_pay2 (F := Ideal) (k0_pay20 (View.ld x r1) w) (ix2 r k) = k0_pay20 (F := Ideal) (View.ld x r1) w (ix2 r k) from rfl).trans ((hg' _ _ _ _).trans ?_)
    unfold prod View.ld
    simp only [emb1]
    rfl
theorem ups (v : View sig .tc .vmem S512x1024 .bf16) (x : FVec Ideal S512x1024 .bf16) (w : FVec Ideal S1024x1024 .bf16) (j : S512x1024.Idx) :
    View.canon (Val := Elt Ideal) (e := .bf16) (s := S512x1024) [⟨r1, k0_pay3 (F := Ideal) (k0_pay21 (View.ld x r1) w)⟩, ⟨r0, k0_pay17 (F := Ideal) (View.ld x r0) w⟩] j
      = prod x w j := gates v x w j

theorem outg (c : Dev nD) (t : Fin cfg0.N) (j : S512x1024.Idx) : (outsAt0 m c t.val t.isLt).2.2.2.1 j = prod (iblk m c 1 t) (iblk m c 2 t) j := by
  by_cases h0 : t.val % 3 = 0
  · rw [outsAt0_A m c t h0 (by omega)]; frame_out; exact gates (ms0_12 t).view _ _ _
  · by_cases h1 : t.val % 3 = 2
    · rw [outsAt0_C m c t h0 h1]; frame_out; exact gates (ms0_12 t).view _ _ _
    · rw [outsAt0_B m c t h0 h1]; frame_out; exact gates (ms0_12 t).view _ _ _
theorem outu (c : Dev nD) (t : Fin cfg0.N) (j : S512x1024.Idx) : (outsAt0 m c t.val t.isLt).2.2.2.2.1 j = prod (iblk m c 1 t) (iblk m c 3 t) j := by
  by_cases h0 : t.val % 3 = 0
  · rw [outsAt0_A m c t h0 (by omega)]; frame_out; exact ups (ms0_13 t).view _ _ _
  · by_cases h1 : t.val % 3 = 2
    · rw [outsAt0_C m c t h0 h1]; frame_out; exact ups (ms0_13 t).view _ _ _
    · rw [outsAt0_B m c t h0 h1]; frame_out; exact ups (ms0_13 t).view _ _ _

abbrev al : EReal := Ideal.ofBits .f32 0x3FD744FD#32

theorem hz (x a : FVec Ideal S512x1024 .f32) (g b : FVec Ideal S1x1024 .f32) (r : Fin 512) (k : Fin 1024) :
    (k0_pay7 (F := Ideal) x g b a (ix2 r k) : EReal) = al * norm (fun q => x (ix2 r q)) (fun q => g (ix2 0 q)) (fun q => b (ix2 0 q)) k + a (ix2 r k) := by
  pointwise [k0_pay7]
  simp only [c_1024, c_eps, div_1024]
  rfl

theorem hx (x a : FVec Ideal S512x1024 .f32) (g1 b1 g b : FVec Ideal S1x1024 .f32) (r : Fin 512) (k : Fin 1024) :
    (k0_pay5 (F := Ideal) (k0_pay7 x g1 b1 a) (k0_pay8 g) (k0_pay9 b) (k0_pay10 x g1 b1 a) k0_pay11 (ix2 r k) : EReal)
      = norm (fun q => k0_pay7 (F := Ideal) x g1 b1 a (ix2 r q)) (fun q => g (ix2 0 q)) (fun q => b (ix2 0 q)) k := by
  unfold k0_pay10
  generalize k0_pay7 (F := Ideal) x g1 b1 a = z
  pointwise [k0_pay5, k0_pay8, k0_pay9, k0_pay11]
  simp only [c_1024, c_eps, div_1024]
  rfl

/-! ## The blocks as parts of the arrays -/

def row (t : Fin cfg0.N) (r : Fin 512) : Fin 4096 := ⟨512 * (t.val / 3) + r.val, by have := t.isLt; have : t.val < 24 := lt_of_lt_of_eq t.isLt N_0; omega⟩
def col (t : Fin cfg0.N) (q : Fin 1024) : Fin 3072 := ⟨1024 * (t.val % 3) + q.val, by omega⟩

theorem b0 (c : Dev nD) (t : Fin cfg0.N) (r : Fin 512) (q : Fin 1024) : iblk m c 0 t (ix2 r q) = V m c main_arg0 (ix2 (row t r) q) := by
  blk_ext [iblk, idx0 t, row]
theorem b1 (c : Dev nD) (t : Fin cfg0.N) (r : Fin 512) (q : Fin 1024) : iblk m c 1 t (ix2 r q) = V m c main_v34 (ix2 (row t r) q) := by
  blk_ext [iblk, idx0 t, row]
theorem b2 (c : Dev nD) (t : Fin cfg0.N) (p q : Fin 1024) : iblk m c 2 t (ix2 p q) = V m c main_v3 (ix2 p (col t q)) := by
  blk_ext [iblk, idx0 t, col]
theorem b3 (c : Dev nD) (t : Fin cfg0.N) (p q : Fin 1024) : iblk m c 3 t (ix2 p q) = V m c main_v7 (ix2 p (col t q)) := by
  blk_ext [iblk, idx0 t, col]
theorem b4 (c : Dev nD) (t : Fin cfg0.N) (q k : Fin 1024) : iblk m c 4 t (ix2 q k) = V m c main_v11 (ix2 (col t q) k) := by
  blk_ext [iblk, idx0 t, col]
theorem b5 (c : Dev nD) (t : Fin cfg0.N) (q : Fin 1024) : iblk m c 5 t (ix2 0 q) = V m c main_v35 (ix2 0 q) := by
  blk_ext [iblk, idx0 t]
theorem b6 (c : Dev nD) (t : Fin cfg0.N) (q : Fin 1024) : iblk m c 6 t (ix2 0 q) = V m c main_v36 (ix2 0 q) := by
  blk_ext [iblk, idx0 t]
theorem b7 (c : Dev nD) (t : Fin cfg0.N) (q : Fin 1024) : iblk m c 7 t (ix2 0 q) = V m c main_v37 (ix2 0 q) := by
  blk_ext [iblk, idx0 t]
theorem b8 (c : Dev nD) (t : Fin cfg0.N) (q : Fin 1024) : iblk m c 8 t (ix2 0 q) = V m c main_v38 (ix2 0 q) := by
  blk_ext [iblk, idx0 t]

end Cert.FfnFwdKernelIdeal.FfnFwdValue
end
-- ==== Proof.FfnFwdArrays.lean ====
module

public import proofs.«01_k».proof.Defs
public import proofs.«01_k».proof.Proof.Norm
public import proofs.«01_k».proof.Proof.Halves
public import proofs.«01_k».proof.Proof.FfnFwdValue
public import proofs.«01_k».proof.Proof.Gen.FfnFwdKernelIdeal.Frame
public import Idealize.ShloMosaic.Lib.Pipeline.ValueKit
public import Idealize.ShloMosaic.Lib.WritesUnit
public import Idealize.ShloMosaic.Lib.Pipeline.RowLoads
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnFwdKernelIdeal.FfnFwdValue

open Cert.FfnFwdKernelIdeal Cert.FfnFwdKernelIdeal.Gen Cert.Norm Cert.Halves

variable (m : (ℓ : Loc nD τ sig) → Buf (Elt Ideal) ℓ)

section Arrays

variable (x : FVec Ideal S4096x1024 .bf16) (z1 : FVec Ideal S4096x1024 .f32) (wg wu : FVec Ideal S1024x3072 .bf16) (wd : FVec Ideal S3072x1024 .bf16)
  (g1 b1 g b : Fin 1024 → EReal)

/-- A product of a row with a column. -/
def lin (w : FVec Ideal S1024x3072 .bf16) (r : Fin 4096) (p : Fin 3072) : EReal := ∑ q, x (ix2 r q) * w (ix2 q p)
/-- What column `p` of the hidden layer adds to entry `k` of row `r`. -/
def part (r : Fin 4096) (k : Fin 1024) (p : Fin 3072) : EReal := swi (lin x wg r p) (lin x wu r p) * wd (ix2 p k)
/-- A row after the block, with the scaled residual. -/
def zRow (r : Fin 4096) (k : Fin 1024) : EReal := al * norm (fun q => z1 (ix2 r q)) g1 b1 k + ∑ p, part x wg wu wd r k p

end Arrays

theorem prod_eq (x : FVec Ideal S512x1024 .bf16) (w : FVec Ideal S1024x1024 .bf16) (X : FVec Ideal S4096x1024 .bf16) (W : FVec Ideal S1024x3072 .bf16)
    (R : Fin 512 → Fin 4096) (C : Fin 1024 → Fin 3072) (hx : ∀ r q, x (ix2 r q) = X (ix2 (R r) q)) (hw : ∀ p q, w (ix2 p q) = W (ix2 p (C q)))
    (r : Fin 512) (q : Fin 1024) : prod x w (ix2 r q) = lin X W (R r) (C q) :=
  Finset.sum_congr rfl fun p _ => congrArg₂ (fun a b : EReal => a * b) (hx r p) (hw p q)

theorem term_eq (x : FVec Ideal S512x1024 .bf16) (wg wu wd : FVec Ideal S1024x1024 .bf16) (X : FVec Ideal S4096x1024 .bf16) (Wg Wu : FVec Ideal S1024x3072 .bf16)
    (Wd : FVec Ideal S3072x1024 .bf16) (R : Fin 512 → Fin 4096) (C : Fin 1024 → Fin 3072) (hx : ∀ r q, x (ix2 r q) = X (ix2 (R r) q))
    (hg : ∀ p q, wg (ix2 p q) = Wg (ix2 p (C q))) (hu : ∀ p q, wu (ix2 p q) = Wu (ix2 p (C q))) (hd : ∀ q k, wd (ix2 q k) = Wd (ix2 (C q) k))
    (r : Fin 512) (k : Fin 1024) : term x wg wu wd (ix2 r k) = ∑ q, part X Wg Wu Wd (R r) k (C q) :=
  Finset.sum_congr rfl fun q _ => congrArg₂ (fun a b : EReal => a * b)
    (congrArg₂ swi (prod_eq x wg X Wg R C hx hg r q) (prod_eq x wu X Wu R C hx hu r q)) (hd q k)

/-- What column `p` of the hidden layer adds, of the arrays the call gets. -/
abbrev PV (c : Dev nD) (r : Fin 4096) (k : Fin 1024) (p : Fin 3072) : EReal :=
  part (V m c main_v34) (V m c main_v3) (V m c main_v7) (V m c main_v11) r k p

theorem term_at (c : Dev nD) (t : Fin cfg0.N) (r : Fin 512) (k : Fin 1024) :
    term (iblk m c 1 t) (iblk m c 2 t) (iblk m c 3 t) (iblk m c 4 t) (ix2 r k) = ∑ q, PV m c (row t r) k (col t q) :=
  term_eq _ _ _ _ _ _ _ _ (row t) (col t) (b1 m c t) (b2 m c t) (b3 m c t) (b4 m c t) r k

theorem three (F : Fin 4096 → Fin 3072 → EReal) (t s u : Fin cfg0.N) (h : t.val % 3 = 2) (hs : s.val = t.val - 1) (hu : u.val = t.val - 2) (r : Fin 512) :
    (∑ q, F (row u r) (col u q)) + (∑ q, F (row s r) (col s q)) + ∑ q, F (row t r) (col t q) = ∑ p, F (row t r) p := by
  rw [sum_three]
  refine congrArg₂ (fun a b : EReal => a + b) (congrArg₂ (fun a b : EReal => a + b) ?_ ?_) ?_
  · exact Finset.sum_congr rfl fun q _ => congrArg₂ F (Fin.ext (by simp only [row]; omega)) (Fin.ext (by simp only [col]; omega))
  · exact Finset.sum_congr rfl fun q _ => congrArg₂ F (Fin.ext (by simp only [row]; omega)) (Fin.ext (by simp only [col]; omega))
  · exact Finset.sum_congr rfl fun q _ => congrArg₂ F rfl (Fin.ext (by simp only [col]; omega))

theorem sumAt_eq (c : Dev nD) (t : Fin cfg0.N) (h : t.val % 3 = 2) (r : Fin 512) (k : Fin 1024) :
    (sumAt m c t (ix2 r k) : EReal) = ∑ p, PV m c (row t r) k p := by
  have ht := t.isLt
  refine Eq.trans ?_ (three (fun r p => PV m c r k p) t ⟨t.val - 1, by omega⟩ ⟨t.val - 2, by omega⟩ h rfl rfl r)
  refine congrArg₂ (fun a b : EReal => a + b) ((total m c t ⟨t.val - 1, by omega⟩ ⟨t.val - 2, by omega⟩ h rfl rfl _).trans ?_) (term_at m c t r k)
  exact congrArg₂ (fun a b : EReal => a + b) (term_at m c _ r k) (term_at m c _ r k)

theorem last9 : ∀ t : Fin cfg0.N, (cfg0.win 9).flush t = true → t.val % 3 = 2 := (by decide +kernel : ∀ t : Fin grid0.N, _)
theorem last10 : ∀ t : Fin cfg0.N, (cfg0.win 10).flush t = true → t.val % 3 = 2 := (by decide +kernel : ∀ t : Fin grid0.N, _)
theorem last11 : ∀ t : Fin cfg0.N, (cfg0.win 11).flush t = true → t.val % 3 = 2 := (by decide +kernel : ∀ t : Fin grid0.N, _)

/-- A row after the block, of the arrays the call gets. -/
abbrev ZV (c : Dev nD) (r : Fin 4096) (k : Fin 1024) : EReal :=
  zRow (V m c main_v34) (V m c main_arg0) (V m c main_v3) (V m c main_v7) (V m c main_v11) (fun q => V m c main_v37 (ix2 0 q)) (fun q => V m c main_v38 (ix2 0 q)) r k
abbrev XV (c : Dev nD) (r : Fin 4096) (k : Fin 1024) : EReal :=
  norm (ZV m c r) (fun q => V m c main_v35 (ix2 0 q)) (fun q => V m c main_v36 (ix2 0 q)) k

theorem z_eq (c : Dev nD) (t : Fin cfg0.N) (h : t.val % 3 = 2) (r : Fin 512) (k : Fin 1024) :
    (k0_pay7 (F := Ideal) (iblk m c 0 t) (iblk m c 7 t) (iblk m c 8 t) (sumAt m c t) (ix2 r k) : EReal) = ZV m c (row t r) k := by
  refine (hz _ _ _ _ _ _).trans ?_
  rw [sumAt_eq m c t h]
  simp only [b0, b7, b8]
  rfl

theorem final_z (c : Dev nD) : (dats m 0 c).arrAt 9 cfg0.N = fun i => ZV m c (i 0) (i 1) := by
  refine (dats m 0 c).arrAt_eq_of_covers 9 _ (by decide +kernel) fun t hf y => ?_
  have h := last9 t hf
  blk_simp
  rw [after0_9, outz m c t (by omega) h]
  idx_vars y
  refine (z_eq m c t h _ _).trans ?_
  refine congrArg₂ (ZV m c) (Fin.ext ?_) (Fin.ext ?_)
  · have h := (idx0 t).2.2.2.2.2.2.2.2.2.1
    simp [Pipeline.Window.blk, h, row]; omega
  · have h := (idx0 t).2.2.2.2.2.2.2.2.2.1
    simp [Pipeline.Window.blk, h]
theorem final_x (c : Dev nD) : (dats m 0 c).arrAt 10 cfg0.N = fun i => XV m c (i 0) (i 1) := by
  refine (dats m 0 c).arrAt_eq_of_covers 10 _ (by decide +kernel) fun t hf y => ?_
  have h := last10 t hf
  blk_simp
  rw [after0_10, outx m c t (by omega) h]
  idx_vars y
  refine (hx _ _ _ _ _ _ _ _).trans ?_
  simp only [z_eq m c t h, b5, b6]
  refine congrArg₂ (XV m c) (Fin.ext ?_) (Fin.ext ?_)
  · have h := (idx0 t).2.2.2.2.2.2.2.2.2.2.1
    simp [Pipeline.Window.blk, h, row]; omega
  · have h := (idx0 t).2.2.2.2.2.2.2.2.2.2.1
    simp [Pipeline.Window.blk, h]
theorem final_xb (c : Dev nD) : (dats m 0 c).arrAt 11 cfg0.N = fun i => XV m c (i 0) (i 1) := by
  refine (dats m 0 c).arrAt_eq_of_covers 11 _ (by decide +kernel) fun t hf y => ?_
  have h := last11 t hf
  blk_simp
  rw [after0_11, outxb m c t (by omega) h]
  idx_vars y
  refine (hx _ _ _ _ _ _ _ _).trans ?_
  simp only [z_eq m c t h, b5, b6]
  refine congrArg₂ (XV m c) (Fin.ext ?_) (Fin.ext ?_)
  · have h := (idx0 t).2.2.2.2.2.2.2.2.2.2.2.1
    simp [Pipeline.Window.blk, h, row]; omega
  · have h := (idx0 t).2.2.2.2.2.2.2.2.2.2.2.1
    simp [Pipeline.Window.blk, h]
theorem final_g (c : Dev nD) : (dats m 0 c).arrAt 12 cfg0.N = fun i => lin (V m c main_v34) (V m c main_v3) (i 0) (i 1) := by
  refine (dats m 0 c).arrAt_eq_of_covers 12 _ (by decide +kernel) fun t hf y => ?_
  blk_simp
  rw [after0_12, outg]
  idx_vars y
  refine (prod_eq _ _ _ _ (row t) (col t) (b1 m c t) (b2 m c t) _ _).trans ?_
  refine congrArg₂ (lin (V m c main_v34) (V m c main_v3)) (Fin.ext ?_) (Fin.ext ?_)
  · have h := (idx0 t).2.2.2.2.2.2.2.2.2.2.2.2.1
    simp [Pipeline.Window.blk, h, row]; omega
  · have h := (idx0 t).2.2.2.2.2.2.2.2.2.2.2.2.1
    simp [Pipeline.Window.blk, h, col]; omega
theorem final_u (c : Dev nD) : (dats m 0 c).arrAt 13 cfg0.N = fun i => lin (V m c main_v34) (V m c main_v7) (i 0) (i 1) := by
  refine (dats m 0 c).arrAt_eq_of_covers 13 _ (by decide +kernel) fun t hf y => ?_
  blk_simp
  rw [after0_13, outu]
  idx_vars y
  refine (prod_eq _ _ _ _ (row t) (col t) (b1 m c t) (b3 m c t) _ _).trans ?_
  refine congrArg₂ (lin (V m c main_v34) (V m c main_v7)) (Fin.ext ?_) (Fin.ext ?_)
  · have h := (idx0 t).2.2.2.2.2.2.2.2.2.2.2.2.2
    simp [Pipeline.Window.blk, h, row]; omega
  · have h := (idx0 t).2.2.2.2.2.2.2.2.2.2.2.2.2
    simp [Pipeline.Window.blk, h, col]; omega

end Cert.FfnFwdKernelIdeal.FfnFwdValue
end
-- ==== Proof.FfnFwdReference.lean ====
/- The gated block's reference, read row by row. -/
module

public import proofs.«01_k».proof.Defs
public import proofs.«01_k».proof.Proof.FfnFwdArrays
public import proofs.«01_k».proof.Proof.Gen.FfnFwdReferenceIdeal.Run
public import proofs.«01_k».proof.Proof.Gen.FfnFwdReferenceIdeal.Read

@[expose] public section

set_option maxRecDepth 16384

noncomputable section

open Idealize.ShloMosaic Idealize.ShloMosaic.TcCoe Idealize.SL.Sem

namespace Cert.FfnFwdReferenceIdeal.FfnFwdRows

open Cert.FfnFwdReferenceIdeal Cert.FfnFwdReferenceIdeal.Gen Cert.FfnFwdReferenceIdeal.Read Cert.Norm
open Cert.FfnFwdKernelIdeal.FfnFwdValue (swi al)

variable (x0 : FVec Ideal S4096x1024 .f32) (x1 x2 : FVec Ideal S1024 .f32) (x3 x4 : FVec Ideal S1024x2816 .f32) (x5 : FVec Ideal S2816x1024 .f32)
  (x6 x7 : FVec Ideal S1024 .f32)

/-- The normalised row the block takes. -/
def inRow (r : Fin 4096) (k : Fin 1024) : EReal := norm (fun q => x0 (ix2 r q)) (fun q => x1 (ix1 q)) (fun q => x2 (ix1 q)) k
/-- The row times a matrix. -/
def proj (w : FVec Ideal S1024x2816 .f32) (r : Fin 4096) (p : Fin 2816) : EReal := ∑ q, inRow x0 x1 x2 r q * w (ix2 q p)
/-- The row after the block, with the scaled residual. -/
def outRow (r : Fin 4096) (k : Fin 1024) : EReal :=
  al * inRow x0 x1 x2 r k + ∑ p, swi (proj x0 x1 x2 x3 r p) (proj x0 x1 x2 x4 r p) * x5 (ix2 p k)

theorem r5 (r : Fin 4096) (k : Fin 1024) : (val_main_v5 (F := Ideal) x0 (ix2 r k) : EReal) = cen (fun q => x0 (ix2 r q)) k := by
  have e4 : idx_main_v4 (ix2 r k) = ix2 r 0 := by idx_ext
  have e1 : idx_main_v1 (ix2 r 0) = ix1 r := by idx_ext
  have e0 (q : Fin 1024) : idx_main_v0 (ix1 r) q = ix2 r q := by idx_ext
  simp only [val_main_v5_apply, val_main_v4_apply, val_main_v3_apply, val_main_v2_apply, val_main_v1_apply, val_main_v0_apply,
    val_main_cst_apply, val_main_cst_0_apply, e4, e1, e0, Ideal.subf_def, Ideal.hostDivf_def, Ideal.ofBits_def, Ideal.ofBits_zero_f32, zero_add, c_1024, div_1024]
  rfl

theorem r12 (r : Fin 4096) : (val_main_v12 (F := Ideal) x0 (ix2 r 0) : EReal) = var (fun q => x0 (ix2 r q)) := by
  have e8 : idx_main_v8 (ix2 r 0) = ix1 r := by idx_ext
  have e7 (q : Fin 1024) : idx_main_v7 (ix1 r) q = ix2 r q := by idx_ext
  simp only [val_main_v12_apply, val_main_v11_apply, val_main_v10_apply, val_main_v9_apply, val_main_v8_apply, val_main_v7_apply, val_main_v6_apply,
    val_main_cst_1_apply, val_main_cst_2_apply, val_main_cst_3_apply, e8, e7, r5, Ideal.mulf_def, Ideal.addf_def, Ideal.hostDivf_def, Ideal.ofBits_def, Ideal.ofBits_zero_f32,
    zero_add, c_1024, c_eps, div_1024]
  rfl

theorem r13 (r : Fin 4096) : (val_main_v13 (F := Ideal) x0 (ix2 r 0) : EReal) = rstd (fun q => x0 (ix2 r q)) := by
  rw [val_main_v13_apply, r12]
  rfl

theorem r21 (r : Fin 4096) (k : Fin 1024) : (val_main_v21 (F := Ideal) x0 x1 x2 (ix2 r k) : EReal) = inRow x0 x1 x2 r k := by
  have e14 : idx_main_v14 (ix2 r k) = ix2 r 0 := by idx_ext
  have e17 : idx_main_v17 (ix2 r k) = ix2 0 k := by idx_ext
  have e16 : idx_main_v16 (ix2 0 k) = ix1 k := by idx_ext
  have e20 : idx_main_v20 (ix2 r k) = ix2 0 k := by idx_ext
  have e19 : idx_main_v19 (ix2 0 k) = ix1 k := by idx_ext
  simp only [val_main_v21_apply, val_main_v20_apply, val_main_v19_apply, val_main_v18_apply, val_main_v17_apply, val_main_v16_apply, val_main_v15_apply, val_main_v14_apply,
    e14, e17, e16, e20, e19, r5, r13, Ideal.mulf_def, Ideal.addf_def]
  rfl

theorem r22 (r : Fin 4096) (p : Fin 2816) : (val_main_v22 (F := Ideal) x0 x1 x2 x3 (ix2 r p) : EReal) = proj x0 x1 x2 x3 r p := by
  have el (q : Fin 1024) : lidx_main_v22 (ix2 r p) q = ix2 r q := by idx_ext
  have er (q : Fin 1024) : ridx_main_v22 (ix2 r p) q = ix2 q p := by idx_ext
  simp only [val_main_v22_apply, el, er, r21]
  rfl

theorem r23 (r : Fin 4096) (p : Fin 2816) : (val_main_v23 (F := Ideal) x0 x1 x2 x4 (ix2 r p) : EReal) = proj x0 x1 x2 x4 r p := by
  have el (q : Fin 1024) : lidx_main_v23 (ix2 r p) q = ix2 r q := by idx_ext
  have er (q : Fin 1024) : ridx_main_v23 (ix2 r p) q = ix2 q p := by idx_ext
  simp only [val_main_v23_apply, el, er, r21]
  rfl

theorem r27 (r : Fin 4096) (p : Fin 2816) : (val_main_v27 (F := Ideal) x0 x1 x2 x3 x4 (ix2 r p) : EReal) = swi (proj x0 x1 x2 x3 r p) (proj x0 x1 x2 x4 r p) := by
  simp only [val_main_v27_apply, val_main_v26_apply, val_main_call0_v5_apply, val_main_call0_v4_apply, val_main_call0_v3_apply, val_main_call0_v2_apply,
    val_main_call0_v1_apply, val_main_call0_v0_apply, val_main_call0_cst_apply, val_main_call0_cst_0_apply, r22, r23, Ideal.mulf_def, Ideal.addf_def, Ideal.hostDivf_def,
    Ideal.ofBits_def, Ideal.ofBits_one_f32]
  rfl

theorem r29 (r : Fin 4096) (k : Fin 1024) : (val_main_v29 (F := Ideal) x0 x1 x2 x3 x4 x5 (ix2 r k) : EReal) = outRow x0 x1 x2 x3 x4 x5 r k := by
  have el (q : Fin 2816) : lidx_main_v28 (ix2 r k) q = ix2 r q := by idx_ext
  have er (q : Fin 2816) : ridx_main_v28 (ix2 r k) q = ix2 q k := by idx_ext
  simp only [val_main_v29_apply, val_main_v28_apply, val_main_v25_apply, val_main_v24_apply, val_main_cst_4_apply, el, er, r21, r27, Ideal.mulf_def, Ideal.addf_def, Ideal.ofBits_def]
  rfl

theorem r35 (r : Fin 4096) (k : Fin 1024) : (val_main_v35 (F := Ideal) x0 x1 x2 x3 x4 x5 (ix2 r k) : EReal) = cen (outRow x0 x1 x2 x3 x4 x5 r) k := by
  have e4 : idx_main_v34 (ix2 r k) = ix2 r 0 := by idx_ext
  have e1 : idx_main_v31 (ix2 r 0) = ix1 r := by idx_ext
  have e0 (q : Fin 1024) : idx_main_v30 (ix1 r) q = ix2 r q := by idx_ext
  simp only [val_main_v35_apply, val_main_v34_apply, val_main_v33_apply, val_main_v32_apply, val_main_v31_apply, val_main_v30_apply,
    val_main_cst_5_apply, val_main_cst_6_apply, e4, e1, e0, r29, Ideal.subf_def, Ideal.hostDivf_def, Ideal.ofBits_def, Ideal.ofBits_zero_f32, zero_add, c_1024, div_1024]
  rfl

theorem r42 (r : Fin 4096) : (val_main_v42 (F := Ideal) x0 x1 x2 x3 x4 x5 (ix2 r 0) : EReal) = var (outRow x0 x1 x2 x3 x4 x5 r) := by
  have e8 : idx_main_v38 (ix2 r 0) = ix1 r := by idx_ext
  have e7 (q : Fin 1024) : idx_main_v37 (ix1 r) q = ix2 r q := by idx_ext
  simp only [val_main_v42_apply, val_main_v41_apply, val_main_v40_apply, val_main_v39_apply, val_main_v38_apply, val_main_v37_apply, val_main_v36_apply,
    val_main_cst_7_apply, val_main_cst_8_apply, val_main_cst_9_apply, e8, e7, r35, Ideal.mulf_def, Ideal.addf_def, Ideal.hostDivf_def, Ideal.ofBits_def, Ideal.ofBits_zero_f32,
    zero_add, c_1024, c_eps, div_1024]
  rfl

theorem r43 (r : Fin 4096) : (val_main_v43 (F := Ideal) x0 x1 x2 x3 x4 x5 (ix2 r 0) : EReal) = rstd (outRow x0 x1 x2 x3 x4 x5 r) := by
  rw [val_main_v43_apply, r42]
  rfl

theorem r51 (r : Fin 4096) (k : Fin 1024) : (val_main_v51 (F := Ideal) x0 x1 x2 x3 x4 x5 x6 x7 (ix2 r k) : EReal)
    = norm (outRow x0 x1 x2 x3 x4 x5 r) (fun q => x6 (ix1 q)) (fun q => x7 (ix1 q)) k := by
  have e14 : idx_main_v44 (ix2 r k) = ix2 r 0 := by idx_ext
  have e17 : idx_main_v47 (ix2 r k) = ix2 0 k := by idx_ext
  have e16 : idx_main_v46 (ix2 0 k) = ix1 k := by idx_ext
  have e20 : idx_main_v50 (ix2 r k) = ix2 0 k := by idx_ext
  have e19 : idx_main_v49 (ix2 0 k) = ix1 k := by idx_ext
  simp only [val_main_v51_apply, val_main_v50_apply, val_main_v49_apply, val_main_v48_apply, val_main_v47_apply, val_main_v46_apply, val_main_v45_apply, val_main_v44_apply,
    e14, e17, e16, e20, e19, r35, r43, Ideal.mulf_def, Ideal.addf_def]
  rfl

end Cert.FfnFwdReferenceIdeal.FfnFwdRows
end
-- ==== Proof.FfnFwdHost.lean ====
/- The gated block's call with the host's lines around it: what every array holds. -/
module

public import proofs.«01_k».proof.Proof.FfnFwdReference

@[expose] public section

set_option maxRecDepth 16384

noncomputable section

open Idealize.ShloMosaic Idealize.ShloMosaic.TcCoe Idealize.SL.Sem
open Idealize.ShloMosaic.Pipeline (Dat)

namespace Cert.FfnFwdKernelIdeal.FfnFwdValue

open Cert.FfnFwdKernelIdeal Cert.FfnFwdKernelIdeal.Gen Cert.Norm Cert.Halves
open Cert.FfnFwdReferenceIdeal.FfnFwdRows (inRow proj outRow r21)

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S1024 .f32 := m ((c : Thread nD τ).loc main_arg1)
abbrev a2 (c : Dev nD) : FVec Ideal S1024 .f32 := m ((c : Thread nD τ).loc main_arg2)
abbrev a3 (c : Dev nD) : FVec Ideal S1024x2816 .f32 := m ((c : Thread nD τ).loc main_arg3)
abbrev a4 (c : Dev nD) : FVec Ideal S1024x2816 .f32 := m ((c : Thread nD τ).loc main_arg4)
abbrev a5 (c : Dev nD) : FVec Ideal S2816x1024 .f32 := m ((c : Thread nD τ).loc main_arg5)
abbrev a6 (c : Dev nD) : FVec Ideal S1024 .f32 := m ((c : Thread nD τ).loc main_arg6)
abbrev a7 (c : Dev nD) : FVec Ideal S1024 .f32 := m ((c : Thread nD τ).loc main_arg7)

/-- The padding of the columns of a matrix, groups of 352 to groups of 384. -/
def padCols (w : FVec Ideal S1024x2816 .f32) : FVec Ideal S1024x3072 .bf16 :=
  truncf .bf16 (shapeCast S1024x3072 (pad S1024x8x384 ![0, 0, 0] ![0, 0, 32] ![0, 0, 0] (shapeCast S1024x8x352 w shapeCasts_S1024x2816_S1024x8x352)
    (sitofp .f32 (constantI S_ 32 0#32)) pads_S1024x8x352_S1024x8x384_000_000_0320 h_S_) shapeCasts_S1024x8x384_S1024x3072) bitsLt_bf16_f32
/-- The same of the rows. -/
def padRows (w : FVec Ideal S2816x1024 .f32) : FVec Ideal S3072x1024 .bf16 :=
  truncf .bf16 (shapeCast S3072x1024 (pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_) shapeCasts_S8x384x1024_S3072x1024) bitsLt_bf16_f32

theorem zero_int : (FloatOps.sitofp (F := Ideal) .f32 0#32 : EReal) = 0 := by
  show (((0#32 : BitVec 32).toInt : ℝ) : EReal) = 0
  simp

theorem padCols_apply (w : FVec Ideal S1024x2816 .f32) (q : Fin 1024) (p : Fin 3072) : (padCols w (ix2 q p) : EReal) = spread (fun c => w (ix2 q c)) p := by
  unfold padCols spread
  pointwise
  by_cases h : p.val % 384 < 352
  · rw [dif_pos h, dif_pos ⟨by omega, h⟩]
    exact congrArg w (congrArg (ix2 q) (Fin.ext (by simp only; omega)))
  · rw [dif_neg h, dif_neg fun h' => h h'.2, zero_int]

theorem padRows_apply (w : FVec Ideal S2816x1024 .f32) (p : Fin 3072) (k : Fin 1024) : (padRows w (ix2 p k) : EReal) = spread (fun c => w (ix2 c k)) p := by
  unfold padRows spread
  pointwise
  by_cases h : p.val % 384 < 352
  · rw [dif_pos h, dif_pos ⟨by omega, h⟩]
    exact congrArg w (congrArg (ix2 · k) (Fin.ext (by simp only; omega)))
  · rw [dif_neg h, dif_neg fun h' => h h'.2, zero_int]

theorem v3 (c : Dev nD) : V m c main_v3 = padCols (a3 m c) := by
  rfl
theorem v7 (c : Dev nD) : V m c main_v7 = padCols (a4 m c) := by
  rfl
theorem v11 (c : Dev nD) : V m c main_v11 = padRows (a5 m c) := by
  rfl
theorem v34 (c : Dev nD) (r : Fin 4096) (k : Fin 1024) : (V m c main_v34 (ix2 r k) : EReal) = inRow (a0 m c) (a1 m c) (a2 m c) r k := by
  refine Eq.trans ?_ (r21 (a0 m c) (a1 m c) (a2 m c) r k)
  rfl
theorem v35 (c : Dev nD) (k : Fin 1024) : V m c main_v35 (ix2 0 k) = a6 m c (ix1 k) := by
  refine Eq.trans (b := broadcastInDim S1x1024 ![1] bcast_S1024_S1x1024_1 (a6 m c) (ix2 0 k)) rfl ?_
  pointwise
theorem v36 (c : Dev nD) (k : Fin 1024) : V m c main_v36 (ix2 0 k) = a7 m c (ix1 k) := by
  refine Eq.trans (b := broadcastInDim S1x1024 ![1] bcast_S1024_S1x1024_1 (a7 m c) (ix2 0 k)) rfl ?_
  pointwise
theorem v37 (c : Dev nD) (k : Fin 1024) : V m c main_v37 (ix2 0 k) = a1 m c (ix1 k) := by
  refine Eq.trans (b := broadcastInDim S1x1024 ![1] bcast_S1024_S1x1024_1 (a1 m c) (ix2 0 k)) rfl ?_
  pointwise
theorem v38 (c : Dev nD) (k : Fin 1024) : V m c main_v38 (ix2 0 k) = a2 m c (ix1 k) := by
  refine Eq.trans (b := broadcastInDim S1x1024 ![1] bcast_S1024_S1x1024_1 (a2 m c) (ix2 0 k)) rfl ?_
  pointwise

theorem lin_wide (c : Dev nD) (w : FVec Ideal S1024x2816 .f32) (r : Fin 4096) (p : Fin 2816) :
    lin (V m c main_v34) (padCols w) r (wide p) = proj (a0 m c) (a1 m c) (a2 m c) w r p :=
  Finset.sum_congr rfl fun q _ => congrArg₂ (fun a b : EReal => a * b) (v34 m c r q) ((padCols_apply w q (wide p)).trans (spread_wide _ p))

theorem z_row (c : Dev nD) (r : Fin 4096) (k : Fin 1024) : ZV m c r k = outRow (a0 m c) (a1 m c) (a2 m c) (a3 m c) (a4 m c) (a5 m c) r k := by
  unfold ZV zRow outRow
  rw [v3, v7, v11, sum_wide]
  · refine congrArg₂ (fun a b : EReal => a + b) (congrArg (al * ·) ?_) (Finset.sum_congr rfl fun p _ => ?_)
    · rw [show (fun q => V m c main_v37 (ix2 0 q)) = fun q => a1 m c (ix1 q) from funext (v37 m c), show (fun q => V m c main_v38 (ix2 0 q)) = fun q => a2 m c (ix1 q) from funext (v38 m c), V_main_arg0]
      rfl
    · unfold part
      rw [lin_wide, lin_wide, padRows_apply, spread_wide]
  · intro p h
    unfold part
    rw [padRows_apply, spread_off _ _ h]
    exact mul_zero _

theorem x_row (c : Dev nD) (r : Fin 4096) (k : Fin 1024) : XV m c r k
    = norm (outRow (a0 m c) (a1 m c) (a2 m c) (a3 m c) (a4 m c) (a5 m c) r) (fun q => a6 m c (ix1 q)) (fun q => a7 m c (ix1 q)) k := by
  unfold XV
  rw [show (fun q => V m c main_v35 (ix2 0 q)) = fun q => a6 m c (ix1 q) from funext (v35 m c), show (fun q => V m c main_v36 (ix2 0 q)) = fun q => a7 m c (ix1 q) from funext (v36 m c),
    show ZV m c r = outRow (a0 m c) (a1 m c) (a2 m c) (a3 m c) (a4 m c) (a5 m c) r from funext fun k => z_row m c r k]

/-- The columns kept of an array whose columns were padded. -/
def cut (x : FVec Ideal S4096x3072 .bf16) : FVec Ideal S4096x2816 .f32 :=
  extf .f32 (shapeCast S4096x2816 (extractStridedSlice S4096x8x352 ![0, 0, 0] (shapeCast S4096x8x384 x shapeCasts_S4096x3072_S4096x8x384)
    slices_S4096x8x384_S4096x8x352_0_0_0) shapeCasts_S4096x8x352_S4096x2816) bitsLt_bf16_f32

theorem cut_apply (x : FVec Ideal S4096x3072 .bf16) (r : Fin 4096) (p : Fin 2816) : (cut x (ix2 r p) : EReal) = x (ix2 r (wide p)) := by
  unfold cut
  pointwise
  exact congrArg x (congrArg (ix2 r) (Fin.ext (by simp only [wide]; omega)))

theorem tail_g (c : Dev nD) : Pipeline.afterTail₀ cfgs (dats m) 0 (V0 m) [hostOps1] c main_v43 = fun i : S4096x2816.Idx => proj (a0 m c) (a1 m c) (a2 m c) (a3 m c) (i 0) (i 1) := by
  refine Eq.trans (b := cut (Pipeline.withArrays (cfgs 0).spec c (V0 m c) (fun w => (dats m 0 c).arrAt w (cfgs 0).N) (Proc.devRef .tc main_v39_3))) rfl ?_
  rw [show Pipeline.withArrays (cfgs 0).spec c (V0 m c) (fun w => (dats m 0 c).arrAt w (cfgs 0).N) (Proc.devRef .tc main_v39_3) = _ from
    Pipeline.withArrays_arr spec0 (by decide) c (V0 m c) (fun w => (dats m 0 c).arrAt w (cfgs 0).N) 12]
  rw [show (dats m 0 c).arrAt 12 (cfgs 0).N = _ from final_g m c, v3]
  funext i
  idx_vars i
  exact (cut_apply _ _ _).trans (lin_wide m c _ _ _)

theorem tail_u (c : Dev nD) : Pipeline.afterTail₀ cfgs (dats m) 0 (V0 m) [hostOps1] c main_v47 = fun i : S4096x2816.Idx => proj (a0 m c) (a1 m c) (a2 m c) (a4 m c) (i 0) (i 1) := by
  refine Eq.trans (b := cut (Pipeline.withArrays (cfgs 0).spec c (V0 m c) (fun w => (dats m 0 c).arrAt w (cfgs 0).N) (Proc.devRef .tc main_v39_4))) rfl ?_
  rw [show Pipeline.withArrays (cfgs 0).spec c (V0 m c) (fun w => (dats m 0 c).arrAt w (cfgs 0).N) (Proc.devRef .tc main_v39_4) = _ from
    Pipeline.withArrays_arr spec0 (by decide) c (V0 m c) (fun w => (dats m 0 c).arrAt w (cfgs 0).N) 13]
  rw [show (dats m 0 c).arrAt 13 (cfgs 0).N = _ from final_u m c, v7]
  funext i
  idx_vars i
  exact (cut_apply _ _ _).trans (lin_wide m c _ _ _)

/-- The call's run: every array it returns, and the arguments as they were. -/
theorem run : θ_run defs (onTc (τ := τ) (main (F := Ideal))) ⟨m, fun _ => 0, ρ⟩ (fun r => ∀ c : Dev nD,
      r.2.mem ((c.tc : Thread nD τ).loc main_v39_0) = (fun i : S4096x1024.Idx => outRow (a0 m c) (a1 m c) (a2 m c) (a3 m c) (a4 m c) (a5 m c) (i 0) (i 1))
      ∧ r.2.mem ((c.tc : Thread nD τ).loc main_v39_1) = (fun i : S4096x1024.Idx => norm (outRow (a0 m c) (a1 m c) (a2 m c) (a3 m c) (a4 m c) (a5 m c) (i 0)) (fun q => a6 m c (ix1 q)) (fun q => a7 m c (ix1 q)) (i 1))
      ∧ r.2.mem ((c.tc : Thread nD τ).loc main_v39_2) = (fun i : S4096x1024.Idx => norm (outRow (a0 m c) (a1 m c) (a2 m c) (a3 m c) (a4 m c) (a5 m c) (i 0)) (fun q => a6 m c (ix1 q)) (fun q => a7 m c (ix1 q)) (i 1))
      ∧ r.2.mem ((c.tc : Thread nD τ).loc main_v43) = (fun i : S4096x2816.Idx => proj (a0 m c) (a1 m c) (a2 m c) (a3 m c) (i 0) (i 1))
      ∧ r.2.mem ((c.tc : Thread nD τ).loc main_v47) = (fun i : S4096x2816.Idx => proj (a0 m c) (a1 m c) (a2 m c) (a4 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.2 c).1 9).trans ((final_z m c).trans (funext fun i => z_row m c (i 0) (i 1))),
      ((h.2 c).1 10).trans ((final_x m c).trans (funext fun i => x_row m c (i 0) (i 1))),
      ((h.2 c).1 11).trans ((final_xb m c).trans (funext fun i => x_row m c (i 0) (i 1))),
      ((h.2 c).2 main_v43 (Pipeline.mem_restRefs_of main_v43 (by decide) (by decide))).trans (tail_g m c),
      ((h.2 c).2 main_v47 (Pipeline.mem_restRefs_of main_v47 (by decide) (by decide))).trans (tail_u m c), h.1 c⟩)
    (θ_run_and (unchanged m ρ) (run_main m ρ))

end Cert.FfnFwdKernelIdeal.FfnFwdValue
end
-- ==== Proof.FfnFwdClaim.lean ====
/- The gated block's claims. -/
module

public import proofs.«01_k».proof.Proof.FfnFwdHost
public import proofs.«01_k».proof.Proof.OutprojClaim

@[expose] public section

set_option maxRecDepth 16384

noncomputable section

open Idealize.ShloMosaic Idealize.ShloMosaic.TcCoe Idealize.SL.Sem

namespace Cert.Proof.FfnFwd

open Cert.FfnFwdReferenceIdeal.FfnFwdRows Cert.Proof.Outproj

theorem frame_reference : Cert.quiescent_FfnFwdReferenceIdeal := fun m ρ _ =>
  (θ_run Cert.FfnFwdReferenceIdeal.defs _ _).mono (fun r h => ⟨fun c => (h c).2.2.2.2.2,
      Idealize.ShloMosaic.sem_eq_zero_of_no_sems (by decide) r.2⟩)
    (Cert.FfnFwdReferenceIdeal.Value.run (F := Ideal) m ρ)

/-- Every array the call returns is the reference's. -/
theorem algebraic : Cert.algebraic_FfnFwdKernelIdeal_FfnFwdReferenceIdeal := by
  intro m ρ m' ρ' hpre hagree
  refine ⟨_, _, _, _, _, Cert.FfnFwdKernelIdeal.FfnFwdValue.run m ρ, ?_⟩
  refine (θ_run Cert.FfnFwdReferenceIdeal.defs _ _).mono (fun _ h c => ?_) (Cert.FfnFwdReferenceIdeal.Value.run (F := Ideal) m' ρ')
  obtain ⟨h29, h51, h52, h22, h23, hargs⟩ := h c
  obtain ⟨g0, g1, g2, g3, g4, g5, g6, g7⟩ := hagree c
  refine ⟨h29.trans ?_, h51.trans ?_, h52.trans ?_, h22.trans ?_, h23.trans ?_, hargs⟩
  · rw [Cert.FfnFwdReferenceIdeal.Read.val_main_v29_eq, g0, g1, g2, g3, g4, g5]
    exact ext2 fun r k => r29 _ _ _ _ _ _ r k
  · rw [Cert.FfnFwdReferenceIdeal.Read.val_main_v51_eq, g0, g1, g2, g3, g4, g5, g6, g7]
    exact ext2 fun r k => r51 _ _ _ _ _ _ _ _ r k
  · rw [Cert.FfnFwdReferenceIdeal.Read.val_main_v52_eq, g0, g1, g2, g3, g4, g5, g6, g7]
    exact ext2 fun r k => r51 _ _ _ _ _ _ _ _ r k
  · rw [Cert.FfnFwdReferenceIdeal.Read.val_main_v22_eq, g0, g1, g2, g3]
    exact ext2 fun r k => r22 _ _ _ _ r k
  · rw [Cert.FfnFwdReferenceIdeal.Read.val_main_v23_eq, g0, g1, g2, g4]
    exact ext2 fun r k => r23 _ _ _ _ r k

end Cert.Proof.FfnFwd
end
-- ==== Proof.InprojValue.lean ====
/- The input projection: the call computes the product. -/
module

public import proofs.«01_k».proof.Proof.Gen.InprojKernelIdeal.Frame
public import proofs.«01_k».proof.Proof.Gen.InprojReferenceIdeal.Run
public import proofs.«01_k».proof.Proof.Gen.InprojReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojKernelIdeal.InprojValue

open Cert.InprojKernelIdeal Cert.InprojKernelIdeal.Gen

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S1024x3072 .f32 := m ((c : Thread nD τ).loc main_arg1)

/-- The product at an element. -/
def PROD (x : FVec Ideal S4096x1024 .f32) (w : FVec Ideal S1024x3072 .f32) (r : Fin 4096) (k : Fin 3072) : EReal := ∑ q : Fin 1024, x (ix2 r q) * w (ix2 q k)

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

theorem hpay (x w : FVec Ideal S1024x1024 .bf16) (r k : Fin 1024) : (k0_pay1 (F := Ideal) x w (ix2 r k) : EReal) = ∑ q, x (ix2 r q) * w (ix2 q k) := by
  pointwise [k0_pay1]

theorem v0 (c : Dev nD) (i : S4096x1024.Idx) : (V m c main_v0 i : EReal) = a0 m c i := by
  rfl
theorem v1 (c : Dev nD) (i : S1024x3072.Idx) : (V m c main_v1 i : EReal) = a1 m c i := by
  rfl

theorem final (c : Dev nD) : (dats m 0 c).arrAt 2 (cfgs 0).N = fun i : S4096x3072.Idx => PROD (a0 m c) (a1 m c) (i 0) (i 1) := by
  refine (dats m 0 c).arrAt_eq_of_covers 2 _ (by decide +kernel) fun t _ y => ?_
  blk_simp
  rw [after0_2]
  unfold outsAt0
  frame_out
  idx_vars y
  refine (hpay _ _ _ _).trans ?_
  unfold PROD
  refine Finset.sum_congr rfl fun q _ => congrArg₂ (fun a b : EReal => a * b) ?_ ?_
  · refine Eq.trans ?_ (v0 m c _)
    blk_point [iblk, idx t]
  · refine Eq.trans ?_ (v1 m c _)
    blk_point [iblk, idx t]

/-- The call's run: the product, and the arguments as they were. -/
theorem run : θ_run defs (onTc (τ := τ) (main (F := Ideal))) ⟨m, fun _ => 0, ρ⟩ (fun r => ∀ c : Dev nD,
      r.2.mem ((c.tc : Thread nD τ).loc main_v3) = (fun i : S4096x3072.Idx => PROD (a0 m c) (a1 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).1 2).trans (final m c), h.1 c⟩) (θ_run_and (unchanged m ρ) (run_main m ρ))

end Cert.InprojKernelIdeal.InprojValue

namespace Cert.InprojReferenceIdeal.InprojValue

open Cert.InprojReferenceIdeal Cert.InprojReferenceIdeal.Gen Cert.InprojReferenceIdeal.Read Cert.InprojKernelIdeal.InprojValue

theorem ref (x : FVec Ideal S4096x1024 .f32) (w : FVec Ideal S1024x3072 .f32) : val_main_v0 (F := Ideal) x w = fun i : S4096x3072.Idx => PROD x w (i 0) (i 1) := by
  funext i
  idx_vars i
  rw [val_main_v0_apply]
  unfold PROD
  refine Finset.sum_congr rfl fun q _ => congrArg₂ (fun a b : EReal => a * b) (congrArg x ?_) (congrArg w ?_)
  · idx_ext
  · idx_ext

end Cert.InprojReferenceIdeal.InprojValue

end
-- ==== Proof.InprojBwdValue.lean ====
/- The cotangent of the layer's input: the residual's and a product with the transposed weight. -/
module

public import proofs.«01_k».proof.Proof.Gen.InprojBwdKernelIdeal.Frame
public import proofs.«01_k».proof.Proof.Gen.InprojBwdReferenceIdeal.Run
public import proofs.«01_k».proof.Proof.Gen.InprojBwdReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojBwdKernelIdeal.InprojBwdValue

open Cert.InprojBwdKernelIdeal Cert.InprojBwdKernelIdeal.Gen

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S4096x3072 .f32 := m ((c : Thread nD τ).loc main_arg1)
abbrev a2 (c : Dev nD) : FVec Ideal S1024x3072 .f32 := m ((c : Thread nD τ).loc main_arg2)

/-- The cotangent at an element. -/
def COT (z : FVec Ideal S4096x1024 .f32) (d : FVec Ideal S4096x3072 .f32) (w : FVec Ideal S1024x3072 .f32) (r : Fin 4096) (k : Fin 1024) : EReal :=
  z (ix2 r k) + ∑ q : Fin 3072, d (ix2 r q) * w (ix2 k q)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem hpay (z : FVec Ideal S512x1024 .f32) (d : FVec Ideal S512x3072 .bf16) (w : FVec Ideal S1024x3072 .bf16) (r : Fin 512) (k : Fin 1024) :
    (k0_pay1 (F := Ideal) z d w (ix2 r k) : EReal) = z (ix2 r k) + ∑ q, d (ix2 r q) * w (ix2 k q) := by
  pointwise [k0_pay1]

theorem v0 (c : Dev nD) (i : S4096x3072.Idx) : (V m c main_v0 i : EReal) = a1 m c i := by
  rfl
theorem v1 (c : Dev nD) (i : S1024x3072.Idx) : (V m c main_v1 i : EReal) = a2 m c i := by
  rfl

theorem final (c : Dev nD) : (dats m 0 c).arrAt 3 (cfgs 0).N = fun i : S4096x1024.Idx => COT (a0 m c) (a1 m c) (a2 m c) (i 0) (i 1) := by
  refine (dats m 0 c).arrAt_eq_of_covers 3 _ (by decide +kernel) fun t _ y => ?_
  blk_simp
  rw [after0_3]
  unfold out0_3
  frame_out
  idx_vars y
  refine (hpay _ _ _ _ _).trans ?_
  unfold COT
  refine congrArg₂ (fun a b : EReal => a + b) ?_ (Finset.sum_congr rfl fun q _ => congrArg₂ (fun a b : EReal => a * b) ?_ ?_)
  · blk_point [iblk, V_main_arg0, idx t]
  · refine Eq.trans ?_ (v0 m c _)
    blk_point [iblk, idx t]
  · refine Eq.trans ?_ (v1 m c _)
    blk_point [iblk, idx t]

/-- The call's run: the cotangent, and the arguments as they were. -/
theorem run : θ_run defs (onTc (τ := τ) (main (F := Ideal))) ⟨m, fun _ => 0, ρ⟩ (fun r => ∀ c : Dev nD,
      r.2.mem ((c.tc : Thread nD τ).loc main_v2) = (fun i : S4096x1024.Idx => COT (a0 m c) (a1 m c) (a2 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 3).trans (final m c), h.1 c⟩) (θ_run_and (unchanged m ρ) (run_main m ρ))

end Cert.InprojBwdKernelIdeal.InprojBwdValue

namespace Cert.InprojBwdReferenceIdeal.InprojBwdValue

open Cert.InprojBwdReferenceIdeal Cert.InprojBwdReferenceIdeal.Gen Cert.InprojBwdReferenceIdeal.Read Cert.InprojBwdKernelIdeal.InprojBwdValue

theorem ref (z : FVec Ideal S4096x1024 .f32) (d : FVec Ideal S4096x3072 .f32) (w : FVec Ideal S1024x3072 .f32) :
    val_main_v3 (F := Ideal) z d w = fun i : S4096x1024.Idx => COT z d w (i 0) (i 1) := by
  funext i
  idx_vars i
  rw [val_main_v3_apply, val_main_v2_apply, Ideal.addf_def]
  unfold COT
  refine congrArg₂ (fun a b : EReal => a + b) rfl (Finset.sum_congr rfl fun q _ => congrArg₂ (fun a b : EReal => a * b) (congrArg d ?_) (congrArg w ?_))
  · idx_ext
  · idx_ext

end Cert.InprojBwdReferenceIdeal.InprojBwdValue

end
-- ==== Proof.WinValue.lean ====
/- The gradient of the input projection's weight: the product with the transposed input. -/
module

public import proofs.«01_k».proof.Proof.Gen.WinKernelIdeal.Frame
public import proofs.«01_k».proof.Proof.Gen.WinReferenceIdeal.Run
public import proofs.«01_k».proof.Proof.Gen.WinReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WinKernelIdeal.WinValue

open Cert.WinKernelIdeal Cert.WinKernelIdeal.Gen

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S4096x3072 .f32 := m ((c : Thread nD τ).loc main_arg1)

/-- The gradient at an element. -/
def GRAD (x : FVec Ideal S4096x1024 .f32) (d : FVec Ideal S4096x3072 .f32) (r : Fin 1024) (k : Fin 3072) : EReal := ∑ q : Fin 4096, x (ix2 q r) * d (ix2 q k)

theorem idx : ∀ t : Fin cfg0.N, win0_0.index t = ![0, 0] ∧ win0_1.index t = ![0, t.val] ∧ win0_2.index t = ![0, t.val] :=
  (by decide +kernel : ∀ t : Fin grid0.N, _)

theorem hpay (x d : FVec Ideal S4096x1024 .bf16) (r k : Fin 1024) : (k0_pay1 (F := Ideal) x d (ix2 r k) : EReal) = ∑ q, x (ix2 q r) * d (ix2 q k) := by
  pointwise [k0_pay1]

theorem v0 (c : Dev nD) (i : S4096x1024.Idx) : (V m c main_v0 i : EReal) = a0 m c i := by
  rfl
theorem v1 (c : Dev nD) (i : S4096x3072.Idx) : (V m c main_v1 i : EReal) = a1 m c i := by
  rfl

theorem final (c : Dev nD) : (dats m 0 c).arrAt 2 (cfgs 0).N = fun i : S1024x3072.Idx => GRAD (a0 m c) (a1 m c) (i 0) (i 1) := by
  refine (dats m 0 c).arrAt_eq_of_covers 2 _ (by decide +kernel) fun t _ y => ?_
  blk_simp
  rw [after0_2]
  unfold out0_2
  frame_out
  idx_vars y
  refine (hpay _ _ _ _).trans ?_
  unfold GRAD
  refine Finset.sum_congr rfl fun q _ => congrArg₂ (fun a b : EReal => a * b) ?_ ?_
  · refine Eq.trans ?_ (v0 m c _)
    blk_point [iblk, idx t]
  · refine Eq.trans ?_ (v1 m c _)
    blk_point [iblk, idx t]

theorem tail (c : Dev nD) : Pipeline.afterTail₀ cfgs (dats m) 0 (V0 m) [hostOps1] c main_v3 = fun i : S1024x3072.Idx => GRAD (a0 m c) (a1 m c) (i 0) (i 1) := by
  refine Eq.trans (b := extf .f32 (F := Ideal) (Pipeline.withArrays (cfgs 0).spec c (V0 m c) (fun w => (dats m 0 c).arrAt w (cfgs 0).N) (Proc.devRef .tc main_v2)) bitsLt_bf16_f32) rfl ?_
  rw [show Pipeline.withArrays (cfgs 0).spec c (V0 m c) (fun w => (dats m 0 c).arrAt w (cfgs 0).N) (Proc.devRef .tc main_v2) = _ from
    Pipeline.withArrays_arr spec0 (by decide) c (V0 m c) (fun w => (dats m 0 c).arrAt w (cfgs 0).N) 2]
  rw [show (dats m 0 c).arrAt 2 (cfgs 0).N = _ from final m c]
  rfl

/-- The call's run: the gradient, and the arguments as they were. -/
theorem run : θ_run defs (onTc (τ := τ) (main (F := Ideal))) ⟨m, fun _ => 0, ρ⟩ (fun r => ∀ c : Dev nD,
      r.2.mem ((c.tc : Thread nD τ).loc main_v3) = (fun i : S1024x3072.Idx => GRAD (a0 m c) (a1 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).2 main_v3 (Pipeline.mem_restRefs_of main_v3 (by decide) (by decide))).trans (tail m c), h.1 c⟩)
    (θ_run_and (unchanged m ρ) (run_main m ρ))

end Cert.WinKernelIdeal.WinValue

namespace Cert.WinReferenceIdeal.WinValue

open Cert.WinReferenceIdeal Cert.WinReferenceIdeal.Gen Cert.WinReferenceIdeal.Read Cert.WinKernelIdeal.WinValue

theorem ref (x : FVec Ideal S4096x1024 .f32) (d : FVec Ideal S4096x3072 .f32) : val_main_v3 (F := Ideal) x d = fun i : S1024x3072.Idx => GRAD x d (i 0) (i 1) := by
  funext i
  idx_vars i
  rw [val_main_v3_apply, val_main_v2_apply]
  unfold GRAD
  refine Finset.sum_congr rfl fun q _ => (mul_comm _ _).trans (congrArg₂ (fun a b : EReal => a * b) (congrArg x ?_) (congrArg d ?_))
  · idx_ext
  · idx_ext

end Cert.WinReferenceIdeal.WinValue

end
-- ==== Proof.WoutValue.lean ====
/- The gradient of the mixer's output projection: the product with the transposed rows. -/
module

public import proofs.«01_k».proof.Proof.Gen.WoutKernelIdeal.Frame
public import proofs.«01_k».proof.Proof.Gen.WoutReferenceIdeal.Run
public import proofs.«01_k».proof.Proof.Gen.WoutReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WoutKernelIdeal.WoutValue

open Cert.WoutKernelIdeal Cert.WoutKernelIdeal.Gen

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S4096x1024 .f32 := m ((c : Thread nD τ).loc main_arg1)

/-- The gradient at an element. -/
def GRAD (x : FVec Ideal S4096x1024 .f32) (d : FVec Ideal S4096x1024 .f32) (r : Fin 1024) (k : Fin 1024) : EReal := ∑ q : Fin 4096, x (ix2 q r) * d (ix2 q k)

theorem idx : ∀ t : Fin cfg0.N, win0_0.index t = ![0, t.val] ∧ win0_1.index t = ![0, 0] ∧ win0_2.index t = ![t.val, 0] :=
  (by decide +kernel : ∀ t : Fin grid0.N, _)

theorem hpay (x : FVec Ideal S4096x512 .bf16) (d : FVec Ideal S4096x1024 .bf16) (r : Fin 512) (k : Fin 1024) : (k0_pay1 (F := Ideal) x d (ix2 r k) : EReal) = ∑ q, x (ix2 q r) * d (ix2 q k) := by
  pointwise [k0_pay1]

theorem v0 (c : Dev nD) (i : S4096x1024.Idx) : (V m c main_v0 i : EReal) = a0 m c i := by
  rfl
theorem v1 (c : Dev nD) (i : S4096x1024.Idx) : (V m c main_v1 i : EReal) = a1 m c i := by
  rfl

theorem final (c : Dev nD) : (dats m 0 c).arrAt 2 (cfgs 0).N = fun i : S1024x1024.Idx => GRAD (a0 m c) (a1 m c) (i 0) (i 1) := by
  refine (dats m 0 c).arrAt_eq_of_covers 2 _ (by decide +kernel) fun t _ y => ?_
  blk_simp
  rw [after0_2]
  unfold out0_2
  frame_out
  idx_vars y
  refine (hpay _ _ _ _).trans ?_
  unfold GRAD
  refine Finset.sum_congr rfl fun q _ => congrArg₂ (fun a b : EReal => a * b) ?_ ?_
  · refine Eq.trans ?_ (v0 m c _)
    blk_point [iblk, idx t]
  · refine Eq.trans ?_ (v1 m c _)
    blk_point [iblk, idx t]

theorem tail (c : Dev nD) : Pipeline.afterTail₀ cfgs (dats m) 0 (V0 m) [hostOps1] c main_v3 = fun i : S1024x1024.Idx => GRAD (a0 m c) (a1 m c) (i 0) (i 1) := by
  refine Eq.trans (b := extf .f32 (F := Ideal) (Pipeline.withArrays (cfgs 0).spec c (V0 m c) (fun w => (dats m 0 c).arrAt w (cfgs 0).N) (Proc.devRef .tc main_v2)) bitsLt_bf16_f32) rfl ?_
  rw [show Pipeline.withArrays (cfgs 0).spec c (V0 m c) (fun w => (dats m 0 c).arrAt w (cfgs 0).N) (Proc.devRef .tc main_v2) = _ from
    Pipeline.withArrays_arr spec0 (by decide) c (V0 m c) (fun w => (dats m 0 c).arrAt w (cfgs 0).N) 2]
  rw [show (dats m 0 c).arrAt 2 (cfgs 0).N = _ from final m c]
  rfl

/-- The call's run: the gradient, and the arguments as they were. -/
theorem run : θ_run defs (onTc (τ := τ) (main (F := Ideal))) ⟨m, fun _ => 0, ρ⟩ (fun r => ∀ c : Dev nD,
      r.2.mem ((c.tc : Thread nD τ).loc main_v3) = (fun i : S1024x1024.Idx => GRAD (a0 m c) (a1 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).2 main_v3 (Pipeline.mem_restRefs_of main_v3 (by decide) (by decide))).trans (tail m c), h.1 c⟩)
    (θ_run_and (unchanged m ρ) (run_main m ρ))

end Cert.WoutKernelIdeal.WoutValue

namespace Cert.WoutReferenceIdeal.WoutValue

open Cert.WoutReferenceIdeal Cert.WoutReferenceIdeal.Gen Cert.WoutReferenceIdeal.Read Cert.WoutKernelIdeal.WoutValue

theorem ref (x : FVec Ideal S4096x1024 .f32) (d : FVec Ideal S4096x1024 .f32) : val_main_v3 (F := Ideal) x d = fun i : S1024x1024.Idx => GRAD x d (i 0) (i 1) := by
  funext i
  idx_vars i
  rw [val_main_v3_apply, val_main_v2_apply]
  unfold GRAD
  refine Finset.sum_congr rfl fun q _ => (mul_comm _ _).trans (congrArg₂ (fun a b : EReal => a * b) (congrArg x ?_) (congrArg d ?_))
  · idx_ext
  · idx_ext

end Cert.WoutReferenceIdeal.WoutValue

end
-- ==== Proof.WdownValue.lean ====
/- The gradient of the down weight: the product with the transposed hidden rows, whose columns are padded. -/
module

public import proofs.«01_k».proof.Proof.Gen.WdownKernelIdeal.Frame
public import proofs.«01_k».proof.Proof.Gen.WdownReferenceIdeal.Run
public import proofs.«01_k».proof.Proof.Gen.WdownReferenceIdeal.Read
public import proofs.«01_k».proof.Proof.Halves
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WdownKernelIdeal.WdownValue

open Cert.WdownKernelIdeal Cert.WdownKernelIdeal.Gen Cert.Halves

variable (m : (ℓ : Loc nD τ sig) → Buf (Elt Ideal) ℓ) (ρ : Dev nD → PrngReg)

abbrev a0 (c : Dev nD) : FVec Ideal S4096x2816 .f32 := m ((c : Thread nD τ).loc main_arg0)
abbrev a1 (c : Dev nD) : FVec Ideal S4096x1024 .f32 := m ((c : Thread nD τ).loc main_arg1)

/-- The gradient at an element. -/
def GRAD (x : FVec Ideal S4096x2816 .f32) (d : FVec Ideal S4096x1024 .f32) (r : Fin 2816) (k : Fin 1024) : EReal := ∑ q : Fin 4096, x (ix2 q r) * d (ix2 q k)
/-- The product the call computes. -/
def LONG (x : FVec Ideal S4096x3072 .bf16) (d : FVec Ideal S4096x1024 .bf16) (r : Fin 3072) (k : Fin 1024) : EReal := ∑ q : Fin 4096, x (ix2 q r) * d (ix2 q k)

theorem idx : ∀ t : Fin cfg0.N, win0_0.index t = ![0, t.val] ∧ win0_1.index t = ![0, 0] ∧ win0_2.index t = ![t.val, 0] :=
  (by decide +kernel : ∀ t : Fin grid0.N, _)

theorem hpay (x d : FVec Ideal S4096x1024 .bf16) (r k : Fin 1024) : (k0_pay1 (F := Ideal) x d (ix2 r k) : EReal) = ∑ q, x (ix2 q r) * d (ix2 q k) := by
  pointwise [k0_pay1]

/-- The padding of the columns, groups of 352 to groups of 384. -/
def padCols (w : FVec Ideal S4096x2816 .f32) : FVec Ideal S4096x3072 .bf16 :=
  truncf .bf16 (shapeCast S4096x3072 (pad S4096x8x384 ![0, 0, 0] ![0, 0, 32] ![0, 0, 0] (shapeCast S4096x8x352 w shapeCasts_S4096x2816_S4096x8x352)
    (sitofp .f32 (constantI S_ 32 0#32)) pads_S4096x8x352_S4096x8x384_000_000_0320 h_S_) shapeCasts_S4096x8x384_S4096x3072) bitsLt_bf16_f32

theorem padCols_wide (w : FVec Ideal S4096x2816 .f32) (q : Fin 4096) (p : Fin 2816) : (padCols w (ix2 q (wide p)) : EReal) = w (ix2 q p) := by
  unfold padCols wide
  pointwise
  rw [dif_pos ⟨by omega, by omega⟩]

theorem v3 (c : Dev nD) : V m c main_v3 = padCols (a0 m c) := by
  rfl
theorem v4 (c : Dev nD) (i : S4096x1024.Idx) : (V m c main_v4 i : EReal) = a1 m c i := by
  rfl

theorem final (c : Dev nD) : (dats m 0 c).arrAt 2 (cfgs 0).N = fun i : S3072x1024.Idx => LONG (V m c main_v3) (V m c main_v4) (i 0) (i 1) := by
  refine (dats m 0 c).arrAt_eq_of_covers 2 _ (by decide +kernel) fun t _ y => ?_
  blk_simp
  rw [after0_2]
  unfold out0_2
  frame_out
  idx_vars y
  refine (hpay _ _ _ _).trans ?_
  unfold LONG
  refine Finset.sum_congr rfl fun q _ => congrArg₂ (fun a b : EReal => a * b) ?_ ?_
  · blk_point [iblk, idx t]
  · blk_point [iblk, idx t]

/-- The rows kept of an array whose rows were padded. -/
def cut (x : FVec Ideal S3072x1024 .bf16) : FVec Ideal S2816x1024 .f32 :=
  extf .f32 (shapeCast S2816x1024 (extractStridedSlice S8x352x1024 ![0, 0, 0] (shapeCast S8x384x1024 x shapeCasts_S3072x1024_S8x384x1024)
    slices_S8x384x1024_S8x352x1024_0_0_0) shapeCasts_S8x352x1024_S2816x1024) bitsLt_bf16_f32

theorem cut_apply (x : FVec Ideal S3072x1024 .bf16) (p : Fin 2816) (k : Fin 1024) : (cut x (ix2 p k) : EReal) = x (ix2 (wide p) k) := by
  unfold cut
  pointwise
  exact congrArg x (congrArg (ix2 · k) (Fin.ext (by simp only [wide]; omega)))

theorem tail (c : Dev nD) : Pipeline.afterTail₀ cfgs (dats m) 0 (V0 m) [hostOps1] c main_v9 = fun i : S2816x1024.Idx => GRAD (a0 m c) (a1 m c) (i 0) (i 1) := by
  refine Eq.trans (b := cut (Pipeline.withArrays (cfgs 0).spec c (V0 m c) (fun w => (dats m 0 c).arrAt w (cfgs 0).N) (Proc.devRef .tc main_v5))) rfl ?_
  rw [show Pipeline.withArrays (cfgs 0).spec c (V0 m c) (fun w => (dats m 0 c).arrAt w (cfgs 0).N) (Proc.devRef .tc main_v5) = _ from
    Pipeline.withArrays_arr spec0 (by decide) c (V0 m c) (fun w => (dats m 0 c).arrAt w (cfgs 0).N) 2]
  rw [show (dats m 0 c).arrAt 2 (cfgs 0).N = _ from final m c, v3]
  funext i
  idx_vars i
  refine (cut_apply _ _ _).trans ?_
  exact Finset.sum_congr rfl fun q _ => congrArg₂ (fun a b : EReal => a * b) (padCols_wide _ _ _) (v4 m c _)

/-- The call's run: the gradient, and the arguments as they were. -/
theorem run : θ_run defs (onTc (τ := τ) (main (F := Ideal))) ⟨m, fun _ => 0, ρ⟩ (fun r => ∀ c : Dev nD,
      r.2.mem ((c.tc : Thread nD τ).loc main_v9) = (fun i : S2816x1024.Idx => GRAD (a0 m c) (a1 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).2 main_v9 (Pipeline.mem_restRefs_of main_v9 (by decide) (by decide))).trans (tail m c), h.1 c⟩)
    (θ_run_and (unchanged m ρ) (run_main m ρ))

end Cert.WdownKernelIdeal.WdownValue

namespace Cert.WdownReferenceIdeal.WdownValue

open Cert.WdownReferenceIdeal Cert.WdownReferenceIdeal.Gen Cert.WdownReferenceIdeal.Read Cert.WdownKernelIdeal.WdownValue

theorem ref (x : FVec Ideal S4096x2816 .f32) (d : FVec Ideal S4096x1024 .f32) : val_main_v3 (F := Ideal) x d = fun i : S2816x1024.Idx => GRAD x d (i 0) (i 1) := by
  funext i
  idx_vars i
  rw [val_main_v3_apply, val_main_v2_apply]
  unfold GRAD
  refine Finset.sum_congr rfl fun q _ => (mul_comm _ _).trans (congrArg₂ (fun a b : EReal => a * b) (congrArg x ?_) (congrArg d ?_))
  · idx_ext
  · idx_ext

end Cert.WdownReferenceIdeal.WdownValue

end
-- ==== Proof.SumValue.lean ====
/- The sum over the devices of the gradient of the input projections, the last layer's call. -/
module

public import proofs.«01_k».proof.Proof.Gen.SumKernelIdeal.Frame
public import proofs.«01_k».proof.Proof.Gen.SumReferenceIdeal.Run
public import proofs.«01_k».proof.Proof.Gen.SumReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SumKernelIdeal.SumValue

open Cert.SumKernelIdeal Cert.SumKernelIdeal.Gen

variable (m : (ℓ : Loc nD τ sig) → Buf (Elt Ideal) ℓ) (ρ : Dev nD → PrngReg)

abbrev a0 (c : Dev nD) : FVec Ideal S8x1024x384 .bf16 := m ((c : Thread nD τ).loc main_arg0)

/-- The sum of what the eight devices sent, at an element. -/
def TOTAL (x : FVec Ideal S8x1024x384 .bf16) (r : Fin 1024) (k : Fin 384) : EReal := ∑ d : Fin 8, x (ix3 d r k)

theorem idx : ∀ t : Fin cfg0.N, win0_0.index t = ![0, t.val, 0] ∧ win0_1.index t = ![3, t.val, 0] :=
  (by decide +kernel : ∀ t : Fin grid0.N, _)

theorem hpay (x : FVec Ideal S8x512x384 .bf16) (i : Fin 1) (r : Fin 512) (k : Fin 384) :
    (k0_pay1 (F := Ideal) (k0_pay2 (View.ld x r0_0) (View.ld x r0_1) (View.ld x r0_2) (View.ld x r0_3) (View.ld x r0_4) (View.ld x r0_5) (View.ld x r0_6) (View.ld x r0_7)) (ix3 i r k) : EReal)
      = ∑ d : Fin 8, x (ix3 d r k) := by
  obtain rfl : i = 0 := Subsingleton.elim _ _
  rw [Fin.sum_univ_eight]
  pointwise [k0_pay1, k0_pay2]

theorem v0 (c : Dev nD) (i : S8x1024x384.Idx) : (V m c main_arg0 i : EReal) = a0 m c i := by
  rfl

/-- The last layer's part of the array is the sum; the call writes nothing else. -/
theorem final (c : Dev nD) : (dats m 0 c).arrAt 1 (cfgs 0).N
    = fun i : S4x1024x384.Idx => if 3 ≤ (i 0).val then TOTAL (a0 m c) (i 1) (i 2) else (dats m 0 c).A 1 i := by
  refine (dats m 0 c).arrAt_eq_of_coversWhere 1 (fun i : S4x1024x384.Idx => TOTAL (a0 m c) (i 1) (i 2)) (fun β => 3 ≤ β (0 : Fin 3)) (by decide +kernel) (fun t _ y => ?_) (fun j => ?_)
  · blk_simp
    rw [after0_1]
    unfold out0_1
    frame_out
    idx_vars y
    refine (hpay _ _ _ _).trans ?_
    unfold TOTAL
    refine Finset.sum_congr rfl fun q _ => ?_
    refine Eq.trans ?_ (v0 m c _)
    blk_point [iblk, idx t]
  · blk_simp [Pipeline.Window.cell_apply]
    rw [Nat.div_one]

theorem tail (c : Dev nD) : Pipeline.afterTail₀ cfgs (dats m) 0 (V0 m) [hostOps1] c main_v2 = fun i : S1024x384.Idx => TOTAL (a0 m c) (i 0) (i 1) := by
  refine Eq.trans (b := shapeCast S1024x384 (extractStridedSlice S1x1024x384 ![3, 0, 0] (Pipeline.withArrays (cfgs 0).spec c (V0 m c) (fun w => (dats m 0 c).arrAt w (cfgs 0).N) (Proc.devRef .tc main_v0)) slices_S4x1024x384_S1x1024x384_3_0_0) shapeCasts_S1x1024x384_S1024x384) rfl ?_
  rw [show Pipeline.withArrays (cfgs 0).spec c (V0 m c) (fun w => (dats m 0 c).arrAt w (cfgs 0).N) (Proc.devRef .tc main_v0) = _ from
    Pipeline.withArrays_arr spec0 (by decide) c (V0 m c) (fun w => (dats m 0 c).arrAt w (cfgs 0).N) 1]
  rw [show (dats m 0 c).arrAt 1 (cfgs 0).N = _ from final m c]
  generalize (dats m 0 c).A 1 = A
  funext i
  idx_vars i
  pointwise

/-- The call's run: the sum, and the argument as it was. -/
theorem run : θ_run defs (onTc (τ := τ) (main (F := Ideal))) ⟨m, fun _ => 0, ρ⟩ (fun r => ∀ c : Dev nD,
      r.2.mem ((c.tc : Thread nD τ).loc main_v2) = (fun i : S1024x384.Idx => TOTAL (a0 m c) (i 0) (i 1))
      ∧ r.2.mem ((c.tc : Thread nD τ).loc main_arg0) = m ((c.tc : Thread nD τ).loc main_arg0)) :=
  (θ_run defs _ _).mono (fun _ h c => ⟨((h.2 c).2 main_v2 (Pipeline.mem_restRefs_of main_v2 (by decide) (by decide))).trans (tail m c), h.1 c⟩)
    (θ_run_and (unchanged m ρ) (run_main m ρ))

end Cert.SumKernelIdeal.SumValue

namespace Cert.SumReferenceIdeal.SumValue

open Cert.SumReferenceIdeal Cert.SumReferenceIdeal.Gen Cert.SumReferenceIdeal.Read Cert.SumKernelIdeal.SumValue

theorem ref (x : FVec Ideal S8x1024x384 .bf16) : val_main_v1 (F := Ideal) x = fun i : S1024x384.Idx => TOTAL x (i 0) (i 1) := by
  funext i
  idx_vars i
  rw [val_main_v1_apply]
  unfold TOTAL
  rw [show (val_main_cst (F := Ideal) (Shape.Idx.first h_S_) : EReal) = 0 from by rw [val_main_cst_apply, Ideal.ofBits_def, Ideal.ofBits_zero_f32]]
  refine (zero_add _).trans (Finset.sum_congr rfl fun d _ => congrArg x ?_)
  idx_ext

end Cert.SumReferenceIdeal.SumValue

end
-- ==== Proof.AdamwValue.lean ====
/- One step of the optimiser, element by element. -/
module

public import proofs.«01_k».proof.Proof.Gen.AdamwKernelIdeal.Frame
public import proofs.«01_k».proof.Proof.Gen.AdamwReferenceIdeal.Run
public import proofs.«01_k».proof.Proof.Gen.AdamwReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwKernelIdeal.AdamwValue

open Cert.AdamwKernelIdeal Cert.AdamwKernelIdeal.Gen

variable (m : (ℓ : Loc nD τ sig) → Buf (Elt Ideal) ℓ) (ρ : Dev nD → PrngReg)

abbrev a0 (c : Dev nD) : FVec Ideal S4x1024x384 .f32 := m ((c : Thread nD τ).loc main_arg0)
abbrev a1 (c : Dev nD) : FVec Ideal S4x1024x384 .f32 := m ((c : Thread nD τ).loc main_arg1)
abbrev a2 (c : Dev nD) : FVec Ideal S4x1024x384 .f32 := m ((c : Thread nD τ).loc main_arg2)
abbrev a3 (c : Dev nD) : FVec Ideal S4x1024x384 .f32 := m ((c : Thread nD τ).loc main_arg3)

abbrev w32 (b : BitVec 32) : EReal := Ideal.ofBits .f32 b
/-- The first moment after the step. -/
def NM (g m : EReal) : EReal := w32 0x3F666666#32 * m + w32 0x3DCCCCCD#32 * g
/-- The second moment after the step. -/
def NV (g v : EReal) : EReal := w32 0x3F7FBE77#32 * v + w32 0x3A83126F#32 * (g * g)
/-- The change of the weight. -/
def DELTA (w g m v : EReal) : EReal :=
  w32 0xBA83126F#32 * (Ideal.div (Ideal.div (NM g m) (w32 0x3F26BD02#32)) (Ideal.sqrt (Ideal.div (NV g v) (w32 0x3C231ACC#32)) + w32 0x322BCC77#32) + w32 0x3C23D70A#32 * w)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem hm (g m : FVec Ideal S512x384 .f32) (j : S512x384.Idx) : (k0_pay2 (F := Ideal) g m j : EReal) = NM (g j) (m j) := by
  pointwise [k0_pay2, k0_pay1]
  rfl
theorem hv (g v : FVec Ideal S512x384 .f32) (j : S512x384.Idx) : (k0_pay3 (F := Ideal) g v j : EReal) = NV (g j) (v j) := by
  pointwise [k0_pay3, k0_pay1]
  rfl
theorem hd (g m v w : FVec Ideal S512x384 .f32) (j : S512x384.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S4096x384.Idx => DELTA (V m c main_v0 i) (V m c main_v1 i) (V m c main_v2 i) (V m c main_v3 i) := by
  refine (dats m 0 c).arrAt_eq_of_covers 4 _ (by decide +kernel) fun t _ y => ?_
  blk_simp
  rw [after0_4]
  unfold out0_4
  frame_out
  rw [hd]
  blk_point [iblk, idx t]
theorem final_m (c : Dev nD) : (dats m 0 c).arrAt 5 (cfgs 0).N = fun i : S4096x384.Idx => NM (V m c main_v1 i) (V m c main_v2 i) := by
  refine (dats m 0 c).arrAt_eq_of_covers 5 _ (by decide +kernel) fun t _ y => ?_
  blk_simp
  rw [after0_5]
  unfold out0_5
  frame_out
  rw [hm]
  blk_point [iblk, idx t]
theorem final_v (c : Dev nD) : (dats m 0 c).arrAt 6 (cfgs 0).N = fun i : S4096x384.Idx => NV (V m c main_v1 i) (V m c main_v3 i) := by
  refine (dats m 0 c).arrAt_eq_of_covers 6 _ (by decide +kernel) fun t _ y => ?_
  blk_simp
  rw [after0_6]
  unfold out0_6
  frame_out
  rw [hv]
  blk_point [iblk, idx t]

/-- The layers laid end to end, and back. -/
def flat (x : FVec Ideal S4x1024x384 .f32) : FVec Ideal S4096x384 .f32 := shapeCast S4096x384 x shapeCasts_S4x1024x384_S4096x384
def back (x : FVec Ideal S4096x384 .f32) : FVec Ideal S4x1024x384 .f32 := shapeCast S4x1024x384 x shapeCasts_S4096x384_S4x1024x384

theorem back_apply (x : FVec Ideal S4096x384 .f32) (l : Fin 4) (r : Fin 1024) (k : Fin 384) : back x (ix3 l r k) = x (ix2 ⟨1024 * l.val + r.val, by omega⟩ k) := by
  unfold back
  pointwise
  exact congrArg x (congrArg (ix2 · k) (Fin.ext (by simp only; omega)))
theorem flat_apply (x : FVec Ideal S4x1024x384 .f32) (l : Fin 4) (r : Fin 1024) (k : Fin 384) : flat x (ix2 ⟨1024 * l.val + r.val, by omega⟩ k) = x (ix3 l r k) := by
  rw [← back_apply (flat x)]
  unfold back flat
  rw [shapeCast_shapeCast]

theorem v0 (c : Dev nD) : V m c main_v0 = flat (a0 m c) := by
  rfl
theorem v1 (c : Dev nD) : V m c main_v1 = flat (a1 m c) := by
  rfl
theorem v2 (c : Dev nD) : V m c main_v2 = flat (a2 m c) := by
  rfl
theorem v3 (c : Dev nD) : V m c main_v3 = flat (a3 m c) := by
  rfl

theorem tail_d (c : Dev nD) : Pipeline.afterTail₀ cfgs (dats m) 0 (V0 m) [hostOps1] c main_v5 = fun i : S4x1024x384.Idx => DELTA (a0 m c i) (a1 m c i) (a2 m c i) (a3 m c i) := by
  refine Eq.trans (b := back (Pipeline.withArrays (cfgs 0).spec c (V0 m c) (fun w => (dats m 0 c).arrAt w (cfgs 0).N) (Proc.devRef .tc main_v4_0))) rfl ?_
  rw [show Pipeline.withArrays (cfgs 0).spec c (V0 m c) (fun w => (dats m 0 c).arrAt w (cfgs 0).N) (Proc.devRef .tc main_v4_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  funext i
  idx_vars i
  refine (back_apply _ _ _ _).trans ?_
  simp only [flat_apply]
theorem tail_m (c : Dev nD) : Pipeline.afterTail₀ cfgs (dats m) 0 (V0 m) [hostOps1] c main_v6 = fun i : S4x1024x384.Idx => NM (a1 m c i) (a2 m c i) := by
  refine Eq.trans (b := back (Pipeline.withArrays (cfgs 0).spec c (V0 m c) (fun w => (dats m 0 c).arrAt w (cfgs 0).N) (Proc.devRef .tc main_v4_1))) rfl ?_
  rw [show Pipeline.withArrays (cfgs 0).spec c (V0 m c) (fun w => (dats m 0 c).arrAt w (cfgs 0).N) (Proc.devRef .tc main_v4_1) = _ from
    Pipeline.withArrays_arr spec0 (by decide) c (V0 m c) (fun w => (dats m 0 c).arrAt w (cfgs 0).N) 5]
  rw [show (dats m 0 c).arrAt 5 (cfgs 0).N = _ from final_m m c, v1, v2]
  funext i
  idx_vars i
  refine (back_apply _ _ _ _).trans ?_
  simp only [flat_apply]
theorem tail_v (c : Dev nD) : Pipeline.afterTail₀ cfgs (dats m) 0 (V0 m) [hostOps1] c main_v7 = fun i : S4x1024x384.Idx => NV (a1 m c i) (a3 m c i) := by
  refine Eq.trans (b := back (Pipeline.withArrays (cfgs 0).spec c (V0 m c) (fun w => (dats m 0 c).arrAt w (cfgs 0).N) (Proc.devRef .tc main_v4_2))) rfl ?_
  rw [show Pipeline.withArrays (cfgs 0).spec c (V0 m c) (fun w => (dats m 0 c).arrAt w (cfgs 0).N) (Proc.devRef .tc main_v4_2) = _ from
    Pipeline.withArrays_arr spec0 (by decide) c (V0 m c) (fun w => (dats m 0 c).arrAt w (cfgs 0).N) 6]
  rw [show (dats m 0 c).arrAt 6 (cfgs 0).N = _ from final_v m c, v1, v3]
  funext i
  idx_vars i
  refine (back_apply _ _ _ _).trans ?_
  simp only [flat_apply]

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v5) = (fun i : S4x1024x384.Idx => DELTA (a0 m c i) (a1 m c i) (a2 m c i) (a3 m c i))
      ∧ r.2.mem ((c.tc : Thread nD τ).loc main_v6) = (fun i : S4x1024x384.Idx => NM (a1 m c i) (a2 m c i))
      ∧ r.2.mem ((c.tc : Thread nD τ).loc main_v7) = (fun i : S4x1024x384.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v5 (Pipeline.mem_restRefs_of main_v5 (by decide) (by decide))).trans (tail_d m c),
      ((h.2 c).2 main_v6 (Pipeline.mem_restRefs_of main_v6 (by decide) (by decide))).trans (tail_m m c),
      ((h.2 c).2 main_v7 (Pipeline.mem_restRefs_of main_v7 (by decide) (by decide))).trans (tail_v m c), h.1 c⟩)
    (θ_run_and (unchanged m ρ) (run_main m ρ))

end Cert.AdamwKernelIdeal.AdamwValue

namespace Cert.AdamwReferenceIdeal.AdamwValue

open Cert.AdamwReferenceIdeal Cert.AdamwReferenceIdeal.Gen Cert.AdamwReferenceIdeal.Read Cert.AdamwKernelIdeal.AdamwValue

theorem ref_m (g m : FVec Ideal S4x1024x384 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x1024x384 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x1024x384 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwReferenceIdeal.AdamwValue

end
-- ==== Proof.ProductsClaim.lean ====
/- The plain products, the sum over the devices and the optimiser's update: each call's arrays are its reference's. -/
module

public import proofs.«01_k».proof.Defs
public import proofs.«01_k».proof.Proof.InprojValue
public import proofs.«01_k».proof.Proof.InprojBwdValue
public import proofs.«01_k».proof.Proof.WinValue
public import proofs.«01_k».proof.Proof.WoutValue
public import proofs.«01_k».proof.Proof.WdownValue
public import proofs.«01_k».proof.Proof.SumValue
public import proofs.«01_k».proof.Proof.AdamwValue

@[expose] public section

set_option maxRecDepth 16384

noncomputable section

open Idealize.ShloMosaic Idealize.ShloMosaic.TcCoe Idealize.SL.Sem

namespace Cert.Proof.Inproj

theorem frame_reference : Cert.quiescent_InprojReferenceIdeal := fun m ρ _ =>
  (θ_run Cert.InprojReferenceIdeal.defs _ _).mono (fun r h => ⟨fun c => (h c).2, Idealize.ShloMosaic.sem_eq_zero_of_no_sems (by decide) r.2⟩)
    (Cert.InprojReferenceIdeal.Value.run (F := Ideal) m ρ)

theorem algebraic : Cert.algebraic_InprojKernelIdeal_InprojReferenceIdeal := by
  intro m ρ m' ρ' _ hagree
  refine ⟨_, Cert.InprojKernelIdeal.InprojValue.run m ρ, ?_⟩
  refine (θ_run Cert.InprojReferenceIdeal.defs _ _).mono (fun _ h c => ?_) (Cert.InprojReferenceIdeal.Value.run (F := Ideal) m' ρ')
  obtain ⟨h0, hargs⟩ := h c
  obtain ⟨g0, g1⟩ := hagree c
  refine ⟨h0.trans ?_, hargs⟩
  rw [Cert.InprojReferenceIdeal.Read.val_main_v0_eq, g0, g1]
  exact Cert.InprojReferenceIdeal.InprojValue.ref _ _

end Cert.Proof.Inproj

namespace Cert.Proof.InprojBwd

theorem frame_reference : Cert.quiescent_InprojBwdReferenceIdeal := fun m ρ _ =>
  (θ_run Cert.InprojBwdReferenceIdeal.defs _ _).mono (fun r h => ⟨fun c => (h c).2, Idealize.ShloMosaic.sem_eq_zero_of_no_sems (by decide) r.2⟩)
    (Cert.InprojBwdReferenceIdeal.Value.run (F := Ideal) m ρ)

theorem algebraic : Cert.algebraic_InprojBwdKernelIdeal_InprojBwdReferenceIdeal := by
  intro m ρ m' ρ' _ hagree
  refine ⟨_, Cert.InprojBwdKernelIdeal.InprojBwdValue.run m ρ, ?_⟩
  refine (θ_run Cert.InprojBwdReferenceIdeal.defs _ _).mono (fun _ h c => ?_) (Cert.InprojBwdReferenceIdeal.Value.run (F := Ideal) m' ρ')
  obtain ⟨h0, hargs⟩ := h c
  obtain ⟨g0, g1, g2⟩ := hagree c
  refine ⟨h0.trans ?_, hargs⟩
  rw [Cert.InprojBwdReferenceIdeal.Read.val_main_v3_eq, g0, g1, g2]
  exact Cert.InprojBwdReferenceIdeal.InprojBwdValue.ref _ _ _

end Cert.Proof.InprojBwd

namespace Cert.Proof.Win

theorem frame_reference : Cert.quiescent_WinReferenceIdeal := fun m ρ _ =>
  (θ_run Cert.WinReferenceIdeal.defs _ _).mono (fun r h => ⟨fun c => (h c).2, Idealize.ShloMosaic.sem_eq_zero_of_no_sems (by decide) r.2⟩)
    (Cert.WinReferenceIdeal.Value.run (F := Ideal) m ρ)

theorem algebraic : Cert.algebraic_WinKernelIdeal_WinReferenceIdeal := by
  intro m ρ m' ρ' _ hagree
  refine ⟨_, Cert.WinKernelIdeal.WinValue.run m ρ, ?_⟩
  refine (θ_run Cert.WinReferenceIdeal.defs _ _).mono (fun _ h c => ?_) (Cert.WinReferenceIdeal.Value.run (F := Ideal) m' ρ')
  obtain ⟨h0, hargs⟩ := h c
  obtain ⟨g0, g1⟩ := hagree c
  refine ⟨h0.trans ?_, hargs⟩
  rw [Cert.WinReferenceIdeal.Read.val_main_v3_eq, g0, g1]
  exact Cert.WinReferenceIdeal.WinValue.ref _ _

end Cert.Proof.Win

namespace Cert.Proof.Wout

theorem frame_reference : Cert.quiescent_WoutReferenceIdeal := fun m ρ _ =>
  (θ_run Cert.WoutReferenceIdeal.defs _ _).mono (fun r h => ⟨fun c => (h c).2, Idealize.ShloMosaic.sem_eq_zero_of_no_sems (by decide) r.2⟩)
    (Cert.WoutReferenceIdeal.Value.run (F := Ideal) m ρ)

theorem algebraic : Cert.algebraic_WoutKernelIdeal_WoutReferenceIdeal := by
  intro m ρ m' ρ' _ hagree
  refine ⟨_, Cert.WoutKernelIdeal.WoutValue.run m ρ, ?_⟩
  refine (θ_run Cert.WoutReferenceIdeal.defs _ _).mono (fun _ h c => ?_) (Cert.WoutReferenceIdeal.Value.run (F := Ideal) m' ρ')
  obtain ⟨h0, hargs⟩ := h c
  obtain ⟨g0, g1⟩ := hagree c
  refine ⟨h0.trans ?_, hargs⟩
  rw [Cert.WoutReferenceIdeal.Read.val_main_v3_eq, g0, g1]
  exact Cert.WoutReferenceIdeal.WoutValue.ref _ _

end Cert.Proof.Wout

namespace Cert.Proof.Wdown

theorem frame_reference : Cert.quiescent_WdownReferenceIdeal := fun m ρ _ =>
  (θ_run Cert.WdownReferenceIdeal.defs _ _).mono (fun r h => ⟨fun c => (h c).2, Idealize.ShloMosaic.sem_eq_zero_of_no_sems (by decide) r.2⟩)
    (Cert.WdownReferenceIdeal.Value.run (F := Ideal) m ρ)

theorem algebraic : Cert.algebraic_WdownKernelIdeal_WdownReferenceIdeal := by
  intro m ρ m' ρ' _ hagree
  refine ⟨_, Cert.WdownKernelIdeal.WdownValue.run m ρ, ?_⟩
  refine (θ_run Cert.WdownReferenceIdeal.defs _ _).mono (fun _ h c => ?_) (Cert.WdownReferenceIdeal.Value.run (F := Ideal) m' ρ')
  obtain ⟨h0, hargs⟩ := h c
  obtain ⟨g0, g1⟩ := hagree c
  refine ⟨h0.trans ?_, hargs⟩
  rw [Cert.WdownReferenceIdeal.Read.val_main_v3_eq, g0, g1]
  exact Cert.WdownReferenceIdeal.WdownValue.ref _ _

end Cert.Proof.Wdown

namespace Cert.Proof.Adamw

theorem frame_reference : Cert.quiescent_AdamwReferenceIdeal := fun m ρ _ =>
  (θ_run Cert.AdamwReferenceIdeal.defs _ _).mono (fun r h => ⟨fun c => (h c).2.2.2, Idealize.ShloMosaic.sem_eq_zero_of_no_sems (by decide) r.2⟩)
    (Cert.AdamwReferenceIdeal.Value.run (F := Ideal) m ρ)

theorem algebraic : Cert.algebraic_AdamwKernelIdeal_AdamwReferenceIdeal := by
  intro m ρ m' ρ' _ hagree
  refine ⟨_, _, _, Cert.AdamwKernelIdeal.AdamwValue.run m ρ, ?_⟩
  refine (θ_run Cert.AdamwReferenceIdeal.defs _ _).mono (fun _ h c => ?_) (Cert.AdamwReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwReferenceIdeal.Read.val_main_v23_eq, g0, g1, g2, g3]
    exact Cert.AdamwReferenceIdeal.AdamwValue.ref_d _ _ _ _
  · rw [Cert.AdamwReferenceIdeal.Read.val_main_v4_eq, g1, g2]
    exact Cert.AdamwReferenceIdeal.AdamwValue.ref_m _ _
  · rw [Cert.AdamwReferenceIdeal.Read.val_main_v10_eq, g1, g3]
    exact Cert.AdamwReferenceIdeal.AdamwValue.ref_v _ _

end Cert.Proof.Adamw

namespace Cert.Proof.Sum

theorem frame_reference : Cert.quiescent_SumReferenceIdeal := fun m ρ _ =>
  (θ_run Cert.SumReferenceIdeal.defs _ _).mono (fun r h => ⟨fun c => (h c).2, Idealize.ShloMosaic.sem_eq_zero_of_no_sems (by decide) r.2⟩)
    (Cert.SumReferenceIdeal.Value.run (F := Ideal) m ρ)

theorem algebraic : Cert.algebraic_SumKernelIdeal_SumReferenceIdeal := by
  intro m ρ m' ρ' _ hagree
  refine ⟨_, Cert.SumKernelIdeal.SumValue.run m ρ, ?_⟩
  refine (θ_run Cert.SumReferenceIdeal.defs _ _).mono (fun _ h c => ?_) (Cert.SumReferenceIdeal.Value.run (F := Ideal) m' ρ')
  obtain ⟨h0, hargs⟩ := h c
  refine ⟨h0.trans ?_, hargs⟩
  rw [Cert.SumReferenceIdeal.Read.val_main_v1_eq, hagree c]
  exact Cert.SumReferenceIdeal.SumValue.ref _

end Cert.Proof.Sum

end
-- ==== Proof.AdamwShapes.lean ====
/- An element-wise function does not see how its arrays are laid out. -/
module

public import proofs.«01_k».proof.Proof.AdamwValue

@[expose] public section

set_option maxRecDepth 16384

noncomputable section

open Idealize.ShloMosaic Idealize.ShloMosaic.TcCoe Idealize.SL.Sem

namespace Cert.Proof.Shapes

/-- Reshaping, applying a function of four elements, and reshaping back. -/
theorem cast_back {s t : Shape} (h : s.ShapeCasts t) (h' : t.ShapeCasts s) (f : EReal → EReal → EReal → EReal → EReal) (w g m v : FVec Ideal s .f32) :
    shapeCast s (fun i : t.Idx => f (shapeCast t w h i) (shapeCast t g h i) (shapeCast t m h i) (shapeCast t v h i) : FVec Ideal t .f32) h' = fun i : s.Idx => f (w i) (g i) (m i) (v i) := by
  refine Eq.trans (b := fun i : s.Idx => f (shapeCast s (shapeCast t w h) h' i) (shapeCast s (shapeCast t g h) h' i) (shapeCast s (shapeCast t m h) h' i) (shapeCast s (shapeCast t v h) h' i)) rfl ?_
  simp only [shapeCast_shapeCast]

/-- The last two of three dimensions swapped, a function of four elements applied, and the dimensions swapped back. -/
theorem swap_back {s t : Shape} {p : List (Fin s.rank)} {q : List (Fin t.rank)} (h : s.Transposes p t) (h' : t.Transposes q s) (hb : ∀ x : FVec Ideal s .f32, transpose s q (transpose t p x h) h' = x)
    (f : EReal → EReal → EReal → EReal → EReal) (w g m v : FVec Ideal s .f32) :
    transpose s q (fun i : t.Idx => f (transpose t p w h i) (transpose t p g h i) (transpose t p m h i) (transpose t p v h i) : FVec Ideal t .f32) h' = fun i : s.Idx => f (w i) (g i) (m i) (v i) := by
  refine Eq.trans (b := fun i : s.Idx => f (transpose s q (transpose t p w h) h' i) (transpose s q (transpose t p g h) h' i) (transpose s q (transpose t p m h) h' i) (transpose s q (transpose t p v h) h' i)) rfl ?_
  simp only [hb]

end Cert.Proof.Shapes

end
-- ==== Proof.AdamwOutValue.lean ====
/- The update of w_out, element by element. -/
module

public import proofs.«01_k».proof.Proof.AdamwShapes
public import proofs.«01_k».proof.Proof.Gen.AdamwOutKernelIdeal.Frame
public import proofs.«01_k».proof.Proof.Gen.AdamwOutReferenceIdeal.Run
public import proofs.«01_k».proof.Proof.Gen.AdamwOutReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwOutKernelIdeal.AdamwOutValue

open Cert.AdamwOutKernelIdeal Cert.AdamwOutKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x128x1024 .f32 := m ((c : Thread nD τ).loc main_arg0)
abbrev a1 (c : Dev nD) : FVec Ideal S4x128x1024 .f32 := m ((c : Thread nD τ).loc main_arg1)
abbrev a2 (c : Dev nD) : FVec Ideal S4x128x1024 .f32 := m ((c : Thread nD τ).loc main_arg2)
abbrev a3 (c : Dev nD) : FVec Ideal S4x128x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S128x1024 .f32) (j : S128x1024.Idx) : (k0_pay2 (F := Ideal) g m j : EReal) = NM (g j) (m j) := by
  pointwise [k0_pay2, k0_pay1]
  rfl
theorem hv (g v : FVec Ideal S128x1024 .f32) (j : S128x1024.Idx) : (k0_pay3 (F := Ideal) g v j : EReal) = NV (g j) (v j) := by
  pointwise [k0_pay3, k0_pay1]
  rfl
theorem hd (g m v w : FVec Ideal S128x1024 .f32) (j : S128x1024.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S512x1024.Idx => DELTA (V m c main_v0 i) (V m c main_v1 i) (V m c main_v2 i) (V m c main_v3 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S512x1024.Idx => NM (V m c main_v1 i) (V m c main_v2 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S512x1024.Idx => NV (V m c main_v1 i) (V m c main_v3 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v0 = shapeCast S512x1024 (a0 m c) shapeCasts_S4x128x1024_S512x1024 := by
  rfl
theorem v1 (c : Dev nD) : V m c main_v1 = shapeCast S512x1024 (a1 m c) shapeCasts_S4x128x1024_S512x1024 := by
  rfl
theorem v2 (c : Dev nD) : V m c main_v2 = shapeCast S512x1024 (a2 m c) shapeCasts_S4x128x1024_S512x1024 := by
  rfl
theorem v3 (c : Dev nD) : V m c main_v3 = shapeCast S512x1024 (a3 m c) shapeCasts_S4x128x1024_S512x1024 := by
  rfl

theorem tail_d (c : Dev nD) : Pipeline.afterTail₀ cfgs (dats m) 0 (V0 m) [hostOps1] c main_v5 = fun i : S4x128x1024.Idx => DELTA (a0 m c i) (a1 m c i) (a2 m c i) (a3 m c i) := by
  refine Eq.trans (b := shapeCast S4x128x1024 (Pipeline.withArrays (cfgs 0).spec c (V0 m c) (fun w => (dats m 0 c).arrAt w (cfgs 0).N) (Proc.devRef .tc main_v4_0)) shapeCasts_S512x1024_S4x128x1024) rfl ?_
  rw [show Pipeline.withArrays (cfgs 0).spec c (V0 m c) (fun w => (dats m 0 c).arrAt w (cfgs 0).N) (Proc.devRef .tc main_v4_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v6 = fun i : S4x128x1024.Idx => NM (a1 m c i) (a2 m c i) := by
  refine Eq.trans (b := shapeCast S4x128x1024 (Pipeline.withArrays (cfgs 0).spec c (V0 m c) (fun w => (dats m 0 c).arrAt w (cfgs 0).N) (Proc.devRef .tc main_v4_1)) shapeCasts_S512x1024_S4x128x1024) rfl ?_
  rw [show Pipeline.withArrays (cfgs 0).spec c (V0 m c) (fun w => (dats m 0 c).arrAt w (cfgs 0).N) (Proc.devRef .tc main_v4_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v7 = fun i : S4x128x1024.Idx => NV (a1 m c i) (a3 m c i) := by
  refine Eq.trans (b := shapeCast S4x128x1024 (Pipeline.withArrays (cfgs 0).spec c (V0 m c) (fun w => (dats m 0 c).arrAt w (cfgs 0).N) (Proc.devRef .tc main_v4_2)) shapeCasts_S512x1024_S4x128x1024) rfl ?_
  rw [show Pipeline.withArrays (cfgs 0).spec c (V0 m c) (fun w => (dats m 0 c).arrAt w (cfgs 0).N) (Proc.devRef .tc main_v4_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v5) = (fun i : S4x128x1024.Idx => DELTA (a0 m c i) (a1 m c i) (a2 m c i) (a3 m c i))
      ∧ r.2.mem ((c.tc : Thread nD τ).loc main_v6) = (fun i : S4x128x1024.Idx => NM (a1 m c i) (a2 m c i))
      ∧ r.2.mem ((c.tc : Thread nD τ).loc main_v7) = (fun i : S4x128x1024.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v5 (Pipeline.mem_restRefs_of main_v5 (by decide) (by decide))).trans (tail_d m c),
      ((h.2 c).2 main_v6 (Pipeline.mem_restRefs_of main_v6 (by decide) (by decide))).trans (tail_m m c),
      ((h.2 c).2 main_v7 (Pipeline.mem_restRefs_of main_v7 (by decide) (by decide))).trans (tail_v m c), h.1 c⟩)
    (θ_run_and (unchanged m ρ) (run_main m ρ))

end Cert.AdamwOutKernelIdeal.AdamwOutValue

namespace Cert.AdamwOutReferenceIdeal.AdamwOutValue

open Cert.AdamwOutReferenceIdeal Cert.AdamwOutReferenceIdeal.Gen Cert.AdamwOutReferenceIdeal.Read
open Cert.AdamwKernelIdeal.AdamwValue (NM NV DELTA)

theorem ref_m (g m : FVec Ideal S4x128x1024 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x128x1024 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x128x1024 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwOutReferenceIdeal.AdamwOutValue

end
-- ==== Proof.AdamwDownValue.lean ====
/- The update of w_down, element by element. -/
module

public import proofs.«01_k».proof.Proof.AdamwShapes
public import proofs.«01_k».proof.Proof.Gen.AdamwDownKernelIdeal.Frame
public import proofs.«01_k».proof.Proof.Gen.AdamwDownReferenceIdeal.Run
public import proofs.«01_k».proof.Proof.Gen.AdamwDownReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwDownKernelIdeal.AdamwDownValue

open Cert.AdamwDownKernelIdeal Cert.AdamwDownKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x352x1024 .f32 := m ((c : Thread nD τ).loc main_arg0)
abbrev a1 (c : Dev nD) : FVec Ideal S4x352x1024 .f32 := m ((c : Thread nD τ).loc main_arg1)
abbrev a2 (c : Dev nD) : FVec Ideal S4x352x1024 .f32 := m ((c : Thread nD τ).loc main_arg2)
abbrev a3 (c : Dev nD) : FVec Ideal S4x352x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S352x1024 .f32) (j : S352x1024.Idx) : (k0_pay2 (F := Ideal) g m j : EReal) = NM (g j) (m j) := by
  pointwise [k0_pay2, k0_pay1]
  rfl
theorem hv (g v : FVec Ideal S352x1024 .f32) (j : S352x1024.Idx) : (k0_pay3 (F := Ideal) g v j : EReal) = NV (g j) (v j) := by
  pointwise [k0_pay3, k0_pay1]
  rfl
theorem hd (g m v w : FVec Ideal S352x1024 .f32) (j : S352x1024.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S1408x1024.Idx => DELTA (V m c main_v0 i) (V m c main_v1 i) (V m c main_v2 i) (V m c main_v3 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S1408x1024.Idx => NM (V m c main_v1 i) (V m c main_v2 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S1408x1024.Idx => NV (V m c main_v1 i) (V m c main_v3 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v0 = shapeCast S1408x1024 (a0 m c) shapeCasts_S4x352x1024_S1408x1024 := by
  rfl
theorem v1 (c : Dev nD) : V m c main_v1 = shapeCast S1408x1024 (a1 m c) shapeCasts_S4x352x1024_S1408x1024 := by
  rfl
theorem v2 (c : Dev nD) : V m c main_v2 = shapeCast S1408x1024 (a2 m c) shapeCasts_S4x352x1024_S1408x1024 := by
  rfl
theorem v3 (c : Dev nD) : V m c main_v3 = shapeCast S1408x1024 (a3 m c) shapeCasts_S4x352x1024_S1408x1024 := by
  rfl

theorem tail_d (c : Dev nD) : Pipeline.afterTail₀ cfgs (dats m) 0 (V0 m) [hostOps1] c main_v5 = fun i : S4x352x1024.Idx => DELTA (a0 m c i) (a1 m c i) (a2 m c i) (a3 m c i) := by
  refine Eq.trans (b := shapeCast S4x352x1024 (Pipeline.withArrays (cfgs 0).spec c (V0 m c) (fun w => (dats m 0 c).arrAt w (cfgs 0).N) (Proc.devRef .tc main_v4_0)) shapeCasts_S1408x1024_S4x352x1024) rfl ?_
  rw [show Pipeline.withArrays (cfgs 0).spec c (V0 m c) (fun w => (dats m 0 c).arrAt w (cfgs 0).N) (Proc.devRef .tc main_v4_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v6 = fun i : S4x352x1024.Idx => NM (a1 m c i) (a2 m c i) := by
  refine Eq.trans (b := shapeCast S4x352x1024 (Pipeline.withArrays (cfgs 0).spec c (V0 m c) (fun w => (dats m 0 c).arrAt w (cfgs 0).N) (Proc.devRef .tc main_v4_1)) shapeCasts_S1408x1024_S4x352x1024) rfl ?_
  rw [show Pipeline.withArrays (cfgs 0).spec c (V0 m c) (fun w => (dats m 0 c).arrAt w (cfgs 0).N) (Proc.devRef .tc main_v4_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v7 = fun i : S4x352x1024.Idx => NV (a1 m c i) (a3 m c i) := by
  refine Eq.trans (b := shapeCast S4x352x1024 (Pipeline.withArrays (cfgs 0).spec c (V0 m c) (fun w => (dats m 0 c).arrAt w (cfgs 0).N) (Proc.devRef .tc main_v4_2)) shapeCasts_S1408x1024_S4x352x1024) rfl ?_
  rw [show Pipeline.withArrays (cfgs 0).spec c (V0 m c) (fun w => (dats m 0 c).arrAt w (cfgs 0).N) (Proc.devRef .tc main_v4_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v5) = (fun i : S4x352x1024.Idx => DELTA (a0 m c i) (a1 m c i) (a2 m c i) (a3 m c i))
      ∧ r.2.mem ((c.tc : Thread nD τ).loc main_v6) = (fun i : S4x352x1024.Idx => NM (a1 m c i) (a2 m c i))
      ∧ r.2.mem ((c.tc : Thread nD τ).loc main_v7) = (fun i : S4x352x1024.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v5 (Pipeline.mem_restRefs_of main_v5 (by decide) (by decide))).trans (tail_d m c),
      ((h.2 c).2 main_v6 (Pipeline.mem_restRefs_of main_v6 (by decide) (by decide))).trans (tail_m m c),
      ((h.2 c).2 main_v7 (Pipeline.mem_restRefs_of main_v7 (by decide) (by decide))).trans (tail_v m c), h.1 c⟩)
    (θ_run_and (unchanged m ρ) (run_main m ρ))

end Cert.AdamwDownKernelIdeal.AdamwDownValue

namespace Cert.AdamwDownReferenceIdeal.AdamwDownValue

open Cert.AdamwDownReferenceIdeal Cert.AdamwDownReferenceIdeal.Gen Cert.AdamwDownReferenceIdeal.Read
open Cert.AdamwKernelIdeal.AdamwValue (NM NV DELTA)

theorem ref_m (g m : FVec Ideal S4x352x1024 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x352x1024 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x352x1024 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwDownReferenceIdeal.AdamwDownValue

end
-- ==== Proof.AdamwGateValue.lean ====
/- The update of w_gate and of w_up, made on the transposed arrays. -/
module

public import proofs.«01_k».proof.Proof.AdamwShapes
public import proofs.«01_k».proof.Proof.Gen.AdamwGateKernelIdeal.Frame
public import proofs.«01_k».proof.Proof.Gen.AdamwGateReferenceIdeal.Run
public import proofs.«01_k».proof.Proof.Gen.AdamwGateReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwGateKernelIdeal.AdamwGateValue

open Cert.AdamwGateKernelIdeal Cert.AdamwGateKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x1024x352 .f32 := m ((c : Thread nD τ).loc main_arg0)
abbrev a1 (c : Dev nD) : FVec Ideal S4x1024x352 .f32 := m ((c : Thread nD τ).loc main_arg1)
abbrev a2 (c : Dev nD) : FVec Ideal S4x1024x352 .f32 := m ((c : Thread nD τ).loc main_arg2)
abbrev a3 (c : Dev nD) : FVec Ideal S4x1024x352 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S352x1024 .f32) (j : S352x1024.Idx) : (k0_pay2 (F := Ideal) g m j : EReal) = NM (g j) (m j) := by
  pointwise [k0_pay2, k0_pay1]
  rfl
theorem hv (g v : FVec Ideal S352x1024 .f32) (j : S352x1024.Idx) : (k0_pay3 (F := Ideal) g v j : EReal) = NV (g j) (v j) := by
  pointwise [k0_pay3, k0_pay1]
  rfl
theorem hd (g m v w : FVec Ideal S352x1024 .f32) (j : S352x1024.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S1408x1024.Idx => DELTA (V m c main_v4 i) (V m c main_v5 i) (V m c main_v6 i) (V m c main_v7 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S1408x1024.Idx => NM (V m c main_v5 i) (V m c main_v6 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S1408x1024.Idx => NV (V m c main_v5 i) (V m c main_v7 i) := by
  refine (dats m 0 c).arrAt_eq_of_covers 6 _ (by decide +kernel) fun t _ y => ?_
  blk_simp
  rw [after0_6]
  unfold out0_6
  frame_out
  rw [hv]
  blk_point [iblk, idx t]

theorem swap_swap (x : FVec Ideal S4x1024x352 .f32) : transpose S4x1024x352 [0, 2, 1] (transpose S4x352x1024 [0, 2, 1] x transposes_S4x1024x352_S4x352x1024_0_2_1) transposes_S4x352x1024_S4x1024x352_0_2_1 = x := by
  funext i
  idx_vars i
  pointwise

theorem v0 (c : Dev nD) : V m c main_v4 = shapeCast S1408x1024 (transpose S4x352x1024 [0, 2, 1] (a0 m c) transposes_S4x1024x352_S4x352x1024_0_2_1) shapeCasts_S4x352x1024_S1408x1024 := by
  rfl
theorem v1 (c : Dev nD) : V m c main_v5 = shapeCast S1408x1024 (transpose S4x352x1024 [0, 2, 1] (a1 m c) transposes_S4x1024x352_S4x352x1024_0_2_1) shapeCasts_S4x352x1024_S1408x1024 := by
  rfl
theorem v2 (c : Dev nD) : V m c main_v6 = shapeCast S1408x1024 (transpose S4x352x1024 [0, 2, 1] (a2 m c) transposes_S4x1024x352_S4x352x1024_0_2_1) shapeCasts_S4x352x1024_S1408x1024 := by
  rfl
theorem v3 (c : Dev nD) : V m c main_v7 = shapeCast S1408x1024 (transpose S4x352x1024 [0, 2, 1] (a3 m c) transposes_S4x1024x352_S4x352x1024_0_2_1) shapeCasts_S4x352x1024_S1408x1024 := by
  rfl

theorem tail_d (c : Dev nD) : Pipeline.afterTail₀ cfgs (dats m) 0 (V0 m) [hostOps1] c main_v12 = fun i : S4x1024x352.Idx => DELTA (a0 m c i) (a1 m c i) (a2 m c i) (a3 m c i) := by
  refine Eq.trans (b := transpose S4x1024x352 [0, 2, 1] (shapeCast S4x352x1024 (Pipeline.withArrays (cfgs 0).spec c (V0 m c) (fun w => (dats m 0 c).arrAt w (cfgs 0).N) (Proc.devRef .tc main_v8_0)) shapeCasts_S1408x1024_S4x352x1024) transposes_S4x352x1024_S4x1024x352_0_2_1) rfl ?_
  rw [show Pipeline.withArrays (cfgs 0).spec c (V0 m c) (fun w => (dats m 0 c).arrAt w (cfgs 0).N) (Proc.devRef .tc main_v8_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact (congrArg (transpose S4x1024x352 [0, 2, 1] · transposes_S4x352x1024_S4x1024x352_0_2_1) (Cert.Proof.Shapes.cast_back _ _ (fun w g m v => DELTA w g m v) (transpose S4x352x1024 [0, 2, 1] (a0 m c) transposes_S4x1024x352_S4x352x1024_0_2_1) (transpose S4x352x1024 [0, 2, 1] (a1 m c) transposes_S4x1024x352_S4x352x1024_0_2_1) (transpose S4x352x1024 [0, 2, 1] (a2 m c) transposes_S4x1024x352_S4x352x1024_0_2_1) (transpose S4x352x1024 [0, 2, 1] (a3 m c) transposes_S4x1024x352_S4x352x1024_0_2_1))).trans (Cert.Proof.Shapes.swap_back _ _ swap_swap (fun w g m v => DELTA w g m v) (a0 m c) (a1 m c) (a2 m c) (a3 m c))

theorem tail_m (c : Dev nD) : Pipeline.afterTail₀ cfgs (dats m) 0 (V0 m) [hostOps1] c main_v13 = fun i : S4x1024x352.Idx => NM (a1 m c i) (a2 m c i) := by
  refine Eq.trans (b := transpose S4x1024x352 [0, 2, 1] (shapeCast S4x352x1024 (Pipeline.withArrays (cfgs 0).spec c (V0 m c) (fun w => (dats m 0 c).arrAt w (cfgs 0).N) (Proc.devRef .tc main_v8_1)) shapeCasts_S1408x1024_S4x352x1024) transposes_S4x352x1024_S4x1024x352_0_2_1) rfl ?_
  rw [show Pipeline.withArrays (cfgs 0).spec c (V0 m c) (fun w => (dats m 0 c).arrAt w (cfgs 0).N) (Proc.devRef .tc main_v8_1) = _ from
    Pipeline.withArrays_arr spec0 (by decide) c (V0 m c) (fun w => (dats m 0 c).arrAt w (cfgs 0).N) 5]
  rw [show (dats m 0 c).arrAt 5 (cfgs 0).N = _ from final_m m c, v1, v2]
  exact (congrArg (transpose S4x1024x352 [0, 2, 1] · transposes_S4x352x1024_S4x1024x352_0_2_1) (Cert.Proof.Shapes.cast_back _ _ (fun _ g m _ => NM g m) (transpose S4x352x1024 [0, 2, 1] (a1 m c) transposes_S4x1024x352_S4x352x1024_0_2_1) (transpose S4x352x1024 [0, 2, 1] (a1 m c) transposes_S4x1024x352_S4x352x1024_0_2_1) (transpose S4x352x1024 [0, 2, 1] (a2 m c) transposes_S4x1024x352_S4x352x1024_0_2_1) (transpose S4x352x1024 [0, 2, 1] (a1 m c) transposes_S4x1024x352_S4x352x1024_0_2_1))).trans (Cert.Proof.Shapes.swap_back _ _ swap_swap (fun _ g m _ => NM g m) (a1 m c) (a1 m c) (a2 m c) (a1 m c))

theorem tail_v (c : Dev nD) : Pipeline.afterTail₀ cfgs (dats m) 0 (V0 m) [hostOps1] c main_v14 = fun i : S4x1024x352.Idx => NV (a1 m c i) (a3 m c i) := by
  refine Eq.trans (b := transpose S4x1024x352 [0, 2, 1] (shapeCast S4x352x1024 (Pipeline.withArrays (cfgs 0).spec c (V0 m c) (fun w => (dats m 0 c).arrAt w (cfgs 0).N) (Proc.devRef .tc main_v8_2)) shapeCasts_S1408x1024_S4x352x1024) transposes_S4x352x1024_S4x1024x352_0_2_1) rfl ?_
  rw [show Pipeline.withArrays (cfgs 0).spec c (V0 m c) (fun w => (dats m 0 c).arrAt w (cfgs 0).N) (Proc.devRef .tc main_v8_2) = _ from
    Pipeline.withArrays_arr spec0 (by decide) c (V0 m c) (fun w => (dats m 0 c).arrAt w (cfgs 0).N) 6]
  rw [show (dats m 0 c).arrAt 6 (cfgs 0).N = _ from final_v m c, v1, v3]
  exact (congrArg (transpose S4x1024x352 [0, 2, 1] · transposes_S4x352x1024_S4x1024x352_0_2_1) (Cert.Proof.Shapes.cast_back _ _ (fun _ g _ v => NV g v) (transpose S4x352x1024 [0, 2, 1] (a1 m c) transposes_S4x1024x352_S4x352x1024_0_2_1) (transpose S4x352x1024 [0, 2, 1] (a1 m c) transposes_S4x1024x352_S4x352x1024_0_2_1) (transpose S4x352x1024 [0, 2, 1] (a1 m c) transposes_S4x1024x352_S4x352x1024_0_2_1) (transpose S4x352x1024 [0, 2, 1] (a3 m c) transposes_S4x1024x352_S4x352x1024_0_2_1))).trans (Cert.Proof.Shapes.swap_back _ _ swap_swap (fun _ g _ v => NV g v) (a1 m c) (a1 m c) (a1 m c) (a3 m c))

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v12) = (fun i : S4x1024x352.Idx => DELTA (a0 m c i) (a1 m c i) (a2 m c i) (a3 m c i))
      ∧ r.2.mem ((c.tc : Thread nD τ).loc main_v13) = (fun i : S4x1024x352.Idx => NM (a1 m c i) (a2 m c i))
      ∧ r.2.mem ((c.tc : Thread nD τ).loc main_v14) = (fun i : S4x1024x352.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v12 (Pipeline.mem_restRefs_of main_v12 (by decide) (by decide))).trans (tail_d m c),
      ((h.2 c).2 main_v13 (Pipeline.mem_restRefs_of main_v13 (by decide) (by decide))).trans (tail_m m c),
      ((h.2 c).2 main_v14 (Pipeline.mem_restRefs_of main_v14 (by decide) (by decide))).trans (tail_v m c), h.1 c⟩)
    (θ_run_and (unchanged m ρ) (run_main m ρ))

end Cert.AdamwGateKernelIdeal.AdamwGateValue

namespace Cert.AdamwGateReferenceIdeal.AdamwGateValue

open Cert.AdamwGateReferenceIdeal Cert.AdamwGateReferenceIdeal.Gen Cert.AdamwGateReferenceIdeal.Read
open Cert.AdamwKernelIdeal.AdamwValue (NM NV DELTA)

theorem ref_m (g m : FVec Ideal S4x1024x352 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x1024x352 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x1024x352 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwGateReferenceIdeal.AdamwGateValue

end
-- ==== Proof.AdamwNormValue.lean ====
/- The update of the norms' weights, in one block. -/
module

public import proofs.«01_k».proof.Proof.AdamwShapes
public import proofs.«01_k».proof.Proof.Gen.AdamwNormKernelIdeal.Frame
public import proofs.«01_k».proof.Proof.Gen.AdamwNormReferenceIdeal.Run
public import proofs.«01_k».proof.Proof.Gen.AdamwNormReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwNormKernelIdeal.AdamwNormValue

open Cert.AdamwNormKernelIdeal Cert.AdamwNormKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x1024 .f32 := m ((c : Thread nD τ).loc main_arg0)
abbrev a1 (c : Dev nD) : FVec Ideal S4x1024 .f32 := m ((c : Thread nD τ).loc main_arg1)
abbrev a2 (c : Dev nD) : FVec Ideal S4x1024 .f32 := m ((c : Thread nD τ).loc main_arg2)
abbrev a3 (c : Dev nD) : FVec Ideal S4x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S4x1024 .f32) (j : S4x1024.Idx) : (k0_pay1 (F := Ideal) g m j : EReal) = NM (g j) (m j) := by
  pointwise [k0_pay1]
  rfl
theorem hv (g v : FVec Ideal S4x1024 .f32) (j : S4x1024.Idx) : (k0_pay2 (F := Ideal) g v j : EReal) = NV (g j) (v j) := by
  pointwise [k0_pay2]
  rfl
theorem hd (g m v w : FVec Ideal S4x1024 .f32) (j : S4x1024.Idx) : (k0_pay3 (F := Ideal) g m v w j : EReal) = DELTA (w j) (g j) (m j) (v j) := by
  unfold DELTA
  rw [← hm, ← hv]
  unfold k0_pay3
  generalize k0_pay1 (F := Ideal) g m = a, k0_pay2 (F := Ideal) g v = b
  pointwise

theorem final_d (c : Dev nD) : (dats m 0 c).arrAt 4 (cfgs 0).N = fun i : S4x1024.Idx => DELTA (V m c main_arg0 i) (V m c main_arg1 i) (V m c main_arg2 i) (V m c main_arg3 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S4x1024.Idx => NM (V m c main_arg1 i) (V m c main_arg2 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S4x1024.Idx => NV (V m c main_arg1 i) (V m c main_arg3 i) := by
  refine (dats m 0 c).arrAt_eq_of_covers 6 _ (by decide +kernel) fun t _ y => ?_
  blk_simp
  rw [after0_6]
  unfold out0_6
  frame_out
  rw [hv]
  blk_point [iblk, idx t]

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v0_0) = (fun i : S4x1024.Idx => DELTA (a0 m c i) (a1 m c i) (a2 m c i) (a3 m c i))
      ∧ r.2.mem ((c.tc : Thread nD τ).loc main_v0_1) = (fun i : S4x1024.Idx => NM (a1 m c i) (a2 m c i))
      ∧ r.2.mem ((c.tc : Thread nD τ).loc main_v0_2) = (fun i : S4x1024.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 4).trans (final_d m c),
      ((h.2 c).1 5).trans (final_m m c),
      ((h.2 c).1 6).trans (final_v m c), h.1 c⟩)
    (θ_run_and (unchanged m ρ) (run_main m ρ))

end Cert.AdamwNormKernelIdeal.AdamwNormValue

namespace Cert.AdamwNormReferenceIdeal.AdamwNormValue

open Cert.AdamwNormReferenceIdeal Cert.AdamwNormReferenceIdeal.Gen Cert.AdamwNormReferenceIdeal.Read
open Cert.AdamwKernelIdeal.AdamwValue (NM NV DELTA)

theorem ref_m (g m : FVec Ideal S4x1024 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x1024 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x1024 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwNormReferenceIdeal.AdamwNormValue

end
-- ==== Proof.AdamwWidthValue.lean ====
/- The update of conv_b and of ret_gn_w, in one block. -/
module

public import proofs.«01_k».proof.Proof.AdamwShapes
public import proofs.«01_k».proof.Proof.Gen.AdamwWidthKernelIdeal.Frame
public import proofs.«01_k».proof.Proof.Gen.AdamwWidthReferenceIdeal.Run
public import proofs.«01_k».proof.Proof.Gen.AdamwWidthReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwWidthKernelIdeal.AdamwWidthValue

open Cert.AdamwWidthKernelIdeal Cert.AdamwWidthKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x384 .f32 := m ((c : Thread nD τ).loc main_arg0)
abbrev a1 (c : Dev nD) : FVec Ideal S4x384 .f32 := m ((c : Thread nD τ).loc main_arg1)
abbrev a2 (c : Dev nD) : FVec Ideal S4x384 .f32 := m ((c : Thread nD τ).loc main_arg2)
abbrev a3 (c : Dev nD) : FVec Ideal S4x384 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S4x384 .f32) (j : S4x384.Idx) : (k0_pay1 (F := Ideal) g m j : EReal) = NM (g j) (m j) := by
  pointwise [k0_pay1]
  rfl
theorem hv (g v : FVec Ideal S4x384 .f32) (j : S4x384.Idx) : (k0_pay2 (F := Ideal) g v j : EReal) = NV (g j) (v j) := by
  pointwise [k0_pay2]
  rfl
theorem hd (g m v w : FVec Ideal S4x384 .f32) (j : S4x384.Idx) : (k0_pay3 (F := Ideal) g m v w j : EReal) = DELTA (w j) (g j) (m j) (v j) := by
  unfold DELTA
  rw [← hm, ← hv]
  unfold k0_pay3
  generalize k0_pay1 (F := Ideal) g m = a, k0_pay2 (F := Ideal) g v = b
  pointwise

theorem final_d (c : Dev nD) : (dats m 0 c).arrAt 4 (cfgs 0).N = fun i : S4x384.Idx => DELTA (V m c main_arg0 i) (V m c main_arg1 i) (V m c main_arg2 i) (V m c main_arg3 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S4x384.Idx => NM (V m c main_arg1 i) (V m c main_arg2 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S4x384.Idx => NV (V m c main_arg1 i) (V m c main_arg3 i) := by
  refine (dats m 0 c).arrAt_eq_of_covers 6 _ (by decide +kernel) fun t _ y => ?_
  blk_simp
  rw [after0_6]
  unfold out0_6
  frame_out
  rw [hv]
  blk_point [iblk, idx t]

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v0_0) = (fun i : S4x384.Idx => DELTA (a0 m c i) (a1 m c i) (a2 m c i) (a3 m c i))
      ∧ r.2.mem ((c.tc : Thread nD τ).loc main_v0_1) = (fun i : S4x384.Idx => NM (a1 m c i) (a2 m c i))
      ∧ r.2.mem ((c.tc : Thread nD τ).loc main_v0_2) = (fun i : S4x384.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 4).trans (final_d m c),
      ((h.2 c).1 5).trans (final_m m c),
      ((h.2 c).1 6).trans (final_v m c), h.1 c⟩)
    (θ_run_and (unchanged m ρ) (run_main m ρ))

end Cert.AdamwWidthKernelIdeal.AdamwWidthValue

namespace Cert.AdamwWidthReferenceIdeal.AdamwWidthValue

open Cert.AdamwWidthReferenceIdeal Cert.AdamwWidthReferenceIdeal.Gen Cert.AdamwWidthReferenceIdeal.Read
open Cert.AdamwKernelIdeal.AdamwValue (NM NV DELTA)

theorem ref_m (g m : FVec Ideal S4x384 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x384 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x384 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwWidthReferenceIdeal.AdamwWidthValue

end
-- ==== Proof.AdamwBlocksValue.lean ====
/- The update of the recurrence's gate blocks, in one block. -/
module

public import proofs.«01_k».proof.Proof.AdamwShapes
public import proofs.«01_k».proof.Proof.Gen.AdamwBlocksKernelIdeal.Frame
public import proofs.«01_k».proof.Proof.Gen.AdamwBlocksReferenceIdeal.Run
public import proofs.«01_k».proof.Proof.Gen.AdamwBlocksReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwBlocksKernelIdeal.AdamwBlocksValue

open Cert.AdamwBlocksKernelIdeal Cert.AdamwBlocksKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x2x6x64x64 .f32 := m ((c : Thread nD τ).loc main_arg0)
abbrev a1 (c : Dev nD) : FVec Ideal S4x2x6x64x64 .f32 := m ((c : Thread nD τ).loc main_arg1)
abbrev a2 (c : Dev nD) : FVec Ideal S4x2x6x64x64 .f32 := m ((c : Thread nD τ).loc main_arg2)
abbrev a3 (c : Dev nD) : FVec Ideal S4x2x6x64x64 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S3072x64 .f32) (j : S3072x64.Idx) : (k0_pay2 (F := Ideal) g m j : EReal) = NM (g j) (m j) := by
  pointwise [k0_pay2, k0_pay1]
  rfl
theorem hv (g v : FVec Ideal S3072x64 .f32) (j : S3072x64.Idx) : (k0_pay3 (F := Ideal) g v j : EReal) = NV (g j) (v j) := by
  pointwise [k0_pay3, k0_pay1]
  rfl
theorem hd (g m v w : FVec Ideal S3072x64 .f32) (j : S3072x64.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S3072x64.Idx => DELTA (V m c main_v1 i) (V m c main_v2 i) (V m c main_v3 i) (V m c main_v4 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S3072x64.Idx => NM (V m c main_v2 i) (V m c main_v3 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S3072x64.Idx => NV (V m c main_v2 i) (V m c main_v4 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v1 = shapeCast S3072x64 (a0 m c) shapeCasts_S4x2x6x64x64_S3072x64 := by
  rfl
theorem v1 (c : Dev nD) : V m c main_v2 = shapeCast S3072x64 (a1 m c) shapeCasts_S4x2x6x64x64_S3072x64 := by
  rfl
theorem v2 (c : Dev nD) : V m c main_v3 = shapeCast S3072x64 (a2 m c) shapeCasts_S4x2x6x64x64_S3072x64 := by
  rfl
theorem v3 (c : Dev nD) : V m c main_v4 = shapeCast S3072x64 (a3 m c) shapeCasts_S4x2x6x64x64_S3072x64 := by
  rfl

theorem tail_d (c : Dev nD) : Pipeline.afterTail₀ cfgs (dats m) 0 (V0 m) [hostOps1] c main_v6 = fun i : S4x2x6x64x64.Idx => DELTA (a0 m c i) (a1 m c i) (a2 m c i) (a3 m c i) := by
  refine Eq.trans (b := shapeCast S4x2x6x64x64 (Pipeline.withArrays (cfgs 0).spec c (V0 m c) (fun w => (dats m 0 c).arrAt w (cfgs 0).N) (Proc.devRef .tc main_v5_0)) shapeCasts_S3072x64_S4x2x6x64x64) rfl ?_
  rw [show Pipeline.withArrays (cfgs 0).spec c (V0 m c) (fun w => (dats m 0 c).arrAt w (cfgs 0).N) (Proc.devRef .tc main_v5_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v7 = fun i : S4x2x6x64x64.Idx => NM (a1 m c i) (a2 m c i) := by
  refine Eq.trans (b := shapeCast S4x2x6x64x64 (Pipeline.withArrays (cfgs 0).spec c (V0 m c) (fun w => (dats m 0 c).arrAt w (cfgs 0).N) (Proc.devRef .tc main_v5_1)) shapeCasts_S3072x64_S4x2x6x64x64) rfl ?_
  rw [show Pipeline.withArrays (cfgs 0).spec c (V0 m c) (fun w => (dats m 0 c).arrAt w (cfgs 0).N) (Proc.devRef .tc main_v5_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v8 = fun i : S4x2x6x64x64.Idx => NV (a1 m c i) (a3 m c i) := by
  refine Eq.trans (b := shapeCast S4x2x6x64x64 (Pipeline.withArrays (cfgs 0).spec c (V0 m c) (fun w => (dats m 0 c).arrAt w (cfgs 0).N) (Proc.devRef .tc main_v5_2)) shapeCasts_S3072x64_S4x2x6x64x64) rfl ?_
  rw [show Pipeline.withArrays (cfgs 0).spec c (V0 m c) (fun w => (dats m 0 c).arrAt w (cfgs 0).N) (Proc.devRef .tc main_v5_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v6) = (fun i : S4x2x6x64x64.Idx => DELTA (a0 m c i) (a1 m c i) (a2 m c i) (a3 m c i))
      ∧ r.2.mem ((c.tc : Thread nD τ).loc main_v7) = (fun i : S4x2x6x64x64.Idx => NM (a1 m c i) (a2 m c i))
      ∧ r.2.mem ((c.tc : Thread nD τ).loc main_v8) = (fun i : S4x2x6x64x64.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v6 (Pipeline.mem_restRefs_of main_v6 (by decide) (by decide))).trans (tail_d m c),
      ((h.2 c).2 main_v7 (Pipeline.mem_restRefs_of main_v7 (by decide) (by decide))).trans (tail_m m c),
      ((h.2 c).2 main_v8 (Pipeline.mem_restRefs_of main_v8 (by decide) (by decide))).trans (tail_v m c), h.1 c⟩)
    (θ_run_and (unchanged m ρ) (run_main m ρ))

end Cert.AdamwBlocksKernelIdeal.AdamwBlocksValue

namespace Cert.AdamwBlocksReferenceIdeal.AdamwBlocksValue

open Cert.AdamwBlocksReferenceIdeal Cert.AdamwBlocksReferenceIdeal.Gen Cert.AdamwBlocksReferenceIdeal.Read
open Cert.AdamwKernelIdeal.AdamwValue (NM NV DELTA)

theorem ref_m (g m : FVec Ideal S4x2x6x64x64 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x2x6x64x64 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x2x6x64x64 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwBlocksReferenceIdeal.AdamwBlocksValue

end
-- ==== Proof.AdamwBiasValue.lean ====
/- The update of the recurrence's biases and decays, in one block. -/
module

public import proofs.«01_k».proof.Proof.AdamwShapes
public import proofs.«01_k».proof.Proof.Gen.AdamwBiasKernelIdeal.Frame
public import proofs.«01_k».proof.Proof.Gen.AdamwBiasReferenceIdeal.Run
public import proofs.«01_k».proof.Proof.Gen.AdamwBiasReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwBiasKernelIdeal.AdamwBiasValue

open Cert.AdamwBiasKernelIdeal Cert.AdamwBiasKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x2x48 .f32 := m ((c : Thread nD τ).loc main_arg0)
abbrev a1 (c : Dev nD) : FVec Ideal S4x2x48 .f32 := m ((c : Thread nD τ).loc main_arg1)
abbrev a2 (c : Dev nD) : FVec Ideal S4x2x48 .f32 := m ((c : Thread nD τ).loc main_arg2)
abbrev a3 (c : Dev nD) : FVec Ideal S4x2x48 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S8x48 .f32) (j : S8x48.Idx) : (k0_pay2 (F := Ideal) g m j : EReal) = NM (g j) (m j) := by
  pointwise [k0_pay2, k0_pay1]
  rfl
theorem hv (g v : FVec Ideal S8x48 .f32) (j : S8x48.Idx) : (k0_pay3 (F := Ideal) g v j : EReal) = NV (g j) (v j) := by
  pointwise [k0_pay3, k0_pay1]
  rfl
theorem hd (g m v w : FVec Ideal S8x48 .f32) (j : S8x48.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S8x48.Idx => DELTA (V m c main_v1 i) (V m c main_v2 i) (V m c main_v3 i) (V m c main_v4 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S8x48.Idx => NM (V m c main_v2 i) (V m c main_v3 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S8x48.Idx => NV (V m c main_v2 i) (V m c main_v4 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v1 = shapeCast S8x48 (a0 m c) shapeCasts_S4x2x48_S8x48 := by
  rfl
theorem v1 (c : Dev nD) : V m c main_v2 = shapeCast S8x48 (a1 m c) shapeCasts_S4x2x48_S8x48 := by
  rfl
theorem v2 (c : Dev nD) : V m c main_v3 = shapeCast S8x48 (a2 m c) shapeCasts_S4x2x48_S8x48 := by
  rfl
theorem v3 (c : Dev nD) : V m c main_v4 = shapeCast S8x48 (a3 m c) shapeCasts_S4x2x48_S8x48 := by
  rfl

theorem tail_d (c : Dev nD) : Pipeline.afterTail₀ cfgs (dats m) 0 (V0 m) [hostOps1] c main_v6 = fun i : S4x2x48.Idx => DELTA (a0 m c i) (a1 m c i) (a2 m c i) (a3 m c i) := by
  refine Eq.trans (b := shapeCast S4x2x48 (Pipeline.withArrays (cfgs 0).spec c (V0 m c) (fun w => (dats m 0 c).arrAt w (cfgs 0).N) (Proc.devRef .tc main_v5_0)) shapeCasts_S8x48_S4x2x48) rfl ?_
  rw [show Pipeline.withArrays (cfgs 0).spec c (V0 m c) (fun w => (dats m 0 c).arrAt w (cfgs 0).N) (Proc.devRef .tc main_v5_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v7 = fun i : S4x2x48.Idx => NM (a1 m c i) (a2 m c i) := by
  refine Eq.trans (b := shapeCast S4x2x48 (Pipeline.withArrays (cfgs 0).spec c (V0 m c) (fun w => (dats m 0 c).arrAt w (cfgs 0).N) (Proc.devRef .tc main_v5_1)) shapeCasts_S8x48_S4x2x48) rfl ?_
  rw [show Pipeline.withArrays (cfgs 0).spec c (V0 m c) (fun w => (dats m 0 c).arrAt w (cfgs 0).N) (Proc.devRef .tc main_v5_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v8 = fun i : S4x2x48.Idx => NV (a1 m c i) (a3 m c i) := by
  refine Eq.trans (b := shapeCast S4x2x48 (Pipeline.withArrays (cfgs 0).spec c (V0 m c) (fun w => (dats m 0 c).arrAt w (cfgs 0).N) (Proc.devRef .tc main_v5_2)) shapeCasts_S8x48_S4x2x48) rfl ?_
  rw [show Pipeline.withArrays (cfgs 0).spec c (V0 m c) (fun w => (dats m 0 c).arrAt w (cfgs 0).N) (Proc.devRef .tc main_v5_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v6) = (fun i : S4x2x48.Idx => DELTA (a0 m c i) (a1 m c i) (a2 m c i) (a3 m c i))
      ∧ r.2.mem ((c.tc : Thread nD τ).loc main_v7) = (fun i : S4x2x48.Idx => NM (a1 m c i) (a2 m c i))
      ∧ r.2.mem ((c.tc : Thread nD τ).loc main_v8) = (fun i : S4x2x48.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v6 (Pipeline.mem_restRefs_of main_v6 (by decide) (by decide))).trans (tail_d m c),
      ((h.2 c).2 main_v7 (Pipeline.mem_restRefs_of main_v7 (by decide) (by decide))).trans (tail_m m c),
      ((h.2 c).2 main_v8 (Pipeline.mem_restRefs_of main_v8 (by decide) (by decide))).trans (tail_v m c), h.1 c⟩)
    (θ_run_and (unchanged m ρ) (run_main m ρ))

end Cert.AdamwBiasKernelIdeal.AdamwBiasValue

namespace Cert.AdamwBiasReferenceIdeal.AdamwBiasValue

open Cert.AdamwBiasReferenceIdeal Cert.AdamwBiasReferenceIdeal.Gen Cert.AdamwBiasReferenceIdeal.Read
open Cert.AdamwKernelIdeal.AdamwValue (NM NV DELTA)

theorem ref_m (g m : FVec Ideal S4x2x48 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x2x48 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x2x48 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwBiasReferenceIdeal.AdamwBiasValue

end
-- ==== Proof.AdamwConvValue.lean ====
/- The update of conv_w, in one block. -/
module

public import proofs.«01_k».proof.Proof.AdamwShapes
public import proofs.«01_k».proof.Proof.Gen.AdamwConvKernelIdeal.Frame
public import proofs.«01_k».proof.Proof.Gen.AdamwConvReferenceIdeal.Run
public import proofs.«01_k».proof.Proof.Gen.AdamwConvReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwConvKernelIdeal.AdamwConvValue

open Cert.AdamwConvKernelIdeal Cert.AdamwConvKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x4x48 .f32 := m ((c : Thread nD τ).loc main_arg0)
abbrev a1 (c : Dev nD) : FVec Ideal S4x4x48 .f32 := m ((c : Thread nD τ).loc main_arg1)
abbrev a2 (c : Dev nD) : FVec Ideal S4x4x48 .f32 := m ((c : Thread nD τ).loc main_arg2)
abbrev a3 (c : Dev nD) : FVec Ideal S4x4x48 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S16x48 .f32) (j : S16x48.Idx) : (k0_pay2 (F := Ideal) g m j : EReal) = NM (g j) (m j) := by
  pointwise [k0_pay2, k0_pay1]
  rfl
theorem hv (g v : FVec Ideal S16x48 .f32) (j : S16x48.Idx) : (k0_pay3 (F := Ideal) g v j : EReal) = NV (g j) (v j) := by
  pointwise [k0_pay3, k0_pay1]
  rfl
theorem hd (g m v w : FVec Ideal S16x48 .f32) (j : S16x48.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S16x48.Idx => DELTA (V m c main_v1 i) (V m c main_v2 i) (V m c main_v3 i) (V m c main_v4 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S16x48.Idx => NM (V m c main_v2 i) (V m c main_v3 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S16x48.Idx => NV (V m c main_v2 i) (V m c main_v4 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v1 = shapeCast S16x48 (a0 m c) shapeCasts_S4x4x48_S16x48 := by
  rfl
theorem v1 (c : Dev nD) : V m c main_v2 = shapeCast S16x48 (a1 m c) shapeCasts_S4x4x48_S16x48 := by
  rfl
theorem v2 (c : Dev nD) : V m c main_v3 = shapeCast S16x48 (a2 m c) shapeCasts_S4x4x48_S16x48 := by
  rfl
theorem v3 (c : Dev nD) : V m c main_v4 = shapeCast S16x48 (a3 m c) shapeCasts_S4x4x48_S16x48 := by
  rfl

theorem tail_d (c : Dev nD) : Pipeline.afterTail₀ cfgs (dats m) 0 (V0 m) [hostOps1] c main_v6 = fun i : S4x4x48.Idx => DELTA (a0 m c i) (a1 m c i) (a2 m c i) (a3 m c i) := by
  refine Eq.trans (b := shapeCast S4x4x48 (Pipeline.withArrays (cfgs 0).spec c (V0 m c) (fun w => (dats m 0 c).arrAt w (cfgs 0).N) (Proc.devRef .tc main_v5_0)) shapeCasts_S16x48_S4x4x48) rfl ?_
  rw [show Pipeline.withArrays (cfgs 0).spec c (V0 m c) (fun w => (dats m 0 c).arrAt w (cfgs 0).N) (Proc.devRef .tc main_v5_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v7 = fun i : S4x4x48.Idx => NM (a1 m c i) (a2 m c i) := by
  refine Eq.trans (b := shapeCast S4x4x48 (Pipeline.withArrays (cfgs 0).spec c (V0 m c) (fun w => (dats m 0 c).arrAt w (cfgs 0).N) (Proc.devRef .tc main_v5_1)) shapeCasts_S16x48_S4x4x48) rfl ?_
  rw [show Pipeline.withArrays (cfgs 0).spec c (V0 m c) (fun w => (dats m 0 c).arrAt w (cfgs 0).N) (Proc.devRef .tc main_v5_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v8 = fun i : S4x4x48.Idx => NV (a1 m c i) (a3 m c i) := by
  refine Eq.trans (b := shapeCast S4x4x48 (Pipeline.withArrays (cfgs 0).spec c (V0 m c) (fun w => (dats m 0 c).arrAt w (cfgs 0).N) (Proc.devRef .tc main_v5_2)) shapeCasts_S16x48_S4x4x48) rfl ?_
  rw [show Pipeline.withArrays (cfgs 0).spec c (V0 m c) (fun w => (dats m 0 c).arrAt w (cfgs 0).N) (Proc.devRef .tc main_v5_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v6) = (fun i : S4x4x48.Idx => DELTA (a0 m c i) (a1 m c i) (a2 m c i) (a3 m c i))
      ∧ r.2.mem ((c.tc : Thread nD τ).loc main_v7) = (fun i : S4x4x48.Idx => NM (a1 m c i) (a2 m c i))
      ∧ r.2.mem ((c.tc : Thread nD τ).loc main_v8) = (fun i : S4x4x48.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v6 (Pipeline.mem_restRefs_of main_v6 (by decide) (by decide))).trans (tail_d m c),
      ((h.2 c).2 main_v7 (Pipeline.mem_restRefs_of main_v7 (by decide) (by decide))).trans (tail_m m c),
      ((h.2 c).2 main_v8 (Pipeline.mem_restRefs_of main_v8 (by decide) (by decide))).trans (tail_v m c), h.1 c⟩)
    (θ_run_and (unchanged m ρ) (run_main m ρ))

end Cert.AdamwConvKernelIdeal.AdamwConvValue

namespace Cert.AdamwConvReferenceIdeal.AdamwConvValue

open Cert.AdamwConvReferenceIdeal Cert.AdamwConvReferenceIdeal.Gen Cert.AdamwConvReferenceIdeal.Read
open Cert.AdamwKernelIdeal.AdamwValue (NM NV DELTA)

theorem ref_m (g m : FVec Ideal S4x4x48 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x4x48 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x4x48 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwConvReferenceIdeal.AdamwConvValue

end
-- ==== Proof.AdamwTableValue.lean ====
/- The update of na_rpb, in one block. -/
module

public import proofs.«01_k».proof.Proof.AdamwShapes
public import proofs.«01_k».proof.Proof.Gen.AdamwTableKernelIdeal.Frame
public import proofs.«01_k».proof.Proof.Gen.AdamwTableReferenceIdeal.Run
public import proofs.«01_k».proof.Proof.Gen.AdamwTableReferenceIdeal.Read
public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.AdamwTableKernelIdeal.AdamwTableValue

open Cert.AdamwTableKernelIdeal Cert.AdamwTableKernelIdeal.Gen
open Cert.AdamwKernelIdeal.AdamwValue (NM NV DELTA)

variable (m : (ℓ : Loc nD τ sig) → Buf (Elt Ideal) ℓ) (ρ : Dev nD → PrngReg)

abbrev a0 (c : Dev nD) : FVec Ideal S4x4x15x31 .f32 := m ((c : Thread nD τ).loc main_arg0)
abbrev a1 (c : Dev nD) : FVec Ideal S4x4x15x31 .f32 := m ((c : Thread nD τ).loc main_arg1)
abbrev a2 (c : Dev nD) : FVec Ideal S4x4x15x31 .f32 := m ((c : Thread nD τ).loc main_arg2)
abbrev a3 (c : Dev nD) : FVec Ideal S4x4x15x31 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem hm (g m : FVec Ideal S240x31 .f32) (j : S240x31.Idx) : (k0_pay2 (F := Ideal) g m j : EReal) = NM (g j) (m j) := by
  pointwise [k0_pay2, k0_pay1]
  rfl
theorem hv (g v : FVec Ideal S240x31 .f32) (j : S240x31.Idx) : (k0_pay3 (F := Ideal) g v j : EReal) = NV (g j) (v j) := by
  pointwise [k0_pay3, k0_pay1]
  rfl
theorem hd (g m v w : FVec Ideal S240x31 .f32) (j : S240x31.Idx) : (k0_pay4 (F := Ideal) g m v w j : EReal) = DELTA (w j) (g j) (m j) (v j) := by
  unfold DELTA
  rw [← hm, ← hv]
  unfold k0_pay4
  generalize k0_pay2 (F := Ideal) g m = a, k0_pay3 (F := Ideal) g v = b
  pointwise

theorem final_d (c : Dev nD) : (dats m 0 c).arrAt 4 (cfgs 0).N = fun i : S240x31.Idx => DELTA (V m c main_v1 i) (V m c main_v2 i) (V m c main_v3 i) (V m c main_v4 i) := by
  refine (dats m 0 c).arrAt_eq_of_covers 4 _ (by decide +kernel) fun t _ y => ?_
  blk_simp
  rw [after0_4]
  unfold out0_4
  frame_out
  rw [hd]
  blk_point [iblk, idx t]

theorem final_m (c : Dev nD) : (dats m 0 c).arrAt 5 (cfgs 0).N = fun i : S240x31.Idx => NM (V m c main_v2 i) (V m c main_v3 i) := by
  refine (dats m 0 c).arrAt_eq_of_covers 5 _ (by decide +kernel) fun t _ y => ?_
  blk_simp
  rw [after0_5]
  unfold out0_5
  frame_out
  rw [hm]
  blk_point [iblk, idx t]

theorem final_v (c : Dev nD) : (dats m 0 c).arrAt 6 (cfgs 0).N = fun i : S240x31.Idx => NV (V m c main_v2 i) (V m c main_v4 i) := by
  refine (dats m 0 c).arrAt_eq_of_covers 6 _ (by decide +kernel) fun t _ y => ?_
  blk_simp
  rw [after0_6]
  unfold out0_6
  frame_out
  rw [hv]
  blk_point [iblk, idx t]

theorem v0 (c : Dev nD) : V m c main_v1 = shapeCast S240x31 (a0 m c) shapeCasts_S4x4x15x31_S240x31 := by
  rfl
theorem v1 (c : Dev nD) : V m c main_v2 = shapeCast S240x31 (a1 m c) shapeCasts_S4x4x15x31_S240x31 := by
  rfl
theorem v2 (c : Dev nD) : V m c main_v3 = shapeCast S240x31 (a2 m c) shapeCasts_S4x4x15x31_S240x31 := by
  rfl
theorem v3 (c : Dev nD) : V m c main_v4 = shapeCast S240x31 (a3 m c) shapeCasts_S4x4x15x31_S240x31 := by
  rfl

theorem tail_d (c : Dev nD) : Pipeline.afterTail₀ cfgs (dats m) 0 (V0 m) [hostOps1] c main_v6 = fun i : S4x4x15x31.Idx => DELTA (a0 m c i) (a1 m c i) (a2 m c i) (a3 m c i) := by
  refine Eq.trans (b := shapeCast S4x4x15x31 (Pipeline.withArrays (cfgs 0).spec c (V0 m c) (fun w => (dats m 0 c).arrAt w (cfgs 0).N) (Proc.devRef .tc main_v5_0)) shapeCasts_S240x31_S4x4x15x31) rfl ?_
  rw [show Pipeline.withArrays (cfgs 0).spec c (V0 m c) (fun w => (dats m 0 c).arrAt w (cfgs 0).N) (Proc.devRef .tc main_v5_0) = _ from
    Pipeline.withArrays_arr spec0 (by decide) c (V0 m c) (fun w => (dats m 0 c).arrAt w (cfgs 0).N) 4]
  rw [show (dats m 0 c).arrAt 4 (cfgs 0).N = _ from final_d m c, v0, v1, v2, v3]
  exact Cert.Proof.Shapes.cast_back _ _ (fun w g m v => DELTA w g m v) (a0 m c) (a1 m c) (a2 m c) (a3 m c)

theorem tail_m (c : Dev nD) : Pipeline.afterTail₀ cfgs (dats m) 0 (V0 m) [hostOps1] c main_v7 = fun i : S4x4x15x31.Idx => NM (a1 m c i) (a2 m c i) := by
  refine Eq.trans (b := shapeCast S4x4x15x31 (Pipeline.withArrays (cfgs 0).spec c (V0 m c) (fun w => (dats m 0 c).arrAt w (cfgs 0).N) (Proc.devRef .tc main_v5_1)) shapeCasts_S240x31_S4x4x15x31) rfl ?_
  rw [show Pipeline.withArrays (cfgs 0).spec c (V0 m c) (fun w => (dats m 0 c).arrAt w (cfgs 0).N) (Proc.devRef .tc main_v5_1) = _ from
    Pipeline.withArrays_arr spec0 (by decide) c (V0 m c) (fun w => (dats m 0 c).arrAt w (cfgs 0).N) 5]
  rw [show (dats m 0 c).arrAt 5 (cfgs 0).N = _ from final_m m c, v1, v2]
  exact Cert.Proof.Shapes.cast_back _ _ (fun _ g m _ => NM g m) (a1 m c) (a1 m c) (a2 m c) (a1 m c)

theorem tail_v (c : Dev nD) : Pipeline.afterTail₀ cfgs (dats m) 0 (V0 m) [hostOps1] c main_v8 = fun i : S4x4x15x31.Idx => NV (a1 m c i) (a3 m c i) := by
  refine Eq.trans (b := shapeCast S4x4x15x31 (Pipeline.withArrays (cfgs 0).spec c (V0 m c) (fun w => (dats m 0 c).arrAt w (cfgs 0).N) (Proc.devRef .tc main_v5_2)) shapeCasts_S240x31_S4x4x15x31) rfl ?_
  rw [show Pipeline.withArrays (cfgs 0).spec c (V0 m c) (fun w => (dats m 0 c).arrAt w (cfgs 0).N) (Proc.devRef .tc main_v5_2) = _ from
    Pipeline.withArrays_arr spec0 (by decide) c (V0 m c) (fun w => (dats m 0 c).arrAt w (cfgs 0).N) 6]
  rw [show (dats m 0 c).arrAt 6 (cfgs 0).N = _ from final_v m c, v1, v3]
  exact Cert.Proof.Shapes.cast_back _ _ (fun _ g _ v => NV g v) (a1 m c) (a1 m c) (a1 m c) (a3 m c)

/-- The call's run: the change of the weight, the two moments, and the arguments as they were. -/
theorem run : θ_run defs (onTc (τ := τ) (main (F := Ideal))) ⟨m, fun _ => 0, ρ⟩ (fun r => ∀ c : Dev nD,
      r.2.mem ((c.tc : Thread nD τ).loc main_v6) = (fun i : S4x4x15x31.Idx => DELTA (a0 m c i) (a1 m c i) (a2 m c i) (a3 m c i))
      ∧ r.2.mem ((c.tc : Thread nD τ).loc main_v7) = (fun i : S4x4x15x31.Idx => NM (a1 m c i) (a2 m c i))
      ∧ r.2.mem ((c.tc : Thread nD τ).loc main_v8) = (fun i : S4x4x15x31.Idx => NV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v6 (Pipeline.mem_restRefs_of main_v6 (by decide) (by decide))).trans (tail_d m c),
      ((h.2 c).2 main_v7 (Pipeline.mem_restRefs_of main_v7 (by decide) (by decide))).trans (tail_m m c),
      ((h.2 c).2 main_v8 (Pipeline.mem_restRefs_of main_v8 (by decide) (by decide))).trans (tail_v m c), h.1 c⟩)
    (θ_run_and (unchanged m ρ) (run_main m ρ))

end Cert.AdamwTableKernelIdeal.AdamwTableValue

namespace Cert.AdamwTableReferenceIdeal.AdamwTableValue

open Cert.AdamwTableReferenceIdeal Cert.AdamwTableReferenceIdeal.Gen Cert.AdamwTableReferenceIdeal.Read
open Cert.AdamwKernelIdeal.AdamwValue (NM NV DELTA)

theorem ref_m (g m : FVec Ideal S4x4x15x31 .f32) : val_main_v4 (F := Ideal) g m = fun i => NM (g i) (m i) := by
  funext i
  simp only [val_main_v4_apply, val_main_v3_apply, val_main_v2_apply, val_main_v1_apply, val_main_v0_apply, val_main_cst_apply, val_main_cst_0_apply,
    Ideal.mulf_def, Ideal.addf_def, Ideal.ofBits_def]
  rfl
theorem ref_v (g v : FVec Ideal S4x4x15x31 .f32) : val_main_v10 (F := Ideal) g v = fun i => NV (g i) (v i) := by
  funext i
  simp only [val_main_v10_apply, val_main_v9_apply, val_main_v8_apply, val_main_v7_apply, val_main_v6_apply, val_main_v5_apply, val_main_cst_1_apply, val_main_cst_2_apply,
    Ideal.mulf_def, Ideal.addf_def, Ideal.ofBits_def]
  rfl
theorem ref_d (w g m v : FVec Ideal S4x4x15x31 .f32) : val_main_v23 (F := Ideal) w g m v = fun i => DELTA (w i) (g i) (m i) (v i) := by
  funext i
  simp only [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, ref_m, ref_v, Ideal.mulf_def, Ideal.addf_def, Ideal.hostDivf_def, Ideal.ofBits_def]
  rfl

end Cert.AdamwTableReferenceIdeal.AdamwTableValue

end
-- ==== Proof.OptimiserClaim.lean ====
/- The optimiser's update at the other weights' shapes: each call's arrays are its reference's. -/
module

public import proofs.«01_k».proof.Defs
public import proofs.«01_k».proof.Proof.AdamwOutValue
public import proofs.«01_k».proof.Proof.AdamwDownValue
public import proofs.«01_k».proof.Proof.AdamwGateValue
public import proofs.«01_k».proof.Proof.AdamwNormValue
public import proofs.«01_k».proof.Proof.AdamwWidthValue
public import proofs.«01_k».proof.Proof.AdamwBlocksValue
public import proofs.«01_k».proof.Proof.AdamwBiasValue
public import proofs.«01_k».proof.Proof.AdamwConvValue
public import proofs.«01_k».proof.Proof.AdamwTableValue

@[expose] public section

set_option maxRecDepth 16384

noncomputable section

open Idealize.ShloMosaic Idealize.ShloMosaic.TcCoe Idealize.SL.Sem

namespace Cert.Proof.AdamwOut

theorem frame_reference : Cert.quiescent_AdamwOutReferenceIdeal := fun m ρ _ =>
  (θ_run Cert.AdamwOutReferenceIdeal.defs _ _).mono (fun r h => ⟨fun c => (h c).2.2.2, Idealize.ShloMosaic.sem_eq_zero_of_no_sems (by decide) r.2⟩)
    (Cert.AdamwOutReferenceIdeal.Value.run (F := Ideal) m ρ)

theorem algebraic : Cert.algebraic_AdamwOutKernelIdeal_AdamwOutReferenceIdeal := by
  intro m ρ m' ρ' _ hagree
  refine ⟨_, _, _, Cert.AdamwOutKernelIdeal.AdamwOutValue.run m ρ, ?_⟩
  refine (θ_run Cert.AdamwOutReferenceIdeal.defs _ _).mono (fun _ h c => ?_) (Cert.AdamwOutReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwOutReferenceIdeal.Read.val_main_v23_eq, g0, g1, g2, g3]
    exact Cert.AdamwOutReferenceIdeal.AdamwOutValue.ref_d _ _ _ _
  · rw [Cert.AdamwOutReferenceIdeal.Read.val_main_v4_eq, g1, g2]
    exact Cert.AdamwOutReferenceIdeal.AdamwOutValue.ref_m _ _
  · rw [Cert.AdamwOutReferenceIdeal.Read.val_main_v10_eq, g1, g3]
    exact Cert.AdamwOutReferenceIdeal.AdamwOutValue.ref_v _ _

end Cert.Proof.AdamwOut

namespace Cert.Proof.AdamwDown

theorem frame_reference : Cert.quiescent_AdamwDownReferenceIdeal := fun m ρ _ =>
  (θ_run Cert.AdamwDownReferenceIdeal.defs _ _).mono (fun r h => ⟨fun c => (h c).2.2.2, Idealize.ShloMosaic.sem_eq_zero_of_no_sems (by decide) r.2⟩)
    (Cert.AdamwDownReferenceIdeal.Value.run (F := Ideal) m ρ)

theorem algebraic : Cert.algebraic_AdamwDownKernelIdeal_AdamwDownReferenceIdeal := by
  intro m ρ m' ρ' _ hagree
  refine ⟨_, _, _, Cert.AdamwDownKernelIdeal.AdamwDownValue.run m ρ, ?_⟩
  refine (θ_run Cert.AdamwDownReferenceIdeal.defs _ _).mono (fun _ h c => ?_) (Cert.AdamwDownReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwDownReferenceIdeal.Read.val_main_v23_eq, g0, g1, g2, g3]
    exact Cert.AdamwDownReferenceIdeal.AdamwDownValue.ref_d _ _ _ _
  · rw [Cert.AdamwDownReferenceIdeal.Read.val_main_v4_eq, g1, g2]
    exact Cert.AdamwDownReferenceIdeal.AdamwDownValue.ref_m _ _
  · rw [Cert.AdamwDownReferenceIdeal.Read.val_main_v10_eq, g1, g3]
    exact Cert.AdamwDownReferenceIdeal.AdamwDownValue.ref_v _ _

end Cert.Proof.AdamwDown

namespace Cert.Proof.AdamwGate

theorem frame_reference : Cert.quiescent_AdamwGateReferenceIdeal := fun m ρ _ =>
  (θ_run Cert.AdamwGateReferenceIdeal.defs _ _).mono (fun r h => ⟨fun c => (h c).2.2.2, Idealize.ShloMosaic.sem_eq_zero_of_no_sems (by decide) r.2⟩)
    (Cert.AdamwGateReferenceIdeal.Value.run (F := Ideal) m ρ)

theorem algebraic : Cert.algebraic_AdamwGateKernelIdeal_AdamwGateReferenceIdeal := by
  intro m ρ m' ρ' _ hagree
  refine ⟨_, _, _, Cert.AdamwGateKernelIdeal.AdamwGateValue.run m ρ, ?_⟩
  refine (θ_run Cert.AdamwGateReferenceIdeal.defs _ _).mono (fun _ h c => ?_) (Cert.AdamwGateReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwGateReferenceIdeal.Read.val_main_v23_eq, g0, g1, g2, g3]
    exact Cert.AdamwGateReferenceIdeal.AdamwGateValue.ref_d _ _ _ _
  · rw [Cert.AdamwGateReferenceIdeal.Read.val_main_v4_eq, g1, g2]
    exact Cert.AdamwGateReferenceIdeal.AdamwGateValue.ref_m _ _
  · rw [Cert.AdamwGateReferenceIdeal.Read.val_main_v10_eq, g1, g3]
    exact Cert.AdamwGateReferenceIdeal.AdamwGateValue.ref_v _ _

end Cert.Proof.AdamwGate

namespace Cert.Proof.AdamwNorm

theorem frame_reference : Cert.quiescent_AdamwNormReferenceIdeal := fun m ρ _ =>
  (θ_run Cert.AdamwNormReferenceIdeal.defs _ _).mono (fun r h => ⟨fun c => (h c).2.2.2, Idealize.ShloMosaic.sem_eq_zero_of_no_sems (by decide) r.2⟩)
    (Cert.AdamwNormReferenceIdeal.Value.run (F := Ideal) m ρ)

theorem algebraic : Cert.algebraic_AdamwNormKernelIdeal_AdamwNormReferenceIdeal := by
  intro m ρ m' ρ' _ hagree
  refine ⟨_, _, _, Cert.AdamwNormKernelIdeal.AdamwNormValue.run m ρ, ?_⟩
  refine (θ_run Cert.AdamwNormReferenceIdeal.defs _ _).mono (fun _ h c => ?_) (Cert.AdamwNormReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwNormReferenceIdeal.Read.val_main_v23_eq, g0, g1, g2, g3]
    exact Cert.AdamwNormReferenceIdeal.AdamwNormValue.ref_d _ _ _ _
  · rw [Cert.AdamwNormReferenceIdeal.Read.val_main_v4_eq, g1, g2]
    exact Cert.AdamwNormReferenceIdeal.AdamwNormValue.ref_m _ _
  · rw [Cert.AdamwNormReferenceIdeal.Read.val_main_v10_eq, g1, g3]
    exact Cert.AdamwNormReferenceIdeal.AdamwNormValue.ref_v _ _

end Cert.Proof.AdamwNorm

namespace Cert.Proof.AdamwWidth

theorem frame_reference : Cert.quiescent_AdamwWidthReferenceIdeal := fun m ρ _ =>
  (θ_run Cert.AdamwWidthReferenceIdeal.defs _ _).mono (fun r h => ⟨fun c => (h c).2.2.2, Idealize.ShloMosaic.sem_eq_zero_of_no_sems (by decide) r.2⟩)
    (Cert.AdamwWidthReferenceIdeal.Value.run (F := Ideal) m ρ)

theorem algebraic : Cert.algebraic_AdamwWidthKernelIdeal_AdamwWidthReferenceIdeal := by
  intro m ρ m' ρ' _ hagree
  refine ⟨_, _, _, Cert.AdamwWidthKernelIdeal.AdamwWidthValue.run m ρ, ?_⟩
  refine (θ_run Cert.AdamwWidthReferenceIdeal.defs _ _).mono (fun _ h c => ?_) (Cert.AdamwWidthReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwWidthReferenceIdeal.Read.val_main_v23_eq, g0, g1, g2, g3]
    exact Cert.AdamwWidthReferenceIdeal.AdamwWidthValue.ref_d _ _ _ _
  · rw [Cert.AdamwWidthReferenceIdeal.Read.val_main_v4_eq, g1, g2]
    exact Cert.AdamwWidthReferenceIdeal.AdamwWidthValue.ref_m _ _
  · rw [Cert.AdamwWidthReferenceIdeal.Read.val_main_v10_eq, g1, g3]
    exact Cert.AdamwWidthReferenceIdeal.AdamwWidthValue.ref_v _ _

end Cert.Proof.AdamwWidth

namespace Cert.Proof.AdamwBlocks

theorem frame_reference : Cert.quiescent_AdamwBlocksReferenceIdeal := fun m ρ _ =>
  (θ_run Cert.AdamwBlocksReferenceIdeal.defs _ _).mono (fun r h => ⟨fun c => (h c).2.2.2, Idealize.ShloMosaic.sem_eq_zero_of_no_sems (by decide) r.2⟩)
    (Cert.AdamwBlocksReferenceIdeal.Value.run (F := Ideal) m ρ)

theorem algebraic : Cert.algebraic_AdamwBlocksKernelIdeal_AdamwBlocksReferenceIdeal := by
  intro m ρ m' ρ' _ hagree
  refine ⟨_, _, _, Cert.AdamwBlocksKernelIdeal.AdamwBlocksValue.run m ρ, ?_⟩
  refine (θ_run Cert.AdamwBlocksReferenceIdeal.defs _ _).mono (fun _ h c => ?_) (Cert.AdamwBlocksReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwBlocksReferenceIdeal.Read.val_main_v23_eq, g0, g1, g2, g3]
    exact Cert.AdamwBlocksReferenceIdeal.AdamwBlocksValue.ref_d _ _ _ _
  · rw [Cert.AdamwBlocksReferenceIdeal.Read.val_main_v4_eq, g1, g2]
    exact Cert.AdamwBlocksReferenceIdeal.AdamwBlocksValue.ref_m _ _
  · rw [Cert.AdamwBlocksReferenceIdeal.Read.val_main_v10_eq, g1, g3]
    exact Cert.AdamwBlocksReferenceIdeal.AdamwBlocksValue.ref_v _ _

end Cert.Proof.AdamwBlocks

namespace Cert.Proof.AdamwBias

theorem frame_reference : Cert.quiescent_AdamwBiasReferenceIdeal := fun m ρ _ =>
  (θ_run Cert.AdamwBiasReferenceIdeal.defs _ _).mono (fun r h => ⟨fun c => (h c).2.2.2, Idealize.ShloMosaic.sem_eq_zero_of_no_sems (by decide) r.2⟩)
    (Cert.AdamwBiasReferenceIdeal.Value.run (F := Ideal) m ρ)

theorem algebraic : Cert.algebraic_AdamwBiasKernelIdeal_AdamwBiasReferenceIdeal := by
  intro m ρ m' ρ' _ hagree
  refine ⟨_, _, _, Cert.AdamwBiasKernelIdeal.AdamwBiasValue.run m ρ, ?_⟩
  refine (θ_run Cert.AdamwBiasReferenceIdeal.defs _ _).mono (fun _ h c => ?_) (Cert.AdamwBiasReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwBiasReferenceIdeal.Read.val_main_v23_eq, g0, g1, g2, g3]
    exact Cert.AdamwBiasReferenceIdeal.AdamwBiasValue.ref_d _ _ _ _
  · rw [Cert.AdamwBiasReferenceIdeal.Read.val_main_v4_eq, g1, g2]
    exact Cert.AdamwBiasReferenceIdeal.AdamwBiasValue.ref_m _ _
  · rw [Cert.AdamwBiasReferenceIdeal.Read.val_main_v10_eq, g1, g3]
    exact Cert.AdamwBiasReferenceIdeal.AdamwBiasValue.ref_v _ _

end Cert.Proof.AdamwBias

namespace Cert.Proof.AdamwConv

theorem frame_reference : Cert.quiescent_AdamwConvReferenceIdeal := fun m ρ _ =>
  (θ_run Cert.AdamwConvReferenceIdeal.defs _ _).mono (fun r h => ⟨fun c => (h c).2.2.2, Idealize.ShloMosaic.sem_eq_zero_of_no_sems (by decide) r.2⟩)
    (Cert.AdamwConvReferenceIdeal.Value.run (F := Ideal) m ρ)

theorem algebraic : Cert.algebraic_AdamwConvKernelIdeal_AdamwConvReferenceIdeal := by
  intro m ρ m' ρ' _ hagree
  refine ⟨_, _, _, Cert.AdamwConvKernelIdeal.AdamwConvValue.run m ρ, ?_⟩
  refine (θ_run Cert.AdamwConvReferenceIdeal.defs _ _).mono (fun _ h c => ?_) (Cert.AdamwConvReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwConvReferenceIdeal.Read.val_main_v23_eq, g0, g1, g2, g3]
    exact Cert.AdamwConvReferenceIdeal.AdamwConvValue.ref_d _ _ _ _
  · rw [Cert.AdamwConvReferenceIdeal.Read.val_main_v4_eq, g1, g2]
    exact Cert.AdamwConvReferenceIdeal.AdamwConvValue.ref_m _ _
  · rw [Cert.AdamwConvReferenceIdeal.Read.val_main_v10_eq, g1, g3]
    exact Cert.AdamwConvReferenceIdeal.AdamwConvValue.ref_v _ _

end Cert.Proof.AdamwConv

namespace Cert.Proof.AdamwTable

theorem frame_reference : Cert.quiescent_AdamwTableReferenceIdeal := fun m ρ _ =>
  (θ_run Cert.AdamwTableReferenceIdeal.defs _ _).mono (fun r h => ⟨fun c => (h c).2.2.2, Idealize.ShloMosaic.sem_eq_zero_of_no_sems (by decide) r.2⟩)
    (Cert.AdamwTableReferenceIdeal.Value.run (F := Ideal) m ρ)

theorem algebraic : Cert.algebraic_AdamwTableKernelIdeal_AdamwTableReferenceIdeal := by
  intro m ρ m' ρ' _ hagree
  refine ⟨_, _, _, Cert.AdamwTableKernelIdeal.AdamwTableValue.run m ρ, ?_⟩
  refine (θ_run Cert.AdamwTableReferenceIdeal.defs _ _).mono (fun _ h c => ?_) (Cert.AdamwTableReferenceIdeal.Value.run (F := Ideal) m' ρ')
  obtain ⟨hd, hm, hv, hargs⟩ := h c
  obtain ⟨g0, g1, g2, g3⟩ := hagree c
  refine ⟨hd.trans ?_, hm.trans ?_, hv.trans ?_, hargs⟩
  · rw [Cert.AdamwTableReferenceIdeal.Read.val_main_v23_eq, g0, g1, g2, g3]
    exact Cert.AdamwTableReferenceIdeal.AdamwTableValue.ref_d _ _ _ _
  · rw [Cert.AdamwTableReferenceIdeal.Read.val_main_v4_eq, g1, g2]
    exact Cert.AdamwTableReferenceIdeal.AdamwTableValue.ref_m _ _
  · rw [Cert.AdamwTableReferenceIdeal.Read.val_main_v10_eq, g1, g3]
    exact Cert.AdamwTableReferenceIdeal.AdamwTableValue.ref_v _ _

end Cert.Proof.AdamwTable

end
-- ==== Proof.WguFrame.lean ====
/- The frame of the call that makes the gradients of the gate and up weights: the first half of its points stores the first
   result, the second half the second; a block once stored is kept until it is written back. -/
module

public import proofs.«01_k».proof.Proof.Gen.WguKernelIdeal.Frame
public import proofs.«01_k».proof.Proof.Gen.WguKernelIdeal.Skeleton
public import Idealize.ShloMosaic.Lib.Pipeline.TableIdle
public import Idealize.ShloMosaic.Lib.Claim

@[expose] public section

set_option maxRecDepth 16384

noncomputable section

namespace Cert.WguKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev r0 : Rect S4096x1024 := Rect.unit (s := S4096x1024) ![0, 0] S4096x1024.size inb_S4096x1024_S4096x1024_0_0
abbrev r1 : Rect S1024x1024 := Rect.unit (s := S1024x1024) ![0, 0] S1024x1024.size inb_S1024x1024_S1024x1024_0_0

/-- What a point stores in the first result, and in the second. -/
def out3 (x y : Vec F S4096x1024 .bf16) : Vec F S1024x1024 .bf16 := View.canon [⟨r1, k0_pay1 (View.ld x r0) (View.ld y r0)⟩]
def out4 (x y : Vec F S4096x1024 .bf16) : Vec F S1024x1024 .bf16 := View.canon [⟨r1, k0_pay2 (View.ld x r0) (View.ld y r0)⟩]

theorem cover (p : Vec F S1024x1024 .bf16) (y : S1024x1024.Idx) :
    ∃ pc ∈ ([⟨r1, p⟩] : List (View.Piece (Elt F) S1024x1024 .bf16)), y ∈ pc.1.set :=
  View.cover_of_tiled [⟨r1, p⟩] S1024x1024.size (by rfl) y

set_option maxHeartbeats 1000000 in
theorem sound_A (c : Dev nD) (E : Set ℕ) (i : grid0.Coords) (arg2 : Memref sig .tc .vmem S4096x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .bf16) (harg6 : arg6.IsWhole)
    (h1 : k0_cond1 i = 1#1) (h2 : ¬k0_cond2 i = 1#1) (x0 x1 x2 : Vec F S4096x1024 .bf16) (z : Vec F S1024x1024 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare z
        ∗ (iprop(owns (c : Thread nD τ) arg2 fullShare x0 ∗ owns (c : Thread nD τ) arg3 fullShare x1 ∗ owns (c : Thread nD τ) arg4 fullShare x2 ∗ owns (c : Thread nD τ) arg5 fullShare (out3 x0 x1) ∗ owns (c : Thread nD τ) arg6 fullShare z) -∗ K ⟨⟩))
      ⊢ wp frame (wpE (defs₀ (F := F)) Variants.none c none) E (cc0_tn_cols2 i arg2 harg2 arg3 harg3 arg4 harg4 arg5 harg5 arg6 harg6) K := by
  simp only [cc0_tn_cols2_eq_skeleton]; unfold cc0_tn_cols2_skel
  unfold owns
  iintro ⟨⟨%f0, %hf0, H0⟩, ⟨%f1, %hf1, H1⟩, ⟨%f2, %hf2, H2⟩, ⟨%d3, %f3, -, H3⟩, H4, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexact H4

set_option maxHeartbeats 1000000 in
theorem sound_B (c : Dev nD) (E : Set ℕ) (i : grid0.Coords) (arg2 : Memref sig .tc .vmem S4096x1024 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .bf16) (harg6 : arg6.IsWhole)
    (h1 : ¬k0_cond1 i = 1#1) (h2 : k0_cond2 i = 1#1) (x0 x1 x2 : Vec F S4096x1024 .bf16) (z : Vec F S1024x1024 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg6 fullShare d) ∗ owns (c : Thread nD τ) arg5 fullShare z
        ∗ (iprop(owns (c : Thread nD τ) arg2 fullShare x0 ∗ owns (c : Thread nD τ) arg3 fullShare x1 ∗ owns (c : Thread nD τ) arg4 fullShare x2 ∗ owns (c : Thread nD τ) arg6 fullShare (out4 x0 x2) ∗ owns (c : Thread nD τ) arg5 fullShare z) -∗ K ⟨⟩))
      ⊢ wp frame (wpE (defs₀ (F := F)) Variants.none c none) E (cc0_tn_cols2 i arg2 harg2 arg3 harg3 arg4 harg4 arg5 harg5 arg6 harg6) K := by
  simp only [cc0_tn_cols2_eq_skeleton]; unfold cc0_tn_cols2_skel
  unfold owns
  iintro ⟨⟨%f0, %hf0, H0⟩, ⟨%f1, %hf1, H1⟩, ⟨%f2, %hf2, H2⟩, ⟨%d3, %f3, -, H3⟩, H4, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexact H4

/-- The point whose product the first result's buffer holds. -/
def u (t : Fin cfg0.N) : Fin cfg0.N := ⟨min t.val 2, lt_of_le_of_lt (Nat.min_le_left _ _) t.isLt⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 (u t)) (iblk m c 1 (u t))
    | ⟨4, _⟩ => out4 (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 (u t)) (iblk m c 1 (u t)) := by dsimp only [dats]
theorem after0_4 (c : Dev nD) (t : Fin cfg0.N) : (dats m 0 c).after 4 t = out4 (iblk m c 0 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where a result's buffer is left as it was -/

theorem half1 : ∀ t : Fin cfg0.N, t.val < 3 → k0_cond1 (grid0.coords t) = 1#1 ∧ ¬k0_cond2 (grid0.coords t) = 1#1
    ∧ cfg0.idle 3 (grid0.coords t) = false ∧ cfg0.idle 4 (grid0.coords t) = true ∧ (cfg0.win 4).flush t = false := by decide +kernel
theorem half2 : ∀ t : Fin cfg0.N, ¬t.val < 3 → ¬k0_cond1 (grid0.coords t) = 1#1 ∧ k0_cond2 (grid0.coords t) = 1#1
    ∧ cfg0.idle 4 (grid0.coords t) = false := by decide +kernel

def tab : ℕ → Bool
  | 0 => true
  | n + 1 => (0x23 : ℕ).testBit n
theorem tab_step : ∀ t : Fin cfg0.N,
    tab (t.val + 1) = ((cfg0.win 3).flush t || (cfg0.idle 3 (cfg0.grid.coords t) && tab t.val)) := by decide +kernel
theorem tab_half : ∀ t : Fin cfg0.N, ¬t.val < 3 → tab t.val = false := by decide +kernel
theorem notFresh (t : Fin cfg0.N) (h : ¬t.val < 3) : cfg0.fresh 3 t.val = false :=
  (Pipeline.Cfg.fresh_tab cfg0 3 tab rfl tab_step t.val (Nat.le_of_lt t.isLt)).trans (tab_half t h)

theorem idle3 : ∀ t : Fin cfg0.N, cfg0.idle 3 (grid0.coords t) = true → ¬t.val < 3 := by decide +kernel

theorem step3 (c : Dev nD) (t : Fin cfg0.N) (h : ¬t.val < 3) : (dats m 0 c).after 3 t = (dats m 0 c).after 3 ⟨t.val - 1, by omega⟩ := by
  have e : u t = u ⟨t.val - 1, by omega⟩ := Fin.ext (by simp only [u]; omega)
  rw [after0_3, after0_3, e]

theorem before0_3 (c : Dev nD) (t : Fin cfg0.N) (h : ¬t.val < 3) (d) : (dats m 0 c).before 3 t d = (dats m 0 c).after 3 t := by
  rw [Dat.before_out_traj _ 3 rfl (fun _ _ => rfl) (fun t _ hi _ => step3 m c t (idle3 t hi)) t.val t rfl d, if_neg (by rw [notFresh t h]; exact Bool.false_ne_true),
    step3 m c t h]

theorem kept3 (c : Dev nD) (t : Fin cfg0.N) (h : ¬t.val < 3) (d₀ : (cfg0.win 3).block.Idx → Elt F (cfg0.win 3).elt) :
    owns (c : Thread nD τ) (st0_3 t) fullShare ((dats (F := F) m 0 c).before 3 t d₀) ⊢ (dats (F := F) m 0 c).leavesExact 3 t := by
  unfold Dat.leavesExact
  cases cfg0.idle 3 (cfg0.grid.coords t)
  · rw [before0_3 m c t h d₀]
  · cases (cfg0.win 3).flush t
    · dsimp only
      iintro H; iexists _; iexact H
    · rw [before0_3 m c t h d₀]

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩, ⟨%d4, H4⟩⟩
  by_cases h : t.val < 3
  · obtain ⟨c1, c2, l3, i4, n4⟩ := half1 t h
    rw [show (dats m 0 c).leavesExact 3 t = owns (c : Thread nD τ) (st0_3 t) fullShare ((dats m 0 c).after 3 t) from by
      unfold Dat.leavesExact; rw [l3], Dat.leavesExact_idle (dats m 0 c) 4 t i4 n4, after0_3, show u t = t from Fin.ext (by simp only [u]; omega)]
    iapply (sound_A c Set.univ (grid0.coords t) _ _ _ _ _ _ _ _ _ _ c1 c2 (iblk m c 0 t) (iblk m c 1 t) (iblk m c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists _; iexact H4
  · obtain ⟨c1, c2, l4⟩ := half2 t h
    rw [show (dats m 0 c).leavesExact 4 t = owns (c : Thread nD τ) (st0_4 t) fullShare ((dats m 0 c).after 4 t) from by
      unfold Dat.leavesExact; rw [l4], after0_4]
    iapply (sound_B c Set.univ (grid0.coords t) _ _ _ _ _ _ _ _ _ _ c1 c2 (iblk m c 0 t) (iblk m c 1 t) (iblk m c 2 t) _ _)
    isplitl [H0]; · iexact H0
    isplitl [H1]; · iexact H1
    isplitl [H2]; · iexact H2
    isplitl [H4]; · iexists _; iexact H4
    isplitl [H3]; · iexact H3
    iintro ⟨H0, H1, H2, H4, H3⟩
    isplitl [HΦ]; · iexact HΦ
    isplitl [Ho]; · iexact Ho
    isplitl [H0]; · iexact H0
    isplitl [H1]; · iexact H1
    isplitl [H2]; · iexact H2
    isplitl [H3]; · iapply (kept3 m c t h d3); iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.WguKernelIdeal.Gen

end
-- ==== Proof.WguValue.lean ====
/- The gradients of the gate and up weights: the products with the transposed input, column by column. -/
module

public import proofs.«01_k».proof.Proof.WguFrame
public import proofs.«01_k».proof.Proof.Halves
public import proofs.«01_k».proof.Proof.Gen.WguReferenceIdeal.Run
public import proofs.«01_k».proof.Proof.Gen.WguReferenceIdeal.Read

@[expose] public section

set_option maxRecDepth 16384

noncomputable section

open Idealize.ShloMosaic Idealize.ShloMosaic.TcCoe Idealize.SL.Sem
open Idealize.ShloMosaic.Pipeline (Dat)

namespace Cert.WguKernelIdeal.WguValue

open Cert.WguKernelIdeal Cert.WguKernelIdeal.Gen Cert.Halves

variable (m : (ℓ : Loc nD τ sig) → Buf (Elt Ideal) ℓ) (ρ : Dev nD → PrngReg)

abbrev a0 (c : Dev nD) : FVec Ideal S4096x1024 .f32 := m ((c : Thread nD τ).loc main_arg0)
abbrev a1 (c : Dev nD) : FVec Ideal S4096x2816 .f32 := m ((c : Thread nD τ).loc main_arg1)
abbrev a2 (c : Dev nD) : FVec Ideal S4096x2816 .f32 := m ((c : Thread nD τ).loc main_arg2)

/-- The gradient at an element. -/
def GRAD (x : FVec Ideal S4096x1024 .f32) (d : FVec Ideal S4096x2816 .f32) (r : Fin 1024) (k : Fin 2816) : EReal := ∑ q : Fin 4096, x (ix2 q r) * d (ix2 q k)
/-- The same over padded columns. -/
def WIDE (x : FVec Ideal S4096x1024 .f32) (d : FVec Ideal S4096x3072 .bf16) (r : Fin 1024) (k : Fin 3072) : EReal := ∑ q : Fin 4096, x (ix2 q r) * d (ix2 q k)

def padHid (w : FVec Ideal S4096x2816 .f32) : FVec Ideal S4096x3072 .bf16 :=
  truncf .bf16 (shapeCast S4096x3072 (pad S4096x8x384 ![0, 0, 0] ![0, 0, 32] ![0, 0, 0] (shapeCast S4096x8x352 w shapeCasts_S4096x2816_S4096x8x352)
    (sitofp .f32 (constantI S_ 32 0#32)) pads_S4096x8x352_S4096x8x384_000_000_0320 h_S_) shapeCasts_S4096x8x384_S4096x3072) bitsLt_bf16_f32
theorem padHid_apply (w : FVec Ideal S4096x2816 .f32) (q : Fin 4096) (p : Fin 2816) : (padHid w (ix2 q (wide p)) : EReal) = w (ix2 q p) := by
  unfold padHid
  pointwise
  rw [dif_pos (by simp only [wide]; omega)]
  exact congrArg w (congrArg (ix2 q) (Fin.ext (by simp only [wide]; omega)))

def cut (x : FVec Ideal S1024x3072 .bf16) : FVec Ideal S1024x2816 .f32 :=
  extf .f32 (shapeCast S1024x2816 (extractStridedSlice S1024x8x352 ![0, 0, 0] (shapeCast S1024x8x384 x shapeCasts_S1024x3072_S1024x8x384)
    slices_S1024x8x384_S1024x8x352_0_0_0) shapeCasts_S1024x8x352_S1024x2816) bitsLt_bf16_f32
theorem cut_apply (x : FVec Ideal S1024x3072 .bf16) (r : Fin 1024) (p : Fin 2816) : (cut x (ix2 r p) : EReal) = x (ix2 r (wide p)) := by
  unfold cut
  pointwise
  exact congrArg x (congrArg (ix2 r) (Fin.ext (by simp only [wide]; omega)))

theorem idx : ∀ t : Fin cfg0.N, win0_0.index t = ![0, 0] ∧ win0_1.index t = ![0, min t.val 2] ∧ win0_2.index t = ![0, t.val - 3]
    ∧ win0_3.index t = ![0, min t.val 2] ∧ win0_4.index t = ![0, t.val - 3] :=
  (by decide +kernel : ∀ t : Fin grid0.N, _)

theorem idxu : ∀ t : Fin cfg0.N, win0_1.index (u t) = ![0, min t.val 2] := (by decide +kernel : ∀ t : Fin grid0.N, _)

theorem hpay1 (x d : FVec Ideal S4096x1024 .bf16) (r k : Fin 1024) : (k0_pay1 (F := Ideal) x d (ix2 r k) : EReal) = ∑ q, x (ix2 q r) * d (ix2 q k) := by
  pointwise [k0_pay1]
theorem hpay2 (x d : FVec Ideal S4096x1024 .bf16) (r k : Fin 1024) : (k0_pay2 (F := Ideal) x d (ix2 r k) : EReal) = ∑ q, x (ix2 q r) * d (ix2 q k) := by
  pointwise [k0_pay2]

theorem v0 (c : Dev nD) (i : S4096x1024.Idx) : (V m c main_v0 i : EReal) = a0 m c i := by
  rfl
theorem v4 (c : Dev nD) : V m c main_v4 = padHid (a1 m c) := by
  rfl
theorem v8 (c : Dev nD) : V m c main_v8 = padHid (a2 m c) := by
  rfl

theorem final3 (c : Dev nD) : (dats m 0 c).arrAt 3 (cfgs 0).N = fun i : S1024x3072.Idx => WIDE (a0 m c) (V m c main_v4) (i 0) (i 1) := by
  refine (dats m 0 c).arrAt_eq_of_covers 3 _ (by decide +kernel) fun t _ y => ?_
  blk_simp
  rw [after0_3]
  unfold out3
  frame_out
  idx_vars y
  refine (hpay1 _ _ _ _).trans ?_
  unfold WIDE
  refine Finset.sum_congr rfl fun q _ => congrArg₂ (fun a b : EReal => a * b) ?_ ?_
  · refine Eq.trans ?_ (v0 m c _)
    blk_point [iblk, idx t, idx (u t)]
  · blk_point [iblk, idx t, idxu t]

theorem final4 (c : Dev nD) : (dats m 0 c).arrAt 4 (cfgs 0).N = fun i : S1024x3072.Idx => WIDE (a0 m c) (V m c main_v8) (i 0) (i 1) := by
  refine (dats m 0 c).arrAt_eq_of_covers 4 _ (by decide +kernel) fun t _ y => ?_
  blk_simp
  rw [after0_4]
  unfold out4
  frame_out
  idx_vars y
  refine (hpay2 _ _ _ _).trans ?_
  unfold WIDE
  refine Finset.sum_congr rfl fun q _ => congrArg₂ (fun a b : EReal => a * b) ?_ ?_
  · refine Eq.trans ?_ (v0 m c _)
    blk_point [iblk, idx t]
  · blk_point [iblk, idx t]

abbrev W (c : Dev nD) := Pipeline.withArrays (cfgs 0).spec c (V0 m c) (fun w => (dats m 0 c).arrAt w (cfgs 0).N)

theorem narrow (x : FVec Ideal S4096x1024 .f32) (d : FVec Ideal S4096x2816 .f32) :
    cut (fun i : S1024x3072.Idx => WIDE x (padHid d) (i 0) (i 1)) = fun i : S1024x2816.Idx => GRAD x d (i 0) (i 1) := by
  funext i
  idx_vars i
  rw [cut_apply]
  exact Finset.sum_congr rfl fun q _ => congrArg (fun a : EReal => _ * a) (padHid_apply d q _)

theorem tail13 (c : Dev nD) : Pipeline.afterTail₀ cfgs (dats m) 0 (V0 m) [hostOps1] c main_v13 = fun i : S1024x2816.Idx => GRAD (a0 m c) (a1 m c) (i 0) (i 1) := by
  refine Eq.trans (b := cut (W m c (Proc.devRef .tc main_v9_0))) rfl ?_
  rw [show W m c (Proc.devRef .tc main_v9_0) = _ from Pipeline.withArrays_arr spec0 (by decide) c (V0 m c) (fun w => (dats m 0 c).arrAt w (cfgs 0).N) 3]
  rw [show (dats m 0 c).arrAt 3 (cfgs 0).N = _ from final3 m c, v4]
  exact narrow _ _
theorem tail17 (c : Dev nD) : Pipeline.afterTail₀ cfgs (dats m) 0 (V0 m) [hostOps1] c main_v17 = fun i : S1024x2816.Idx => GRAD (a0 m c) (a2 m c) (i 0) (i 1) := by
  refine Eq.trans (b := cut (W m c (Proc.devRef .tc main_v9_1))) rfl ?_
  rw [show W m c (Proc.devRef .tc main_v9_1) = _ from Pipeline.withArrays_arr spec0 (by decide) c (V0 m c) (fun w => (dats m 0 c).arrAt w (cfgs 0).N) 4]
  rw [show (dats m 0 c).arrAt 4 (cfgs 0).N = _ from final4 m c, v8]
  exact narrow _ _

/-- The call's run: both gradients, and the arguments as they were. -/
theorem run : θ_run defs (onTc (τ := τ) (main (F := Ideal))) ⟨m, fun _ => 0, ρ⟩ (fun r => ∀ c : Dev nD,
      r.2.mem ((c.tc : Thread nD τ).loc main_v13) = (fun i : S1024x2816.Idx => GRAD (a0 m c) (a1 m c) (i 0) (i 1))
      ∧ r.2.mem ((c.tc : Thread nD τ).loc main_v17) = (fun i : S1024x2816.Idx => GRAD (a0 m c) (a2 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).2 main_v13 (Pipeline.mem_restRefs_of main_v13 (by decide) (by decide))).trans (tail13 m c),
      ((h.2 c).2 main_v17 (Pipeline.mem_restRefs_of main_v17 (by decide) (by decide))).trans (tail17 m c), h.1 c⟩)
    (θ_run_and (unchanged m ρ) (run_main m ρ))

end Cert.WguKernelIdeal.WguValue

namespace Cert.WguReferenceIdeal.WguValue

open Cert.WguReferenceIdeal Cert.WguReferenceIdeal.Gen Cert.WguReferenceIdeal.Read Cert.WguKernelIdeal.WguValue

theorem ref_gate (x : FVec Ideal S4096x1024 .f32) (d : FVec Ideal S4096x2816 .f32) : val_main_v6 (F := Ideal) x d = fun i : S1024x2816.Idx => GRAD x d (i 0) (i 1) := by
  funext i
  idx_vars i
  rw [val_main_v6_apply, val_main_v5_apply]
  unfold GRAD
  refine Finset.sum_congr rfl fun q _ => (mul_comm _ _).trans (congrArg₂ (fun a b : EReal => a * b) (congrArg x ?_) (congrArg d ?_))
  · idx_ext
  · idx_ext
theorem ref_up (x : FVec Ideal S4096x1024 .f32) (d : FVec Ideal S4096x2816 .f32) : val_main_v4 (F := Ideal) x d = fun i : S1024x2816.Idx => GRAD x d (i 0) (i 1) := by
  funext i
  idx_vars i
  rw [val_main_v4_apply, val_main_v3_apply]
  unfold GRAD
  refine Finset.sum_congr rfl fun q _ => (mul_comm _ _).trans (congrArg₂ (fun a b : EReal => a * b) (congrArg x ?_) (congrArg d ?_))
  · idx_ext
  · idx_ext

end Cert.WguReferenceIdeal.WguValue

end
-- ==== Proof.WguClaim.lean ====
/- The gradients of the gate and up weights: the frame on words, and the claim on the reals. -/
module

public import proofs.«01_k».proof.Defs
public import proofs.«01_k».proof.Proof.WguValue
public import proofs.«01_k».proof.Proof.Gen.WguKernel

@[expose] public section

set_option maxRecDepth 16384

noncomputable section

open Idealize.ShloMosaic Idealize.ShloMosaic.TcCoe Idealize.SL.Sem

namespace Cert.Proof.Wgu

open Cert.WguKernelIdeal in
/-- The frame's statement on words is the one the run gives: the two programs are one text. -/
theorem one_text : Cert.quiescent_WguKernel = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  sl_kernel_rfl

theorem frame_kernel : Cert.quiescent_WguKernel :=
  one_text.mpr fun m ρ _ => Cert.WguKernelIdeal.Gen.frame (F := Bits) m ρ

theorem frame_reference : Cert.quiescent_WguReferenceIdeal := fun m ρ _ =>
  (θ_run Cert.WguReferenceIdeal.defs _ _).mono (fun r h => ⟨fun c => (h c).2.2, Idealize.ShloMosaic.sem_eq_zero_of_no_sems (by decide) r.2⟩)
    (Cert.WguReferenceIdeal.Value.run (F := Ideal) m ρ)

theorem algebraic : Cert.algebraic_WguKernelIdeal_WguReferenceIdeal := by
  intro m ρ m' ρ' _ hagree
  refine ⟨_, _, Cert.WguKernelIdeal.WguValue.run m ρ, ?_⟩
  refine (θ_run Cert.WguReferenceIdeal.defs _ _).mono (fun _ h c => ?_) (Cert.WguReferenceIdeal.Value.run (F := Ideal) m' ρ')
  obtain ⟨hg, hu, hargs⟩ := h c
  obtain ⟨g0, g1, g2⟩ := hagree c
  refine ⟨hg.trans ?_, hu.trans ?_, hargs⟩
  · rw [Cert.WguReferenceIdeal.Read.val_main_v6_eq, g0, g1]
    exact Cert.WguReferenceIdeal.WguValue.ref_gate _ _
  · rw [Cert.WguReferenceIdeal.Read.val_main_v4_eq, g0, g2]
    exact Cert.WguReferenceIdeal.WguValue.ref_up _ _

end Cert.Proof.Wgu

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.OutprojKernel
public import proofs.«01_k».proof.Proof.Gen.OutprojKernel.Frame
public import proofs.«01_k».proof.Proof.Gen.OutprojKernelIdeal
public import proofs.«01_k».proof.Proof.Gen.OutprojKernelIdeal.Frame
public import proofs.«01_k».proof.Proof.Gen.OutprojReferenceIdeal
public import proofs.«01_k».proof.Proof.Gen.OutprojReferenceIdeal.Run
public import proofs.«01_k».proof.Proof.Gen.OutprojReferenceIdeal.Read
public import proofs.«01_k».proof.Proof.Gen.Pre_outproj_finite
public import proofs.«01_k».proof.Proof.Gen.FfnKernel
public import proofs.«01_k».proof.Proof.Gen.FfnKernelIdeal
public import proofs.«01_k».proof.Proof.Gen.FfnKernelIdeal.Frame
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnFwdKernel
public import proofs.«01_k».proof.Proof.Gen.FfnFwdKernel.Frame
public import proofs.«01_k».proof.Proof.Gen.FfnFwdKernelIdeal
public import proofs.«01_k».proof.Proof.Gen.FfnFwdKernelIdeal.Frame
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.Gen.InprojKernel
public import proofs.«01_k».proof.Proof.Gen.InprojKernel.Frame
public import proofs.«01_k».proof.Proof.Gen.InprojKernelIdeal
public import proofs.«01_k».proof.Proof.Gen.InprojKernelIdeal.Frame
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.InprojBwdKernel
public import proofs.«01_k».proof.Proof.Gen.InprojBwdKernel.Frame
public import proofs.«01_k».proof.Proof.Gen.InprojBwdKernelIdeal
public import proofs.«01_k».proof.Proof.Gen.InprojBwdKernelIdeal.Frame
public import proofs.«01_k».proof.Proof.Gen.InprojBwdReferenceIdeal
public import proofs.«01_k».proof.Proof.Gen.InprojBwdReferenceIdeal.Run
public import proofs.«01_k».proof.Proof.Gen.InprojBwdReferenceIdeal.Read
public import proofs.«01_k».proof.Proof.Gen.WinKernel
public import proofs.«01_k».proof.Proof.Gen.WinKernel.Frame
public import proofs.«01_k».proof.Proof.Gen.WinKernelIdeal
public import proofs.«01_k».proof.Proof.Gen.WinKernelIdeal.Frame
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.WdownKernel
public import proofs.«01_k».proof.Proof.Gen.WdownKernel.Frame
public import proofs.«01_k».proof.Proof.Gen.WdownKernelIdeal
public import proofs.«01_k».proof.Proof.Gen.WdownKernelIdeal.Frame
public import proofs.«01_k».proof.Proof.Gen.WdownReferenceIdeal
public import proofs.«01_k».proof.Proof.Gen.WdownReferenceIdeal.Run
public import proofs.«01_k».proof.Proof.Gen.WdownReferenceIdeal.Read
public import proofs.«01_k».proof.Proof.Gen.AdamwKernel
public import proofs.«01_k».proof.Proof.Gen.AdamwKernel.Frame
public import proofs.«01_k».proof.Proof.Gen.AdamwKernelIdeal
public import proofs.«01_k».proof.Proof.Gen.AdamwKernelIdeal.Frame
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.Gen.AdamwOutKernel
public import proofs.«01_k».proof.Proof.Gen.AdamwOutKernel.Frame
public import proofs.«01_k».proof.Proof.Gen.AdamwOutKernelIdeal
public import proofs.«01_k».proof.Proof.Gen.AdamwOutKernelIdeal.Frame
public import proofs.«01_k».proof.Proof.Gen.AdamwOutReferenceIdeal
public import proofs.«01_k».proof.Proof.Gen.AdamwOutReferenceIdeal.Run
public import proofs.«01_k».proof.Proof.Gen.AdamwOutReferenceIdeal.Read
public import proofs.«01_k».proof.Proof.Gen.AdamwDownKernel
public import proofs.«01_k».proof.Proof.Gen.AdamwDownKernel.Frame
public import proofs.«01_k».proof.Proof.Gen.AdamwDownKernelIdeal
public import proofs.«01_k».proof.Proof.Gen.AdamwDownKernelIdeal.Frame
public import proofs.«01_k».proof.Proof.Gen.AdamwDownReferenceIdeal
public import proofs.«01_k».proof.Proof.Gen.AdamwDownReferenceIdeal.Run
public import proofs.«01_k».proof.Proof.Gen.AdamwDownReferenceIdeal.Read
public import proofs.«01_k».proof.Proof.Gen.AdamwGateKernel
public import proofs.«01_k».proof.Proof.Gen.AdamwGateKernel.Frame
public import proofs.«01_k».proof.Proof.Gen.AdamwGateKernelIdeal
public import proofs.«01_k».proof.Proof.Gen.AdamwGateKernelIdeal.Frame
public import proofs.«01_k».proof.Proof.Gen.AdamwGateReferenceIdeal
public import proofs.«01_k».proof.Proof.Gen.AdamwGateReferenceIdeal.Run
public import proofs.«01_k».proof.Proof.Gen.AdamwGateReferenceIdeal.Read
public import proofs.«01_k».proof.Proof.Gen.AdamwNormKernel
public import proofs.«01_k».proof.Proof.Gen.AdamwNormKernel.Frame
public import proofs.«01_k».proof.Proof.Gen.AdamwNormKernelIdeal
public import proofs.«01_k».proof.Proof.Gen.AdamwNormKernelIdeal.Frame
public import proofs.«01_k».proof.Proof.Gen.AdamwNormReferenceIdeal
public import proofs.«01_k».proof.Proof.Gen.AdamwNormReferenceIdeal.Run
public import proofs.«01_k».proof.Proof.Gen.AdamwNormReferenceIdeal.Read
public import proofs.«01_k».proof.Proof.Gen.AdamwWidthKernel
public import proofs.«01_k».proof.Proof.Gen.AdamwWidthKernel.Frame
public import proofs.«01_k».proof.Proof.Gen.AdamwWidthKernelIdeal
public import proofs.«01_k».proof.Proof.Gen.AdamwWidthKernelIdeal.Frame
public import proofs.«01_k».proof.Proof.Gen.AdamwWidthReferenceIdeal
public import proofs.«01_k».proof.Proof.Gen.AdamwWidthReferenceIdeal.Run
public import proofs.«01_k».proof.Proof.Gen.AdamwWidthReferenceIdeal.Read
public import proofs.«01_k».proof.Proof.Gen.AdamwBlocksKernel
public import proofs.«01_k».proof.Proof.Gen.AdamwBlocksKernel.Frame
public import proofs.«01_k».proof.Proof.Gen.AdamwBlocksKernelIdeal
public import proofs.«01_k».proof.Proof.Gen.AdamwBlocksKernelIdeal.Frame
public import proofs.«01_k».proof.Proof.Gen.AdamwBlocksReferenceIdeal
public import proofs.«01_k».proof.Proof.Gen.AdamwBlocksReferenceIdeal.Run
public import proofs.«01_k».proof.Proof.Gen.AdamwBlocksReferenceIdeal.Read
public import proofs.«01_k».proof.Proof.Gen.AdamwBiasKernel
public import proofs.«01_k».proof.Proof.Gen.AdamwBiasKernel.Frame
public import proofs.«01_k».proof.Proof.Gen.AdamwBiasKernelIdeal
public import proofs.«01_k».proof.Proof.Gen.AdamwBiasKernelIdeal.Frame
public import proofs.«01_k».proof.Proof.Gen.AdamwBiasReferenceIdeal
public import proofs.«01_k».proof.Proof.Gen.AdamwBiasReferenceIdeal.Run
public import proofs.«01_k».proof.Proof.Gen.AdamwBiasReferenceIdeal.Read
public import proofs.«01_k».proof.Proof.Gen.AdamwConvKernel
public import proofs.«01_k».proof.Proof.Gen.AdamwConvKernel.Frame
public import proofs.«01_k».proof.Proof.Gen.AdamwConvKernelIdeal
public import proofs.«01_k».proof.Proof.Gen.AdamwConvKernelIdeal.Frame
public import proofs.«01_k».proof.Proof.Gen.AdamwConvReferenceIdeal
public import proofs.«01_k».proof.Proof.Gen.AdamwConvReferenceIdeal.Run
public import proofs.«01_k».proof.Proof.Gen.AdamwConvReferenceIdeal.Read
public import proofs.«01_k».proof.Proof.Gen.AdamwTableKernel
public import proofs.«01_k».proof.Proof.Gen.AdamwTableKernel.Frame
public import proofs.«01_k».proof.Proof.Gen.AdamwTableKernelIdeal
public import proofs.«01_k».proof.Proof.Gen.AdamwTableKernelIdeal.Frame
public import proofs.«01_k».proof.Proof.Gen.AdamwTableReferenceIdeal
public import proofs.«01_k».proof.Proof.Gen.AdamwTableReferenceIdeal.Run
public import proofs.«01_k».proof.Proof.Gen.AdamwTableReferenceIdeal.Read
public import proofs.«01_k».proof.Proof.Gen.WoutKernel
public import proofs.«01_k».proof.Proof.Gen.WoutKernel.Frame
public import proofs.«01_k».proof.Proof.Gen.WoutKernelIdeal
public import proofs.«01_k».proof.Proof.Gen.WoutKernelIdeal.Frame
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.Gen.SumKernel
public import proofs.«01_k».proof.Proof.Gen.SumKernel.Frame
public import proofs.«01_k».proof.Proof.Gen.SumKernelIdeal
public import proofs.«01_k».proof.Proof.Gen.SumKernelIdeal.Frame
public import proofs.«01_k».proof.Proof.Gen.SumReferenceIdeal
public import proofs.«01_k».proof.Proof.Gen.SumReferenceIdeal.Run
public import proofs.«01_k».proof.Proof.Gen.SumReferenceIdeal.Read
public import proofs.«01_k».proof.Proof.Gen.WguKernel
public import proofs.«01_k».proof.Proof.Gen.WguKernelIdeal
public import proofs.«01_k».proof.Proof.Gen.WguKernelIdeal.Frame
public import proofs.«01_k».proof.Proof.Gen.WguKernelIdeal.Skeleton
public import proofs.«01_k».proof.Proof.Gen.WguKernelIdeal.Launch
public import proofs.«01_k».proof.Proof.Gen.WguKernelIdeal.Points
public import proofs.«01_k».proof.Proof.Gen.WguReferenceIdeal
public import proofs.«01_k».proof.Proof.Gen.WguReferenceIdeal.Run
public import proofs.«01_k».proof.Proof.Gen.WguReferenceIdeal.Read
public import proofs.«01_k».proof.Proof.Gen.Pre_ffn_finite
public import proofs.«01_k».proof.Proof.LossValue
public import proofs.«01_k».proof.Proof.OutprojClaim
public import proofs.«01_k».proof.Proof.FfnBits
public import proofs.«01_k».proof.Proof.FfnClaim
public import proofs.«01_k».proof.Proof.FfnFwdClaim
public import proofs.«01_k».proof.Proof.ProductsClaim
public import proofs.«01_k».proof.Proof.OptimiserClaim
public import proofs.«01_k».proof.Proof.WguClaim
public import Idealize.ShloMosaic.Adequacy
public import Idealize.ShloMosaic.Init

@[expose] public section

noncomputable section

namespace Cert.Proof

open Idealize.ShloMosaic Idealize.SL.Sem Cert.LossKernel

theorem claim : Cert.Claim := ⟨Cert.LossKernel.Gen.facts, Cert.LossKernelIdeal.Gen.facts, Cert.LossReferenceIdeal.Gen.facts,
  Cert.OutprojKernel.Gen.facts, Cert.OutprojKernelIdeal.Gen.facts, Cert.OutprojReferenceIdeal.Gen.facts,
  Cert.FfnKernel.Gen.facts, Cert.FfnKernelIdeal.Gen.facts, Cert.FfnReferenceIdeal.Gen.facts,
  Cert.FfnFwdKernel.Gen.facts, Cert.FfnFwdKernelIdeal.Gen.facts, Cert.FfnFwdReferenceIdeal.Gen.facts,
  Cert.InprojKernel.Gen.facts, Cert.InprojKernelIdeal.Gen.facts, Cert.InprojReferenceIdeal.Gen.facts,
  Cert.InprojBwdKernel.Gen.facts, Cert.InprojBwdKernelIdeal.Gen.facts, Cert.InprojBwdReferenceIdeal.Gen.facts,
  Cert.WinKernel.Gen.facts, Cert.WinKernelIdeal.Gen.facts, Cert.WinReferenceIdeal.Gen.facts,
  Cert.WdownKernel.Gen.facts, Cert.WdownKernelIdeal.Gen.facts, Cert.WdownReferenceIdeal.Gen.facts,
  Cert.AdamwKernel.Gen.facts, Cert.AdamwKernelIdeal.Gen.facts, Cert.AdamwReferenceIdeal.Gen.facts,
  Cert.AdamwOutKernel.Gen.facts, Cert.AdamwOutKernelIdeal.Gen.facts, Cert.AdamwOutReferenceIdeal.Gen.facts,
  Cert.AdamwDownKernel.Gen.facts, Cert.AdamwDownKernelIdeal.Gen.facts, Cert.AdamwDownReferenceIdeal.Gen.facts,
  Cert.AdamwGateKernel.Gen.facts, Cert.AdamwGateKernelIdeal.Gen.facts, Cert.AdamwGateReferenceIdeal.Gen.facts,
  Cert.AdamwNormKernel.Gen.facts, Cert.AdamwNormKernelIdeal.Gen.facts, Cert.AdamwNormReferenceIdeal.Gen.facts,
  Cert.AdamwWidthKernel.Gen.facts, Cert.AdamwWidthKernelIdeal.Gen.facts, Cert.AdamwWidthReferenceIdeal.Gen.facts,
  Cert.AdamwBlocksKernel.Gen.facts, Cert.AdamwBlocksKernelIdeal.Gen.facts, Cert.AdamwBlocksReferenceIdeal.Gen.facts,
  Cert.AdamwBiasKernel.Gen.facts, Cert.AdamwBiasKernelIdeal.Gen.facts, Cert.AdamwBiasReferenceIdeal.Gen.facts,
  Cert.AdamwConvKernel.Gen.facts, Cert.AdamwConvKernelIdeal.Gen.facts, Cert.AdamwConvReferenceIdeal.Gen.facts,
  Cert.AdamwTableKernel.Gen.facts, Cert.AdamwTableKernelIdeal.Gen.facts, Cert.AdamwTableReferenceIdeal.Gen.facts,
  Cert.WoutKernel.Gen.facts, Cert.WoutKernelIdeal.Gen.facts, Cert.WoutReferenceIdeal.Gen.facts,
  Cert.SumKernel.Gen.facts, Cert.SumKernelIdeal.Gen.facts, Cert.SumReferenceIdeal.Gen.facts,
  Cert.WguKernel.Gen.facts, Cert.WguKernelIdeal.Gen.facts, Cert.WguReferenceIdeal.Gen.facts,
  Cert.Pre_outproj_finite.Gen.facts, Cert.Pre_ffn_finite.Gen.facts,
  fun m ρ _ => Cert.LossKernel.Gen.frame m ρ, fun m ρ _ => Cert.LossKernelIdeal.Gen.frame m ρ, Loss.frame_reference,
  fun m ρ _ => Cert.OutprojKernel.Gen.frame m ρ, fun m ρ _ => Cert.OutprojKernelIdeal.Gen.frame m ρ,
  fun m ρ _ => Cert.OutprojKernelIdeal.Gen.frame m ρ, Outproj.frame_reference, fun m ρ _ => Outproj.frame_reference m ρ trivial,
  Ffn.frame_kernel, fun m ρ _ => Cert.FfnKernelIdeal.Gen.frame m ρ,
  fun m ρ _ => Cert.FfnKernelIdeal.Gen.frame m ρ, Ffn.frame_reference, fun m ρ _ => Ffn.frame_reference m ρ trivial,
  fun m ρ _ => Cert.FfnFwdKernel.Gen.frame m ρ, fun m ρ _ => Cert.FfnFwdKernelIdeal.Gen.frame m ρ, FfnFwd.frame_reference,
  fun m ρ _ => Cert.InprojKernel.Gen.frame m ρ, fun m ρ _ => Cert.InprojKernelIdeal.Gen.frame m ρ, Inproj.frame_reference,
  fun m ρ _ => Cert.InprojBwdKernel.Gen.frame m ρ, fun m ρ _ => Cert.InprojBwdKernelIdeal.Gen.frame m ρ, InprojBwd.frame_reference,
  fun m ρ _ => Cert.WinKernel.Gen.frame m ρ, fun m ρ _ => Cert.WinKernelIdeal.Gen.frame m ρ, Win.frame_reference,
  fun m ρ _ => Cert.WdownKernel.Gen.frame m ρ, fun m ρ _ => Cert.WdownKernelIdeal.Gen.frame m ρ, Wdown.frame_reference,
  fun m ρ _ => Cert.AdamwKernel.Gen.frame m ρ, fun m ρ _ => Cert.AdamwKernelIdeal.Gen.frame m ρ, Adamw.frame_reference,
  fun m ρ _ => Cert.AdamwOutKernel.Gen.frame m ρ, fun m ρ _ => Cert.AdamwOutKernelIdeal.Gen.frame m ρ, AdamwOut.frame_reference,
  fun m ρ _ => Cert.AdamwDownKernel.Gen.frame m ρ, fun m ρ _ => Cert.AdamwDownKernelIdeal.Gen.frame m ρ, AdamwDown.frame_reference,
  fun m ρ _ => Cert.AdamwGateKernel.Gen.frame m ρ, fun m ρ _ => Cert.AdamwGateKernelIdeal.Gen.frame m ρ, AdamwGate.frame_reference,
  fun m ρ _ => Cert.AdamwNormKernel.Gen.frame m ρ, fun m ρ _ => Cert.AdamwNormKernelIdeal.Gen.frame m ρ, AdamwNorm.frame_reference,
  fun m ρ _ => Cert.AdamwWidthKernel.Gen.frame m ρ, fun m ρ _ => Cert.AdamwWidthKernelIdeal.Gen.frame m ρ, AdamwWidth.frame_reference,
  fun m ρ _ => Cert.AdamwBlocksKernel.Gen.frame m ρ, fun m ρ _ => Cert.AdamwBlocksKernelIdeal.Gen.frame m ρ, AdamwBlocks.frame_reference,
  fun m ρ _ => Cert.AdamwBiasKernel.Gen.frame m ρ, fun m ρ _ => Cert.AdamwBiasKernelIdeal.Gen.frame m ρ, AdamwBias.frame_reference,
  fun m ρ _ => Cert.AdamwConvKernel.Gen.frame m ρ, fun m ρ _ => Cert.AdamwConvKernelIdeal.Gen.frame m ρ, AdamwConv.frame_reference,
  fun m ρ _ => Cert.AdamwTableKernel.Gen.frame m ρ, fun m ρ _ => Cert.AdamwTableKernelIdeal.Gen.frame m ρ, AdamwTable.frame_reference,
  fun m ρ _ => Cert.WoutKernel.Gen.frame m ρ, fun m ρ _ => Cert.WoutKernelIdeal.Gen.frame m ρ, Wout.frame_reference,
  fun m ρ _ => Cert.SumKernel.Gen.frame m ρ, fun m ρ _ => Cert.SumKernelIdeal.Gen.frame m ρ, Sum.frame_reference,
  Wgu.frame_kernel, fun m ρ _ => Cert.WguKernelIdeal.Gen.frame m ρ, Wgu.frame_reference,
  trivial, Loss.algebraic, trivial, Outproj.algebraic, trivial, Ffn.algebraic, trivial, FfnFwd.algebraic,
  trivial, Inproj.algebraic, trivial, InprojBwd.algebraic, trivial, Win.algebraic, trivial, Wdown.algebraic, trivial, Adamw.algebraic, trivial, AdamwOut.algebraic, trivial, AdamwDown.algebraic, trivial, AdamwGate.algebraic, trivial, AdamwNorm.algebraic, trivial, AdamwWidth.algebraic, trivial, AdamwBlocks.algebraic, trivial, AdamwBias.algebraic, trivial, AdamwConv.algebraic, trivial, AdamwTable.algebraic, trivial, Wout.algebraic, trivial, Sum.algebraic, trivial, Wgu.algebraic⟩

end Cert.Proof

end
